-- ==== Defs.lean ====
def Pre_RmsBwd (m : (ℓ : Loc Cert.RmsBwd.nD Cert.RmsBwd.τ Cert.RmsBwd.sig) → Buf (Elt Bits) ℓ) : Prop :=
  True

def Pre_RmsBwdIdeal (m : (ℓ : Loc Cert.RmsBwdIdeal.nD Cert.RmsBwdIdeal.τ Cert.RmsBwdIdeal.sig) → Buf (Elt Ideal) ℓ) : Prop :=
  True

def Pre_RmsBwdIdeal_rms_finite [hPre_rms_finite : Cert.Pre_rms_finite.Facts] (m : (ℓ : Loc Cert.RmsBwdIdeal.nD Cert.RmsBwdIdeal.τ Cert.RmsBwdIdeal.sig) → Buf (Elt Ideal) ℓ) : Prop :=
  ∀ c : Dev Cert.RmsBwdIdeal.nD,
    (Cert.Pre_rms_finite.fn (F := Ideal) (m ((c.tc : Thread Cert.RmsBwdIdeal.nD Cert.RmsBwdIdeal.τ).loc Cert.RmsBwdIdeal.main_arg0)) (m ((c.tc : Thread Cert.RmsBwdIdeal.nD Cert.RmsBwdIdeal.τ).loc Cert.RmsBwdIdeal.main_arg1)) (m ((c.tc : Thread Cert.RmsBwdIdeal.nD Cert.RmsBwdIdeal.τ).loc Cert.RmsBwdIdeal.main_arg2)) (m ((c.tc : Thread Cert.RmsBwdIdeal.nD Cert.RmsBwdIdeal.τ).loc Cert.RmsBwdIdeal.main_arg3))) = (fun _ => 1#1)

def Pre_RmsBwdRefIdeal (m : (ℓ : Loc Cert.RmsBwdRefIdeal.nD Cert.RmsBwdRefIdeal.τ Cert.RmsBwdRefIdeal.sig) → Buf (Elt Ideal) ℓ) : Prop :=
  True

def Pre_RmsBwdRefIdeal_rms_finite [hPre_rms_finite : Cert.Pre_rms_finite.Facts] (m : (ℓ : Loc Cert.RmsBwdRefIdeal.nD Cert.RmsBwdRefIdeal.τ Cert.RmsBwdRefIdeal.sig) → Buf (Elt Ideal) ℓ) : Prop :=
  ∀ c : Dev Cert.RmsBwdRefIdeal.nD,
    (Cert.Pre_rms_finite.fn (F := Ideal) (m ((c.tc : Thread Cert.RmsBwdRefIdeal.nD Cert.RmsBwdRefIdeal.τ).loc Cert.RmsBwdRefIdeal.main_arg0)) (m ((c.tc : Thread Cert.RmsBwdRefIdeal.nD Cert.RmsBwdRefIdeal.τ).loc Cert.RmsBwdRefIdeal.main_arg1)) (m ((c.tc : Thread Cert.RmsBwdRefIdeal.nD Cert.RmsBwdRefIdeal.τ).loc Cert.RmsBwdRefIdeal.main_arg2)) (m ((c.tc : Thread Cert.RmsBwdRefIdeal.nD Cert.RmsBwdRefIdeal.τ).loc Cert.RmsBwdRefIdeal.main_arg3))) = (fun _ => 1#1)

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadIdeal_loss_finite [hPre_loss_finite : Cert.Pre_loss_finite.Facts] (m : (ℓ : Loc Cert.LossHeadIdeal.nD Cert.LossHeadIdeal.τ Cert.LossHeadIdeal.sig) → Buf (Elt Ideal) ℓ) : Prop :=
  ∀ c : Dev Cert.LossHeadIdeal.nD,
    (Cert.Pre_loss_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineIdeal_combine_finite [hPre_combine_finite : Cert.Pre_combine_finite.Facts] (m : (ℓ : Loc Cert.CombineIdeal.nD Cert.CombineIdeal.τ Cert.CombineIdeal.sig) → Buf (Elt Ideal) ℓ) : Prop :=
  ∀ c : Dev Cert.CombineIdeal.nD,
    (Cert.Pre_combine_finite.fn (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1)) (m ((c.tc : Thread Cert.CombineIdeal.nD Cert.CombineIdeal.τ).loc Cert.CombineIdeal.main_arg2)) (m ((c.tc : Thread Cert.CombineIdeal.nD Cert.CombineIdeal.τ).loc Cert.CombineIdeal.main_arg3)) (m ((c.tc : Thread Cert.CombineIdeal.nD Cert.CombineIdeal.τ).loc Cert.CombineIdeal.main_arg4)) (m ((c.tc : Thread Cert.CombineIdeal.nD Cert.CombineIdeal.τ).loc Cert.CombineIdeal.main_arg5)) (m ((c.tc : Thread Cert.CombineIdeal.nD Cert.CombineIdeal.τ).loc Cert.CombineIdeal.main_arg6)) (m ((c.tc : Thread Cert.CombineIdeal.nD Cert.CombineIdeal.τ).loc Cert.CombineIdeal.main_arg7)) (m ((c.tc : Thread Cert.CombineIdeal.nD Cert.CombineIdeal.τ).loc Cert.CombineIdeal.main_arg8)) (m ((c.tc : Thread Cert.CombineIdeal.nD Cert.CombineIdeal.τ).loc Cert.CombineIdeal.main_arg9))) = (fun _ => 1#1)

def Pre_CombineRefIdeal (m : (ℓ : Loc Cert.CombineRefIdeal.nD Cert.CombineRefIdeal.τ Cert.CombineRefIdeal.sig) → Buf (Elt Ideal) ℓ) : Prop :=
  True

def Pre_CombineRefIdeal_combine_finite [hPre_combine_finite : Cert.Pre_combine_finite.Facts] (m : (ℓ : Loc Cert.CombineRefIdeal.nD Cert.CombineRefIdeal.τ Cert.CombineRefIdeal.sig) → Buf (Elt Ideal) ℓ) : Prop :=
  ∀ c : Dev Cert.CombineRefIdeal.nD,
    (Cert.Pre_combine_finite.fn (F := Ideal) (m ((c.tc : Thread Cert.CombineRefIdeal.nD Cert.CombineRefIdeal.τ).loc Cert.CombineRefIdeal.main_arg0)) (m ((c.tc : Thread Cert.CombineRefIdeal.nD Cert.CombineRefIdeal.τ).loc Cert.CombineRefIdeal.main_arg1)) (m ((c.tc : Thread Cert.CombineRefIdeal.nD Cert.CombineRefIdeal.τ).loc Cert.CombineRefIdeal.main_arg2)) (m ((c.tc : Thread Cert.CombineRefIdeal.nD Cert.CombineRefIdeal.τ).loc Cert.CombineRefIdeal.main_arg3)) (m ((c.tc : Thread Cert.CombineRefIdeal.nD Cert.CombineRefIdeal.τ).loc Cert.CombineRefIdeal.main_arg4)) (m ((c.tc : Thread Cert.CombineRefIdeal.nD Cert.CombineRefIdeal.τ).loc Cert.CombineRefIdeal.main_arg5)) (m ((c.tc : Thread Cert.CombineRefIdeal.nD Cert.CombineRefIdeal.τ).loc Cert.CombineRefIdeal.main_arg6)) (m ((c.tc : Thread Cert.CombineRefIdeal.nD Cert.CombineRefIdeal.τ).loc Cert.CombineRefIdeal.main_arg7)) (m ((c.tc : Thread Cert.CombineRefIdeal.nD Cert.CombineRefIdeal.τ).loc Cert.CombineRefIdeal.main_arg8)) (m ((c.tc : Thread Cert.CombineRefIdeal.nD Cert.CombineRefIdeal.τ).loc Cert.CombineRefIdeal.main_arg9))) = (fun _ => 1#1)

def quiescent_RmsBwd [hRmsBwd : Cert.RmsBwd.Facts] : Prop :=
  ∀ (m : (ℓ : Loc Cert.RmsBwd.nD Cert.RmsBwd.τ Cert.RmsBwd.sig) → Buf (Elt Bits) ℓ) (g : Dev Cert.RmsBwd.nD → PrngReg), Pre_RmsBwd m →
    θ_run (Cert.RmsBwd.defs (F := Bits)) (onTc (τ := Cert.RmsBwd.τ) (Cert.RmsBwd.main (F := Bits))) ⟨m, fun _ => 0, g⟩ (fun r => (∀ c : Dev Cert.RmsBwd.nD,
      r.2.mem ((c.tc : Thread Cert.RmsBwd.nD Cert.RmsBwd.τ).loc Cert.RmsBwd.main_arg0) = m ((c.tc : Thread Cert.RmsBwd.nD Cert.RmsBwd.τ).loc Cert.RmsBwd.main_arg0)
      ∧ r.2.mem ((c.tc : Thread Cert.RmsBwd.nD Cert.RmsBwd.τ).loc Cert.RmsBwd.main_arg1) = m ((c.tc : Thread Cert.RmsBwd.nD Cert.RmsBwd.τ).loc Cert.RmsBwd.main_arg1)
      ∧ r.2.mem ((c.tc : Thread Cert.RmsBwd.nD Cert.RmsBwd.τ).loc Cert.RmsBwd.main_arg2) = m ((c.tc : Thread Cert.RmsBwd.nD Cert.RmsBwd.τ).loc Cert.RmsBwd.main_arg2)
      ∧ r.2.mem ((c.tc : Thread Cert.RmsBwd.nD Cert.RmsBwd.τ).loc Cert.RmsBwd.main_arg3) = m ((c.tc : Thread Cert.RmsBwd.nD Cert.RmsBwd.τ).loc Cert.RmsBwd.main_arg3))
      ∧ r.2.sem = fun _ => 0)

def quiescent_RmsBwdIdeal [hRmsBwdIdeal : Cert.RmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RmsBwdIdeal_pre_rms_finite [hRmsBwdIdeal : Cert.RmsBwdIdeal.Facts] [hPre_rms_finite : Cert.Pre_rms_finite.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal_rms_finite m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RmsBwdRefIdeal [hRmsBwdRefIdeal : Cert.RmsBwdRefIdeal.Facts] : Prop :=
  ∀ (m : (ℓ : Loc Cert.RmsBwdRefIdeal.nD Cert.RmsBwdRefIdeal.τ Cert.RmsBwdRefIdeal.sig) → Buf (Elt Ideal) ℓ) (g : Dev Cert.RmsBwdRefIdeal.nD → PrngReg), Pre_RmsBwdRefIdeal m →
    θ_run (Cert.RmsBwdRefIdeal.defs (F := Ideal)) (onTc (τ := Cert.RmsBwdRefIdeal.τ) (Cert.RmsBwdRefIdeal.main (F := Ideal))) ⟨m, fun _ => 0, g⟩ (fun r => (∀ c : Dev Cert.RmsBwdRefIdeal.nD,
      r.2.mem ((c.tc : Thread Cert.RmsBwdRefIdeal.nD Cert.RmsBwdRefIdeal.τ).loc Cert.RmsBwdRefIdeal.main_arg0) = m ((c.tc : Thread Cert.RmsBwdRefIdeal.nD Cert.RmsBwdRefIdeal.τ).loc Cert.RmsBwdRefIdeal.main_arg0)
      ∧ r.2.mem ((c.tc : Thread Cert.RmsBwdRefIdeal.nD Cert.RmsBwdRefIdeal.τ).loc Cert.RmsBwdRefIdeal.main_arg1) = m ((c.tc : Thread Cert.RmsBwdRefIdeal.nD Cert.RmsBwdRefIdeal.τ).loc Cert.RmsBwdRefIdeal.main_arg1)
      ∧ r.2.mem ((c.tc : Thread Cert.RmsBwdRefIdeal.nD Cert.RmsBwdRefIdeal.τ).loc Cert.RmsBwdRefIdeal.main_arg2) = m ((c.tc : Thread Cert.RmsBwdRefIdeal.nD Cert.RmsBwdRefIdeal.τ).loc Cert.RmsBwdRefIdeal.main_arg2)
      ∧ r.2.mem ((c.tc : Thread Cert.RmsBwdRefIdeal.nD Cert.RmsBwdRefIdeal.τ).loc Cert.RmsBwdRefIdeal.main_arg3) = m ((c.tc : Thread Cert.RmsBwdRefIdeal.nD Cert.RmsBwdRefIdeal.τ).loc Cert.RmsBwdRefIdeal.main_arg3))
      ∧ r.2.sem = fun _ => 0)

def quiescent_RmsBwdRefIdeal_pre_rms_finite [hRmsBwdRefIdeal : Cert.RmsBwdRefIdeal.Facts] [hPre_rms_finite : Cert.Pre_rms_finite.Facts] : Prop :=
  ∀ (m : (ℓ : Loc Cert.RmsBwdRefIdeal.nD Cert.RmsBwdRefIdeal.τ Cert.RmsBwdRefIdeal.sig) → Buf (Elt Ideal) ℓ) (g : Dev Cert.RmsBwdRefIdeal.nD → PrngReg), Pre_RmsBwdRefIdeal_rms_finite m →
    θ_run (Cert.RmsBwdRefIdeal.defs (F := Ideal)) (onTc (τ := Cert.RmsBwdRefIdeal.τ) (Cert.RmsBwdRefIdeal.main (F := Ideal))) ⟨m, fun _ => 0, g⟩ (fun r => (∀ c : Dev Cert.RmsBwdRefIdeal.nD,
      r.2.mem ((c.tc : Thread Cert.RmsBwdRefIdeal.nD Cert.RmsBwdRefIdeal.τ).loc Cert.RmsBwdRefIdeal.main_arg0) = m ((c.tc : Thread Cert.RmsBwdRefIdeal.nD Cert.RmsBwdRefIdeal.τ).loc Cert.RmsBwdRefIdeal.main_arg0)
      ∧ r.2.mem ((c.tc : Thread Cert.RmsBwdRefIdeal.nD Cert.RmsBwdRefIdeal.τ).loc Cert.RmsBwdRefIdeal.main_arg1) = m ((c.tc : Thread Cert.RmsBwdRefIdeal.nD Cert.RmsBwdRefIdeal.τ).loc Cert.RmsBwdRefIdeal.main_arg1)
      ∧ r.2.mem ((c.tc : Thread Cert.RmsBwdRefIdeal.nD Cert.RmsBwdRefIdeal.τ).loc Cert.RmsBwdRefIdeal.main_arg2) = m ((c.tc : Thread Cert.RmsBwdRefIdeal.nD Cert.RmsBwdRefIdeal.τ).loc Cert.RmsBwdRefIdeal.main_arg2)
      ∧ r.2.mem ((c.tc : Thread Cert.RmsBwdRefIdeal.nD Cert.RmsBwdRefIdeal.τ).loc Cert.RmsBwdRefIdeal.main_arg3) = m ((c.tc : Thread Cert.RmsBwdRefIdeal.nD Cert.RmsBwdRefIdeal.τ).loc Cert.RmsBwdRefIdeal.main_arg3))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadIdeal_pre_loss_finite [hLossHeadIdeal : Cert.LossHeadIdeal.Facts] [hPre_loss_finite : Cert.Pre_loss_finite.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal_loss_finite m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13)
      ∧ r.2.mem ((c.tc : Thread Cert.MergeRefIdeal.nD Cert.MergeRefIdeal.τ).loc Cert.MergeRefIdeal.main_arg14) = m ((c.tc : Thread Cert.MergeRefIdeal.nD Cert.MergeRefIdeal.τ).loc Cert.MergeRefIdeal.main_arg14))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4)
      ∧ r.2.mem ((c.tc : Thread Cert.Combine.nD Cert.Combine.τ).loc Cert.Combine.main_arg5) = m ((c.tc : Thread Cert.Combine.nD Cert.Combine.τ).loc Cert.Combine.main_arg5)
      ∧ r.2.mem ((c.tc : Thread Cert.Combine.nD Cert.Combine.τ).loc Cert.Combine.main_arg6) = m ((c.tc : Thread Cert.Combine.nD Cert.Combine.τ).loc Cert.Combine.main_arg6)
      ∧ r.2.mem ((c.tc : Thread Cert.Combine.nD Cert.Combine.τ).loc Cert.Combine.main_arg7) = m ((c.tc : Thread Cert.Combine.nD Cert.Combine.τ).loc Cert.Combine.main_arg7)
      ∧ r.2.mem ((c.tc : Thread Cert.Combine.nD Cert.Combine.τ).loc Cert.Combine.main_arg8) = m ((c.tc : Thread Cert.Combine.nD Cert.Combine.τ).loc Cert.Combine.main_arg8)
      ∧ r.2.mem ((c.tc : Thread Cert.Combine.nD Cert.Combine.τ).loc Cert.Combine.main_arg9) = m ((c.tc : Thread Cert.Combine.nD Cert.Combine.τ).loc Cert.Combine.main_arg9))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
      ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6)
      ∧ r.2.mem ((c.tc : Thread Cert.CombineIdeal.nD Cert.CombineIdeal.τ).loc Cert.CombineIdeal.main_arg7) = m ((c.tc : Thread Cert.CombineIdeal.nD Cert.CombineIdeal.τ).loc Cert.CombineIdeal.main_arg7)
      ∧ r.2.mem ((c.tc : Thread Cert.CombineIdeal.nD Cert.CombineIdeal.τ).loc Cert.CombineIdeal.main_arg8) = m ((c.tc : Thread Cert.CombineIdeal.nD Cert.CombineIdeal.τ).loc Cert.CombineIdeal.main_arg8)
      ∧ r.2.mem ((c.tc : Thread Cert.CombineIdeal.nD Cert.CombineIdeal.τ).loc Cert.CombineIdeal.main_arg9) = m ((c.tc : Thread Cert.CombineIdeal.nD Cert.CombineIdeal.τ).loc Cert.CombineIdeal.main_arg9))
      ∧ r.2.sem = fun _ => 0)

def quiescent_CombineIdeal_pre_combine_finite [hCombineIdeal : Cert.CombineIdeal.Facts] [hPre_combine_finite : Cert.Pre_combine_finite.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal_combine_finite m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
      ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6)
      ∧ r.2.mem ((c.tc : Thread Cert.CombineIdeal.nD Cert.CombineIdeal.τ).loc Cert.CombineIdeal.main_arg7) = m ((c.tc : Thread Cert.CombineIdeal.nD Cert.CombineIdeal.τ).loc Cert.CombineIdeal.main_arg7)
      ∧ r.2.mem ((c.tc : Thread Cert.CombineIdeal.nD Cert.CombineIdeal.τ).loc Cert.CombineIdeal.main_arg8) = m ((c.tc : Thread Cert.CombineIdeal.nD Cert.CombineIdeal.τ).loc Cert.CombineIdeal.main_arg8)
      ∧ r.2.mem ((c.tc : Thread Cert.CombineIdeal.nD Cert.CombineIdeal.τ).loc Cert.CombineIdeal.main_arg9) = m ((c.tc : Thread Cert.CombineIdeal.nD Cert.CombineIdeal.τ).loc Cert.CombineIdeal.main_arg9))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4)
      ∧ r.2.mem ((c.tc : Thread Cert.CombineRefIdeal.nD Cert.CombineRefIdeal.τ).loc Cert.CombineRefIdeal.main_arg5) = m ((c.tc : Thread Cert.CombineRefIdeal.nD Cert.CombineRefIdeal.τ).loc Cert.CombineRefIdeal.main_arg5)
      ∧ r.2.mem ((c.tc : Thread Cert.CombineRefIdeal.nD Cert.CombineRefIdeal.τ).loc Cert.CombineRefIdeal.main_arg6) = m ((c.tc : Thread Cert.CombineRefIdeal.nD Cert.CombineRefIdeal.τ).loc Cert.CombineRefIdeal.main_arg6)
      ∧ r.2.mem ((c.tc : Thread Cert.CombineRefIdeal.nD Cert.CombineRefIdeal.τ).loc Cert.CombineRefIdeal.main_arg7) = m ((c.tc : Thread Cert.CombineRefIdeal.nD Cert.CombineRefIdeal.τ).loc Cert.CombineRefIdeal.main_arg7)
      ∧ r.2.mem ((c.tc : Thread Cert.CombineRefIdeal.nD Cert.CombineRefIdeal.τ).loc Cert.CombineRefIdeal.main_arg8) = m ((c.tc : Thread Cert.CombineRefIdeal.nD Cert.CombineRefIdeal.τ).loc Cert.CombineRefIdeal.main_arg8)
      ∧ r.2.mem ((c.tc : Thread Cert.CombineRefIdeal.nD Cert.CombineRefIdeal.τ).loc Cert.CombineRefIdeal.main_arg9) = m ((c.tc : Thread Cert.CombineRefIdeal.nD Cert.CombineRefIdeal.τ).loc Cert.CombineRefIdeal.main_arg9))
      ∧ r.2.sem = fun _ => 0)

def quiescent_CombineRefIdeal_pre_combine_finite [hCombineRefIdeal : Cert.CombineRefIdeal.Facts] [hPre_combine_finite : Cert.Pre_combine_finite.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal_combine_finite m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4)
      ∧ r.2.mem ((c.tc : Thread Cert.CombineRefIdeal.nD Cert.CombineRefIdeal.τ).loc Cert.CombineRefIdeal.main_arg5) = m ((c.tc : Thread Cert.CombineRefIdeal.nD Cert.CombineRefIdeal.τ).loc Cert.CombineRefIdeal.main_arg5)
      ∧ r.2.mem ((c.tc : Thread Cert.CombineRefIdeal.nD Cert.CombineRefIdeal.τ).loc Cert.CombineRefIdeal.main_arg6) = m ((c.tc : Thread Cert.CombineRefIdeal.nD Cert.CombineRefIdeal.τ).loc Cert.CombineRefIdeal.main_arg6)
      ∧ r.2.mem ((c.tc : Thread Cert.CombineRefIdeal.nD Cert.CombineRefIdeal.τ).loc Cert.CombineRefIdeal.main_arg7) = m ((c.tc : Thread Cert.CombineRefIdeal.nD Cert.CombineRefIdeal.τ).loc Cert.CombineRefIdeal.main_arg7)
      ∧ r.2.mem ((c.tc : Thread Cert.CombineRefIdeal.nD Cert.CombineRefIdeal.τ).loc Cert.CombineRefIdeal.main_arg8) = m ((c.tc : Thread Cert.CombineRefIdeal.nD Cert.CombineRefIdeal.τ).loc Cert.CombineRefIdeal.main_arg8)
      ∧ r.2.mem ((c.tc : Thread Cert.CombineRefIdeal.nD Cert.CombineRefIdeal.τ).loc Cert.CombineRefIdeal.main_arg9) = m ((c.tc : Thread Cert.CombineRefIdeal.nD Cert.CombineRefIdeal.τ).loc Cert.CombineRefIdeal.main_arg9))
      ∧ r.2.sem = fun _ => 0)

def preserves_RmsBwd_RmsBwdIdeal : Prop :=
  True

def algebraic_RmsBwdIdeal_RmsBwdRefIdeal_pre_rms_finite [hRmsBwdIdeal : Cert.RmsBwdIdeal.Facts] [hRmsBwdRefIdeal : Cert.RmsBwdRefIdeal.Facts] [hPre_rms_finite : Cert.Pre_rms_finite.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg)
    (m' : (ℓ : Loc Cert.RmsBwdRefIdeal.nD Cert.RmsBwdRefIdeal.τ Cert.RmsBwdRefIdeal.sig) → Buf (Elt Ideal) ℓ) (g' : Dev Cert.RmsBwdRefIdeal.nD → PrngReg), Pre_RmsBwdIdeal_rms_finite m →
    (∀ c : Dev Cert.RmsBwdIdeal.nD,
      m' ((c.tc : Thread Cert.RmsBwdRefIdeal.nD Cert.RmsBwdRefIdeal.τ).loc Cert.RmsBwdRefIdeal.main_arg0) = m ((c.tc : Thread Cert.RmsBwdIdeal.nD Cert.RmsBwdIdeal.τ).loc Cert.RmsBwdIdeal.main_arg0)
      ∧ m' ((c.tc : Thread Cert.RmsBwdRefIdeal.nD Cert.RmsBwdRefIdeal.τ).loc Cert.RmsBwdRefIdeal.main_arg1) = m ((c.tc : Thread Cert.RmsBwdIdeal.nD Cert.RmsBwdIdeal.τ).loc Cert.RmsBwdIdeal.main_arg1)
      ∧ m' ((c.tc : Thread Cert.RmsBwdRefIdeal.nD Cert.RmsBwdRefIdeal.τ).loc Cert.RmsBwdRefIdeal.main_arg2) = m ((c.tc : Thread Cert.RmsBwdIdeal.nD Cert.RmsBwdIdeal.τ).loc Cert.RmsBwdIdeal.main_arg2)
      ∧ m' ((c.tc : Thread Cert.RmsBwdRefIdeal.nD Cert.RmsBwdRefIdeal.τ).loc Cert.RmsBwdRefIdeal.main_arg3) = m ((c.tc : Thread Cert.RmsBwdIdeal.nD Cert.RmsBwdIdeal.τ).loc Cert.RmsBwdIdeal.main_arg3)) →
    ∃ (v0 : (c : Dev Cert.RmsBwdIdeal.nD) → Buf (Elt Ideal) ((c.tc : Thread Cert.RmsBwdIdeal.nD Cert.RmsBwdIdeal.τ).loc Cert.RmsBwdIdeal.main_v1_0)) (v1 : (c : Dev Cert.RmsBwdIdeal.nD) → Buf (Elt Ideal) ((c.tc : Thread Cert.RmsBwdIdeal.nD Cert.RmsBwdIdeal.τ).loc Cert.RmsBwdIdeal.main_v1_1)),
      θ_run (Cert.RmsBwdIdeal.defs (F := Ideal)) (onTc (τ := Cert.RmsBwdIdeal.τ) (Cert.RmsBwdIdeal.main (F := Ideal))) ⟨m, fun _ => 0, g⟩ (fun r => ∀ c : Dev Cert.RmsBwdIdeal.nD,
          r.2.mem ((c.tc : Thread Cert.RmsBwdIdeal.nD Cert.RmsBwdIdeal.τ).loc Cert.RmsBwdIdeal.main_v1_0) = v0 c
          ∧ r.2.mem ((c.tc : Thread Cert.RmsBwdIdeal.nD Cert.RmsBwdIdeal.τ).loc Cert.RmsBwdIdeal.main_v1_1) = v1 c
          ∧ r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
          ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
          ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
          ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ θ_run (Cert.RmsBwdRefIdeal.defs (F := Ideal)) (onTc (τ := Cert.RmsBwdRefIdeal.τ) (Cert.RmsBwdRefIdeal.main (F := Ideal))) ⟨m', fun _ => 0, g'⟩ (fun r => ∀ c : Dev Cert.RmsBwdRefIdeal.nD,
          r.2.mem ((c.tc : Thread Cert.RmsBwdRefIdeal.nD Cert.RmsBwdRefIdeal.τ).loc Cert.RmsBwdRefIdeal.main_v36) = v0 c
          ∧ r.2.mem ((c.tc : Thread Cert.RmsBwdRefIdeal.nD Cert.RmsBwdRefIdeal.τ).loc Cert.RmsBwdRefIdeal.main_v37) = v1 c
          ∧ r.2.mem ((c.tc : Thread Cert.RmsBwdRefIdeal.nD Cert.RmsBwdRefIdeal.τ).loc Cert.RmsBwdRefIdeal.main_arg0) = m' ((c.tc : Thread Cert.RmsBwdRefIdeal.nD Cert.RmsBwdRefIdeal.τ).loc Cert.RmsBwdRefIdeal.main_arg0)
          ∧ r.2.mem ((c.tc : Thread Cert.RmsBwdRefIdeal.nD Cert.RmsBwdRefIdeal.τ).loc Cert.RmsBwdRefIdeal.main_arg1) = m' ((c.tc : Thread Cert.RmsBwdRefIdeal.nD Cert.RmsBwdRefIdeal.τ).loc Cert.RmsBwdRefIdeal.main_arg1)
          ∧ r.2.mem ((c.tc : Thread Cert.RmsBwdRefIdeal.nD Cert.RmsBwdRefIdeal.τ).loc Cert.RmsBwdRefIdeal.main_arg2) = m' ((c.tc : Thread Cert.RmsBwdRefIdeal.nD Cert.RmsBwdRefIdeal.τ).loc Cert.RmsBwdRefIdeal.main_arg2)
          ∧ r.2.mem ((c.tc : Thread Cert.RmsBwdRefIdeal.nD Cert.RmsBwdRefIdeal.τ).loc Cert.RmsBwdRefIdeal.main_arg3) = m' ((c.tc : Thread Cert.RmsBwdRefIdeal.nD Cert.RmsBwdRefIdeal.τ).loc Cert.RmsBwdRefIdeal.main_arg3))

def preserves_LossHead_LossHeadIdeal : Prop :=
  True

def algebraic_LossHeadIdeal_LossRefIdeal_pre_loss_finite [hLossHeadIdeal : Cert.LossHeadIdeal.Facts] [hLossRefIdeal : Cert.LossRefIdeal.Facts] [hPre_loss_finite : Cert.Pre_loss_finite.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossHeadIdeal_loss_finite m →
    (∀ c : Dev Cert.LossHeadIdeal.nD,
      m' ((c.tc : Thread Cert.LossRefIdeal.nD Cert.LossRefIdeal.τ).loc Cert.LossRefIdeal.main_arg0) = m ((c.tc : Thread Cert.LossHeadIdeal.nD Cert.LossHeadIdeal.τ).loc Cert.LossHeadIdeal.main_arg0)
      ∧ m' ((c.tc : Thread Cert.LossRefIdeal.nD Cert.LossRefIdeal.τ).loc Cert.LossRefIdeal.main_arg1) = m ((c.tc : Thread Cert.LossHeadIdeal.nD Cert.LossHeadIdeal.τ).loc Cert.LossHeadIdeal.main_arg1)
      ∧ m' ((c.tc : Thread Cert.LossRefIdeal.nD Cert.LossRefIdeal.τ).loc Cert.LossRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v1_0)) (v1 : (c : Dev Cert.LossHeadIdeal.nD) → Buf (Elt Ideal) ((c.tc : Thread Cert.LossHeadIdeal.nD Cert.LossHeadIdeal.τ).loc Cert.LossHeadIdeal.main_v1_1)) (v2 : (c : Dev Cert.LossHeadIdeal.nD) → Buf (Elt Ideal) ((c.tc : Thread Cert.LossHeadIdeal.nD Cert.LossHeadIdeal.τ).loc Cert.LossHeadIdeal.main_v1_2)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v1_0) = v0 c
          ∧ r.2.mem ((c.tc : Thread Cert.LossHeadIdeal.nD Cert.LossHeadIdeal.τ).loc Cert.LossHeadIdeal.main_v1_1) = v1 c
          ∧ r.2.mem ((c.tc : Thread Cert.LossHeadIdeal.nD Cert.LossHeadIdeal.τ).loc Cert.LossHeadIdeal.main_v1_2) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v51) = v0 c
          ∧ r.2.mem ((c.tc : Thread Cert.LossRefIdeal.nD Cert.LossRefIdeal.τ).loc Cert.LossRefIdeal.main_v50) = v1 c
          ∧ r.2.mem ((c.tc : Thread Cert.LossRefIdeal.nD Cert.LossRefIdeal.τ).loc Cert.LossRefIdeal.main_v52) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v4_0)) (v1 : (c : Dev Cert.FfnIdeal.nD) → Buf (Elt Ideal) ((c.tc : Thread Cert.FfnIdeal.nD Cert.FfnIdeal.τ).loc Cert.FfnIdeal.main_v6_0)) (v2 : (c : Dev Cert.FfnIdeal.nD) → Buf (Elt Ideal) ((c.tc : Thread Cert.FfnIdeal.nD Cert.FfnIdeal.τ).loc Cert.FfnIdeal.main_v6_1)) (v3 : (c : Dev Cert.FfnIdeal.nD) → Buf (Elt Ideal) ((c.tc : Thread Cert.FfnIdeal.nD Cert.FfnIdeal.τ).loc Cert.FfnIdeal.main_v6_2)) (v4 : (c : Dev Cert.FfnIdeal.nD) → Buf (Elt Ideal) ((c.tc : Thread Cert.FfnIdeal.nD Cert.FfnIdeal.τ).loc Cert.FfnIdeal.main_v6_3)) (v5 : (c : Dev Cert.FfnIdeal.nD) → Buf (Elt Ideal) ((c.tc : Thread Cert.FfnIdeal.nD Cert.FfnIdeal.τ).loc Cert.FfnIdeal.main_v6_4)) (v6 : (c : Dev Cert.FfnIdeal.nD) → Buf (Elt Ideal) ((c.tc : Thread Cert.FfnIdeal.nD Cert.FfnIdeal.τ).loc Cert.FfnIdeal.main_v6_5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4_0) = v0 c
          ∧ r.2.mem ((c.tc : Thread Cert.FfnIdeal.nD Cert.FfnIdeal.τ).loc Cert.FfnIdeal.main_v6_0) = v1 c
          ∧ r.2.mem ((c.tc : Thread Cert.FfnIdeal.nD Cert.FfnIdeal.τ).loc Cert.FfnIdeal.main_v6_1) = v2 c
          ∧ r.2.mem ((c.tc : Thread Cert.FfnIdeal.nD Cert.FfnIdeal.τ).loc Cert.FfnIdeal.main_v6_2) = v3 c
          ∧ r.2.mem ((c.tc : Thread Cert.FfnIdeal.nD Cert.FfnIdeal.τ).loc Cert.FfnIdeal.main_v6_3) = v4 c
          ∧ r.2.mem ((c.tc : Thread Cert.FfnIdeal.nD Cert.FfnIdeal.τ).loc Cert.FfnIdeal.main_v6_4) = v5 c
          ∧ r.2.mem ((c.tc : Thread Cert.FfnIdeal.nD Cert.FfnIdeal.τ).loc Cert.FfnIdeal.main_v6_5) = v6 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v40) = v0 c
          ∧ r.2.mem ((c.tc : Thread Cert.FfnRefIdeal.nD Cert.FfnRefIdeal.τ).loc Cert.FfnRefIdeal.main_v71) = v1 c
          ∧ r.2.mem ((c.tc : Thread Cert.FfnRefIdeal.nD Cert.FfnRefIdeal.τ).loc Cert.FfnRefIdeal.main_v85) = v2 c
          ∧ r.2.mem ((c.tc : Thread Cert.FfnRefIdeal.nD Cert.FfnRefIdeal.τ).loc Cert.FfnRefIdeal.main_v86) = v3 c
          ∧ r.2.mem ((c.tc : Thread Cert.FfnRefIdeal.nD Cert.FfnRefIdeal.τ).loc Cert.FfnRefIdeal.main_v87) = v4 c
          ∧ r.2.mem ((c.tc : Thread Cert.FfnRefIdeal.nD Cert.FfnRefIdeal.τ).loc Cert.FfnRefIdeal.main_v88) = v5 c
          ∧ r.2.mem ((c.tc : Thread Cert.FfnRefIdeal.nD Cert.FfnRefIdeal.τ).loc Cert.FfnRefIdeal.main_v89) = v6 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Attn_AttnIdeal : Prop :=
  True

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v8_0)) (v1 : (c : Dev Cert.AttnIdeal.nD) → Buf (Elt Ideal) ((c.tc : Thread Cert.AttnIdeal.nD Cert.AttnIdeal.τ).loc Cert.AttnIdeal.main_v8_1)) (v2 : (c : Dev Cert.AttnIdeal.nD) → Buf (Elt Ideal) ((c.tc : Thread Cert.AttnIdeal.nD Cert.AttnIdeal.τ).loc Cert.AttnIdeal.main_v20)) (v3 : (c : Dev Cert.AttnIdeal.nD) → Buf (Elt Ideal) ((c.tc : Thread Cert.AttnIdeal.nD Cert.AttnIdeal.τ).loc Cert.AttnIdeal.main_v18_1)) (v4 : (c : Dev Cert.AttnIdeal.nD) → Buf (Elt Ideal) ((c.tc : Thread Cert.AttnIdeal.nD Cert.AttnIdeal.τ).loc Cert.AttnIdeal.main_v18_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v8_0) = v0 c
          ∧ r.2.mem ((c.tc : Thread Cert.AttnIdeal.nD Cert.AttnIdeal.τ).loc Cert.AttnIdeal.main_v8_1) = v1 c
          ∧ r.2.mem ((c.tc : Thread Cert.AttnIdeal.nD Cert.AttnIdeal.τ).loc Cert.AttnIdeal.main_v20) = v2 c
          ∧ r.2.mem ((c.tc : Thread Cert.AttnIdeal.nD Cert.AttnIdeal.τ).loc Cert.AttnIdeal.main_v18_1) = v3 c
          ∧ r.2.mem ((c.tc : Thread Cert.AttnIdeal.nD Cert.AttnIdeal.τ).loc Cert.AttnIdeal.main_v18_2) = v4 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v162) = v0 c
          ∧ r.2.mem ((c.tc : Thread Cert.AttnRefIdeal.nD Cert.AttnRefIdeal.τ).loc Cert.AttnRefIdeal.main_v165) = v1 c
          ∧ r.2.mem ((c.tc : Thread Cert.AttnRefIdeal.nD Cert.AttnRefIdeal.τ).loc Cert.AttnRefIdeal.main_v166) = v2 c
          ∧ r.2.mem ((c.tc : Thread Cert.AttnRefIdeal.nD Cert.AttnRefIdeal.τ).loc Cert.AttnRefIdeal.main_v167) = v3 c
          ∧ r.2.mem ((c.tc : Thread Cert.AttnRefIdeal.nD Cert.AttnRefIdeal.τ).loc Cert.AttnRefIdeal.main_v168) = v4 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)
      ∧ m' ((c.tc : Thread Cert.MergeRefIdeal.nD Cert.MergeRefIdeal.τ).loc Cert.MergeRefIdeal.main_arg14) = m ((c.tc : Thread Cert.MergeIdeal.nD Cert.MergeIdeal.τ).loc Cert.MergeIdeal.main_arg14)) →
    ∃ (v0 : (c : Dev Cert.MergeIdeal.nD) → Buf (Elt Ideal) ((c.tc : Thread Cert.MergeIdeal.nD Cert.MergeIdeal.τ).loc Cert.MergeIdeal.main_v28)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v28) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v226) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13)
          ∧ r.2.mem ((c.tc : Thread Cert.MergeRefIdeal.nD Cert.MergeRefIdeal.τ).loc Cert.MergeRefIdeal.main_arg14) = m' ((c.tc : Thread Cert.MergeRefIdeal.nD Cert.MergeRefIdeal.τ).loc Cert.MergeRefIdeal.main_arg14))

def preserves_Combine_CombineIdeal : Prop :=
  True

def algebraic_CombineIdeal_CombineRefIdeal_pre_combine_finite [hCombineIdeal : Cert.CombineIdeal.Facts] [hCombineRefIdeal : Cert.CombineRefIdeal.Facts] [hPre_combine_finite : Cert.Pre_combine_finite.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal_combine_finite m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)
      ∧ m' ((c.tc : Thread Cert.CombineRefIdeal.nD Cert.CombineRefIdeal.τ).loc Cert.CombineRefIdeal.main_arg3) = m ((c.tc : Thread Cert.CombineIdeal.nD Cert.CombineIdeal.τ).loc Cert.CombineIdeal.main_arg3)
      ∧ m' ((c.tc : Thread Cert.CombineRefIdeal.nD Cert.CombineRefIdeal.τ).loc Cert.CombineRefIdeal.main_arg4) = m ((c.tc : Thread Cert.CombineIdeal.nD Cert.CombineIdeal.τ).loc Cert.CombineIdeal.main_arg4)
      ∧ m' ((c.tc : Thread Cert.CombineRefIdeal.nD Cert.CombineRefIdeal.τ).loc Cert.CombineRefIdeal.main_arg5) = m ((c.tc : Thread Cert.CombineIdeal.nD Cert.CombineIdeal.τ).loc Cert.CombineIdeal.main_arg5)
      ∧ m' ((c.tc : Thread Cert.CombineRefIdeal.nD Cert.CombineRefIdeal.τ).loc Cert.CombineRefIdeal.main_arg6) = m ((c.tc : Thread Cert.CombineIdeal.nD Cert.CombineIdeal.τ).loc Cert.CombineIdeal.main_arg6)
      ∧ m' ((c.tc : Thread Cert.CombineRefIdeal.nD Cert.CombineRefIdeal.τ).loc Cert.CombineRefIdeal.main_arg7) = m ((c.tc : Thread Cert.CombineIdeal.nD Cert.CombineIdeal.τ).loc Cert.CombineIdeal.main_arg7)
      ∧ m' ((c.tc : Thread Cert.CombineRefIdeal.nD Cert.CombineRefIdeal.τ).loc Cert.CombineRefIdeal.main_arg8) = m ((c.tc : Thread Cert.CombineIdeal.nD Cert.CombineIdeal.τ).loc Cert.CombineIdeal.main_arg8)
      ∧ m' ((c.tc : Thread Cert.CombineRefIdeal.nD Cert.CombineRefIdeal.τ).loc Cert.CombineRefIdeal.main_arg9) = m ((c.tc : Thread Cert.CombineIdeal.nD Cert.CombineIdeal.τ).loc Cert.CombineIdeal.main_arg9)) →
    ∃ (v0 : (c : Dev Cert.CombineIdeal.nD) → Buf (Elt Ideal) ((c.tc : Thread Cert.CombineIdeal.nD Cert.CombineIdeal.τ).loc Cert.CombineIdeal.main_v20_0)) (v1 : (c : Dev Cert.CombineIdeal.nD) → Buf (Elt Ideal) ((c.tc : Thread Cert.CombineIdeal.nD Cert.CombineIdeal.τ).loc Cert.CombineIdeal.main_v20_1)) (v2 : (c : Dev Cert.CombineIdeal.nD) → Buf (Elt Ideal) ((c.tc : Thread Cert.CombineIdeal.nD Cert.CombineIdeal.τ).loc Cert.CombineIdeal.main_v20_2)) (v3 : (c : Dev Cert.CombineIdeal.nD) → Buf (Elt Ideal) ((c.tc : Thread Cert.CombineIdeal.nD Cert.CombineIdeal.τ).loc Cert.CombineIdeal.main_v20_3)) (v4 : (c : Dev Cert.CombineIdeal.nD) → Buf (Elt Ideal) ((c.tc : Thread Cert.CombineIdeal.nD Cert.CombineIdeal.τ).loc Cert.CombineIdeal.main_v20_4)) (v5 : (c : Dev Cert.CombineIdeal.nD) → Buf (Elt Ideal) ((c.tc : Thread Cert.CombineIdeal.nD Cert.CombineIdeal.τ).loc Cert.CombineIdeal.main_v20_5)) (v6 : (c : Dev Cert.CombineIdeal.nD) → Buf (Elt Ideal) ((c.tc : Thread Cert.CombineIdeal.nD Cert.CombineIdeal.τ).loc Cert.CombineIdeal.main_v20_6)) (v7 : (c : Dev Cert.CombineIdeal.nD) → Buf (Elt Ideal) ((c.tc : Thread Cert.CombineIdeal.nD Cert.CombineIdeal.τ).loc Cert.CombineIdeal.main_v20_7)) (v8 : (c : Dev Cert.CombineIdeal.nD) → Buf (Elt Ideal) ((c.tc : Thread Cert.CombineIdeal.nD Cert.CombineIdeal.τ).loc Cert.CombineIdeal.main_v20_8)) (v9 : (c : Dev Cert.CombineIdeal.nD) → Buf (Elt Ideal) ((c.tc : Thread Cert.CombineIdeal.nD Cert.CombineIdeal.τ).loc Cert.CombineIdeal.main_v20_9)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v20_0) = v0 c
          ∧ r.2.mem ((c.tc : Thread Cert.CombineIdeal.nD Cert.CombineIdeal.τ).loc Cert.CombineIdeal.main_v20_1) = v1 c
          ∧ r.2.mem ((c.tc : Thread Cert.CombineIdeal.nD Cert.CombineIdeal.τ).loc Cert.CombineIdeal.main_v20_2) = v2 c
          ∧ r.2.mem ((c.tc : Thread Cert.CombineIdeal.nD Cert.CombineIdeal.τ).loc Cert.CombineIdeal.main_v20_3) = v3 c
          ∧ r.2.mem ((c.tc : Thread Cert.CombineIdeal.nD Cert.CombineIdeal.τ).loc Cert.CombineIdeal.main_v20_4) = v4 c
          ∧ r.2.mem ((c.tc : Thread Cert.CombineIdeal.nD Cert.CombineIdeal.τ).loc Cert.CombineIdeal.main_v20_5) = v5 c
          ∧ r.2.mem ((c.tc : Thread Cert.CombineIdeal.nD Cert.CombineIdeal.τ).loc Cert.CombineIdeal.main_v20_6) = v6 c
          ∧ r.2.mem ((c.tc : Thread Cert.CombineIdeal.nD Cert.CombineIdeal.τ).loc Cert.CombineIdeal.main_v20_7) = v7 c
          ∧ r.2.mem ((c.tc : Thread Cert.CombineIdeal.nD Cert.CombineIdeal.τ).loc Cert.CombineIdeal.main_v20_8) = v8 c
          ∧ r.2.mem ((c.tc : Thread Cert.CombineIdeal.nD Cert.CombineIdeal.τ).loc Cert.CombineIdeal.main_v20_9) = v9 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
          ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
          ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6)
          ∧ r.2.mem ((c.tc : Thread Cert.CombineIdeal.nD Cert.CombineIdeal.τ).loc Cert.CombineIdeal.main_arg7) = m ((c.tc : Thread Cert.CombineIdeal.nD Cert.CombineIdeal.τ).loc Cert.CombineIdeal.main_arg7)
          ∧ r.2.mem ((c.tc : Thread Cert.CombineIdeal.nD Cert.CombineIdeal.τ).loc Cert.CombineIdeal.main_arg8) = m ((c.tc : Thread Cert.CombineIdeal.nD Cert.CombineIdeal.τ).loc Cert.CombineIdeal.main_arg8)
          ∧ r.2.mem ((c.tc : Thread Cert.CombineIdeal.nD Cert.CombineIdeal.τ).loc Cert.CombineIdeal.main_arg9) = m ((c.tc : Thread Cert.CombineIdeal.nD Cert.CombineIdeal.τ).loc Cert.CombineIdeal.main_arg9))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v143) = v0 c
          ∧ r.2.mem ((c.tc : Thread Cert.CombineRefIdeal.nD Cert.CombineRefIdeal.τ).loc Cert.CombineRefIdeal.main_v149) = v1 c
          ∧ r.2.mem ((c.tc : Thread Cert.CombineRefIdeal.nD Cert.CombineRefIdeal.τ).loc Cert.CombineRefIdeal.main_v119) = v2 c
          ∧ r.2.mem ((c.tc : Thread Cert.CombineRefIdeal.nD Cert.CombineRefIdeal.τ).loc Cert.CombineRefIdeal.main_v121) = v3 c
          ∧ r.2.mem ((c.tc : Thread Cert.CombineRefIdeal.nD Cert.CombineRefIdeal.τ).loc Cert.CombineRefIdeal.main_v123) = v4 c
          ∧ r.2.mem ((c.tc : Thread Cert.CombineRefIdeal.nD Cert.CombineRefIdeal.τ).loc Cert.CombineRefIdeal.main_v129) = v5 c
          ∧ r.2.mem ((c.tc : Thread Cert.CombineRefIdeal.nD Cert.CombineRefIdeal.τ).loc Cert.CombineRefIdeal.main_v135) = v6 c
          ∧ r.2.mem ((c.tc : Thread Cert.CombineRefIdeal.nD Cert.CombineRefIdeal.τ).loc Cert.CombineRefIdeal.main_v141) = v7 c
          ∧ r.2.mem ((c.tc : Thread Cert.CombineRefIdeal.nD Cert.CombineRefIdeal.τ).loc Cert.CombineRefIdeal.main_v150) = v8 c
          ∧ r.2.mem ((c.tc : Thread Cert.CombineRefIdeal.nD Cert.CombineRefIdeal.τ).loc Cert.CombineRefIdeal.main_v153) = v9 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2)
          ∧ r.2.mem ((c.tc : Thread Cert.CombineRefIdeal.nD Cert.CombineRefIdeal.τ).loc Cert.CombineRefIdeal.main_arg3) = m' ((c.tc : Thread Cert.CombineRefIdeal.nD Cert.CombineRefIdeal.τ).loc Cert.CombineRefIdeal.main_arg3)
          ∧ r.2.mem ((c.tc : Thread Cert.CombineRefIdeal.nD Cert.CombineRefIdeal.τ).loc Cert.CombineRefIdeal.main_arg4) = m' ((c.tc : Thread Cert.CombineRefIdeal.nD Cert.CombineRefIdeal.τ).loc Cert.CombineRefIdeal.main_arg4)
          ∧ r.2.mem ((c.tc : Thread Cert.CombineRefIdeal.nD Cert.CombineRefIdeal.τ).loc Cert.CombineRefIdeal.main_arg5) = m' ((c.tc : Thread Cert.CombineRefIdeal.nD Cert.CombineRefIdeal.τ).loc Cert.CombineRefIdeal.main_arg5)
          ∧ r.2.mem ((c.tc : Thread Cert.CombineRefIdeal.nD Cert.CombineRefIdeal.τ).loc Cert.CombineRefIdeal.main_arg6) = m' ((c.tc : Thread Cert.CombineRefIdeal.nD Cert.CombineRefIdeal.τ).loc Cert.CombineRefIdeal.main_arg6)
          ∧ r.2.mem ((c.tc : Thread Cert.CombineRefIdeal.nD Cert.CombineRefIdeal.τ).loc Cert.CombineRefIdeal.main_arg7) = m' ((c.tc : Thread Cert.CombineRefIdeal.nD Cert.CombineRefIdeal.τ).loc Cert.CombineRefIdeal.main_arg7)
          ∧ r.2.mem ((c.tc : Thread Cert.CombineRefIdeal.nD Cert.CombineRefIdeal.τ).loc Cert.CombineRefIdeal.main_arg8) = m' ((c.tc : Thread Cert.CombineRefIdeal.nD Cert.CombineRefIdeal.τ).loc Cert.CombineRefIdeal.main_arg8)
          ∧ r.2.mem ((c.tc : Thread Cert.CombineRefIdeal.nD Cert.CombineRefIdeal.τ).loc Cert.CombineRefIdeal.main_arg9) = m' ((c.tc : Thread Cert.CombineRefIdeal.nD Cert.CombineRefIdeal.τ).loc Cert.CombineRefIdeal.main_arg9))

def Claim : Prop :=
  ∃ (hRmsBwd : Cert.RmsBwd.Facts) (hRmsBwdIdeal : Cert.RmsBwdIdeal.Facts) (hRmsBwdRefIdeal : Cert.RmsBwdRefIdeal.Facts) (hLossHead : Cert.LossHead.Facts) (hLossHeadIdeal : Cert.LossHeadIdeal.Facts) (hLossRefIdeal : Cert.LossRefIdeal.Facts) (hFfn : Cert.Ffn.Facts) (hFfnIdeal : Cert.FfnIdeal.Facts) (hFfnRefIdeal : Cert.FfnRefIdeal.Facts) (hAttn : Cert.Attn.Facts) (hAttnIdeal : Cert.AttnIdeal.Facts) (hAttnRefIdeal : Cert.AttnRefIdeal.Facts) (hMerge : Cert.Merge.Facts) (hMergeIdeal : Cert.MergeIdeal.Facts) (hMergeRefIdeal : Cert.MergeRefIdeal.Facts) (hCombine : Cert.Combine.Facts) (hCombineIdeal : Cert.CombineIdeal.Facts) (hCombineRefIdeal : Cert.CombineRefIdeal.Facts) (hPre_rms_finite : Cert.Pre_rms_finite.Facts) (hPre_loss_finite : Cert.Pre_loss_finite.Facts) (hPre_ffn_finite : Cert.Pre_ffn_finite.Facts) (hPre_attn_finite : Cert.Pre_attn_finite.Facts) (hPre_combine_finite : Cert.Pre_combine_finite.Facts),
    quiescent_RmsBwd (hRmsBwd := hRmsBwd)
    ∧ quiescent_RmsBwdIdeal (hRmsBwdIdeal := hRmsBwdIdeal)
    ∧ quiescent_RmsBwdIdeal_pre_rms_finite (hRmsBwdIdeal := hRmsBwdIdeal) (hPre_rms_finite := hPre_rms_finite)
    ∧ quiescent_RmsBwdRefIdeal (hRmsBwdRefIdeal := hRmsBwdRefIdeal)
    ∧ quiescent_RmsBwdRefIdeal_pre_rms_finite (hRmsBwdRefIdeal := hRmsBwdRefIdeal) (hPre_rms_finite := hPre_rms_finite)
    ∧ quiescent_LossHead (hLossHead := hLossHead)
    ∧ quiescent_LossHeadIdeal (hLossHeadIdeal := hLossHeadIdeal)
    ∧ quiescent_LossHeadIdeal_pre_loss_finite (hLossHeadIdeal := hLossHeadIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Merge (hMerge := hMerge)
    ∧ quiescent_MergeIdeal (hMergeIdeal := hMergeIdeal)
    ∧ quiescent_MergeRefIdeal (hMergeRefIdeal := hMergeRefIdeal)
    ∧ quiescent_Combine (hCombine := hCombine)
    ∧ quiescent_CombineIdeal (hCombineIdeal := hCombineIdeal)
    ∧ quiescent_CombineIdeal_pre_combine_finite (hCombineIdeal := hCombineIdeal) (hPre_combine_finite := hPre_combine_finite)
    ∧ quiescent_CombineRefIdeal (hCombineRefIdeal := hCombineRefIdeal)
    ∧ quiescent_CombineRefIdeal_pre_combine_finite (hCombineRefIdeal := hCombineRefIdeal) (hPre_combine_finite := hPre_combine_finite)
    ∧ preserves_RmsBwd_RmsBwdIdeal
    ∧ algebraic_RmsBwdIdeal_RmsBwdRefIdeal_pre_rms_finite (hRmsBwdIdeal := hRmsBwdIdeal) (hRmsBwdRefIdeal := hRmsBwdRefIdeal) (hPre_rms_finite := hPre_rms_finite)
    ∧ preserves_LossHead_LossHeadIdeal
    ∧ algebraic_LossHeadIdeal_LossRefIdeal_pre_loss_finite (hLossHeadIdeal := hLossHeadIdeal) (hLossRefIdeal := hLossRefIdeal) (hPre_loss_finite := hPre_loss_finite)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_Merge_MergeIdeal
    ∧ algebraic_MergeIdeal_MergeRefIdeal (hMergeIdeal := hMergeIdeal) (hMergeRefIdeal := hMergeRefIdeal)
    ∧ preserves_Combine_CombineIdeal
    ∧ algebraic_CombineIdeal_CombineRefIdeal_pre_combine_finite (hCombineIdeal := hCombineIdeal) (hCombineRefIdeal := hCombineRefIdeal) (hPre_combine_finite := hPre_combine_finite)
-- ==== Pre_attn_finite.lean ====
abbrev S1x16384x6x64 : Shape := ⟨4, ![1, 16384, 6, 64]⟩
abbrev S1x16384x6 : Shape := ⟨3, ![1, 16384, 6]⟩
abbrev S_ : Shape := ⟨0, ![]⟩

class Facts : Prop where
  bcast_S_S1x16384x6x64 : S_.BroadcastsInDim S1x16384x6x64 (![] : Fin 0 → Fin S1x16384x6x64.rank)
  reducesTo_S1x16384x6x64_S_d0_1_2_3 : S1x16384x6x64.ReducesTo [0, 1, 2, 3] S_
  h_S_ : 0 < S_.numel
  bcast_S_S1x16384x6 : S_.BroadcastsInDim S1x16384x6 (![] : Fin 0 → Fin S1x16384x6.rank)
  reducesTo_S1x16384x6_S_d0_1_2 : S1x16384x6.ReducesTo [0, 1, 2] S_

variable [Facts]

def fn_part1 {F : FTy → Type} [FloatOps F] (main_arg4 : FVec F S1x16384x6 .f32) (main_v13 : IVec S_ 1) (main_v16 : IVec S1x16384x6x64 1) : IVec S_ 1 :=
  let main_c_5 : IVec S_ 1 := constantI S_ 1 1#1
  let main_v17 : IVec S_ 1 := (fun x v => Host.reduce IntOp.andi x v reducesTo_S1x16384x6x64_S_d0_1_2_3 h_S_) main_v16 main_c_5
  let main_v18 : IVec S_ 1 := andi main_v13 main_v17
  let main_v19 : FVec F S1x16384x6 .f32 := Host.absf main_arg4
  let main_cst_6 : FVec F S_ .f32 := constant S_ .f32 0x7F800000#32
  let main_v20 : FVec F S1x16384x6 .f32 := broadcastInDim S1x16384x6 ![] bcast_S_S1x16384x6 main_cst_6
  let main_v21 : IVec S1x16384x6 1 := cmpf .olt main_v19 main_v20
  let main_c_7 : IVec S_ 1 := constantI S_ 1 1#1
  let main_v22 : IVec S_ 1 := (fun x v => Host.reduce IntOp.andi x v reducesTo_S1x16384x6_S_d0_1_2 h_S_) main_v21 main_c_7
  let main_v23 : IVec S_ 1 := andi main_v18 main_v22
  main_v23

def fn {F : FTy → Type} [FloatOps F] (main_arg0 : FVec F S1x16384x6x64 .f32) (main_arg1 : FVec F S1x16384x6x64 .f32) (main_arg2 : FVec F S1x16384x6x64 .f32) (main_arg3 : FVec F S1x16384x6x64 .f32) (main_arg4 : FVec F S1x16384x6 .f32) : IVec S_ 1 :=
  let main_v0 : FVec F S1x16384x6x64 .f32 := Host.absf main_arg0
  let main_cst : FVec F S_ .f32 := constant S_ .f32 0x7F800000#32
  let main_v1 : FVec F S1x16384x6x64 .f32 := broadcastInDim S1x16384x6x64 ![] bcast_S_S1x16384x6x64 main_cst
  let main_v2 : IVec S1x16384x6x64 1 := cmpf .olt main_v0 main_v1
  let main_c : IVec S_ 1 := constantI S_ 1 1#1
  let main_v3 : IVec S_ 1 := (fun x v => Host.reduce IntOp.andi x v reducesTo_S1x16384x6x64_S_d0_1_2_3 h_S_) main_v2 main_c
  let main_v4 : FVec F S1x16384x6x64 .f32 := Host.absf main_arg1
  let main_cst_0 : FVec F S_ .f32 := constant S_ .f32 0x7F800000#32
  let main_v5 : FVec F S1x16384x6x64 .f32 := broadcastInDim S1x16384x6x64 ![] bcast_S_S1x16384x6x64 main_cst_0
  let main_v6 : IVec S1x16384x6x64 1 := cmpf .olt main_v4 main_v5
  let main_c_1 : IVec S_ 1 := constantI S_ 1 1#1
  let main_v7 : IVec S_ 1 := (fun x v => Host.reduce IntOp.andi x v reducesTo_S1x16384x6x64_S_d0_1_2_3 h_S_) main_v6 main_c_1
  let main_v8 : IVec S_ 1 := andi main_v3 main_v7
  let main_v9 : FVec F S1x16384x6x64 .f32 := Host.absf main_arg2
  let main_cst_2 : FVec F S_ .f32 := constant S_ .f32 0x7F800000#32
  let main_v10 : FVec F S1x16384x6x64 .f32 := broadcastInDim S1x16384x6x64 ![] bcast_S_S1x16384x6x64 main_cst_2
  let main_v11 : IVec S1x16384x6x64 1 := cmpf .olt main_v9 main_v10
  let main_c_3 : IVec S_ 1 := constantI S_ 1 1#1
  let main_v12 : IVec S_ 1 := (fun x v => Host.reduce IntOp.andi x v reducesTo_S1x16384x6x64_S_d0_1_2_3 h_S_) main_v11 main_c_3
  let main_v13 : IVec S_ 1 := andi main_v8 main_v12
  let main_v14 : FVec F S1x16384x6x64 .f32 := Host.absf main_arg3
  let main_cst_4 : FVec F S_ .f32 := constant S_ .f32 0x7F800000#32
  let main_v15 : FVec F S1x16384x6x64 .f32 := broadcastInDim S1x16384x6x64 ![] bcast_S_S1x16384x6x64 main_cst_4
  let main_v16 : IVec S1x16384x6x64 1 := cmpf .olt main_v14 main_v15
  fn_part1 (F := F) main_arg4 main_v13 main_v16
-- ==== Pre_combine_finite.lean ====
abbrev S1x16384x1024 : Shape := ⟨3, ![1, 16384, 1024]⟩
abbrev S1x16384x4x64 : Shape := ⟨4, ![1, 16384, 4, 64]⟩
abbrev S1x16384x4 : Shape := ⟨3, ![1, 16384, 4]⟩
abbrev S4 : Shape := ⟨1, ![4]⟩
abbrev S1x16384x6x64 : Shape := ⟨4, ![1, 16384, 6, 64]⟩
abbrev S1x16384x6 : Shape := ⟨3, ![1, 16384, 6]⟩
abbrev S_ : Shape := ⟨0, ![]⟩

class Facts : Prop where
  bcast_S_S1x16384x1024 : S_.BroadcastsInDim S1x16384x1024 (![] : Fin 0 → Fin S1x16384x1024.rank)
  reducesTo_S1x16384x1024_S_d0_1_2 : S1x16384x1024.ReducesTo [0, 1, 2] S_
  h_S_ : 0 < S_.numel
  bcast_S_S1x16384x4x64 : S_.BroadcastsInDim S1x16384x4x64 (![] : Fin 0 → Fin S1x16384x4x64.rank)
  reducesTo_S1x16384x4x64_S_d0_1_2_3 : S1x16384x4x64.ReducesTo [0, 1, 2, 3] S_
  bcast_S_S1x16384x4 : S_.BroadcastsInDim S1x16384x4 (![] : Fin 0 → Fin S1x16384x4.rank)
  reducesTo_S1x16384x4_S_d0_1_2 : S1x16384x4.ReducesTo [0, 1, 2] S_
  bcast_S_S4 : S_.BroadcastsInDim S4 (![] : Fin 0 → Fin S4.rank)
  reducesTo_S4_S_d0 : S4.ReducesTo [0] S_
  bcast_S_S1x16384x6x64 : S_.BroadcastsInDim S1x16384x6x64 (![] : Fin 0 → Fin S1x16384x6x64.rank)
  reducesTo_S1x16384x6x64_S_d0_1_2_3 : S1x16384x6x64.ReducesTo [0, 1, 2, 3] S_
  bcast_S_S1x16384x6 : S_.BroadcastsInDim S1x16384x6 (![] : Fin 0 → Fin S1x16384x6.rank)
  reducesTo_S1x16384x6_S_d0_1_2 : S1x16384x6.ReducesTo [0, 1, 2] S_

variable [Facts]

def fn_part2 {F : FTy → Type} [FloatOps F] (main_arg7 : FVec F S1x16384x6 .f32) (main_arg8 : FVec F S1x16384x6 .f32) (main_arg9 : FVec F S1x16384x6 .f32) (main_v33 : IVec S_ 1) : IVec S_ 1 :=
  let main_v34 : FVec F S1x16384x6 .f32 := Host.absf main_arg7
  let main_cst_12 : FVec F S_ .f32 := constant S_ .f32 0x7F800000#32
  let main_v35 : FVec F S1x16384x6 .f32 := broadcastInDim S1x16384x6 ![] bcast_S_S1x16384x6 main_cst_12
  let main_v36 : IVec S1x16384x6 1 := cmpf .olt main_v34 main_v35
  let main_c_13 : IVec S_ 1 := constantI S_ 1 1#1
  let main_v37 : IVec S_ 1 := (fun x v => Host.reduce IntOp.andi x v reducesTo_S1x16384x6_S_d0_1_2 h_S_) main_v36 main_c_13
  let main_v38 : IVec S_ 1 := andi main_v33 main_v37
  let main_v39 : FVec F S1x16384x6 .f32 := Host.absf main_arg8
  let main_cst_14 : FVec F S_ .f32 := constant S_ .f32 0x7F800000#32
  let main_v40 : FVec F S1x16384x6 .f32 := broadcastInDim S1x16384x6 ![] bcast_S_S1x16384x6 main_cst_14
  let main_v41 : IVec S1x16384x6 1 := cmpf .olt main_v39 main_v40
  let main_c_15 : IVec S_ 1 := constantI S_ 1 1#1
  let main_v42 : IVec S_ 1 := (fun x v => Host.reduce IntOp.andi x v reducesTo_S1x16384x6_S_d0_1_2 h_S_) main_v41 main_c_15
  let main_v43 : IVec S_ 1 := andi main_v38 main_v42
  let main_v44 : FVec F S1x16384x6 .f32 := Host.absf main_arg9
  let main_cst_16 : FVec F S_ .f32 := constant S_ .f32 0x7F800000#32
  let main_v45 : FVec F S1x16384x6 .f32 := broadcastInDim S1x16384x6 ![] bcast_S_S1x16384x6 main_cst_16
  let main_v46 : IVec S1x16384x6 1 := cmpf .olt main_v44 main_v45
  let main_c_17 : IVec S_ 1 := constantI S_ 1 1#1
  let main_v47 : IVec S_ 1 := (fun x v => Host.reduce IntOp.andi x v reducesTo_S1x16384x6_S_d0_1_2 h_S_) main_v46 main_c_17
  let main_v48 : IVec S_ 1 := andi main_v43 main_v47
  main_v48

def fn_part1 {F : FTy → Type} [FloatOps F] (main_arg4 : FVec F S1x16384x6x64 .f32) (main_arg5 : FVec F S1x16384x6x64 .f32) (main_arg6 : FVec F S1x16384x6x64 .f32) (main_arg7 : FVec F S1x16384x6 .f32) (main_arg8 : FVec F S1x16384x6 .f32) (main_arg9 : FVec F S1x16384x6 .f32) (main_v13 : IVec S_ 1) (main_v16 : IVec S4 1) : IVec S_ 1 :=
  let main_c_5 : IVec S_ 1 := constantI S_ 1 1#1
  let main_v17 : IVec S_ 1 := (fun x v => Host.reduce IntOp.andi x v reducesTo_S4_S_d0 h_S_) main_v16 main_c_5
  let main_v18 : IVec S_ 1 := andi main_v13 main_v17
  let main_v19 : FVec F S1x16384x6x64 .f32 := Host.absf main_arg4
  let main_cst_6 : FVec F S_ .f32 := constant S_ .f32 0x7F800000#32
  let main_v20 : FVec F S1x16384x6x64 .f32 := broadcastInDim S1x16384x6x64 ![] bcast_S_S1x16384x6x64 main_cst_6
  let main_v21 : IVec S1x16384x6x64 1 := cmpf .olt main_v19 main_v20
  let main_c_7 : IVec S_ 1 := constantI S_ 1 1#1
  let main_v22 : IVec S_ 1 := (fun x v => Host.reduce IntOp.andi x v reducesTo_S1x16384x6x64_S_d0_1_2_3 h_S_) main_v21 main_c_7
  let main_v23 : IVec S_ 1 := andi main_v18 main_v22
  let main_v24 : FVec F S1x16384x6x64 .f32 := Host.absf main_arg5
  let main_cst_8 : FVec F S_ .f32 := constant S_ .f32 0x7F800000#32
  let main_v25 : FVec F S1x16384x6x64 .f32 := broadcastInDim S1x16384x6x64 ![] bcast_S_S1x16384x6x64 main_cst_8
  let main_v26 : IVec S1x16384x6x64 1 := cmpf .olt main_v24 main_v25
  let main_c_9 : IVec S_ 1 := constantI S_ 1 1#1
  let main_v27 : IVec S_ 1 := (fun x v => Host.reduce IntOp.andi x v reducesTo_S1x16384x6x64_S_d0_1_2_3 h_S_) main_v26 main_c_9
  let main_v28 : IVec S_ 1 := andi main_v23 main_v27
  let main_v29 : FVec F S1x16384x6x64 .f32 := Host.absf main_arg6
  let main_cst_10 : FVec F S_ .f32 := constant S_ .f32 0x7F800000#32
  let main_v30 : FVec F S1x16384x6x64 .f32 := broadcastInDim S1x16384x6x64 ![] bcast_S_S1x16384x6x64 main_cst_10
  let main_v31 : IVec S1x16384x6x64 1 := cmpf .olt main_v29 main_v30
  let main_c_11 : IVec S_ 1 := constantI S_ 1 1#1
  let main_v32 : IVec S_ 1 := (fun x v => Host.reduce IntOp.andi x v reducesTo_S1x16384x6x64_S_d0_1_2_3 h_S_) main_v31 main_c_11
  let main_v33 : IVec S_ 1 := andi main_v28 main_v32
  fn_part2 (F := F) main_arg7 main_arg8 main_arg9 main_v33

def fn {F : FTy → Type} [FloatOps F] (main_arg0 : FVec F S1x16384x1024 .f32) (main_arg1 : FVec F S1x16384x4x64 .f32) (main_arg2 : FVec F S1x16384x4 .f32) (main_arg3 : FVec F S4 .f32) (main_arg4 : FVec F S1x16384x6x64 .f32) (main_arg5 : FVec F S1x16384x6x64 .f32) (main_arg6 : FVec F S1x16384x6x64 .f32) (main_arg7 : FVec F S1x16384x6 .f32) (main_arg8 : FVec F S1x16384x6 .f32) (main_arg9 : FVec F S1x16384x6 .f32) : IVec S_ 1 :=
  let main_v0 : FVec F S1x16384x1024 .f32 := Host.absf main_arg0
  let main_cst : FVec F S_ .f32 := constant S_ .f32 0x7F800000#32
  let main_v1 : FVec F S1x16384x1024 .f32 := broadcastInDim S1x16384x1024 ![] bcast_S_S1x16384x1024 main_cst
  let main_v2 : IVec S1x16384x1024 1 := cmpf .olt main_v0 main_v1
  let main_c : IVec S_ 1 := constantI S_ 1 1#1
  let main_v3 : IVec S_ 1 := (fun x v => Host.reduce IntOp.andi x v reducesTo_S1x16384x1024_S_d0_1_2 h_S_) main_v2 main_c
  let main_v4 : FVec F S1x16384x4x64 .f32 := Host.absf main_arg1
  let main_cst_0 : FVec F S_ .f32 := constant S_ .f32 0x7F800000#32
  let main_v5 : FVec F S1x16384x4x64 .f32 := broadcastInDim S1x16384x4x64 ![] bcast_S_S1x16384x4x64 main_cst_0
  let main_v6 : IVec S1x16384x4x64 1 := cmpf .olt main_v4 main_v5
  let main_c_1 : IVec S_ 1 := constantI S_ 1 1#1
  let main_v7 : IVec S_ 1 := (fun x v => Host.reduce IntOp.andi x v reducesTo_S1x16384x4x64_S_d0_1_2_3 h_S_) main_v6 main_c_1
  let main_v8 : IVec S_ 1 := andi main_v3 main_v7
  let main_v9 : FVec F S1x16384x4 .f32 := Host.absf main_arg2
  let main_cst_2 : FVec F S_ .f32 := constant S_ .f32 0x7F800000#32
  let main_v10 : FVec F S1x16384x4 .f32 := broadcastInDim S1x16384x4 ![] bcast_S_S1x16384x4 main_cst_2
  let main_v11 : IVec S1x16384x4 1 := cmpf .olt main_v9 main_v10
  let main_c_3 : IVec S_ 1 := constantI S_ 1 1#1
  let main_v12 : IVec S_ 1 := (fun x v => Host.reduce IntOp.andi x v reducesTo_S1x16384x4_S_d0_1_2 h_S_) main_v11 main_c_3
  let main_v13 : IVec S_ 1 := andi main_v8 main_v12
  let main_v14 : FVec F S4 .f32 := Host.absf main_arg3
  let main_cst_4 : FVec F S_ .f32 := constant S_ .f32 0x7F800000#32
  let main_v15 : FVec F S4 .f32 := broadcastInDim S4 ![] bcast_S_S4 main_cst_4
  let main_v16 : IVec S4 1 := cmpf .olt main_v14 main_v15
  fn_part1 (F := F) main_arg4 main_arg5 main_arg6 main_arg7 main_arg8 main_arg9 main_v13 main_v16
-- ==== Pre_ffn_finite.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_arg5 : FVec F S16384x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S2816x1024 .f32 := Host.absf main_arg4
  let main_cst_6 : FVec F S_ .f32 := constant S_ .f32 0x7F800000#32
  let main_v20 : FVec F S2816x1024 .f32 := broadcastInDim S2816x1024 ![] bcast_S_S2816x1024 main_cst_6
  let main_v21 : IVec S2816x1024 1 := cmpf .olt main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : IVec S_ 1 := andi main_v18 main_v22
  let main_v24 : FVec F S16384x1024 .f32 := Host.absf main_arg5
  let main_cst_8 : FVec F S_ .f32 := constant S_ .f32 0x7F800000#32
  let main_v25 : FVec F S16384x1024 .f32 := broadcastInDim S16384x1024 ![] bcast_S_S16384x1024 main_cst_8
  let main_v26 : IVec S16384x1024 1 := cmpf .olt main_v24 main_v25
  let main_c_9 : IVec S_ 1 := constantI S_ 1 1#1
  let main_v27 : IVec S_ 1 := (fun x v => Host.reduce IntOp.andi x v reducesTo_S16384x1024_S_d0_1 h_S_) main_v26 main_c_9
  let main_v28 : IVec S_ 1 := andi main_v23 main_v27
  main_v28

def fn {F : FTy → Type} [FloatOps F] (main_arg0 : FVec F S16384x1024 .f32) (main_arg1 : FVec F S1024 .f32) (main_arg2 : FVec F S1024x2816 .f32) (main_arg3 : FVec F S1024x2816 .f32) (main_arg4 : FVec F S2816x1024 .f32) (main_arg5 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_v13 main_v16
-- ==== Pre_loss_finite.lean ====
abbrev S16384x1024 : Shape := ⟨2, ![16384, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S16384x1024 .f32) (main_arg1 : FVec F S1024 .f32) (main_arg2 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  main_v13
-- ==== Pre_rms_finite.lean ====
abbrev S16384x1024 : Shape := ⟨2, ![16384, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S16384x1024 .f32) (main_arg1 : FVec F S1024 .f32) (main_arg2 : FVec F S16384x1024 .f32) (main_arg3 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  main_v13
-- ==== RmsBwd.lean ====
abbrev S16384x1024 : Shape := ⟨2, ![16384, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S16384x1024, .f32⟩
  | .hbm, ⟨4, _⟩ => ⟨S1x1024, .f32⟩
  | .hbm, ⟨5, _⟩ => ⟨S16384x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RmsBwdRefIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S1024, .f32⟩
  | .hbm, ⟨32, _⟩ => ⟨S16384x1024, .f32⟩
  | .hbm, ⟨33, _⟩ => ⟨S_, .f32⟩
  | .hbm, ⟨34, _⟩ => ⟨S16384, .f32⟩
  | .hbm, ⟨35, _⟩ => ⟨S16384x1, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S_, .f32⟩
  | .hbm, ⟨44, _⟩ => ⟨S16384, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== LossHead.lean ====
abbrev S16384x1024 : Shape := ⟨2, ![16384, 1024]⟩
abbrev S1024 : Shape := ⟨1, ![1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 7
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S1x1024, .f32⟩
  | .hbm, ⟨4, _⟩ => ⟨S1x128, .f32⟩
  | .hbm, ⟨5, _⟩ => ⟨S16384x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384, .f32⟩
  | .hbm, ⟨30, _⟩ => ⟨S_, .f32⟩
  | .hbm, ⟨31, _⟩ => ⟨S16384, .f32⟩
  | .hbm, ⟨32, _⟩ => ⟨S16384, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S16384, .f32⟩
  | .hbm, ⟨41, _⟩ => ⟨S_, .f32⟩
  | .hbm, ⟨42, _⟩ => ⟨S16384, .f32⟩
  | .hbm, ⟨43, _⟩ => ⟨S16384, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S1024, .f32⟩
  | .hbm, ⟨54, _⟩ => ⟨S16384x1024, .f32⟩
  | .hbm, ⟨55, _⟩ => ⟨S_, .f32⟩
  | .hbm, ⟨56, _⟩ => ⟨S16384, .f32⟩
  | .hbm, ⟨57, _⟩ => ⟨S16384x1, .f32⟩
  | .hbm, ⟨58, _⟩ => ⟨S16384x1024, .f32⟩
  | .hbm, ⟨59, _⟩ => ⟨S16384x1024, .f32⟩
  | .hbm, ⟨60, _⟩ => ⟨S16384x1, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S_, .f32⟩
  | .hbm, ⟨65, _⟩ => ⟨S16384, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S1x128, .f32⟩
  | .hbm, ⟨72, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Ffn.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S16384x2816 : Shape := ⟨2, ![16384, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1024x1408 : Shape := ⟨2, ![1024, 1408]⟩
abbrev S256x1408 : Shape := ⟨2, ![256, 1408]⟩
abbrev S1408x1024 : Shape := ⟨2, ![1408, 1024]⟩

abbrev nBuf : Space → Nat
  | .hbm => 20
  | .vmem => 35
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16384x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S16384x1024, .f32⟩
  | .hbm, ⟨11, _⟩ => ⟨S16384x2816, .bf16⟩
  | .hbm, ⟨12, _⟩ => ⟨S16384x2816, .bf16⟩
  | .hbm, ⟨13, _⟩ => ⟨S1x1024, .f32⟩
  | .hbm, ⟨14, _⟩ => ⟨S16384x1024, .f32⟩
  | .hbm, ⟨15, _⟩ => ⟨S1x1024, .f32⟩
  | .hbm, ⟨16, _⟩ => ⟨S16384x1024, .bf16⟩
  | .hbm, ⟨17, _⟩ => ⟨S16384x2816, .bf16⟩
  | .hbm, ⟨18, _⟩ => ⟨S16384x2816, .bf16⟩
  | .hbm, ⟨19, _⟩ => ⟨S16384x2816, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S256x1024, .f32⟩
  | .local _ .vmem, ⟨16, _⟩ => ⟨S256x1024, .f32⟩
  | .local _ .vmem, ⟨17, _⟩ => ⟨S256x2816, .bf16⟩
  | .local _ .vmem, ⟨18, _⟩ => ⟨S256x2816, .bf16⟩
  | .local _ .vmem, ⟨19, _⟩ => ⟨S256x2816, .bf16⟩
  | .local _ .vmem, ⟨20, _⟩ => ⟨S256x2816, .bf16⟩
  | .local _ .vmem, ⟨21, _⟩ => ⟨S1024x2816, .bf16⟩
  | .local _ .vmem, ⟨22, _⟩ => ⟨S1024x2816, .bf16⟩
  | .local _ .vmem, ⟨23, _⟩ => ⟨S2816x1024, .bf16⟩
  | .local _ .vmem, ⟨24, _⟩ => ⟨S256x1024, .f32⟩
  | .local _ .vmem, ⟨25, _⟩ => ⟨S256x1024, .f32⟩
  | .local _ .vmem, ⟨26, _⟩ => ⟨S1x1024, .f32⟩
  | .local _ .vmem, ⟨27, _⟩ => ⟨S256x1024, .bf16⟩
  | .local _ .vmem, ⟨28, _⟩ => ⟨S256x1024, .bf16⟩
  | .local _ .vmem, ⟨29, _⟩ => ⟨S256x2816, .bf16⟩
  | .local _ .vmem, ⟨30, _⟩ => ⟨S256x2816, .bf16⟩
  | .local _ .vmem, ⟨31, _⟩ => ⟨S256x2816, .bf16⟩
  | .local _ .vmem, ⟨32, _⟩ => ⟨S256x2816, .bf16⟩
  | .local _ .vmem, ⟨33, _⟩ => ⟨S256x2816, .bf16⟩
  | .local _ .vmem, ⟨34, _⟩ => ⟨S256x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev main_v6_5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg8_1 : Ref sig .tc := ⟨.vmem, 25, rfl⟩
abbrev cc1_stg9_0 : Ref sig .tc := ⟨.vmem, 26, rfl⟩
abbrev cc1_stg10_0 : Ref sig .tc := ⟨.vmem, 27, rfl⟩
abbrev cc1_stg10_1 : Ref sig .tc := ⟨.vmem, 28, rfl⟩
abbrev cc1_stg11_0 : Ref sig .tc := ⟨.vmem, 29, rfl⟩
abbrev cc1_stg11_1 : Ref sig .tc := ⟨.vmem, 30, rfl⟩
abbrev cc1_stg12_0 : Ref sig .tc := ⟨.vmem, 31, rfl⟩
abbrev cc1_stg12_1 : Ref sig .tc := ⟨.vmem, 32, rfl⟩
abbrev cc1_stg13_0 : Ref sig .tc := ⟨.vmem, 33, rfl⟩
abbrev cc1_stg13_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem8_1 : DmaSem sig := 25
abbrev cc1_sem9_0 : DmaSem sig := 26
abbrev cc1_sem10_0 : DmaSem sig := 27
abbrev cc1_sem10_1 : DmaSem sig := 28
abbrev cc1_sem11_0 : DmaSem sig := 29
abbrev cc1_sem11_1 : DmaSem sig := 30
abbrev cc1_sem12_0 : DmaSem sig := 31
abbrev cc1_sem12_1 : DmaSem sig := 32
abbrev cc1_sem13_0 : DmaSem sig := 33
abbrev cc1_sem13_1 : DmaSem sig := 34

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x2816 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x2816 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1024x2816 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x2816 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S2816x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S256x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S256x1024 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S256x2816 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S256x2816 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S256x2816 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]
-- ==== FfnRefIdeal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 150
  | .vmem => 0
  | .smem => 0
  | _ => 0

abbrev hbmTy0_0 (i : Nat) : BufTy := match i % 128 with
  | 0 => ⟨S16384x1024, .f32⟩
  | 1 => ⟨S1024, .f32⟩
  | 2 => ⟨S1024x2816, .f32⟩
  | 3 => ⟨S1024x2816, .f32⟩
  | 4 => ⟨S2816x1024, .f32⟩
  | 5 => ⟨S16384x1024, .f32⟩
  | 6 => ⟨S16384x1024, .f32⟩
  | 7 => ⟨S_, .f32⟩
  | 8 => ⟨S16384, .f32⟩
  | 9 => ⟨S16384x1, .f32⟩
  | 10 => ⟨S_, .f32⟩
  | 11 => ⟨S16384x1, .f32⟩
  | 12 => ⟨S16384x1, .f32⟩
  | 13 => ⟨S_, .f32⟩
  | 14 => ⟨S16384x1, .f32⟩
  | 15 => ⟨S16384x1, .f32⟩
  | 16 => ⟨S16384x1, .f32⟩
  | 17 => ⟨S16384x1024, .f32⟩
  | 18 => ⟨S16384x1024, .f32⟩
  | 19 => ⟨S1x1024, .f32⟩
  | 20 => ⟨S16384x1024, .f32⟩
  | 21 => ⟨S16384x1024, .f32⟩
  | 22 => ⟨S16384x2816, .f32⟩
  | 23 => ⟨S16384x2816, .f32⟩
  | 24 => ⟨S16384x2816, .f32⟩
  | 25 => ⟨S_, .f32⟩
  | 26 => ⟨S16384x2816, .f32⟩
  | 27 => ⟨S16384x2816, .f32⟩
  | 28 => ⟨S_, .f32⟩
  | 29 => ⟨S16384x2816, .f32⟩
  | 30 => ⟨S16384x2816, .f32⟩
  | 31 => ⟨S16384x2816, .f32⟩
  | 32 => ⟨S16384x2816, .f32⟩
  | 33 => ⟨S16384x2816, .f32⟩
  | 34 => ⟨S16384x1024, .f32⟩
  | 35 => ⟨S_, .f32⟩
  | 36 => ⟨S16384, .f32⟩
  | 37 => ⟨S16384x1, .f32⟩
  | 38 => ⟨S_, .f32⟩
  | 39 => ⟨S16384x1, .f32⟩
  | 40 => ⟨S16384x1, .f32⟩
  | 41 => ⟨S_, .f32⟩
  | 42 => ⟨S16384x1, .f32⟩
  | 43 => ⟨S16384x1, .f32⟩
  | 44 => ⟨S16384x1, .f32⟩
  | 45 => ⟨S16384x1, .f32⟩
  | 46 => ⟨S_, .f32⟩
  | 47 => ⟨S16384x1, .f32⟩
  | 48 => ⟨S16384x1, .f32⟩
  | 49 => ⟨S16384x1024, .f32⟩
  | 50 => ⟨S16384x1024, .f32⟩
  | 51 => ⟨S1x1024, .f32⟩
  | 52 => ⟨S16384x1024, .f32⟩
  | 53 => ⟨S16384x1024, .f32⟩
  | 54 => ⟨S16384x2816, .f32⟩
  | 55 => ⟨S16384x2816, .f32⟩
  | 56 => ⟨S16384x2816, .f32⟩
  | 57 => ⟨S_, .f32⟩
  | 58 => ⟨S16384x2816, .f32⟩
  | 59 => ⟨S16384x2816, .f32⟩
  | 60 => ⟨S_, .f32⟩
  | 61 => ⟨S16384x2816, .f32⟩
  | 62 => ⟨S16384x2816, .f32⟩
  | 63 => ⟨S_, .f32⟩
  | 64 => ⟨S16384x2816, .f32⟩
  | 65 => ⟨S16384x2816, .f32⟩
  | 66 => ⟨S16384x2816, .f32⟩
  | 67 => ⟨S16384x2816, .f32⟩
  | 68 => ⟨S16384x2816, .f32⟩
  | 69 => ⟨S16384x2816, .f32⟩
  | 70 => ⟨S16384x1024, .f32⟩
  | 71 => ⟨S_, .f32⟩
  | 72 => ⟨S16384x1024, .f32⟩
  | 73 => ⟨S16384x1024, .f32⟩
  | 74 => ⟨S16384x1024, .f32⟩
  | 75 => ⟨S16384x1024, .f32⟩
  | 76 => ⟨S_, .f32⟩
  | 77 => ⟨S16384x1024, .f32⟩
  | 78 => ⟨S16384x1024, .f32⟩
  | 79 => ⟨S16384x2816, .f32⟩
  | 80 => ⟨S16384x2816, .f32⟩
  | 81 => ⟨S16384x2816, .f32⟩
  | 82 => ⟨S16384x1024, .f32⟩
  | 83 => ⟨S16384x2816, .f32⟩
  | 84 => ⟨S16384x2816, .f32⟩
  | 85 => ⟨S16384x2816, .f32⟩
  | 86 => ⟨S16384x2816, .f32⟩
  | 87 => ⟨S16384x1024, .f32⟩
  | 88 => ⟨S16384x1024, .f32⟩
  | 89 => ⟨S16384x1024, .f32⟩
  | 90 => ⟨S_, .f32⟩
  | 91 => ⟨S1024, .f32⟩
  | 92 => ⟨S1x1024, .f32⟩
  | 93 => ⟨S16384x1024, .f32⟩
  | 94 => ⟨S16384x1024, .f32⟩
  | 95 => ⟨S_, .f32⟩
  | 96 => ⟨S1024, .f32⟩
  | 97 => ⟨S16384x1024, .f32⟩
  | 98 => ⟨S_, .f32⟩
  | 99 => ⟨S16384, .f32⟩
  | 100 => ⟨S16384x1, .f32⟩
  | 101 => ⟨S16384x1024, .f32⟩
  | 102 => ⟨S16384x1024, .f32⟩
  | 103 => ⟨S16384x1024, .f32⟩
  | 104 => ⟨S16384x1, .f32⟩
  | 105 => ⟨S_, .f32⟩
  | 106 => ⟨S16384x1, .f32⟩
  | 107 => ⟨S16384x1, .f32⟩
  | 108 => ⟨S_, .f32⟩
  | 109 => ⟨S16384, .f32⟩
  | 110 => ⟨S16384x1024, .f32⟩
  | 111 => ⟨S16384x1024, .f32⟩
  | 112 => ⟨S16384x1024, .f32⟩
  | 113 => ⟨S16384x1024, .f32⟩
  | 114 => ⟨S16384x1024, .f32⟩
  | 115 => ⟨S16384x2816, .f32⟩
  | 116 => ⟨S16384x2816, .f32⟩
  | 117 => ⟨S16384x2816, .f32⟩
  | 118 => ⟨S16384x2816, .f32⟩
  | 119 => ⟨S_, .f32⟩
  | 120 => ⟨S16384x2816, .f32⟩
  | 121 => ⟨S16384x2816, .f32⟩
  | 122 => ⟨S_, .f32⟩
  | 123 => ⟨S16384x2816, .f32⟩
  | 124 => ⟨S16384x2816, .f32⟩
  | 125 => ⟨S_, .f32⟩
  | 126 => ⟨S16384x2816, .f32⟩
  | 127 => ⟨S16384x2816, .f32⟩
  | _ => ⟨S16384x1024, .f32⟩

abbrev hbmTy0_1 (i : Nat) : BufTy := match i % 128 with
  | 0 => ⟨S16384x2816, .f32⟩
  | 1 => ⟨S16384x2816, .f32⟩
  | 2 => ⟨S16384x2816, .f32⟩
  | 3 => ⟨S16384x1024, .f32⟩
  | 4 => ⟨S_, .f32⟩
  | 5 => ⟨S16384x1024, .f32⟩
  | 6 => ⟨S16384x1024, .f32⟩
  | 7 => ⟨S_, .f32⟩
  | 8 => ⟨S16384x1024, .f32⟩
  | 9 => ⟨S16384x1024, .f32⟩
  | 10 => ⟨S16384x2816, .f32⟩
  | 11 => ⟨S16384x2816, .f32⟩
  | 12 => ⟨S16384x2816, .f32⟩
  | 13 => ⟨S16384x2816, .f32⟩
  | 14 => ⟨S16384x2816, .f32⟩
  | 15 => ⟨S16384x2816, .f32⟩
  | 16 => ⟨S16384x2816, .f32⟩
  | 17 => ⟨S1x1024, .f32⟩
  | 18 => ⟨S16384x1024, .bf16⟩
  | 19 => ⟨S16384x2816, .bf16⟩
  | 20 => ⟨S16384x2816, .bf16⟩
  | 21 => ⟨S16384x2816, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_v21 : Ref sig .tc := ⟨.hbm, 40, rfl⟩
abbrev main_cst_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_call1_v0 : Ref sig .tc := ⟨.hbm, 55, rfl⟩
abbrev main_call1_v1 : Ref sig .tc := ⟨.hbm, 56, rfl⟩
abbrev main_call1_cst : Ref sig .tc := ⟨.hbm, 57, rfl⟩
abbrev main_call1_v2 : Ref sig .tc := ⟨.hbm, 58, rfl⟩
abbrev main_call1_v3 : Ref sig .tc := ⟨.hbm, 59, rfl⟩
abbrev main_call1_cst_0 : Ref sig .tc := ⟨.hbm, 60, rfl⟩
abbrev main_call1_v4 : Ref sig .tc := ⟨.hbm, 61, rfl⟩
abbrev main_v34_2 : Ref sig .tc := ⟨.hbm, 62, rfl⟩
abbrev main_call1_cst_1 : Ref sig .tc := ⟨.hbm, 63, rfl⟩
abbrev main_call1_v6 : Ref sig .tc := ⟨.hbm, 64, rfl⟩
abbrev main_call1_v7 : Ref sig .tc := ⟨.hbm, 65, rfl⟩
abbrev main_v34_1 : Ref sig .tc := ⟨.hbm, 66, rfl⟩
abbrev main_v34_0 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_cst_6 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_cst_7 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_call2_v0 : Ref sig .tc := ⟨.hbm, 83, rfl⟩
abbrev main_call2_v1 : Ref sig .tc := ⟨.hbm, 84, rfl⟩
abbrev main_call2_v2 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_cst_8 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_cst_9 : Ref sig .tc := ⟨.hbm, 95, rfl⟩
abbrev main_v56 : Ref sig .tc := ⟨.hbm, 96, rfl⟩
abbrev main_v57 : Ref sig .tc := ⟨.hbm, 97, rfl⟩
abbrev main_cst_10 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_cst_11 : Ref sig .tc := ⟨.hbm, 105, rfl⟩
abbrev main_v64 : Ref sig .tc := ⟨.hbm, 106, rfl⟩
abbrev main_v65 : Ref sig .tc := ⟨.hbm, 107, rfl⟩
abbrev main_cst_12 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_call3_v0 : Ref sig .tc := ⟨.hbm, 117, rfl⟩
abbrev main_call3_v1 : Ref sig .tc := ⟨.hbm, 118, rfl⟩
abbrev main_call3_cst : Ref sig .tc := ⟨.hbm, 119, rfl⟩
abbrev main_call3_v2 : Ref sig .tc := ⟨.hbm, 120, rfl⟩
abbrev main_call3_v3 : Ref sig .tc := ⟨.hbm, 121, rfl⟩
abbrev main_call3_cst_0 : Ref sig .tc := ⟨.hbm, 122, rfl⟩
abbrev main_call3_v4 : Ref sig .tc := ⟨.hbm, 123, rfl⟩
abbrev main_v74_2 : Ref sig .tc := ⟨.hbm, 124, rfl⟩
abbrev main_call3_cst_1 : Ref sig .tc := ⟨.hbm, 125, rfl⟩
abbrev main_call3_v6 : Ref sig .tc := ⟨.hbm, 126, rfl⟩
abbrev main_call3_v7 : Ref sig .tc := ⟨.hbm, 127, rfl⟩
abbrev main_v74_1 : Ref sig .tc := ⟨.hbm, 128, rfl⟩
abbrev main_v74_0 : Ref sig .tc := ⟨.hbm, 129, rfl⟩
abbrev main_v75 : Ref sig .tc := ⟨.hbm, 130, rfl⟩
abbrev main_v76 : Ref sig .tc := ⟨.hbm, 131, rfl⟩
abbrev main_cst_13 : Ref sig .tc := ⟨.hbm, 132, rfl⟩
abbrev main_v77 : Ref sig .tc := ⟨.hbm, 133, rfl⟩
abbrev main_v78 : Ref sig .tc := ⟨.hbm, 134, rfl⟩
abbrev main_cst_14 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_call4_v0 : Ref sig .tc := ⟨.hbm, 141, rfl⟩
abbrev main_call4_v1 : Ref sig .tc := ⟨.hbm, 142, rfl⟩
abbrev main_call4_v2 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩

abbrev nD : Nat := 1
abbrev τ : Topo := Topo.v7x

variable {F : FTy → Type} [FloatOps F]
-- ==== Attn.lean ====
abbrev S1x16384x6x64 : Shape := ⟨4, ![1, 16384, 6, 64]⟩
abbrev S1x16384x6 : Shape := ⟨3, ![1, 16384, 6]⟩
abbrev S_ : Shape := ⟨0, ![]⟩
abbrev S1024x6144 : Shape := ⟨2, ![1024, 6144]⟩
abbrev S1024x128 : Shape := ⟨2, ![1024, 128]⟩
abbrev S128x128 : Shape := ⟨2, ![128, 128]⟩
abbrev S128x256 : Shape := ⟨2, ![128, 256]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S1x16384x384 : Shape := ⟨3, ![1, 16384, 384]⟩
abbrev S128 : Shape := ⟨1, ![128]⟩
abbrev S128x1 : Shape := ⟨2, ![128, 1]⟩
abbrev S512x128 : Shape := ⟨2, ![512, 128]⟩
abbrev S128x512 : Shape := ⟨2, ![128, 512]⟩

abbrev nBuf : Space → Nat
  | .hbm => 32
  | .vmem => 44
  | .smem => 0
  | _ => 0

abbrev bufTy : (tb : Table) → Fin (tcTables nBuf tb) → BufTy
  | .hbm, ⟨0, _⟩ => ⟨S1x16384x6x64, .f32⟩
  | .hbm, ⟨1, _⟩ => ⟨S1x16384x6x64, .f32⟩
  | .hbm, ⟨2, _⟩ => ⟨S1x16384x6x64, .f32⟩
  | .hbm, ⟨3, _⟩ => ⟨S1x16384x6x64, .f32⟩
  | .hbm, ⟨4, _⟩ => ⟨S1x16384x6, .f32⟩
  | .hbm, ⟨5, _⟩ => ⟨S_, .f32⟩
  | .hbm, ⟨6, _⟩ => ⟨S1x16384x6x64, .f32⟩
  | .hbm, ⟨7, _⟩ => ⟨S1x16384x6x64, .f32⟩
  | .hbm, ⟨8, _⟩ => ⟨S1024x6144, .f32⟩
  | .hbm, ⟨9, _⟩ => ⟨S1024x6144, .bf16⟩
  | .hbm, ⟨10, _⟩ => ⟨S1024x6144, .f32⟩
  | .hbm, ⟨11, _⟩ => ⟨S1024x6144, .bf16⟩
  | .hbm, ⟨12, _⟩ => ⟨S1024x6144, .f32⟩
  | .hbm, ⟨13, _⟩ => ⟨S1024x6144, .bf16⟩
  | .hbm, ⟨14, _⟩ => ⟨S1024x6144, .f32⟩
  | .hbm, ⟨15, _⟩ => ⟨S1024x6144, .f32⟩
  | .hbm, ⟨16, _⟩ => ⟨S1x16384x6x64, .f32⟩
  | .hbm, ⟨17, _⟩ => ⟨S1x16384x6x64, .f32⟩
  | .hbm, ⟨18, _⟩ => ⟨S_, .f32⟩
  | .hbm, ⟨19, _⟩ => ⟨S1x16384x6, .f32⟩
  | .hbm, ⟨20, _⟩ => ⟨S1x16384x6, .f32⟩
  | .hbm, ⟨21, _⟩ => ⟨S1x16384x6x64, .f32⟩
  | .hbm, ⟨22, _⟩ => ⟨S1x16384x384, .f32⟩
  | .hbm, ⟨23, _⟩ => ⟨S1024x6144, .f32⟩
  | .hbm, ⟨24, _⟩ => ⟨S1024x6144, .bf16⟩
  | .hbm, ⟨25, _⟩ => ⟨S1024x6144, .f32⟩
  | .hbm, ⟨26, _⟩ => ⟨S1024x6144, .f32⟩
  | .hbm, ⟨27, _⟩ => ⟨S1024x6144, .f32⟩
  | .hbm, ⟨28, _⟩ => ⟨S1024x6144, .f32⟩
  | .hbm, ⟨29, _⟩ => ⟨S_, .f32⟩
  | .hbm, ⟨30, _⟩ => ⟨S1024x6144, .f32⟩
  | .hbm, ⟨31, _⟩ => ⟨S1024x6144, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .bf16⟩
  | .local _ .vmem, ⟨15, _⟩ => ⟨S1024x128, .bf16⟩
  | .local _ .vmem, ⟨16, _⟩ => ⟨S1024x128, .bf16⟩
  | .local _ .vmem, ⟨17, _⟩ => ⟨S1024x128, .bf16⟩
  | .local _ .vmem, ⟨18, _⟩ => ⟨S1024x128, .bf16⟩
  | .local _ .vmem, ⟨19, _⟩ => ⟨S1024x128, .bf16⟩
  | .local _ .vmem, ⟨20, _⟩ => ⟨S1024x128, .bf16⟩
  | .local _ .vmem, ⟨21, _⟩ => ⟨S1024x128, .bf16⟩
  | .local _ .vmem, ⟨22, _⟩ => ⟨S1024x128, .f32⟩
  | .local _ .vmem, ⟨23, _⟩ => ⟨S1024x128, .f32⟩
  | .local _ .vmem, ⟨24, _⟩ => ⟨S1024x128, .f32⟩
  | .local _ .vmem, ⟨25, _⟩ => ⟨S1024x128, .f32⟩
  | .local _ .vmem, ⟨26, _⟩ => ⟨S128x128, .bf16⟩
  | .local _ .vmem, ⟨27, _⟩ => ⟨S128x128, .bf16⟩
  | .local _ .vmem, ⟨28, _⟩ => ⟨S128x128, .bf16⟩
  | .local _ .vmem, ⟨29, _⟩ => ⟨S128x128, .bf16⟩
  | .local _ .vmem, ⟨30, _⟩ => ⟨S128x128, .bf16⟩
  | .local _ .vmem, ⟨31, _⟩ => ⟨S128x128, .bf16⟩
  | .local _ .vmem, ⟨32, _⟩ => ⟨S128x128, .bf16⟩
  | .local _ .vmem, ⟨33, _⟩ => ⟨S128x128, .bf16⟩
  | .local _ .vmem, ⟨34, _⟩ => ⟨S128x128, .f32⟩
  | .local _ .vmem, ⟨35, _⟩ => ⟨S128x128, .f32⟩
  | .local _ .vmem, ⟨36, _⟩ => ⟨S128x128, .f32⟩
  | .local _ .vmem, ⟨37, _⟩ => ⟨S128x128, .f32⟩
  | .local _ .vmem, ⟨38, _⟩ => ⟨S1024x128, .f32⟩
  | .local _ .vmem, ⟨39, _⟩ => ⟨S1024x128, .f32⟩
  | .local _ .vmem, ⟨40, _⟩ => ⟨S1024x128, .f32⟩
  | .local _ .vmem, ⟨41, _⟩ => ⟨S1024x128, .f32⟩
  | .local _ .vmem, ⟨42, _⟩ => ⟨S1024x128, .f32⟩
  | .local _ .vmem, ⟨43, _⟩ => ⟨S1024x128, .f32⟩
  | _, _ => ⟨S1x16384x6x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18_0 : Ref sig .tc := ⟨.hbm, 26, rfl⟩
abbrev main_v18_1 : Ref sig .tc := ⟨.hbm, 27, rfl⟩
abbrev main_v18_2 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc1_stg7_1 : Ref sig .tc := ⟨.vmem, 29, rfl⟩
abbrev cc1_stg8_0 : Ref sig .tc := ⟨.vmem, 30, rfl⟩
abbrev cc1_stg8_1 : Ref sig .tc := ⟨.vmem, 31, rfl⟩
abbrev cc1_stg9_0 : Ref sig .tc := ⟨.vmem, 32, rfl⟩
abbrev cc1_stg9_1 : Ref sig .tc := ⟨.vmem, 33, rfl⟩
abbrev cc1_stg10_0 : Ref sig .tc := ⟨.vmem, 34, rfl⟩
abbrev cc1_stg10_1 : Ref sig .tc := ⟨.vmem, 35, rfl⟩
abbrev cc1_stg11_0 : Ref sig .tc := ⟨.vmem, 36, rfl⟩
abbrev cc1_stg11_1 : Ref sig .tc := ⟨.vmem, 37, rfl⟩
abbrev cc1_stg12_0 : Ref sig .tc := ⟨.vmem, 38, rfl⟩
abbrev cc1_stg12_1 : Ref sig .tc := ⟨.vmem, 39, rfl⟩
abbrev cc1_stg13_0 : Ref sig .tc := ⟨.vmem, 40, rfl⟩
abbrev cc1_stg13_1 : Ref sig .tc := ⟨.vmem, 41, rfl⟩
abbrev cc1_stg14_0 : Ref sig .tc := ⟨.vmem, 42, rfl⟩
abbrev cc1_stg14_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem7_1 : DmaSem sig := 29
abbrev cc1_sem8_0 : DmaSem sig := 30
abbrev cc1_sem8_1 : DmaSem sig := 31
abbrev cc1_sem9_0 : DmaSem sig := 32
abbrev cc1_sem9_1 : DmaSem sig := 33
abbrev cc1_sem10_0 : DmaSem sig := 34
abbrev cc1_sem10_1 : DmaSem sig := 35
abbrev cc1_sem11_0 : DmaSem sig := 36
abbrev cc1_sem11_1 : DmaSem sig := 37
abbrev cc1_sem12_0 : DmaSem sig := 38
abbrev cc1_sem12_1 : DmaSem sig := 39
abbrev cc1_sem13_0 : DmaSem sig := 40
abbrev cc1_sem13_1 : DmaSem sig := 41
abbrev cc1_sem14_0 : DmaSem sig := 42
abbrev cc1_sem14_1 : DmaSem sig := 43

abbrev nD : Nat := 1
abbrev τ : Topo := Topo.v7x

variable {F : FTy → Type} [FloatOps F]

abbrev grid0 : Pipeline.Grid := ⟨2, ![48, 1], ![false, false]⟩

def k0_mult1 : BitVec 32 :=
  let c1_i32 : BitVec 32 := 1#32
  let c128_i32_25 : BitVec 32 := 128#32
  let v76 : BitVec 32 := Scalar.muli c1_i32 c128_i32_25
  v76
def k0_mult2 : BitVec 32 :=
  let c1_i32 : BitVec 32 := 1#32
  let c1_i32_26 : BitVec 32 := 1#32
  let v78 : BitVec 32 := Scalar.subi c1_i32 c1_i32_26
  let c128_i32_27 : BitVec 32 := 128#32
  let v79 : BitVec 32 := Scalar.muli v78 c128_i32_27
  v79
def k0_off1 (c1_i32 : BitVec 32) : Fin 2 → Nat :=
  let c128_i32_25 : BitVec 32 := 128#32
  let v76 : BitVec 32 := Scalar.muli c1_i32 c128_i32_25
  let v77 : BitVec 32 := v76
  let v81 : Index := Scalar.indexCast v77
  let c0_28 : Index := 0#32
  ![v81.toNat, 0]
def k0_off2 (c1_i32 : BitVec 32) : Fin 2 → Nat :=
  let c1_i32_26 : BitVec 32 := 1#32
  let v78 : BitVec 32 := Scalar.subi c1_i32 c1_i32_26
  let c128_i32_27 : BitVec 32 := 128#32
  let v79 : BitVec 32 := Scalar.muli v78 c128_i32_27
  let v80 : BitVec 32 := v79
  let v84 : Index := Scalar.indexCast v80
  let c0_29 : Index := 0#32
  ![v84.toNat, 0]
def k0_mult3 : BitVec 32 :=
  let c2_i32 : BitVec 32 := 2#32
  let c128_i32_42 : BitVec 32 := 128#32
  let v136 : BitVec 32 := Scalar.muli c2_i32 c128_i32_42
  v136
def k0_mult4 : BitVec 32 :=
  let c2_i32 : BitVec 32 := 2#32
  let c1_i32_43 : BitVec 32 := 1#32
  let v138 : BitVec 32 := Scalar.subi c2_i32 c1_i32_43
  let c128_i32_44 : BitVec 32 := 128#32
  let v139 : BitVec 32 := Scalar.muli v138 c128_i32_44
  v139
def k0_mult5 : BitVec 32 :=
  let c3_i32 : BitVec 32 := 3#32
  let c128_i32_59 : BitVec 32 := 128#32
  let v196 : BitVec 32 := Scalar.muli c3_i32 c128_i32_59
  v196
def k0_mult6 : BitVec 32 :=
  let c3_i32 : BitVec 32 := 3#32
  let c1_i32_60 : BitVec 32 := 1#32
  let v198 : BitVec 32 := Scalar.subi c3_i32 c1_i32_60
  let c128_i32_61 : BitVec 32 := 128#32
  let v199 : BitVec 32 := Scalar.muli v198 c128_i32_61
  v199
def k0_mult7 : BitVec 32 :=
  let c4_i32 : BitVec 32 := 4#32
  let c128_i32_76 : BitVec 32 := 128#32
  let v256 : BitVec 32 := Scalar.muli c4_i32 c128_i32_76
  v256
def k0_mult8 : BitVec 32 :=
  let c4_i32 : BitVec 32 := 4#32
  let c1_i32_77 : BitVec 32 := 1#32
  let v258 : BitVec 32 := Scalar.subi c4_i32 c1_i32_77
  let c128_i32_78 : BitVec 32 := 128#32
  let v259 : BitVec 32 := Scalar.muli v258 c128_i32_78
  v259
def k0_mult9 : BitVec 32 :=
  let c5_i32 : BitVec 32 := 5#32
  let c128_i32_93 : BitVec 32 := 128#32
  let v316 : BitVec 32 := Scalar.muli c5_i32 c128_i32_93
  v316
def k0_mult10 : BitVec 32 :=
  let c5_i32 : BitVec 32 := 5#32
  let c1_i32_94 : BitVec 32 := 1#32
  let v318 : BitVec 32 := Scalar.subi c5_i32 c1_i32_94
  let c128_i32_95 : BitVec 32 := 128#32
  let v319 : BitVec 32 := Scalar.muli v318 c128_i32_95
  v319
def k0_mult11 : BitVec 32 :=
  let c6_i32 : BitVec 32 := 6#32
  let c128_i32_110 : BitVec 32 := 128#32
  let v376 : BitVec 32 := Scalar.muli c6_i32 c128_i32_110
  v376
def k0_mult12 : BitVec 32 :=
  let c6_i32 : BitVec 32 := 6#32
  let c1_i32_111 : BitVec 32 := 1#32
  let v378 : BitVec 32 := Scalar.subi c6_i32 c1_i32_111
  let c128_i32_112 : BitVec 32 := 128#32
  let v379 : BitVec 32 := Scalar.muli v378 c128_i32_112
  v379
def k0_mult13 : BitVec 32 :=
  let c7_i32 : BitVec 32 := 7#32
  let c128_i32_127 : BitVec 32 := 128#32
  let v436 : BitVec 32 := Scalar.muli c7_i32 c128_i32_127
  v436
def k0_mult14 : BitVec 32 :=
  let c7_i32 : BitVec 32 := 7#32
  let c1_i32_128 : BitVec 32 := 1#32
  let v438 : BitVec 32 := Scalar.subi c7_i32 c1_i32_128
  let c128_i32_129 : BitVec 32 := 128#32
  let v439 : BitVec 32 := Scalar.muli v438 c128_i32_129
  v439
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![48, 1], ![false, false]⟩

def k1_mult1 : BitVec 32 :=
  let c1_i32 : BitVec 32 := 1#32
  let c128_i32_62 : BitVec 32 := 128#32
  let v128 : BitVec 32 := Scalar.muli c1_i32 c128_i32_62
  v128
def k1_mult2 : BitVec 32 :=
  let c1_i32 : BitVec 32 := 1#32
  let c1_i32_63 : BitVec 32 := 1#32
  let v130 : BitVec 32 := Scalar.subi c1_i32 c1_i32_63
  let c128_i32_64 : BitVec 32 := 128#32
  let v131 : BitVec 32 := Scalar.muli v130 c128_i32_64
  v131
def k1_off1 (c1_i32 : BitVec 32) : Fin 2 → Nat :=
  let c128_i32_62 : BitVec 32 := 128#32
  let v128 : BitVec 32 := Scalar.muli c1_i32 c128_i32_62
  let v129 : BitVec 32 := v128
  let v133 : Index := Scalar.indexCast v129
  let c0_65 : Index := 0#32
  ![v133.toNat, 0]
def k1_off2 (c1_i32 : BitVec 32) : Fin 2 → Nat :=
  let c1_i32_63 : BitVec 32 := 1#32
  let v130 : BitVec 32 := Scalar.subi c1_i32 c1_i32_63
  let c128_i32_64 : BitVec 32 := 128#32
  let v131 : BitVec 32 := Scalar.muli v130 c128_i32_64
  let v132 : BitVec 32 := v131
  let v145 : Index := Scalar.indexCast v132
  let c0_69 : Index := 0#32
  ![v145.toNat, 0]
def k1_mult3 : BitVec 32 :=
  let c2_i32 : BitVec 32 := 2#32
  let c128_i32_104 : BitVec 32 := 128#32
  let v239 : BitVec 32 := Scalar.muli c2_i32 c128_i32_104
  v239
def k1_mult4 : BitVec 32 :=
  let c2_i32 : BitVec 32 := 2#32
  let c1_i32_105 : BitVec 32 := 1#32
  let v241 : BitVec 32 := Scalar.subi c2_i32 c1_i32_105
  let c128_i32_106 : BitVec 32 := 128#32
  let v242 : BitVec 32 := Scalar.muli v241 c128_i32_106
  v242
def k1_mult5 : BitVec 32 :=
  let c3_i32 : BitVec 32 := 3#32
  let c128_i32_146 : BitVec 32 := 128#32
  let v350 : BitVec 32 := Scalar.muli c3_i32 c128_i32_146
  v350
def k1_mult6 : BitVec 32 :=
  let c3_i32 : BitVec 32 := 3#32
  let c1_i32_147 : BitVec 32 := 1#32
  let v352 : BitVec 32 := Scalar.subi c3_i32 c1_i32_147
  let c128_i32_148 : BitVec 32 := 128#32
  let v353 : BitVec 32 := Scalar.muli v352 c128_i32_148
  v353
def k1_mult7 : BitVec 32 :=
  let c4_i32 : BitVec 32 := 4#32
  let c128_i32_188 : BitVec 32 := 128#32
  let v461 : BitVec 32 := Scalar.muli c4_i32 c128_i32_188
  v461
def k1_mult8 : BitVec 32 :=
  let c4_i32 : BitVec 32 := 4#32
  let c1_i32_189 : BitVec 32 := 1#32
  let v463 : BitVec 32 := Scalar.subi c4_i32 c1_i32_189
  let c128_i32_190 : BitVec 32 := 128#32
  let v464 : BitVec 32 := Scalar.muli v463 c128_i32_190
  v464
def k1_mult9 : BitVec 32 :=
  let c5_i32 : BitVec 32 := 5#32
  let c128_i32_230 : BitVec 32 := 128#32
  let v572 : BitVec 32 := Scalar.muli c5_i32 c128_i32_230
  v572
def k1_mult10 : BitVec 32 :=
  let c5_i32 : BitVec 32 := 5#32
  let c1_i32_231 : BitVec 32 := 1#32
  let v574 : BitVec 32 := Scalar.subi c5_i32 c1_i32_231
  let c128_i32_232 : BitVec 32 := 128#32
  let v575 : BitVec 32 := Scalar.muli v574 c128_i32_232
  v575
def k1_mult11 : BitVec 32 :=
  let c6_i32 : BitVec 32 := 6#32
  let c128_i32_272 : BitVec 32 := 128#32
  let v683 : BitVec 32 := Scalar.muli c6_i32 c128_i32_272
  v683
def k1_mult12 : BitVec 32 :=
  let c6_i32 : BitVec 32 := 6#32
  let c1_i32_273 : BitVec 32 := 1#32
  let v685 : BitVec 32 := Scalar.subi c6_i32 c1_i32_273
  let c128_i32_274 : BitVec 32 := 128#32
  let v686 : BitVec 32 := Scalar.muli v685 c128_i32_274
  v686
def k1_mult13 : BitVec 32 :=
  let c7_i32 : BitVec 32 := 7#32
  let c128_i32_314 : BitVec 32 := 128#32
  let v794 : BitVec 32 := Scalar.muli c7_i32 c128_i32_314
  v794
def k1_mult14 : BitVec 32 :=
  let c7_i32 : BitVec 32 := 7#32
  let c1_i32_315 : BitVec 32 := 1#32
  let v796 : BitVec 32 := Scalar.subi c7_i32 c1_i32_315
  let c128_i32_316 : BitVec 32 := 128#32
  let v797 : BitVec 32 := Scalar.muli v796 c128_i32_316
  v797
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc1_transform_7 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc1_transform_8 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c7_i32 : BitVec 32 := 7#32
  let v2 : BitVec 32 := Scalar.minsi v1 c7_i32
  let c0_i32 : BitVec 32 := 0#32
  ![v2.toNat, arg0.toNat]

def cc1_transform_9 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c7_i32 : BitVec 32 := 7#32
  let v2 : BitVec 32 := Scalar.minsi v1 c7_i32
  let c0_i32 : BitVec 32 := 0#32
  ![v2.toNat, arg0.toNat]

def cc1_transform_10 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c7_i32 : BitVec 32 := 7#32
  let v2 : BitVec 32 := Scalar.minsi v1 c7_i32
  let c0_i32 : BitVec 32 := 0#32
  ![v2.toNat, arg0.toNat]

def cc1_transform_11 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c7_i32 : BitVec 32 := 7#32
  let v2 : BitVec 32 := Scalar.minsi v1 c7_i32
  let c0_i32 : BitVec 32 := 0#32
  ![v2.toNat, arg0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_14 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1024x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S128x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S128x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S128x128 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S128x128 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S128x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S128x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S1024x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S1024x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]

abbrev stage1_14 : Fin 2 → Memref sig .tc .vmem S1024x128 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, true]
-- ==== AttnRefIdeal.lean ====
abbrev S1x16384x6x64 : Shape := ⟨4, ![1, 16384, 6, 64]⟩
abbrev S1x16384x6 : Shape := ⟨3, ![1, 16384, 6]⟩
abbrev S1x1024x16x6x64 : Shape := ⟨5, ![1, 1024, 16, 6, 64]⟩
abbrev S1x6x16x1024x64 : Shape := ⟨5, ![1, 6, 16, 1024, 64]⟩
abbrev S96x1024x64 : Shape := ⟨3, ![96, 1024, 64]⟩
abbrev S96x1x1024x64 : Shape := ⟨4, ![96, 1, 1024, 64]⟩
abbrev S96x1x8x128x64 : Shape := ⟨5, ![96, 1, 8, 128, 64]⟩
abbrev S_ : Shape := ⟨0, ![]⟩
abbrev S96x128x64 : Shape := ⟨3, ![96, 128, 64]⟩
abbrev S96x1152x64 : Shape := ⟨3, ![96, 1152, 64]⟩
abbrev S96x8x128x64 : Shape := ⟨4, ![96, 8, 128, 64]⟩
abbrev S96x8x256x64 : Shape := ⟨4, ![96, 8, 256, 64]⟩
abbrev S1024 : Shape := ⟨1, ![1024]⟩
abbrev S8x128x1 : Shape := ⟨3, ![8, 128, 1]⟩
abbrev S8 : Shape := ⟨1, ![8]⟩
abbrev S8x1 : Shape := ⟨2, ![8, 1]⟩
abbrev S256 : Shape := ⟨1, ![256]⟩
abbrev S1x256 : Shape := ⟨2, ![1, 256]⟩
abbrev S8x256 : Shape := ⟨2, ![8, 256]⟩
abbrev S8x1x256 : Shape := ⟨3, ![8, 1, 256]⟩
abbrev S8x128x256 : Shape := ⟨3, ![8, 128, 256]⟩
abbrev S96x8x256x1x128 : Shape := ⟨5, ![96, 8, 256, 1, 128]⟩
abbrev S96x1x8x128x256 : Shape := ⟨5, ![96, 1, 8, 128, 256]⟩
abbrev S96x1x8x128 : Shape := ⟨4, ![96, 1, 8, 128]⟩
abbrev S96x1x8x128x1 : Shape := ⟨5, ![96, 1, 8, 128, 1]⟩
abbrev S96x8x64x1x128 : Shape := ⟨5, ![96, 8, 64, 1, 128]⟩
abbrev S96x1x1024 : Shape := ⟨3, ![96, 1, 1024]⟩
abbrev S1x6x16x1024 : Shape := ⟨4, ![1, 6, 16, 1024]⟩
abbrev S1x1024x16x6 : Shape := ⟨4, ![1, 1024, 16, 6]⟩
abbrev S96x8x1x128x256 : Shape := ⟨5, ![96, 8, 1, 128, 256]⟩
abbrev S96x8x64x256 : Shape := ⟨4, ![96, 8, 64, 256]⟩
abbrev S96x8x128 : Shape := ⟨3, ![96, 8, 128]⟩
abbrev S96x8x1x128x64 : Shape := ⟨5, ![96, 8, 1, 128, 64]⟩
abbrev S1024x6144 : Shape := ⟨2, ![1024, 6144]⟩
abbrev S1x16384x384 : Shape := ⟨3, ![1, 16384, 384]⟩

abbrev nBuf : Space → Nat
  | .hbm => 205
  | .vmem => 0
  | .smem => 0
  | _ => 0

abbrev hbmTy0_0 (i : Nat) : BufTy := match i % 128 with
  | 0 => ⟨S1x16384x6x64, .f32⟩
  | 1 => ⟨S1x16384x6x64, .f32⟩
  | 2 => ⟨S1x16384x6x64, .f32⟩
  | 3 => ⟨S1x16384x6x64, .f32⟩
  | 4 => ⟨S1x16384x6, .f32⟩
  | 5 => ⟨S1x1024x16x6x64, .f32⟩
  | 6 => ⟨S1x6x16x1024x64, .f32⟩
  | 7 => ⟨S96x1024x64, .f32⟩
  | 8 => ⟨S96x1x1024x64, .f32⟩
  | 9 => ⟨S1x1024x16x6x64, .f32⟩
  | 10 => ⟨S1x6x16x1024x64, .f32⟩
  | 11 => ⟨S96x1024x64, .f32⟩
  | 12 => ⟨S1x1024x16x6x64, .f32⟩
  | 13 => ⟨S1x6x16x1024x64, .f32⟩
  | 14 => ⟨S96x1024x64, .f32⟩
  | 15 => ⟨S96x1x8x128x64, .f32⟩
  | 16 => ⟨S_, .f32⟩
  | 17 => ⟨S96x128x64, .f32⟩
  | 18 => ⟨S96x1152x64, .f32⟩
  | 19 => ⟨S_, .f32⟩
  | 20 => ⟨S96x128x64, .f32⟩
  | 21 => ⟨S96x1152x64, .f32⟩
  | 22 => ⟨S_, .f32⟩
  | 23 => ⟨S96x128x64, .f32⟩
  | 24 => ⟨S96x1024x64, .f32⟩
  | 25 => ⟨S96x8x128x64, .f32⟩
  | 26 => ⟨S96x1024x64, .f32⟩
  | 27 => ⟨S96x8x128x64, .f32⟩
  | 28 => ⟨S96x8x256x64, .f32⟩
  | 29 => ⟨S96x1024x64, .f32⟩
  | 30 => ⟨S96x8x128x64, .f32⟩
  | 31 => ⟨S96x1024x64, .f32⟩
  | 32 => ⟨S96x8x128x64, .f32⟩
  | 33 => ⟨S96x8x256x64, .f32⟩
  | 34 => ⟨S1024, .i32⟩
  | 35 => ⟨S8x128x1, .i32⟩
  | 36 => ⟨S8, .i32⟩
  | 37 => ⟨S8x1, .i32⟩
  | 38 => ⟨S_, .i32⟩
  | 39 => ⟨S8x1, .i32⟩
  | 40 => ⟨S8x1, .i32⟩
  | 41 => ⟨S256, .i32⟩
  | 42 => ⟨S1x256, .i32⟩
  | 43 => ⟨S8x256, .i32⟩
  | 44 => ⟨S8x256, .i32⟩
  | 45 => ⟨S8x256, .i32⟩
  | 46 => ⟨S_, .i32⟩
  | 47 => ⟨S8x256, .i32⟩
  | 48 => ⟨S8x256, .i32⟩
  | 49 => ⟨S8x1x256, .i32⟩
  | 50 => ⟨S8x128x256, .i32⟩
  | 51 => ⟨S8x128x256, .i32⟩
  | 52 => ⟨S8x128x256, .i32⟩
  | 53 => ⟨S_, .i32⟩
  | 54 => ⟨S8x128x256, .i32⟩
  | 55 => ⟨S8x128x256, .i1⟩
  | 56 => ⟨S_, .i32⟩
  | 57 => ⟨S8x128x256, .i32⟩
  | 58 => ⟨S8x128x256, .i1⟩
  | 59 => ⟨S8x128x256, .i1⟩
  | 60 => ⟨S_, .i32⟩
  | 61 => ⟨S8x1x256, .i32⟩
  | 62 => ⟨S8x1x256, .i1⟩
  | 63 => ⟨S8x128x256, .i1⟩
  | 64 => ⟨S8x128x256, .i1⟩
  | 65 => ⟨S96x8x256x1x128, .f32⟩
  | 66 => ⟨S96x1x8x128x256, .f32⟩
  | 67 => ⟨S_, .f32⟩
  | 68 => ⟨S96x1x8x128x256, .f32⟩
  | 69 => ⟨S96x1x8x128x256, .f32⟩
  | 70 => ⟨S_, .f32⟩
  | 71 => ⟨S_, .f32⟩
  | 72 => ⟨S96x1x8x128x256, .i1⟩
  | 73 => ⟨S96x1x8x128x256, .f32⟩
  | 74 => ⟨S96x1x8x128x256, .f32⟩
  | 75 => ⟨S_, .f32⟩
  | 76 => ⟨S96x1x8x128x256, .f32⟩
  | 77 => ⟨S_, .f32⟩
  | 78 => ⟨S96x1x8x128, .f32⟩
  | 79 => ⟨S96x1x8x128x1, .f32⟩
  | 80 => ⟨S96x1x8x128x256, .f32⟩
  | 81 => ⟨S96x1x8x128x256, .i1⟩
  | 82 => ⟨S96x1x8x128x256, .f32⟩
  | 83 => ⟨S_, .f32⟩
  | 84 => ⟨S96x1x8x128, .f32⟩
  | 85 => ⟨S96x1x8x128x1, .f32⟩
  | 86 => ⟨S96x1x8x128x256, .f32⟩
  | 87 => ⟨S96x1x8x128x256, .f32⟩
  | 88 => ⟨S96x1x8x128x256, .f32⟩
  | 89 => ⟨S_, .f32⟩
  | 90 => ⟨S96x1x8x128, .f32⟩
  | 91 => ⟨S96x1x8x128x1, .f32⟩
  | 92 => ⟨S96x8x64x1x128, .f32⟩
  | 93 => ⟨S96x1x8x128x64, .f32⟩
  | 94 => ⟨S96x1x8x128x64, .f32⟩
  | 95 => ⟨S96x1x8x128x64, .f32⟩
  | 96 => ⟨S96x1x8x128x1, .f32⟩
  | 97 => ⟨S_, .f32⟩
  | 98 => ⟨S96x1x8x128x1, .f32⟩
  | 99 => ⟨S96x1x8x128x1, .f32⟩
  | 100 => ⟨S96x1x8x128x1, .f32⟩
  | 101 => ⟨S96x1x8x128x1, .f32⟩
  | 102 => ⟨S96x1x8x128, .f32⟩
  | 103 => ⟨S96x1x1024x64, .f32⟩
  | 104 => ⟨S96x1x1024, .f32⟩
  | 105 => ⟨S1x6x16x1024x64, .f32⟩
  | 106 => ⟨S1x1024x16x6x64, .f32⟩
  | 107 => ⟨S1x16384x6x64, .f32⟩
  | 108 => ⟨S1x6x16x1024, .f32⟩
  | 109 => ⟨S1x1024x16x6, .f32⟩
  | 110 => ⟨S1x16384x6, .f32⟩
  | 111 => ⟨S1x1024x16x6, .f32⟩
  | 112 => ⟨S1x6x16x1024, .f32⟩
  | 113 => ⟨S96x1x1024, .f32⟩
  | 114 => ⟨S1x1024x16x6x64, .f32⟩
  | 115 => ⟨S1x6x16x1024x64, .f32⟩
  | 116 => ⟨S96x1x1024x64, .f32⟩
  | 117 => ⟨S96x1x8x128, .f32⟩
  | 118 => ⟨S96x1x8x128x64, .f32⟩
  | 119 => ⟨S96x1x8x128x1, .f32⟩
  | 120 => ⟨S96x1x8x128x1, .f32⟩
  | 121 => ⟨S96x1x8x128x64, .f32⟩
  | 122 => ⟨S96x1x8x128x64, .f32⟩
  | 123 => ⟨S96x1x8x128x64, .f32⟩
  | 124 => ⟨S_, .f32⟩
  | 125 => ⟨S96x1x8x128, .f32⟩
  | 126 => ⟨S96x1x8x128x1, .f32⟩
  | 127 => ⟨S96x1x8x128x1, .f32⟩
  | _ => ⟨S1x16384x6x64, .f32⟩

abbrev hbmTy0_1 (i : Nat) : BufTy := match i % 128 with
  | 0 => ⟨S96x1x8x128x1, .f32⟩
  | 1 => ⟨S96x1x8x128x64, .f32⟩
  | 2 => ⟨S96x1x8x128x64, .f32⟩
  | 3 => ⟨S96x8x64x1x128, .f32⟩
  | 4 => ⟨S96x8x1x128x256, .f32⟩
  | 5 => ⟨S96x1x8x128x256, .f32⟩
  | 6 => ⟨S96x8x64x256, .f32⟩
  | 7 => ⟨S96x8x256x64, .f32⟩
  | 8 => ⟨S_, .f32⟩
  | 9 => ⟨S96x8x128, .f32⟩
  | 10 => ⟨S96x1x8x128, .f32⟩
  | 11 => ⟨S96x1x8x128x256, .f32⟩
  | 12 => ⟨S96x1x8x128x256, .f32⟩
  | 13 => ⟨S96x1x8x128x256, .f32⟩
  | 14 => ⟨S96x1x8x128x256, .f32⟩
  | 15 => ⟨S_, .f32⟩
  | 16 => ⟨S96x1x8x128, .f32⟩
  | 17 => ⟨S96x1x8x128x1, .f32⟩
  | 18 => ⟨S96x1x8x128x1, .f32⟩
  | 19 => ⟨S_, .f32⟩
  | 20 => ⟨S96x8x128, .f32⟩
  | 21 => ⟨S96x1x8x128, .f32⟩
  | 22 => ⟨S96x1x8x128, .f32⟩
  | 23 => ⟨S96x1x8x128x256, .f32⟩
  | 24 => ⟨S96x1x8x128x256, .f32⟩
  | 25 => ⟨S96x1x8x128x256, .f32⟩
  | 26 => ⟨S_, .f32⟩
  | 27 => ⟨S96x1x8x128x256, .f32⟩
  | 28 => ⟨S96x1x8x128x256, .f32⟩
  | 29 => ⟨S_, .f32⟩
  | 30 => ⟨S96x1x8x128x256, .f32⟩
  | 31 => ⟨S96x1x8x128x256, .f32⟩
  | 32 => ⟨S96x8x256x1x128, .f32⟩
  | 33 => ⟨S96x8x1x128x64, .f32⟩
  | 34 => ⟨S96x1x8x128x64, .f32⟩
  | 35 => ⟨S96x8x256x64, .f32⟩
  | 36 => ⟨S96x8x128x64, .f32⟩
  | 37 => ⟨S96x8x128x64, .f32⟩
  | 38 => ⟨S96x1024x64, .f32⟩
  | 39 => ⟨S_, .f32⟩
  | 40 => ⟨S96x1152x64, .f32⟩
  | 41 => ⟨S96x1024x64, .f32⟩
  | 42 => ⟨S_, .f32⟩
  | 43 => ⟨S96x1152x64, .f32⟩
  | 44 => ⟨S96x1152x64, .f32⟩
  | 45 => ⟨S96x8x128x64, .f32⟩
  | 46 => ⟨S96x8x128x64, .f32⟩
  | 47 => ⟨S96x1024x64, .f32⟩
  | 48 => ⟨S_, .f32⟩
  | 49 => ⟨S96x1152x64, .f32⟩
  | 50 => ⟨S96x1024x64, .f32⟩
  | 51 => ⟨S_, .f32⟩
  | 52 => ⟨S96x1152x64, .f32⟩
  | 53 => ⟨S96x1152x64, .f32⟩
  | 54 => ⟨S96x128x64, .f32⟩
  | 55 => ⟨S96x1024x64, .f32⟩
  | 56 => ⟨S96x128x64, .f32⟩
  | 57 => ⟨S96x1024x64, .f32⟩
  | 58 => ⟨S96x1x1024x64, .f32⟩
  | 59 => ⟨S1x6x16x1024x64, .f32⟩
  | 60 => ⟨S1x1024x16x6x64, .f32⟩
  | 61 => ⟨S1x16384x6x64, .f32⟩
  | 62 => ⟨S1x6x16x1024x64, .f32⟩
  | 63 => ⟨S1x1024x16x6x64, .f32⟩
  | 64 => ⟨S1x16384x6x64, .f32⟩
  | 65 => ⟨S_, .f32⟩
  | 66 => ⟨S96x1024x64, .f32⟩
  | 67 => ⟨S1x6x16x1024x64, .f32⟩
  | 68 => ⟨S1x1024x16x6x64, .f32⟩
  | 69 => ⟨S1x16384x6x64, .f32⟩
  | 70 => ⟨S1024x6144, .f32⟩
  | 71 => ⟨S1x16384x6x64, .f32⟩
  | 72 => ⟨S1x16384x384, .f32⟩
  | 73 => ⟨S1024x6144, .f32⟩
  | 74 => ⟨S1024x6144, .f32⟩
  | 75 => ⟨S1024x6144, .f32⟩
  | 76 => ⟨S1024x6144, .f32⟩
  | _ => ⟨S1x16384x6x64, .f32⟩

abbrev hbmTy (i : Nat) : BufTy := match i / 128 with
  | 0 => hbmTy0_0 i
  | 1 => hbmTy0_1 i
  | _ => ⟨S1x16384x6x64, .f32⟩

abbrev bufTy : (tb : Table) → Fin (tcTables nBuf tb) → BufTy
  | .hbm, ⟨i, _⟩ => hbmTy i
  | _, _ => ⟨S1x16384x6x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_c_2 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_c_3 : Ref sig .tc := ⟨.hbm, 53, rfl⟩
abbrev main_v43 : Ref sig .tc := ⟨.hbm, 54, rfl⟩
abbrev main_v44 : Ref sig .tc := ⟨.hbm, 55, rfl⟩
abbrev main_c_4 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_c_5 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_6 : Ref sig .tc := ⟨.hbm, 67, rfl⟩
abbrev main_v54 : Ref sig .tc := ⟨.hbm, 68, rfl⟩
abbrev main_v55 : Ref sig .tc := ⟨.hbm, 69, rfl⟩
abbrev main_cst_7 : Ref sig .tc := ⟨.hbm, 70, rfl⟩
abbrev main_call0_v0 : Ref sig .tc := ⟨.hbm, 71, rfl⟩
abbrev main_v56_1 : Ref sig .tc := ⟨.hbm, 72, rfl⟩
abbrev main_call0_v2 : Ref sig .tc := ⟨.hbm, 73, rfl⟩
abbrev main_v56_0 : Ref sig .tc := ⟨.hbm, 74, rfl⟩
abbrev main_call0_cst : Ref sig .tc := ⟨.hbm, 75, rfl⟩
abbrev main_v56_2 : Ref sig .tc := ⟨.hbm, 76, rfl⟩
abbrev main_cst_8 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_9 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_10 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_11 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_cst_12 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_cst_13 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_cst_14 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_cst_15 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_call1_cst : Ref sig .tc := ⟨.hbm, 154, rfl⟩
abbrev main_call1_v0 : Ref sig .tc := ⟨.hbm, 155, rfl⟩
abbrev main_v126 : Ref sig .tc := ⟨.hbm, 156, rfl⟩
abbrev main_cst_16 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_cst_17 : Ref sig .tc := ⟨.hbm, 167, rfl⟩
abbrev main_v136 : Ref sig .tc := ⟨.hbm, 168, rfl⟩
abbrev main_v137 : Ref sig .tc := ⟨.hbm, 169, rfl⟩
abbrev main_cst_18 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_cst_19 : Ref sig .tc := ⟨.hbm, 176, rfl⟩
abbrev main_v143 : Ref sig .tc := ⟨.hbm, 177, rfl⟩
abbrev main_v144 : Ref sig .tc := ⟨.hbm, 178, rfl⟩
abbrev main_cst_20 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_cst_21 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩

abbrev nD : Nat := 1
abbrev τ : Topo := Topo.v7x

variable {F : FTy → Type} [FloatOps F]
-- ==== Merge.lean ====
abbrev S1x16384 : Shape := ⟨2, ![1, 16384]⟩
abbrev S16384x256 : Shape := ⟨2, ![16384, 256]⟩
abbrev S16384x384 : Shape := ⟨2, ![16384, 384]⟩
abbrev S4096x1536 : Shape := ⟨2, ![4096, 1536]⟩
abbrev S1024x6144 : Shape := ⟨2, ![1024, 6144]⟩
abbrev S16384 : Shape := ⟨1, ![16384]⟩
abbrev S32 : Shape := ⟨1, ![32]⟩
abbrev S_ : Shape := ⟨0, ![]⟩
abbrev S16384x1 : Shape := ⟨2, ![16384, 1]⟩
abbrev S1x32 : Shape := ⟨2, ![1, 32]⟩
abbrev S16384x32 : Shape := ⟨2, ![16384, 32]⟩
abbrev S1x16384x1x32 : Shape := ⟨4, ![1, 16384, 1, 32]⟩
abbrev S1x16384x4x32 : Shape := ⟨4, ![1, 16384, 4, 32]⟩
abbrev S16384x128 : Shape := ⟨2, ![16384, 128]⟩
abbrev S16384x64 : Shape := ⟨2, ![16384, 64]⟩
abbrev S1x16384x1x64 : Shape := ⟨4, ![1, 16384, 1, 64]⟩
abbrev S1x16384x2x64 : Shape := ⟨4, ![1, 16384, 2, 64]⟩
abbrev S16384x2432 : Shape := ⟨2, ![16384, 2432]⟩
abbrev S512x256 : Shape := ⟨2, ![512, 256]⟩
abbrev S512x384 : Shape := ⟨2, ![512, 384]⟩
abbrev S128x1536 : Shape := ⟨2, ![128, 1536]⟩
abbrev S32x6144 : Shape := ⟨2, ![32, 6144]⟩
abbrev S512x128 : Shape := ⟨2, ![512, 128]⟩
abbrev S512x2432 : Shape := ⟨2, ![512, 2432]⟩
abbrev S3x512x128 : Shape := ⟨3, ![3, 512, 128]⟩
abbrev S128x128 : Shape := ⟨2, ![128, 128]⟩
abbrev S1x512x128 : Shape := ⟨3, ![1, 512, 128]⟩
abbrev S32x128 : Shape := ⟨2, ![32, 128]⟩

abbrev nBuf : Space → Nat
  | .hbm => 49
  | .vmem => 35
  | .smem => 0
  | _ => 0

abbrev bufTy : (tb : Table) → Fin (tcTables nBuf tb) → BufTy
  | .hbm, ⟨0, _⟩ => ⟨S1x16384, .i32⟩
  | .hbm, ⟨1, _⟩ => ⟨S16384x256, .f32⟩
  | .hbm, ⟨2, _⟩ => ⟨S16384x256, .f32⟩
  | .hbm, ⟨3, _⟩ => ⟨S16384x256, .f32⟩
  | .hbm, ⟨4, _⟩ => ⟨S16384x384, .f32⟩
  | .hbm, ⟨5, _⟩ => ⟨S4096x1536, .f32⟩
  | .hbm, ⟨6, _⟩ => ⟨S1024x6144, .f32⟩
  | .hbm, ⟨7, _⟩ => ⟨S16384x384, .f32⟩
  | .hbm, ⟨8, _⟩ => ⟨S4096x1536, .f32⟩
  | .hbm, ⟨9, _⟩ => ⟨S1024x6144, .f32⟩
  | .hbm, ⟨10, _⟩ => ⟨S16384x384, .f32⟩
  | .hbm, ⟨11, _⟩ => ⟨S4096x1536, .f32⟩
  | .hbm, ⟨12, _⟩ => ⟨S1024x6144, .f32⟩
  | .hbm, ⟨13, _⟩ => ⟨S16384x384, .f32⟩
  | .hbm, ⟨14, _⟩ => ⟨S16384x384, .f32⟩
  | .hbm, ⟨15, _⟩ => ⟨S16384, .i32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S16384, .f32⟩
  | .hbm, ⟨33, _⟩ => ⟨S16384x1, .f32⟩
  | .hbm, ⟨34, _⟩ => ⟨S1x32, .f32⟩
  | .hbm, ⟨35, _⟩ => ⟨S16384x32, .f32⟩
  | .hbm, ⟨36, _⟩ => ⟨S16384x32, .f32⟩
  | .hbm, ⟨37, _⟩ => ⟨S16384x32, .f32⟩
  | .hbm, ⟨38, _⟩ => ⟨S16384x32, .f32⟩
  | .hbm, ⟨39, _⟩ => ⟨S16384x32, .f32⟩
  | .hbm, ⟨40, _⟩ => ⟨S1x16384x1x32, .f32⟩
  | .hbm, ⟨41, _⟩ => ⟨S1x16384x4x32, .f32⟩
  | .hbm, ⟨42, _⟩ => ⟨S16384x128, .f32⟩
  | .hbm, ⟨43, _⟩ => ⟨S16384x32, .f32⟩
  | .hbm, ⟨44, _⟩ => ⟨S16384x64, .f32⟩
  | .hbm, ⟨45, _⟩ => ⟨S1x16384x1x64, .f32⟩
  | .hbm, ⟨46, _⟩ => ⟨S1x16384x2x64, .f32⟩
  | .hbm, ⟨47, _⟩ => ⟨S16384x128, .f32⟩
  | .hbm, ⟨48, _⟩ => ⟨S16384x2432, .bf16⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x384, .f32⟩
  | .local _ .vmem, ⟨7, _⟩ => ⟨S512x384, .f32⟩
  | .local _ .vmem, ⟨8, _⟩ => ⟨S128x1536, .f32⟩
  | .local _ .vmem, ⟨9, _⟩ => ⟨S128x1536, .f32⟩
  | .local _ .vmem, ⟨10, _⟩ => ⟨S32x6144, .f32⟩
  | .local _ .vmem, ⟨11, _⟩ => ⟨S32x6144, .f32⟩
  | .local _ .vmem, ⟨12, _⟩ => ⟨S512x384, .f32⟩
  | .local _ .vmem, ⟨13, _⟩ => ⟨S512x384, .f32⟩
  | .local _ .vmem, ⟨14, _⟩ => ⟨S128x1536, .f32⟩
  | .local _ .vmem, ⟨15, _⟩ => ⟨S128x1536, .f32⟩
  | .local _ .vmem, ⟨16, _⟩ => ⟨S32x6144, .f32⟩
  | .local _ .vmem, ⟨17, _⟩ => ⟨S32x6144, .f32⟩
  | .local _ .vmem, ⟨18, _⟩ => ⟨S512x384, .f32⟩
  | .local _ .vmem, ⟨19, _⟩ => ⟨S512x384, .f32⟩
  | .local _ .vmem, ⟨20, _⟩ => ⟨S128x1536, .f32⟩
  | .local _ .vmem, ⟨21, _⟩ => ⟨S128x1536, .f32⟩
  | .local _ .vmem, ⟨22, _⟩ => ⟨S32x6144, .f32⟩
  | .local _ .vmem, ⟨23, _⟩ => ⟨S32x6144, .f32⟩
  | .local _ .vmem, ⟨24, _⟩ => ⟨S512x384, .f32⟩
  | .local _ .vmem, ⟨25, _⟩ => ⟨S512x384, .f32⟩
  | .local _ .vmem, ⟨26, _⟩ => ⟨S512x384, .f32⟩
  | .local _ .vmem, ⟨27, _⟩ => ⟨S512x384, .f32⟩
  | .local _ .vmem, ⟨28, _⟩ => ⟨S512x128, .f32⟩
  | .local _ .vmem, ⟨29, _⟩ => ⟨S512x128, .f32⟩
  | .local _ .vmem, ⟨30, _⟩ => ⟨S512x128, .f32⟩
  | .local _ .vmem, ⟨31, _⟩ => ⟨S512x128, .f32⟩
  | .local _ .vmem, ⟨32, _⟩ => ⟨S512x2432, .bf16⟩
  | .local _ .vmem, ⟨33, _⟩ => ⟨S512x2432, .bf16⟩
  | .local _ .vmem, ⟨34, _⟩ => ⟨S3x512x128, .f32⟩
  | _, _ => ⟨S1x16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_cst_0 : Ref sig .tc := ⟨.hbm, 20, rfl⟩
abbrev main_v4 : Ref sig .tc := ⟨.hbm, 21, rfl⟩
abbrev main_v5 : Ref sig .tc := ⟨.hbm, 22, rfl⟩
abbrev main_cst_1 : Ref sig .tc := ⟨.hbm, 23, rfl⟩
abbrev main_v6 : Ref sig .tc := ⟨.hbm, 24, rfl⟩
abbrev main_v7 : Ref sig .tc := ⟨.hbm, 25, rfl⟩
abbrev main_cst_2 : Ref sig .tc := ⟨.hbm, 26, rfl⟩
abbrev main_v8 : Ref sig .tc := ⟨.hbm, 27, rfl⟩
abbrev main_v9 : Ref sig .tc := ⟨.hbm, 28, rfl⟩
abbrev main_cst_3 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_scratch0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x6144 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x6144 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x6144 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x384 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x384 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x2432 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MergeRefIdeal.lean ====
abbrev S1x16384 : Shape := ⟨2, ![1, 16384]⟩
abbrev S16384x256 : Shape := ⟨2, ![16384, 256]⟩
abbrev S16384x384 : Shape := ⟨2, ![16384, 384]⟩
abbrev S4096x1536 : Shape := ⟨2, ![4096, 1536]⟩
abbrev S1024x6144 : Shape := ⟨2, ![1024, 6144]⟩
abbrev S32 : Shape := ⟨1, ![32]⟩
abbrev S_ : Shape := ⟨0, ![]⟩
abbrev S1x16384x1 : Shape := ⟨3, ![1, 16384, 1]⟩
abbrev S1x1x32 : Shape := ⟨3, ![1, 1, 32]⟩
abbrev S1x16384x32 : Shape := ⟨3, ![1, 16384, 32]⟩
abbrev S1x16384x2432 : Shape := ⟨3, ![1, 16384, 2432]⟩
abbrev S1x16384x256 : Shape := ⟨3, ![1, 16384, 256]⟩
abbrev S1x16384x128 : Shape := ⟨3, ![1, 16384, 128]⟩
abbrev S1x16384x384 : Shape := ⟨3, ![1, 16384, 384]⟩
abbrev S1x16384x4x64 : Shape := ⟨4, ![1, 16384, 4, 64]⟩
abbrev S1x16384x4x32 : Shape := ⟨4, ![1, 16384, 4, 32]⟩
abbrev S1x16384x1x32 : Shape := ⟨4, ![1, 16384, 1, 32]⟩
abbrev S1x16384x2x64 : Shape := ⟨4, ![1, 16384, 2, 64]⟩
abbrev S1x16384x2x32 : Shape := ⟨4, ![1, 16384, 2, 32]⟩
abbrev S1x16384x6x64 : Shape := ⟨4, ![1, 16384, 6, 64]⟩
abbrev S1x16384x6x32 : Shape := ⟨4, ![1, 16384, 6, 32]⟩
abbrev S1x16384x2x1x64 : Shape := ⟨5, ![1, 16384, 2, 1, 64]⟩
abbrev S1x16384x2x2x64 : Shape := ⟨5, ![1, 16384, 2, 2, 64]⟩
abbrev S16384x2x64 : Shape := ⟨3, ![16384, 2, 64]⟩
abbrev S16384x2432 : Shape := ⟨2, ![16384, 2432]⟩

abbrev nBuf : Space → Nat
  | .hbm => 264
  | .vmem => 0
  | .smem => 0
  | _ => 0

abbrev hbmTy0_0 (i : Nat) : BufTy := match i % 128 with
  | 0 => ⟨S1x16384, .i32⟩
  | 1 => ⟨S16384x256, .f32⟩
  | 2 => ⟨S16384x256, .f32⟩
  | 3 => ⟨S16384x256, .f32⟩
  | 4 => ⟨S16384x384, .f32⟩
  | 5 => ⟨S4096x1536, .f32⟩
  | 6 => ⟨S1024x6144, .f32⟩
  | 7 => ⟨S16384x384, .f32⟩
  | 8 => ⟨S4096x1536, .f32⟩
  | 9 => ⟨S1024x6144, .f32⟩
  | 10 => ⟨S16384x384, .f32⟩
  | 11 => ⟨S4096x1536, .f32⟩
  | 12 => ⟨S1024x6144, .f32⟩
  | 13 => ⟨S16384x384, .f32⟩
  | 14 => ⟨S16384x384, .f32⟩
  | 15 => ⟨S32, .f32⟩
  | 16 => ⟨S_, .f32⟩
  | 17 => ⟨S32, .f32⟩
  | 18 => ⟨S32, .f32⟩
  | 19 => ⟨S_, .f32⟩
  | 20 => ⟨S32, .f32⟩
  | 21 => ⟨S32, .f32⟩
  | 22 => ⟨S_, .f32⟩
  | 23 => ⟨S32, .f32⟩
  | 24 => ⟨S32, .f32⟩
  | 25 => ⟨S_, .f32⟩
  | 26 => ⟨S32, .f32⟩
  | 27 => ⟨S32, .f32⟩
  | 28 => ⟨S_, .f32⟩
  | 29 => ⟨S32, .f32⟩
  | 30 => ⟨S32, .f32⟩
  | 31 => ⟨S1x16384, .f32⟩
  | 32 => ⟨S1x16384x1, .f32⟩
  | 33 => ⟨S1x1x32, .f32⟩
  | 34 => ⟨S1x16384x32, .f32⟩
  | 35 => ⟨S1x16384x32, .f32⟩
  | 36 => ⟨S1x16384x32, .f32⟩
  | 37 => ⟨S1x16384x32, .f32⟩
  | 38 => ⟨S1x16384x32, .f32⟩
  | 39 => ⟨S_, .f32⟩
  | 40 => ⟨S1x16384x2432, .f32⟩
  | 41 => ⟨S1x16384x256, .f32⟩
  | 42 => ⟨S1x16384x128, .f32⟩
  | 43 => ⟨S1x16384x128, .f32⟩
  | 44 => ⟨S1x16384x384, .f32⟩
  | 45 => ⟨S1x16384x384, .f32⟩
  | 46 => ⟨S1x16384x384, .f32⟩
  | 47 => ⟨S1x16384x384, .f32⟩
  | 48 => ⟨S1x16384x384, .f32⟩
  | 49 => ⟨S1x16384x4x64, .f32⟩
  | 50 => ⟨S1x16384x4x32, .f32⟩
  | 51 => ⟨S1x16384x4x32, .f32⟩
  | 52 => ⟨S1x16384x1x32, .f32⟩
  | 53 => ⟨S1x16384x1x32, .f32⟩
  | 54 => ⟨S1x16384x4x32, .f32⟩
  | 55 => ⟨S1x16384x4x32, .f32⟩
  | 56 => ⟨S1x16384x4x32, .f32⟩
  | 57 => ⟨S1x16384x4x32, .f32⟩
  | 58 => ⟨S1x16384x4x32, .f32⟩
  | 59 => ⟨S1x16384x4x32, .f32⟩
  | 60 => ⟨S1x16384x4x32, .f32⟩
  | 61 => ⟨S1x16384x4x32, .f32⟩
  | 62 => ⟨S1x16384x4x32, .f32⟩
  | 63 => ⟨S1x16384x4x32, .f32⟩
  | 64 => ⟨S1x16384x4x64, .f32⟩
  | 65 => ⟨S1x16384x2x64, .f32⟩
  | 66 => ⟨S1x16384x2x32, .f32⟩
  | 67 => ⟨S1x16384x2x32, .f32⟩
  | 68 => ⟨S1x16384x1x32, .f32⟩
  | 69 => ⟨S1x16384x1x32, .f32⟩
  | 70 => ⟨S1x16384x2x32, .f32⟩
  | 71 => ⟨S1x16384x2x32, .f32⟩
  | 72 => ⟨S1x16384x2x32, .f32⟩
  | 73 => ⟨S1x16384x2x32, .f32⟩
  | 74 => ⟨S1x16384x2x32, .f32⟩
  | 75 => ⟨S1x16384x2x32, .f32⟩
  | 76 => ⟨S1x16384x2x32, .f32⟩
  | 77 => ⟨S1x16384x2x32, .f32⟩
  | 78 => ⟨S1x16384x2x32, .f32⟩
  | 79 => ⟨S1x16384x2x32, .f32⟩
  | 80 => ⟨S1x16384x2x64, .f32⟩
  | 81 => ⟨S1x16384x2x64, .f32⟩
  | 82 => ⟨S1x16384x6x64, .f32⟩
  | 83 => ⟨S1x16384x6x32, .f32⟩
  | 84 => ⟨S1x16384x6x32, .f32⟩
  | 85 => ⟨S1x16384x1x32, .f32⟩
  | 86 => ⟨S1x16384x1x32, .f32⟩
  | 87 => ⟨S1x16384x6x32, .f32⟩
  | 88 => ⟨S1x16384x6x32, .f32⟩
  | 89 => ⟨S1x16384x6x32, .f32⟩
  | 90 => ⟨S1x16384x6x32, .f32⟩
  | 91 => ⟨S1x16384x6x32, .f32⟩
  | 92 => ⟨S1x16384x6x32, .f32⟩
  | 93 => ⟨S1x16384x6x32, .f32⟩
  | 94 => ⟨S1x16384x6x32, .f32⟩
  | 95 => ⟨S1x16384x6x32, .f32⟩
  | 96 => ⟨S1x16384x6x32, .f32⟩
  | 97 => ⟨S1x16384x6x64, .f32⟩
  | 98 => ⟨S1x16384x6x64, .f32⟩
  | 99 => ⟨S1x16384x6x32, .f32⟩
  | 100 => ⟨S1x16384x6x32, .f32⟩
  | 101 => ⟨S1x16384x1x32, .f32⟩
  | 102 => ⟨S1x16384x1x32, .f32⟩
  | 103 => ⟨S1x16384x6x32, .f32⟩
  | 104 => ⟨S1x16384x6x32, .f32⟩
  | 105 => ⟨S1x16384x6x32, .f32⟩
  | 106 => ⟨S1x16384x6x32, .f32⟩
  | 107 => ⟨S1x16384x6x32, .f32⟩
  | 108 => ⟨S1x16384x6x32, .f32⟩
  | 109 => ⟨S1x16384x6x32, .f32⟩
  | 110 => ⟨S1x16384x6x32, .f32⟩
  | 111 => ⟨S1x16384x6x32, .f32⟩
  | 112 => ⟨S1x16384x6x32, .f32⟩
  | 113 => ⟨S1x16384x6x64, .f32⟩
  | 114 => ⟨S1x16384x6x64, .f32⟩
  | 115 => ⟨S16384x256, .f32⟩
  | 116 => ⟨S_, .f32⟩
  | 117 => ⟨S16384x256, .f32⟩
  | 118 => ⟨S16384x256, .f32⟩
  | 119 => ⟨S1x16384x2x1x64, .f32⟩
  | 120 => ⟨S1x16384x2x2x64, .f32⟩
  | 121 => ⟨S16384x256, .f32⟩
  | 122 => ⟨S1x16384x2x1x64, .f32⟩
  | 123 => ⟨S1x16384x2x2x64, .f32⟩
  | 124 => ⟨S16384x256, .f32⟩
  | 125 => ⟨S_, .f32⟩
  | 126 => ⟨S1x16384x6x64, .f32⟩
  | 127 => ⟨S1x16384x6x64, .f32⟩
  | _ => ⟨S1x16384, .i32⟩

abbrev hbmTy0_1 (i : Nat) : BufTy := match i % 128 with
  | 0 => ⟨S16384x384, .f32⟩
  | 1 => ⟨S4096x1536, .f32⟩
  | 2 => ⟨S1024x6144, .f32⟩
  | 3 => ⟨S16384x384, .f32⟩
  | 4 => ⟨S4096x1536, .f32⟩
  | 5 => ⟨S1024x6144, .f32⟩
  | 6 => ⟨S16384x384, .f32⟩
  | 7 => ⟨S4096x1536, .f32⟩
  | 8 => ⟨S1024x6144, .f32⟩
  | 9 => ⟨S16384x384, .f32⟩
  | 10 => ⟨S16384x384, .f32⟩
  | 11 => ⟨S1x16384x384, .f32⟩
  | 12 => ⟨S1x16384x384, .f32⟩
  | 13 => ⟨S1x16384x6x64, .f32⟩
  | 14 => ⟨S1x16384x6x64, .f32⟩
  | 15 => ⟨S1x16384x6x64, .f32⟩
  | 16 => ⟨S1x16384x6x64, .f32⟩
  | 17 => ⟨S1x16384x6x64, .f32⟩
  | 18 => ⟨S1x16384x6x64, .f32⟩
  | 19 => ⟨S1x16384x6x64, .f32⟩
  | 20 => ⟨S1x16384x6x64, .f32⟩
  | 21 => ⟨S1x16384x6x64, .f32⟩
  | 22 => ⟨S1x16384x6x64, .f32⟩
  | 23 => ⟨S1x16384x6x64, .f32⟩
  | 24 => ⟨S1x16384x6x64, .f32⟩
  | 25 => ⟨S1x16384x6x64, .f32⟩
  | 26 => ⟨S1x16384x6x64, .f32⟩
  | 27 => ⟨S1x16384x6x64, .f32⟩
  | 28 => ⟨S_, .f32⟩
  | 29 => ⟨S1x16384x6x64, .f32⟩
  | 30 => ⟨S1x16384x6x64, .f32⟩
  | 31 => ⟨S1x16384x2x2x64, .f32⟩
  | 32 => ⟨S_, .f32⟩
  | 33 => ⟨S16384x2x64, .f32⟩
  | 34 => ⟨S1x16384x2x1x64, .f32⟩
  | 35 => ⟨S_, .f32⟩
  | 36 => ⟨S16384x2x64, .f32⟩
  | 37 => ⟨S1x16384x2x64, .f32⟩
  | 38 => ⟨S1x16384x2x2x64, .f32⟩
  | 39 => ⟨S_, .f32⟩
  | 40 => ⟨S16384x2x64, .f32⟩
  | 41 => ⟨S1x16384x2x1x64, .f32⟩
  | 42 => ⟨S_, .f32⟩
  | 43 => ⟨S16384x2x64, .f32⟩
  | 44 => ⟨S1x16384x2x64, .f32⟩
  | 45 => ⟨S_, .f32⟩
  | 46 => ⟨S16384x256, .f32⟩
  | 47 => ⟨S16384x256, .f32⟩
  | 48 => ⟨S1x16384x4x64, .f32⟩
  | 49 => ⟨S1x16384x384, .f32⟩
  | 50 => ⟨S1x16384x6x32, .f32⟩
  | 51 => ⟨S1x16384x6x32, .f32⟩
  | 52 => ⟨S1x16384x6x32, .f32⟩
  | 53 => ⟨S1x16384x6x32, .f32⟩
  | 54 => ⟨S1x16384x6x32, .f32⟩
  | 55 => ⟨S1x16384x6x32, .f32⟩
  | 56 => ⟨S1x16384x6x32, .f32⟩
  | 57 => ⟨S1x16384x6x32, .f32⟩
  | 58 => ⟨S1x16384x6x32, .f32⟩
  | 59 => ⟨S1x16384x6x32, .f32⟩
  | 60 => ⟨S1x16384x6x32, .f32⟩
  | 61 => ⟨S1x16384x6x32, .f32⟩
  | 62 => ⟨S1x16384x6x32, .f32⟩
  | 63 => ⟨S1x16384x6x64, .f32⟩
  | 64 => ⟨S1x16384x384, .f32⟩
  | 65 => ⟨S1x16384x6x32, .f32⟩
  | 66 => ⟨S1x16384x6x32, .f32⟩
  | 67 => ⟨S1x16384x6x32, .f32⟩
  | 68 => ⟨S1x16384x6x32, .f32⟩
  | 69 => ⟨S1x16384x6x32, .f32⟩
  | 70 => ⟨S1x16384x6x32, .f32⟩
  | 71 => ⟨S1x16384x6x32, .f32⟩
  | 72 => ⟨S1x16384x6x32, .f32⟩
  | 73 => ⟨S1x16384x6x32, .f32⟩
  | 74 => ⟨S1x16384x6x32, .f32⟩
  | 75 => ⟨S1x16384x6x32, .f32⟩
  | 76 => ⟨S1x16384x6x32, .f32⟩
  | 77 => ⟨S1x16384x6x32, .f32⟩
  | 78 => ⟨S1x16384x6x64, .f32⟩
  | 79 => ⟨S1x16384x384, .f32⟩
  | 80 => ⟨S1x16384x128, .f32⟩
  | 81 => ⟨S1x16384x2x32, .f32⟩
  | 82 => ⟨S1x16384x2x32, .f32⟩
  | 83 => ⟨S1x16384x2x32, .f32⟩
  | 84 => ⟨S1x16384x2x32, .f32⟩
  | 85 => ⟨S1x16384x2x32, .f32⟩
  | 86 => ⟨S1x16384x2x32, .f32⟩
  | 87 => ⟨S1x16384x2x32, .f32⟩
  | 88 => ⟨S1x16384x2x32, .f32⟩
  | 89 => ⟨S1x16384x2x32, .f32⟩
  | 90 => ⟨S1x16384x2x32, .f32⟩
  | 91 => ⟨S1x16384x2x32, .f32⟩
  | 92 => ⟨S1x16384x2x32, .f32⟩
  | 93 => ⟨S1x16384x2x32, .f32⟩
  | 94 => ⟨S1x16384x2x64, .f32⟩
  | 95 => ⟨S1x16384x128, .f32⟩
  | 96 => ⟨S1x16384x4x32, .f32⟩
  | 97 => ⟨S1x16384x4x32, .f32⟩
  | 98 => ⟨S1x16384x4x32, .f32⟩
  | 99 => ⟨S1x16384x4x32, .f32⟩
  | 100 => ⟨S1x16384x4x32, .f32⟩
  | 101 => ⟨S1x16384x4x32, .f32⟩
  | 102 => ⟨S1x16384x4x32, .f32⟩
  | 103 => ⟨S1x16384x4x32, .f32⟩
  | 104 => ⟨S1x16384x4x32, .f32⟩
  | 105 => ⟨S1x16384x4x32, .f32⟩
  | 106 => ⟨S1x16384x4x32, .f32⟩
  | 107 => ⟨S1x16384x4x32, .f32⟩
  | 108 => ⟨S1x16384x4x32, .f32⟩
  | 109 => ⟨S1x16384x4x64, .f32⟩
  | 110 => ⟨S1x16384x256, .f32⟩
  | 111 => ⟨S_, .f32⟩
  | 112 => ⟨S1x16384x2432, .f32⟩
  | 113 => ⟨S_, .f32⟩
  | 114 => ⟨S1x16384x2432, .f32⟩
  | 115 => ⟨S1x16384x2432, .f32⟩
  | 116 => ⟨S_, .f32⟩
  | 117 => ⟨S1x16384x2432, .f32⟩
  | 118 => ⟨S1x16384x2432, .f32⟩
  | 119 => ⟨S_, .f32⟩
  | 120 => ⟨S1x16384x2432, .f32⟩
  | 121 => ⟨S1x16384x2432, .f32⟩
  | 122 => ⟨S_, .f32⟩
  | 123 => ⟨S1x16384x2432, .f32⟩
  | 124 => ⟨S1x16384x2432, .f32⟩
  | 125 => ⟨S_, .f32⟩
  | 126 => ⟨S1x16384x2432, .f32⟩
  | 127 => ⟨S1x16384x2432, .f32⟩
  | _ => ⟨S1x16384, .i32⟩

abbrev hbmTy0_2 (i : Nat) : BufTy := match i % 128 with
  | 0 => ⟨S_, .f32⟩
  | 1 => ⟨S1x16384x2432, .f32⟩
  | 2 => ⟨S1x16384x2432, .f32⟩
  | 3 => ⟨S_, .f32⟩
  | 4 => ⟨S1x16384x2432, .f32⟩
  | 5 => ⟨S1x16384x2432, .f32⟩
  | 6 => ⟨S16384x2432, .f32⟩
  | 7 => ⟨S16384x2432, .bf16⟩
  | _ => ⟨S1x16384, .i32⟩

abbrev hbmTy (i : Nat) : BufTy := match i / 128 with
  | 0 => hbmTy0_0 i
  | 1 => hbmTy0_1 i
  | 2 => hbmTy0_2 i
  | _ => ⟨S1x16384, .i32⟩

abbrev bufTy : (tb : Table) → Fin (tcTables nBuf tb) → BufTy
  | .hbm, ⟨i, _⟩ => hbmTy i
  | _, _ => ⟨S1x16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_cst_1 : Ref sig .tc := ⟨.hbm, 22, rfl⟩
abbrev main_v5 : Ref sig .tc := ⟨.hbm, 23, rfl⟩
abbrev main_v6 : Ref sig .tc := ⟨.hbm, 24, rfl⟩
abbrev main_cst_2 : Ref sig .tc := ⟨.hbm, 25, rfl⟩
abbrev main_v7 : Ref sig .tc := ⟨.hbm, 26, rfl⟩
abbrev main_v8 : Ref sig .tc := ⟨.hbm, 27, rfl⟩
abbrev main_cst_3 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_cst_5 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_cst_6 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_cst_7 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_cst_8 : Ref sig .tc := ⟨.hbm, 160, rfl⟩
abbrev main_v136 : Ref sig .tc := ⟨.hbm, 161, rfl⟩
abbrev main_v137 : Ref sig .tc := ⟨.hbm, 162, rfl⟩
abbrev main_cst_9 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_cst_10 : Ref sig .tc := ⟨.hbm, 167, rfl⟩
abbrev main_v141 : Ref sig .tc := ⟨.hbm, 168, rfl⟩
abbrev main_v142 : Ref sig .tc := ⟨.hbm, 169, rfl⟩
abbrev main_cst_11 : Ref sig .tc := ⟨.hbm, 170, rfl⟩
abbrev main_v143 : Ref sig .tc := ⟨.hbm, 171, rfl⟩
abbrev main_v144 : Ref sig .tc := ⟨.hbm, 172, rfl⟩
abbrev main_cst_12 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩
abbrev main_v180 : Ref sig .tc := ⟨.hbm, 209, rfl⟩
abbrev main_v181 : Ref sig .tc := ⟨.hbm, 210, rfl⟩
abbrev main_v182 : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩
abbrev main_v186 : Ref sig .tc := ⟨.hbm, 215, rfl⟩
abbrev main_v187 : Ref sig .tc := ⟨.hbm, 216, rfl⟩
abbrev main_v188 : Ref sig .tc := ⟨.hbm, 217, rfl⟩
abbrev main_v189 : Ref sig .tc := ⟨.hbm, 218, rfl⟩
abbrev main_v190 : Ref sig .tc := ⟨.hbm, 219, rfl⟩
abbrev main_v191 : Ref sig .tc := ⟨.hbm, 220, rfl⟩
abbrev main_v192 : Ref sig .tc := ⟨.hbm, 221, rfl⟩
abbrev main_v193 : Ref sig .tc := ⟨.hbm, 222, rfl⟩
abbrev main_v194 : Ref sig .tc := ⟨.hbm, 223, rfl⟩
abbrev main_v195 : Ref sig .tc := ⟨.hbm, 224, rfl⟩
abbrev main_v196 : Ref sig .tc := ⟨.hbm, 225, rfl⟩
abbrev main_v197 : Ref sig .tc := ⟨.hbm, 226, rfl⟩
abbrev main_v198 : Ref sig .tc := ⟨.hbm, 227, rfl⟩
abbrev main_v199 : Ref sig .tc := ⟨.hbm, 228, rfl⟩
abbrev main_v200 : Ref sig .tc := ⟨.hbm, 229, rfl⟩
abbrev main_v201 : Ref sig .tc := ⟨.hbm, 230, rfl⟩
abbrev main_v202 : Ref sig .tc := ⟨.hbm, 231, rfl⟩
abbrev main_v203 : Ref sig .tc := ⟨.hbm, 232, rfl⟩
abbrev main_v204 : Ref sig .tc := ⟨.hbm, 233, rfl⟩
abbrev main_v205 : Ref sig .tc := ⟨.hbm, 234, rfl⟩
abbrev main_v206 : Ref sig .tc := ⟨.hbm, 235, rfl⟩
abbrev main_v207 : Ref sig .tc := ⟨.hbm, 236, rfl⟩
abbrev main_v208 : Ref sig .tc := ⟨.hbm, 237, rfl⟩
abbrev main_v209 : Ref sig .tc := ⟨.hbm, 238, rfl⟩
abbrev main_cst_13 : Ref sig .tc := ⟨.hbm, 239, rfl⟩
abbrev main_v210 : Ref sig .tc := ⟨.hbm, 240, rfl⟩
abbrev main_cst_14 : Ref sig .tc := ⟨.hbm, 241, rfl⟩
abbrev main_v211 : Ref sig .tc := ⟨.hbm, 242, rfl⟩
abbrev main_v212 : Ref sig .tc := ⟨.hbm, 243, rfl⟩
abbrev main_cst_15 : Ref sig .tc := ⟨.hbm, 244, rfl⟩
abbrev main_v213 : Ref sig .tc := ⟨.hbm, 245, rfl⟩
abbrev main_v214 : Ref sig .tc := ⟨.hbm, 246, rfl⟩
abbrev main_cst_16 : Ref sig .tc := ⟨.hbm, 247, rfl⟩
abbrev main_v215 : Ref sig .tc := ⟨.hbm, 248, rfl⟩
abbrev main_v216 : Ref sig .tc := ⟨.hbm, 249, rfl⟩
abbrev main_cst_17 : Ref sig .tc := ⟨.hbm, 250, rfl⟩
abbrev main_v217 : Ref sig .tc := ⟨.hbm, 251, rfl⟩
abbrev main_v218 : Ref sig .tc := ⟨.hbm, 252, rfl⟩
abbrev main_cst_18 : Ref sig .tc := ⟨.hbm, 253, rfl⟩
abbrev main_v219 : Ref sig .tc := ⟨.hbm, 254, rfl⟩
abbrev main_v220 : Ref sig .tc := ⟨.hbm, 255, rfl⟩
abbrev main_cst_19 : Ref sig .tc := ⟨.hbm, 256, rfl⟩
abbrev main_v221 : Ref sig .tc := ⟨.hbm, 257, rfl⟩
abbrev main_v222 : Ref sig .tc := ⟨.hbm, 258, rfl⟩
abbrev main_cst_20 : Ref sig .tc := ⟨.hbm, 259, rfl⟩
abbrev main_v223 : Ref sig .tc := ⟨.hbm, 260, rfl⟩
abbrev main_v224 : Ref sig .tc := ⟨.hbm, 261, rfl⟩
abbrev main_v225 : Ref sig .tc := ⟨.hbm, 262, rfl⟩
abbrev main_v226 : Ref sig .tc := ⟨.hbm, 263, rfl⟩

abbrev nD : Nat := 1
abbrev τ : Topo := Topo.v7x

variable {F : FTy → Type} [FloatOps F]
-- ==== Combine.lean ====
abbrev S1x16384x1024 : Shape := ⟨3, ![1, 16384, 1024]⟩
abbrev S1x16384x4x64 : Shape := ⟨4, ![1, 16384, 4, 64]⟩
abbrev S1x16384x4 : Shape := ⟨3, ![1, 16384, 4]⟩
abbrev S4 : Shape := ⟨1, ![4]⟩
abbrev S1x16384x6x64 : Shape := ⟨4, ![1, 16384, 6, 64]⟩
abbrev S1x16384x6 : Shape := ⟨3, ![1, 16384, 6]⟩
abbrev S16384x384 : Shape := ⟨2, ![16384, 384]⟩
abbrev S4096x1536 : Shape := ⟨2, ![4096, 1536]⟩
abbrev S1024x6144 : Shape := ⟨2, ![1024, 6144]⟩
abbrev S1x16384x384 : Shape := ⟨3, ![1, 16384, 384]⟩
abbrev S16384x1024 : Shape := ⟨2, ![16384, 1024]⟩
abbrev S16384x256 : Shape := ⟨2, ![16384, 256]⟩
abbrev S1x16384x256 : Shape := ⟨3, ![1, 16384, 256]⟩
abbrev S4x64 : Shape := ⟨2, ![4, 64]⟩
abbrev S256 : Shape := ⟨1, ![256]⟩
abbrev S1x256 : Shape := ⟨2, ![1, 256]⟩
abbrev S512x1024 : Shape := ⟨2, ![512, 1024]⟩
abbrev S512x256 : Shape := ⟨2, ![512, 256]⟩
abbrev S512x384 : Shape := ⟨2, ![512, 384]⟩
abbrev S128x1536 : Shape := ⟨2, ![128, 1536]⟩
abbrev S32x6144 : Shape := ⟨2, ![32, 6144]⟩
abbrev S3x512x128 : Shape := ⟨3, ![3, 512, 128]⟩
abbrev S128x128 : Shape := ⟨2, ![128, 128]⟩
abbrev S512x128 : Shape := ⟨2, ![512, 128]⟩
abbrev S1x512x128 : Shape := ⟨3, ![1, 512, 128]⟩
abbrev S32x128 : Shape := ⟨2, ![32, 128]⟩

abbrev nBuf : Space → Nat
  | .hbm => 40
  | .vmem => 39
  | .smem => 0
  | _ => 0

abbrev bufTy : (tb : Table) → Fin (tcTables nBuf tb) → BufTy
  | .hbm, ⟨0, _⟩ => ⟨S1x16384x1024, .f32⟩
  | .hbm, ⟨1, _⟩ => ⟨S1x16384x4x64, .f32⟩
  | .hbm, ⟨2, _⟩ => ⟨S1x16384x4, .f32⟩
  | .hbm, ⟨3, _⟩ => ⟨S4, .f32⟩
  | .hbm, ⟨4, _⟩ => ⟨S1x16384x6x64, .f32⟩
  | .hbm, ⟨5, _⟩ => ⟨S1x16384x6x64, .f32⟩
  | .hbm, ⟨6, _⟩ => ⟨S1x16384x6x64, .f32⟩
  | .hbm, ⟨7, _⟩ => ⟨S1x16384x6, .f32⟩
  | .hbm, ⟨8, _⟩ => ⟨S1x16384x6, .f32⟩
  | .hbm, ⟨9, _⟩ => ⟨S1x16384x6, .f32⟩
  | .hbm, ⟨10, _⟩ => ⟨S16384x384, .f32⟩
  | .hbm, ⟨11, _⟩ => ⟨S4096x1536, .f32⟩
  | .hbm, ⟨12, _⟩ => ⟨S1024x6144, .f32⟩
  | .hbm, ⟨13, _⟩ => ⟨S1x16384x6x64, .f32⟩
  | .hbm, ⟨14, _⟩ => ⟨S1x16384x384, .f32⟩
  | .hbm, ⟨15, _⟩ => ⟨S16384x384, .f32⟩
  | .hbm, ⟨16, _⟩ => ⟨S1x16384x6x64, .f32⟩
  | .hbm, ⟨17, _⟩ => ⟨S1x16384x384, .f32⟩
  | .hbm, ⟨18, _⟩ => ⟨S4096x1536, .f32⟩
  | .hbm, ⟨19, _⟩ => ⟨S1x16384x6x64, .f32⟩
  | .hbm, ⟨20, _⟩ => ⟨S1x16384x384, .f32⟩
  | .hbm, ⟨21, _⟩ => ⟨S1024x6144, .f32⟩
  | .hbm, ⟨22, _⟩ => ⟨S16384x1024, .f32⟩
  | .hbm, ⟨23, _⟩ => ⟨S16384x256, .f32⟩
  | .hbm, ⟨24, _⟩ => ⟨S1x16384x4x64, .f32⟩
  | .hbm, ⟨25, _⟩ => ⟨S1x16384x256, .f32⟩
  | .hbm, ⟨26, _⟩ => ⟨S16384x256, .f32⟩
  | .hbm, ⟨27, _⟩ => ⟨S4x64, .f32⟩
  | .hbm, ⟨28, _⟩ => ⟨S256, .f32⟩
  | .hbm, ⟨29, _⟩ => ⟨S1x256, .f32⟩
  | .hbm, ⟨30, _⟩ => ⟨S16384x256, .bf16⟩
  | .hbm, ⟨31, _⟩ => ⟨S16384x256, .f32⟩
  | .hbm, ⟨32, _⟩ => ⟨S16384x384, .bf16⟩
  | .hbm, ⟨33, _⟩ => ⟨S4096x1536, .bf16⟩
  | .hbm, ⟨34, _⟩ => ⟨S1024x6144, .bf16⟩
  | .hbm, ⟨35, _⟩ => ⟨S16384x384, .f32⟩
  | .hbm, ⟨36, _⟩ => ⟨S4096x1536, .f32⟩
  | .hbm, ⟨37, _⟩ => ⟨S1024x6144, .f32⟩
  | .hbm, ⟨38, _⟩ => ⟨S16384x384, .f32⟩
  | .hbm, ⟨39, _⟩ => ⟨S1x256, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S1x256, .f32⟩
  | .local _ .vmem, ⟨7, _⟩ => ⟨S512x384, .f32⟩
  | .local _ .vmem, ⟨8, _⟩ => ⟨S512x384, .f32⟩
  | .local _ .vmem, ⟨9, _⟩ => ⟨S128x1536, .f32⟩
  | .local _ .vmem, ⟨10, _⟩ => ⟨S128x1536, .f32⟩
  | .local _ .vmem, ⟨11, _⟩ => ⟨S32x6144, .f32⟩
  | .local _ .vmem, ⟨12, _⟩ => ⟨S32x6144, .f32⟩
  | .local _ .vmem, ⟨13, _⟩ => ⟨S512x384, .f32⟩
  | .local _ .vmem, ⟨14, _⟩ => ⟨S512x384, .f32⟩
  | .local _ .vmem, ⟨15, _⟩ => ⟨S128x1536, .f32⟩
  | .local _ .vmem, ⟨16, _⟩ => ⟨S128x1536, .f32⟩
  | .local _ .vmem, ⟨17, _⟩ => ⟨S32x6144, .f32⟩
  | .local _ .vmem, ⟨18, _⟩ => ⟨S32x6144, .f32⟩
  | .local _ .vmem, ⟨19, _⟩ => ⟨S512x256, .bf16⟩
  | .local _ .vmem, ⟨20, _⟩ => ⟨S512x256, .bf16⟩
  | .local _ .vmem, ⟨21, _⟩ => ⟨S512x256, .f32⟩
  | .local _ .vmem, ⟨22, _⟩ => ⟨S512x256, .f32⟩
  | .local _ .vmem, ⟨23, _⟩ => ⟨S512x384, .bf16⟩
  | .local _ .vmem, ⟨24, _⟩ => ⟨S512x384, .bf16⟩
  | .local _ .vmem, ⟨25, _⟩ => ⟨S128x1536, .bf16⟩
  | .local _ .vmem, ⟨26, _⟩ => ⟨S128x1536, .bf16⟩
  | .local _ .vmem, ⟨27, _⟩ => ⟨S32x6144, .bf16⟩
  | .local _ .vmem, ⟨28, _⟩ => ⟨S32x6144, .bf16⟩
  | .local _ .vmem, ⟨29, _⟩ => ⟨S512x384, .f32⟩
  | .local _ .vmem, ⟨30, _⟩ => ⟨S512x384, .f32⟩
  | .local _ .vmem, ⟨31, _⟩ => ⟨S128x1536, .f32⟩
  | .local _ .vmem, ⟨32, _⟩ => ⟨S128x1536, .f32⟩
  | .local _ .vmem, ⟨33, _⟩ => ⟨S32x6144, .f32⟩
  | .local _ .vmem, ⟨34, _⟩ => ⟨S32x6144, .f32⟩
  | .local _ .vmem, ⟨35, _⟩ => ⟨S512x384, .f32⟩
  | .local _ .vmem, ⟨36, _⟩ => ⟨S512x384, .f32⟩
  | .local _ .vmem, ⟨37, _⟩ => ⟨S1x256, .f32⟩
  | .local _ .vmem, ⟨38, _⟩ => ⟨S3x512x128, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20_0 : Ref sig .tc := ⟨.hbm, 30, rfl⟩
abbrev main_v20_1 : Ref sig .tc := ⟨.hbm, 31, rfl⟩
abbrev main_v20_2 : Ref sig .tc := ⟨.hbm, 32, rfl⟩
abbrev main_v20_3 : Ref sig .tc := ⟨.hbm, 33, rfl⟩
abbrev main_v20_4 : Ref sig .tc := ⟨.hbm, 34, rfl⟩
abbrev main_v20_5 : Ref sig .tc := ⟨.hbm, 35, rfl⟩
abbrev main_v20_6 : Ref sig .tc := ⟨.hbm, 36, rfl⟩
abbrev main_v20_7 : Ref sig .tc := ⟨.hbm, 37, rfl⟩
abbrev main_v20_8 : Ref sig .tc := ⟨.hbm, 38, rfl⟩
abbrev main_v20_9 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_stg18_1 : Ref sig .tc := ⟨.vmem, 36, rfl⟩
abbrev cc0_stg19_0 : Ref sig .tc := ⟨.vmem, 37, rfl⟩
abbrev cc0_scratch0 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36
abbrev cc0_sem19_0 : DmaSem sig := 37

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x6144 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x6144 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x384 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x1536 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S32x6144 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x384 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x1536 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S32x6144 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x384 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S1x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== CombineRefIdeal.lean ====
abbrev S1x16384x1024 : Shape := ⟨3, ![1, 16384, 1024]⟩
abbrev S1x16384x4x64 : Shape := ⟨4, ![1, 16384, 4, 64]⟩
abbrev S1x16384x4 : Shape := ⟨3, ![1, 16384, 4]⟩
abbrev S4 : Shape := ⟨1, ![4]⟩
abbrev S1x16384x6x64 : Shape := ⟨4, ![1, 16384, 6, 64]⟩
abbrev S1x16384x6 : Shape := ⟨3, ![1, 16384, 6]⟩
abbrev S_ : Shape := ⟨0, ![]⟩
abbrev S1x16384x384 : Shape := ⟨3, ![1, 16384, 384]⟩
abbrev S1x1x4 : Shape := ⟨3, ![1, 1, 4]⟩
abbrev S1x16384x4x1 : Shape := ⟨4, ![1, 16384, 4, 1]⟩
abbrev S1x16384x6x1 : Shape := ⟨4, ![1, 16384, 6, 1]⟩
abbrev S1x16384x6x3 : Shape := ⟨4, ![1, 16384, 6, 3]⟩
abbrev S1x16384x256 : Shape := ⟨3, ![1, 16384, 256]⟩
abbrev S16384x6 : Shape := ⟨2, ![16384, 6]⟩
abbrev S16384x4 : Shape := ⟨2, ![16384, 4]⟩
abbrev S1x4 : Shape := ⟨2, ![1, 4]⟩
abbrev S16384x384 : Shape := ⟨2, ![16384, 384]⟩
abbrev S4096x1536 : Shape := ⟨2, ![4096, 1536]⟩
abbrev S1024x6144 : Shape := ⟨2, ![1024, 6144]⟩
abbrev S16384x256 : Shape := ⟨2, ![16384, 256]⟩
abbrev S4x64 : Shape := ⟨2, ![4, 64]⟩
abbrev S256 : Shape := ⟨1, ![256]⟩
abbrev S1x256 : Shape := ⟨2, ![1, 256]⟩

abbrev nBuf : Space → Nat
  | .hbm => 194
  | .vmem => 0
  | .smem => 0
  | _ => 0

abbrev hbmTy0_0 (i : Nat) : BufTy := match i % 128 with
  | 0 => ⟨S1x16384x1024, .f32⟩
  | 1 => ⟨S1x16384x4x64, .f32⟩
  | 2 => ⟨S1x16384x4, .f32⟩
  | 3 => ⟨S4, .f32⟩
  | 4 => ⟨S1x16384x6x64, .f32⟩
  | 5 => ⟨S1x16384x6x64, .f32⟩
  | 6 => ⟨S1x16384x6x64, .f32⟩
  | 7 => ⟨S1x16384x6, .f32⟩
  | 8 => ⟨S1x16384x6, .f32⟩
  | 9 => ⟨S1x16384x6, .f32⟩
  | 10 => ⟨S_, .f32⟩
  | 11 => ⟨S1x16384x384, .f32⟩
  | 12 => ⟨S1x1x4, .f32⟩
  | 13 => ⟨S1x16384x4, .f32⟩
  | 14 => ⟨S1x16384x4, .f32⟩
  | 15 => ⟨S1x16384x4, .f32⟩
  | 16 => ⟨S1x16384x4, .f32⟩
  | 17 => ⟨S_, .f32⟩
  | 18 => ⟨S1x16384x4, .f32⟩
  | 19 => ⟨S1x16384x4, .f32⟩
  | 20 => ⟨S_, .f32⟩
  | 21 => ⟨S1x16384x4, .f32⟩
  | 22 => ⟨S1x16384x4, .f32⟩
  | 23 => ⟨S_, .f32⟩
  | 24 => ⟨S1x16384x4, .f32⟩
  | 25 => ⟨S1x16384x4, .f32⟩
  | 26 => ⟨S1x16384x4, .f32⟩
  | 27 => ⟨S1x16384x4x1, .f32⟩
  | 28 => ⟨S1x16384x4x64, .f32⟩
  | 29 => ⟨S1x16384x4x64, .f32⟩
  | 30 => ⟨S1x16384x6x1, .f32⟩
  | 31 => ⟨S1x16384x6x1, .f32⟩
  | 32 => ⟨S1x16384x6x1, .f32⟩
  | 33 => ⟨S1x16384x6x3, .f32⟩
  | 34 => ⟨S_, .f32⟩
  | 35 => ⟨S1x16384x6, .f32⟩
  | 36 => ⟨S1x16384x6x1, .f32⟩
  | 37 => ⟨S1x16384x6x3, .f32⟩
  | 38 => ⟨S1x16384x6x3, .i1⟩
  | 39 => ⟨S1x16384x6x3, .f32⟩
  | 40 => ⟨S_, .f32⟩
  | 41 => ⟨S1x16384x6, .f32⟩
  | 42 => ⟨S_, .f32⟩
  | 43 => ⟨S1x16384x6, .f32⟩
  | 44 => ⟨S1x16384x6, .f32⟩
  | 45 => ⟨S_, .f32⟩
  | 46 => ⟨S1x16384x6, .f32⟩
  | 47 => ⟨S1x16384x6, .i1⟩
  | 48 => ⟨S_, .f32⟩
  | 49 => ⟨S1x16384x6, .f32⟩
  | 50 => ⟨S1x16384x6, .i1⟩
  | 51 => ⟨S_, .f32⟩
  | 52 => ⟨S1x16384x6, .f32⟩
  | 53 => ⟨S_, .f32⟩
  | 54 => ⟨S1x16384x6, .f32⟩
  | 55 => ⟨S_, .f32⟩
  | 56 => ⟨S1x16384x6, .f32⟩
  | 57 => ⟨S1x16384x6, .f32⟩
  | 58 => ⟨S1x16384x6, .f32⟩
  | 59 => ⟨S1x16384x6x1, .f32⟩
  | 60 => ⟨S1x16384x6x3, .f32⟩
  | 61 => ⟨S1x16384x6x3, .f32⟩
  | 62 => ⟨S1x16384x6x3, .f32⟩
  | 63 => ⟨S_, .f32⟩
  | 64 => ⟨S1x16384x6, .f32⟩
  | 65 => ⟨S1x16384x6x1, .f32⟩
  | 66 => ⟨S1x16384x6x3, .f32⟩
  | 67 => ⟨S1x16384x6x3, .f32⟩
  | 68 => ⟨S1x16384x6x1, .f32⟩
  | 69 => ⟨S_, .f32⟩
  | 70 => ⟨S1x16384x6x1, .f32⟩
  | 71 => ⟨S1x16384x6x1, .f32⟩
  | 72 => ⟨S1x16384x6x1, .f32⟩
  | 73 => ⟨S1x16384x6x64, .f32⟩
  | 74 => ⟨S1x16384x6x64, .f32⟩
  | 75 => ⟨S1x16384x6x1, .f32⟩
  | 76 => ⟨S1x16384x6x64, .f32⟩
  | 77 => ⟨S1x16384x6x64, .f32⟩
  | 78 => ⟨S1x16384x6x64, .f32⟩
  | 79 => ⟨S1x16384x6x1, .f32⟩
  | 80 => ⟨S1x16384x6x64, .f32⟩
  | 81 => ⟨S1x16384x6x64, .f32⟩
  | 82 => ⟨S1x16384x6x64, .f32⟩
  | 83 => ⟨S1x16384x256, .f32⟩
  | 84 => ⟨S1x16384x384, .f32⟩
  | 85 => ⟨S1x16384x1024, .f32⟩
  | 86 => ⟨S1x16384x256, .f32⟩
  | 87 => ⟨S1x16384x384, .f32⟩
  | 88 => ⟨S1x16384x384, .f32⟩
  | 89 => ⟨S1x16384x6x64, .f32⟩
  | 90 => ⟨S1x16384x4x64, .f32⟩
  | 91 => ⟨S1x16384x6x64, .f32⟩
  | 92 => ⟨S_, .f32⟩
  | 93 => ⟨S1x16384x6, .f32⟩
  | 94 => ⟨S1x16384x6x1, .f32⟩
  | 95 => ⟨S1x16384x6x64, .f32⟩
  | 96 => ⟨S1x16384x6x64, .f32⟩
  | 97 => ⟨S_, .f32⟩
  | 98 => ⟨S1x16384x6x3, .f32⟩
  | 99 => ⟨S1x16384x6x64, .f32⟩
  | 100 => ⟨S_, .f32⟩
  | 101 => ⟨S1x16384x6, .f32⟩
  | 102 => ⟨S1x16384x6x1, .f32⟩
  | 103 => ⟨S1x16384x6x64, .f32⟩
  | 104 => ⟨S1x16384x6x64, .f32⟩
  | 105 => ⟨S_, .f32⟩
  | 106 => ⟨S1x16384x6x3, .f32⟩
  | 107 => ⟨S1x16384x6x3, .f32⟩
  | 108 => ⟨S1x16384x6x64, .f32⟩
  | 109 => ⟨S_, .f32⟩
  | 110 => ⟨S1x16384x6, .f32⟩
  | 111 => ⟨S1x16384x6x1, .f32⟩
  | 112 => ⟨S1x16384x6x64, .f32⟩
  | 113 => ⟨S1x16384x6x64, .f32⟩
  | 114 => ⟨S_, .f32⟩
  | 115 => ⟨S1x16384x6x3, .f32⟩
  | 116 => ⟨S1x16384x6x3, .f32⟩
  | 117 => ⟨S1x16384x6x3, .f32⟩
  | 118 => ⟨S1x16384x6x3, .f32⟩
  | 119 => ⟨S1x16384x6x3, .f32⟩
  | 120 => ⟨S_, .f32⟩
  | 121 => ⟨S1x16384x6, .f32⟩
  | 122 => ⟨S1x16384x6x1, .f32⟩
  | 123 => ⟨S1x16384x6x1, .f32⟩
  | 124 => ⟨S1x16384x6x3, .f32⟩
  | 125 => ⟨S1x16384x6x3, .f32⟩
  | 126 => ⟨S_, .f32⟩
  | 127 => ⟨S16384x6, .f32⟩
  | _ => ⟨S1x16384x1024, .f32⟩

abbrev hbmTy0_1 (i : Nat) : BufTy := match i % 128 with
  | 0 => ⟨S1x16384x6, .f32⟩
  | 1 => ⟨S1x16384x6x3, .f32⟩
  | 2 => ⟨S1x16384x6x3, .f32⟩
  | 3 => ⟨S1x16384x6x3, .f32⟩
  | 4 => ⟨S1x16384x6x1, .f32⟩
  | 5 => ⟨S1x16384x6, .f32⟩
  | 6 => ⟨S1x16384x6x1, .f32⟩
  | 7 => ⟨S1x16384x6, .f32⟩
  | 8 => ⟨S1x16384x6x1, .f32⟩
  | 9 => ⟨S1x16384x6, .f32⟩
  | 10 => ⟨S1x16384x4x64, .f32⟩
  | 11 => ⟨S_, .f32⟩
  | 12 => ⟨S1x16384x4, .f32⟩
  | 13 => ⟨S1x16384x4x1, .f32⟩
  | 14 => ⟨S1x16384x4x64, .f32⟩
  | 15 => ⟨S1x16384x4x64, .f32⟩
  | 16 => ⟨S_, .f32⟩
  | 17 => ⟨S16384x4, .f32⟩
  | 18 => ⟨S1x16384x4, .f32⟩
  | 19 => ⟨S1x16384x4, .f32⟩
  | 20 => ⟨S1x16384x4, .f32⟩
  | 21 => ⟨S_, .f32⟩
  | 22 => ⟨S1x4, .f32⟩
  | 23 => ⟨S1x1x4, .f32⟩
  | 24 => ⟨S_, .f32⟩
  | 25 => ⟨S4, .f32⟩
  | 26 => ⟨S16384x384, .f32⟩
  | 27 => ⟨S16384x384, .bf16⟩
  | 28 => ⟨S4096x1536, .f32⟩
  | 29 => ⟨S4096x1536, .bf16⟩
  | 30 => ⟨S1024x6144, .f32⟩
  | 31 => ⟨S1024x6144, .bf16⟩
  | 32 => ⟨S1x16384x6x64, .f32⟩
  | 33 => ⟨S_, .f32⟩
  | 34 => ⟨S1x16384x6, .f32⟩
  | 35 => ⟨S1x16384x6, .f32⟩
  | 36 => ⟨S1x16384x6x64, .f32⟩
  | 37 => ⟨S1x16384x384, .f32⟩
  | 38 => ⟨S16384x384, .f32⟩
  | 39 => ⟨S1x16384x6x64, .f32⟩
  | 40 => ⟨S_, .f32⟩
  | 41 => ⟨S1x16384x6, .f32⟩
  | 42 => ⟨S1x16384x6, .f32⟩
  | 43 => ⟨S1x16384x6x64, .f32⟩
  | 44 => ⟨S1x16384x384, .f32⟩
  | 45 => ⟨S4096x1536, .f32⟩
  | 46 => ⟨S1x16384x6x64, .f32⟩
  | 47 => ⟨S_, .f32⟩
  | 48 => ⟨S1x16384x6, .f32⟩
  | 49 => ⟨S1x16384x6, .f32⟩
  | 50 => ⟨S1x16384x6x64, .f32⟩
  | 51 => ⟨S1x16384x384, .f32⟩
  | 52 => ⟨S1024x6144, .f32⟩
  | 53 => ⟨S16384x256, .f32⟩
  | 54 => ⟨S16384x256, .bf16⟩
  | 55 => ⟨S1x16384x4x64, .f32⟩
  | 56 => ⟨S_, .f32⟩
  | 57 => ⟨S1x16384x4, .f32⟩
  | 58 => ⟨S1x16384x4, .f32⟩
  | 59 => ⟨S1x16384x4x64, .f32⟩
  | 60 => ⟨S1x16384x256, .f32⟩
  | 61 => ⟨S16384x256, .f32⟩
  | 62 => ⟨S16384x384, .f32⟩
  | 63 => ⟨S4x64, .f32⟩
  | 64 => ⟨S256, .f32⟩
  | 65 => ⟨S1x256, .f32⟩
  | _ => ⟨S1x16384x1024, .f32⟩

abbrev hbmTy (i : Nat) : BufTy := match i / 128 with
  | 0 => hbmTy0_0 i
  | 1 => hbmTy0_1 i
  | _ => ⟨S1x16384x1024, .f32⟩

abbrev bufTy : (tb : Table) → Fin (tcTables nBuf tb) → BufTy
  | .hbm, ⟨i, _⟩ => hbmTy i
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_cst_8 : Ref sig .tc := ⟨.hbm, 51, rfl⟩
abbrev main_v32 : Ref sig .tc := ⟨.hbm, 52, rfl⟩
abbrev main_cst_9 : Ref sig .tc := ⟨.hbm, 53, rfl⟩
abbrev main_v33 : Ref sig .tc := ⟨.hbm, 54, rfl⟩
abbrev main_cst_10 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_11 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_12 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_13 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_14 : Ref sig .tc := ⟨.hbm, 97, rfl⟩
abbrev main_v72 : Ref sig .tc := ⟨.hbm, 98, rfl⟩
abbrev main_v73 : Ref sig .tc := ⟨.hbm, 99, rfl⟩
abbrev main_cst_15 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_16 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_17 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_18 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_19 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_cst_20 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_cst_21 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_cst_22 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_cst_23 : Ref sig .tc := ⟨.hbm, 149, rfl⟩
abbrev main_v115 : Ref sig .tc := ⟨.hbm, 150, rfl⟩
abbrev main_v116 : Ref sig .tc := ⟨.hbm, 151, rfl⟩
abbrev main_cst_24 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_cst_25 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_cst_26 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_cst_27 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_cst_28 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩

abbrev nD : Nat := 1
abbrev τ : Topo := Topo.v7x

variable {F : FTy → Type} [FloatOps F]
-- ==== Proof.RmsKernel.lean ====
/- What the kernel of the norm's gradient leaves in its two result arrays: each grid point computes 512 rows, and the gain's
   gradient is the sum over the grid points of what each adds. -/
module

public import proofs.«01_k».proof.Proof.Gen.RmsBwdIdeal.Value
public import Idealize.ShloMosaic.Lib.Pipeline.ValueKit
public import Idealize.ShloMosaic.Lib.ValueIdx

@[expose] public section

noncomputable section

namespace Cert.RmsBwdIdeal.Blocks
open Cert.RmsBwdIdeal Cert.RmsBwdIdeal.Gen Idealize.ShloMosaic Idealize.ShloMosaic.TcCoe Idealize.SL.Sem
open Idealize.ShloMosaic.Pipeline (Dat)
variable (m : (ℓ : Loc nD τ sig) → Buf (Elt Ideal) ℓ)

/-- The kernel's reciprocal root of a row of the whole array. -/
def rs (x : S16384x1024.Idx → EReal) (r : Fin 16384) : EReal :=
  Ideal.rsqrt (Ideal.div (∑ k, x (ix2 r k) * x (ix2 r k)) (Ideal.ofBits .f32 0x44800000#32) + Ideal.ofBits .f32 0x358637BD#32)

/-- The kernel's gradient of `x`, over the whole arrays. -/
def dxK (x : S16384x1024.Idx → EReal) (g : S1024.Idx → EReal) (n r : S16384x1024.Idx → EReal) (i : S16384x1024.Idx) : EReal :=
  r i + rs x (i 0) * (n i * g (ix1 (i 1)) - x i * rs x (i 0)
    * Ideal.div (∑ k, n (ix2 (i 0) k) * g (ix1 k) * (x (ix2 (i 0) k) * rs x (i 0))) (Ideal.ofBits .f32 0x44800000#32))

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)

/-- What one grid point leaves in a block of rows is the whole arrays' formula at the block's place. -/
theorem point4 (c : Dev nD) (t : Fin cfg0.N) (y : S512x1024.Idx) : k0_pay5 (iblk m c 0 t) (iblk m c 1 t) (iblk m c 2 t) (iblk m c 3 t) y =
    dxK (m ((c.tc : Thread nD τ).loc main_arg0)) (m ((c.tc : Thread nD τ).loc main_arg1)) (m ((c.tc : Thread nD τ).loc main_arg2)) (m ((c.tc : Thread nD τ).loc main_arg3)) ((win0_4.blk t).view.emb y) := by
  pointwise [k0_pay5, k0_pay3, k0_pay2, dxK, rs]
  blk_point [iblk, V, idx0, idx1, idx2, idx3, idx4]

/-- The array of `x`'s gradient. -/
theorem final4 (c : Dev nD) : (dats m 0 c).arrAt 4 cfg0.N = dxK (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  blk_simp
  rw [after0_4]
  by_cases h : t.val % 32 = 0
  · rw [outsAt0_A m c t h]; frame_out
    exact point4 m c t y
  · rw [outsAt0_B m c t h]; frame_out
    exact point4 m c t y

/-- The gradient of the gain: a sum over the rows. -/
def dgK (x n : S16384x1024.Idx → EReal) (i : S1x1024.Idx) : EReal :=
  ∑ r, n (ix2 r (i 1)) * (x (ix2 r (i 1)) * rs x r)

/-- The last grid point. -/
def tL : Fin cfg0.N := ⟨31, by decide⟩

/-- The accumulated block after the last point: the rows of all the points. -/
theorem acc5 (c : Dev nD) (j : S1x1024.Idx) : (dats m 0 c).after 5 tL j = dgK (m ((c.tc : Thread nD τ).loc main_arg0)) (m ((c.tc : Thread nD τ).loc main_arg2)) j := by
  rw [after0_5]
  rw [Pipeline.eq_sum_fin_of_reset_step_apply_last (fun n h => (outsAt0 m c n h).2) 32 (fun _ => 0) (fun t j => k0_pay4 (iblk m c 0 t) (iblk m c 2 t) j)
      (fun t h j => by rw [outsAt0_A m c t h]; frame_out; pointwise [k0_pay1, k0_pay7, k0_pay6])
      (fun t h j => by rw [outsAt0_B m c t h]; frame_out; pointwise [k0_pay1, k0_pay7])
      (le_of_eq N_0) tL rfl, zero_add]
  pointwise [k0_pay4, k0_pay3, k0_pay2, dgK, rs]
  refine Fin.sum_mul_add_congr fun s k hl => ?_
  blk_point [iblk, V, idx0, idx1, idx2, idx3, idx4]

/-- The array of the gain's gradient. -/
theorem final5 (c : Dev nD) : (dats m 0 c).arrAt 5 cfg0.N = dgK (m ((c.tc : Thread nD τ).loc main_arg0)) (m ((c.tc : Thread nD τ).loc main_arg2)) := by
  refine (dats m 0 c).arrAt_eq_of_after_last 5 tL (by decide +kernel) _ fun j => ?_
  exact acc5 m c j
end Cert.RmsBwdIdeal.Blocks

end
-- ==== Proof.Lift.lean ====
/- Extended reals that are reals: the operations of the ideal instance on them, the literals that the kernels name, and what
   a finiteness precondition says of an array. -/
module

public import Idealize.ShloMosaic.Lib.ReduceAll
public import Idealize.ShloMosaic.Lib.Pointwise

@[expose] public section

noncomputable section

namespace Cert.Lift

open Idealize.ShloMosaic

/-- A comparison `|x| < +∞` that holds makes `x` a real. -/
theorem real_of_abs_lt {x : EReal} (h : Ideal.cmp .olt (max x (-x)) (Ideal.ofBits .f32 0x7F800000#32) = 1#1) : ∃ r : ℝ, x = r := by
  have ht : Ideal.ofBits .f32 0x7F800000#32 = ⊤ := by simp [Ideal.ofBits, Ideal.ieee]
  rw [ht] at h
  induction x with
  | bot => simp [Ideal.cmp] at h
  | coe r => exact ⟨r, rfl⟩
  | top => simp [Ideal.cmp] at h

/-- An array all of whose elements satisfy it is an array of reals. -/
theorem reals {s : Shape} {x : s.Idx → EReal} (h : ∀ i, Ideal.cmp .olt (max (x i) (-(x i))) (Ideal.ofBits .f32 0x7F800000#32) = 1#1) :
    ∃ X : s.Idx → ℝ, x = fun i => (X i : EReal) :=
  ⟨fun i => (real_of_abs_lt (h i)).choose, funext fun i => (real_of_abs_lt (h i)).choose_spec⟩

/-- The sum of reals, as extended reals, is their real sum. -/
theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A quotient of reals with a divisor that is not zero. -/
theorem div_real (a : ℝ) {b : ℝ} (h : b ≠ 0) : Ideal.div a b = ((a / b : ℝ) : EReal) := by
  rw [Ideal.div_coe h, ← EReal.coe_mul, mul_one_div]

/-- The reciprocal square root of a positive real. -/
theorem rsqrt_real {a : ℝ} (h : 0 < a) : Ideal.rsqrt a = (((Real.sqrt a)⁻¹ : ℝ) : EReal) := by
  rw [Ideal.rsqrt_coe, if_neg (not_lt.mpr h.le), if_neg h.ne']

theorem lit_1024 : Ideal.ofBits .f32 0x44800000#32 = ((1024 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_neg_half : Ideal.ofBits .f32 0xBF000000#32 = ((-1 / 2 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_one : Ideal.ofBits .f32 0x3F800000#32 = ((1 : ℝ) : EReal) := by
  simp [Ideal.ofBits, Ideal.ieee, -EReal.coe_mul]; norm_num
theorem lit_inv_1024 : Ideal.ofBits .f32 0x3A800000#32 = ((1 / 1024 : ℝ) : EReal) := by
  simp [Ideal.ofBits, Ideal.ieee, -EReal.coe_mul]; norm_num

/-- The norms' epsilon: the float nearest to `1e-6`. -/
def eps : ℝ := 8796093 / 2 ^ 43
theorem eps_pos : 0 < eps := by unfold eps; norm_num
theorem lit_eps : Ideal.ofBits .f32 0x358637BD#32 = ((eps : ℝ) : EReal) := by
  simp [Ideal.ofBits, Ideal.ieee, -EReal.coe_mul, eps]; norm_num

end Cert.Lift

end
-- ==== Proof.Norm.lean ====
/- The gradient of the root-mean-square norm on one row of 1024 reals, in the two forms that the programs compute it: the
   hand-written form (with the normalised row) and the form of the transposed forward pass (with the cube of the
   reciprocal root). -/
module

public import proofs.«01_k».proof.Proof.Lift

@[expose] public section

noncomputable section

namespace Cert.Norm

open Idealize.ShloMosaic Cert.Lift

/-- The mean square of a row, plus epsilon. -/
def ms (x : Fin 1024 → ℝ) : ℝ := (∑ k, x k * x k) / 1024 + eps

theorem ms_pos (x : Fin 1024 → ℝ) : 0 < ms x :=
  add_pos_of_nonneg_of_pos (div_nonneg (Finset.sum_nonneg fun k _ => mul_self_nonneg (x k)) (by norm_num)) eps_pos

/-- The reciprocal root of the mean square. -/
def rstd (x : Fin 1024 → ℝ) : ℝ := (Real.sqrt (ms x))⁻¹

theorem rstd_pos (x : Fin 1024 → ℝ) : 0 < rstd x := inv_pos.mpr (Real.sqrt_pos.mpr (ms_pos x))

theorem rstd_sq (x : Fin 1024 → ℝ) : rstd x * rstd x = (ms x)⁻¹ := by
  rw [rstd, ← mul_inv, Real.mul_self_sqrt (ms_pos x).le]

theorem rstd_div (x : Fin 1024 → ℝ) : rstd x / ms x = rstd x * (rstd x * rstd x) := by
  rw [rstd_sq, div_eq_mul_inv]

/-- The mean square as the programs spell it. -/
theorem ms_eq (x : Fin 1024 → ℝ) :
    Ideal.div (∑ k, (x k : EReal) * (x k : EReal)) (Ideal.ofBits .f32 0x44800000#32) + Ideal.ofBits .f32 0x358637BD#32 = ((ms x : ℝ) : EReal) := by
  simp only [lit_1024, lit_eps, ← EReal.coe_mul, ← coe_sum]
  rw [div_real _ (by norm_num), ← EReal.coe_add]; rfl

theorem rsqrt_ms (x : Fin 1024 → ℝ) : Ideal.rsqrt ((ms x : ℝ) : EReal) = ((rstd x : ℝ) : EReal) := rsqrt_real (ms_pos x)

theorem div_ms (a : ℝ) (x : Fin 1024 → ℝ) : Ideal.div (a : EReal) ((ms x : ℝ) : EReal) = ((a / ms x : ℝ) : EReal) :=
  div_real a (ms_pos x).ne'

theorem div_1024 (a : ℝ) : Ideal.div (a : EReal) ((1024 : ℝ) : EReal) = ((a / 1024 : ℝ) : EReal) := div_real a (by norm_num)

/-- The gradient of a row: with `y = x * rstd` the normalised row and `d` the cotangent times the gain, the hand-written form
    `rstd * (d - y * mean (d * y))` is the transposed pass's `d * rstd` plus `x` times `-1/2 * rstd^3 / 1024 * sum (x * d)` twice. -/
theorem grad_row (x n g : Fin 1024 → ℝ) (xj nj gj : ℝ) :
    ((rstd x : ℝ) : EReal) * ((nj : EReal) * (gj : EReal) - (xj : EReal) * ((rstd x : ℝ) : EReal)
        * Ideal.div (∑ k, (n k : EReal) * (g k : EReal) * ((x k : EReal) * ((rstd x : ℝ) : EReal))) ((1024 : ℝ) : EReal))
      = ((rstd x * (nj * gj) - xj * (rstd x * (rstd x * rstd x)) * ((∑ k, x k * (n k * g k)) / 1024) : ℝ) : EReal) := by
  simp only [← EReal.coe_mul, ← coe_sum, div_1024, ← EReal.coe_sub]
  congr 1
  have h : ∑ k, n k * g k * (x k * rstd x) = rstd x * ∑ k, x k * (n k * g k) := by
    rw [Finset.mul_sum]; exact Finset.sum_congr rfl fun k _ => by ring
  rw [h]; ring

/-- The transposed pass's scalar of a row. -/
theorem grad_coef (x n g : Fin 1024 → ℝ) :
    (∑ _k : Fin 1, Ideal.div ((∑ k, (x k : EReal) * ((n k : EReal) * (g k : EReal)))
        * (((-1 / 2 : ℝ) : EReal) * Ideal.div ((rstd x : ℝ) : EReal) ((ms x : ℝ) : EReal))) ((1024 : ℝ) : EReal))
      = ((-1 / 2 * (rstd x * (rstd x * rstd x)) * ((∑ k, x k * (n k * g k)) / 1024) : ℝ) : EReal) := by
  simp only [Fin.sum_univ_one, div_ms, rstd_div, ← EReal.coe_mul, ← coe_sum, div_1024]
  congr 1; ring

end Cert.Norm

end
-- ==== Proof.RmsEq.lean ====
/- The norm's gradient: the transposed forward pass computes what the kernel computes, for finite arguments. -/
module

public import proofs.«01_k».proof.Defs
public import proofs.«01_k».proof.Proof.RmsKernel
public import proofs.«01_k».proof.Proof.Norm
public import proofs.«01_k».proof.Proof.Gen.RmsBwdRefIdeal.Read
public import proofs.«01_k».proof.Proof.Gen.Pre_rms_finite
public import proofs.«01_k».proof.Proof.Gen.RmsBwdIdeal
public import proofs.«01_k».proof.Proof.Gen.RmsBwdRefIdeal

@[expose] public section

noncomputable section

namespace Cert.RmsBwdIdeal.Eq

open Idealize.ShloMosaic Cert.Lift Cert.Norm Cert.RmsBwdIdeal.Blocks
open Cert.RmsBwdRefIdeal.Read
open Cert.Pre_rms_finite (S16384x1024 S1024)
open Cert.RmsBwdRefIdeal (S1x1024)

/-- The precondition says that three of the arguments are arrays of reals. -/
theorem finite [Cert.Pre_rms_finite.Facts] (x : FVec Ideal S16384x1024 .f32) (g : FVec Ideal S1024 .f32) (n r : FVec Ideal S16384x1024 .f32)
    (h : Cert.Pre_rms_finite.fn x g n r = fun _ => 1#1) :
    (∃ X : S16384x1024.Idx → ℝ, x = fun i => (X i : EReal)) ∧ (∃ G : S1024.Idx → ℝ, g = fun i => (G i : EReal))
      ∧ (∃ N : S16384x1024.Idx → ℝ, n = fun i => (N i : EReal)) := by
  obtain ⟨h1, h3⟩ := IntOp.andi_eq_one.mp (congrFun h ix0)
  obtain ⟨h1, h2⟩ := IntOp.andi_eq_one.mp h1
  exact ⟨reals fun i => Host.reduce_andi_all _ _ _ _ _ h1 i, reals fun i => Host.reduce_andi_all _ _ _ _ _ h2 i, reals fun i => Host.reduce_andi_all _ _ _ _ _ h3 i⟩

/-- The gradient of `x`. -/
theorem dx_eq (X N : S16384x1024.Idx → ℝ) (G : S1024.Idx → ℝ) (r : S16384x1024.Idx → EReal) :
    val_main_v36 (F := Ideal) (fun i => (X i : EReal)) (fun i => (G i : EReal)) (fun i => (N i : EReal)) r
      = dxK (fun i => (X i : EReal)) (fun i => (G i : EReal)) (fun i => (N i : EReal)) r := by
  funext i
  pointwise [val_main_v36, val_main_v35, val_main_v34, val_main_v33, val_main_v32, val_main_v31, val_main_v30, val_main_v29, val_main_v28,
    val_main_v27, val_main_v26, val_main_v25, val_main_v24, val_main_v23, val_main_v22, val_main_v20, val_main_v19, val_main_v13, val_main_v10,
    val_main_v9, val_main_v8, val_main_v7, val_main_v6, val_main_v5, val_main_v4, val_main_v3, val_main_v2, val_main_v1, val_main_v0,
    val_main_cst, val_main_cst_0, val_main_cst_1, val_main_cst_2, val_main_cst_5, val_main_cst_6, val_main_cst_7, dxK, rs]
  rw [ms_eq (fun k => X (ix2 (i 0) k)), lit_neg_half, lit_1024, rsqrt_ms]
  rw [grad_coef (fun k => X (ix2 (i 0) k)) (fun k => N (ix2 (i 0) k)) (fun k => G (ix1 k))]
  rw [grad_row (fun k => X (ix2 (i 0) k)) (fun k => N (ix2 (i 0) k)) (fun k => G (ix1 k))]
  simp only [← EReal.coe_mul, ← EReal.coe_add, add_assoc]
  congr 2
  ring

/-- The gradient of the gain. -/
theorem dg_eq (x n : S16384x1024.Idx → EReal) : val_main_v37 (F := Ideal) x n = dgK x n := by
  funext i
  pointwise [val_main_v37, val_main_v21, val_main_v18, val_main_v17, val_main_v16, val_main_v12, val_main_v11, val_main_v7, val_main_v6, val_main_v5, val_main_v4,
    val_main_v3, val_main_v2, val_main_v1, val_main_v0, val_main_cst, val_main_cst_0, val_main_cst_1, val_main_cst_3, val_main_cst_4, dgK, rs]
  refine (Fin.sum_univ_one _).trans (Finset.sum_congr rfl fun k _ => mul_comm _ _)

open Idealize.ShloMosaic.TcCoe Idealize.SL.Sem

/-- The claim about the norm's gradient. -/
theorem algebraic : algebraic_RmsBwdIdeal_RmsBwdRefIdeal_pre_rms_finite := by
  intro m g m' g' hp hm
  refine ⟨_, _, Cert.RmsBwdIdeal.Value.run_blocks m g, ?_⟩
  refine (θ_run Cert.RmsBwdRefIdeal.defs _ _).mono (fun r h c => ?_) (Cert.RmsBwdRefIdeal.Value.run m' g')
  obtain ⟨hx, hg, hn, hr⟩ := hm c
  obtain ⟨⟨X, eX⟩, ⟨G, eG⟩, ⟨N, eN⟩⟩ := finite _ _ _ _ (hp c)
  obtain ⟨h36, h37, h0, h1, h2, h3⟩ := h c
  refine ⟨?_, ?_, h0, h1, h2, h3⟩
  · rw [h36, val_main_v36_eq, hx, hg, hn, hr, final4, eX, eG, eN]
    exact dx_eq X N G _
  · rw [h37, val_main_v37_eq, hx, hn, final5]
    exact dg_eq _ _

end Cert.RmsBwdIdeal.Eq

end
-- ==== Proof.LossKernel.lean ====
/- What the kernel of the loss and its gradient leaves in its three result arrays: each grid point computes 512 rows' gradient, and
   the loss and the gain's gradient are sums over the grid points of what each adds. -/
module

public import proofs.«01_k».proof.Proof.Gen.LossHeadIdeal.Value
public import Idealize.ShloMosaic.Lib.Pipeline.ValueKit
public import Idealize.ShloMosaic.Lib.ValueIdx

@[expose] public section

noncomputable section

namespace Cert.LossHeadIdeal.Blocks

open Cert.LossHeadIdeal Cert.LossHeadIdeal.Gen Idealize.ShloMosaic Idealize.ShloMosaic.TcCoe Idealize.SL.Sem
open Idealize.ShloMosaic.Pipeline (Dat)

variable (m : (ℓ : Loc nD τ sig) → Buf (Elt Ideal) ℓ)

/-- The reciprocal root of a row of the whole array. -/
def rs (x : S16384x1024.Idx → EReal) (r : Fin 16384) : EReal :=
  Ideal.rsqrt (Ideal.div (∑ k, x (ix2 r k) * x (ix2 r k)) (Ideal.ofBits .f32 0x44800000#32) + Ideal.ofBits .f32 0x358637BD#32)

/-- The error of the prediction at an element. -/
def err (x : S16384x1024.Idx → EReal) (g : S1024.Idx → EReal) (y : S16384x1024.Idx → EReal) (r : Fin 16384) (k : Fin 1024) : EReal :=
  x (ix2 r k) * rs x r * g (ix1 k) - y (ix2 r k)

/-- The cotangent of the prediction at an element. -/
def ct (x : S16384x1024.Idx → EReal) (g : S1024.Idx → EReal) (y : S16384x1024.Idx → EReal) (r : Fin 16384) (k : Fin 1024) : EReal :=
  err x g y r k * Ideal.ofBits .f32 0x3A800000#32

/-- The kernel's gradient of `x`, over the whole arrays. -/
def dxK (x : S16384x1024.Idx → EReal) (g : S1024.Idx → EReal) (y : S16384x1024.Idx → EReal) (i : S16384x1024.Idx) : EReal :=
  rs x (i 0) * (ct x g y (i 0) (i 1) * g (ix1 (i 1)) - x (ix2 (i 0) (i 1)) * rs x (i 0)
    * Ideal.div (∑ k, ct x g y (i 0) k * g (ix1 k) * (x (ix2 (i 0) k) * rs x (i 0))) (Ideal.ofBits .f32 0x44800000#32))

/-- The mean square error of a row. -/
def mse (x : S16384x1024.Idx → EReal) (g : S1024.Idx → EReal) (y : S16384x1024.Idx → EReal) (r : Fin 16384) : EReal :=
  Ideal.div (∑ k, err x g y r k * err x g y r k) (Ideal.ofBits .f32 0x44800000#32)

/-- The kernel's loss: a sum over the grid points of half the sum of their rows. -/
def lossK (x : S16384x1024.Idx → EReal) (g : S1024.Idx → EReal) (y : S16384x1024.Idx → EReal) (_ : S1x128.Idx) : EReal :=
  ∑ p : Fin 32, Ideal.ofBits .f32 0x3F000000#32 * ∑ r : Fin 512, mse x g y ⟨p.val * 512 + r.val, by omega⟩

/-- The gradient of the gain: a sum over the rows. -/
def dgK (x : S16384x1024.Idx → EReal) (g : S1024.Idx → EReal) (y : S16384x1024.Idx → EReal) (i : S1x1024.Idx) : EReal :=
  ∑ r, ct x g y r (i 1) * (x (ix2 r (i 1)) * rs x r)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx4 : ∀ t : Fin cfg0.N, win0_4.index t = ![t.val, 0] := (by decide +kernel : ∀ t : Fin grid0.N, _)

/-- What one grid point leaves in a block of rows is the whole arrays' formula at the block's place. -/
theorem point4 (c : Dev nD) (t : Fin cfg0.N) (y : S512x1024.Idx) :
    k0_pay1 (k0_pay10 (iblk m c 0 t)) (k0_pay11 (iblk m c 0 t)) (k0_pay12 (iblk m c 0 t) (iblk m c 1 t) (iblk m c 2 t)) (k0_pay13 (iblk m c 0 t) (iblk m c 1 t) (iblk m c 2 t)) y =
    dxK (m ((c.tc : Thread nD τ).loc main_arg0)) (m ((c.tc : Thread nD τ).loc main_arg1)) (m ((c.tc : Thread nD τ).loc main_arg2)) ((win0_4.blk t).view.emb y) := by
  pointwise [k0_pay1, k0_pay10, k0_pay11, k0_pay12, k0_pay13, k0_pay9, k0_pay7, k0_pay6, dxK, ct, err, rs]
  blk_point [iblk, V, idx0, idx1, idx2, idx4]

/-- The array of `x`'s gradient. -/
theorem final4 (c : Dev nD) : (dats m 0 c).arrAt 4 cfg0.N = dxK (m ((c.tc : Thread nD τ).loc main_arg0)) (m ((c.tc : Thread nD τ).loc main_arg1)) (m ((c.tc : Thread nD τ).loc main_arg2)) := by
  refine (dats m 0 c).arrAt_eq_of_covers 4 _ (by decide +kernel) fun t hf y => ?_
  blk_simp
  rw [after0_4]
  by_cases h : t.val % 32 = 0
  · rw [outsAt0_A m c t h]; frame_out
    exact point4 m c t y
  · rw [outsAt0_B m c t h]; frame_out
    exact point4 m c t y

/-- The last grid point. -/
def tL : Fin cfg0.N := ⟨31, by decide⟩

/-- The loss's block after the last point: the sum of all the points. -/
theorem acc3 (c : Dev nD) (j : S1x128.Idx) : (dats m 0 c).after 3 tL j = lossK (m ((c.tc : Thread nD τ).loc main_arg0)) (m ((c.tc : Thread nD τ).loc main_arg1)) (m ((c.tc : Thread nD τ).loc main_arg2)) j := by
  rw [after0_3]
  rw [Pipeline.eq_sum_fin_of_reset_step_apply_last (fun n h => (outsAt0 m c n h).1) 32 (fun _ => 0) (fun t j => k0_pay8 (iblk m c 0 t) (iblk m c 1 t) (iblk m c 2 t) (ix2 0 0))
      (fun t h j => by rw [outsAt0_A m c t h]; frame_out; pointwise [k0_pay5, k0_pay3])
      (fun t h j => by rw [outsAt0_B m c t h]; frame_out; pointwise [k0_pay5])
      (le_of_eq N_0) tL rfl, zero_add]
  refine show @Eq EReal _ _ from Finset.sum_congr rfl fun p _ => ?_
  pointwise [k0_pay8, k0_pay7, k0_pay6, mse, err, rs]
  blk_point [iblk, V, idx0, idx1, idx2]

/-- The array of the loss. -/
theorem final3 (c : Dev nD) : (dats m 0 c).arrAt 3 cfg0.N = lossK (m ((c.tc : Thread nD τ).loc main_arg0)) (m ((c.tc : Thread nD τ).loc main_arg1)) (m ((c.tc : Thread nD τ).loc main_arg2)) := by
  refine (dats m 0 c).arrAt_eq_of_after_last 3 tL (by decide +kernel) _ fun j => ?_
  exact acc3 m c j

/-- The gain's block after the last point: the rows of all the points. -/
theorem acc5 (c : Dev nD) (j : S1x1024.Idx) : (dats m 0 c).after 5 tL j = dgK (m ((c.tc : Thread nD τ).loc main_arg0)) (m ((c.tc : Thread nD τ).loc main_arg1)) (m ((c.tc : Thread nD τ).loc main_arg2)) j := by
  rw [after0_5]
  rw [Pipeline.eq_sum_fin_of_reset_step_apply_last (fun n h => (outsAt0 m c n h).2.2) 32 (fun _ => 0)
      (fun t j => ∑ k : Fin 512, k0_pay9 (iblk m c 0 t) (iblk m c 1 t) (iblk m c 2 t) (ix2 k (j 1)) * k0_pay11 (iblk m c 0 t) (ix2 k (j 1)))
      (fun t h j => by rw [outsAt0_A m c t h]; frame_out; pointwise [k0_pay4, k0_pay2])
      (fun t h j => by rw [outsAt0_B m c t h]; frame_out; pointwise [k0_pay4])
      (le_of_eq N_0) tL rfl, zero_add]
  pointwise [k0_pay9, k0_pay7, k0_pay6, k0_pay11, k0_pay10, dgK, ct, err, rs]
  refine Fin.sum_mul_add_congr fun s k hl => ?_
  blk_point [iblk, V, idx0, idx1, idx2, idx4]

/-- The array of the gain's gradient. -/
theorem final5 (c : Dev nD) : (dats m 0 c).arrAt 5 cfg0.N = dgK (m ((c.tc : Thread nD τ).loc main_arg0)) (m ((c.tc : Thread nD τ).loc main_arg1)) (m ((c.tc : Thread nD τ).loc main_arg2)) := by
  refine (dats m 0 c).arrAt_eq_of_after_last 5 tL (by decide +kernel) _ fun j => ?_
  exact acc5 m c j

end Cert.LossHeadIdeal.Blocks

end
-- ==== Proof.LossEq.lean ====
/- The loss and its gradient: the transposed forward pass computes what the kernel computes, for finite arguments. -/
module

public import proofs.«01_k».proof.Defs
public import proofs.«01_k».proof.Proof.LossKernel
public import proofs.«01_k».proof.Proof.Norm
public import proofs.«01_k».proof.Proof.Gen.LossRefIdeal.Read
public import proofs.«01_k».proof.Proof.Gen.Pre_loss_finite
public import proofs.«01_k».proof.Proof.Gen.LossHeadIdeal
public import proofs.«01_k».proof.Proof.Gen.LossRefIdeal

@[expose] public section

noncomputable section

namespace Cert.LossHeadIdeal.Eq

open Idealize.ShloMosaic Cert.Lift Cert.Norm Cert.LossHeadIdeal.Blocks
open Cert.LossRefIdeal.Read
open Cert.Pre_loss_finite (S16384x1024 S1024)
open Cert.LossRefIdeal (S1x1024)

/-- The precondition says that the arguments are arrays of reals. -/
theorem finite [Cert.Pre_loss_finite.Facts] (x : FVec Ideal S16384x1024 .f32) (g : FVec Ideal S1024 .f32) (y : FVec Ideal S16384x1024 .f32)
    (h : Cert.Pre_loss_finite.fn x g y = fun _ => 1#1) :
    (∃ X : S16384x1024.Idx → ℝ, x = fun i => (X i : EReal)) ∧ (∃ G : S1024.Idx → ℝ, g = fun i => (G i : EReal))
      ∧ (∃ Y : S16384x1024.Idx → ℝ, y = fun i => (Y i : EReal)) := by
  obtain ⟨h1, h3⟩ := IntOp.andi_eq_one.mp (congrFun h ix0)
  obtain ⟨h1, h2⟩ := IntOp.andi_eq_one.mp h1
  exact ⟨reals fun i => Host.reduce_andi_all _ _ _ _ _ h1 i, reals fun i => Host.reduce_andi_all _ _ _ _ _ h2 i, reals fun i => Host.reduce_andi_all _ _ _ _ _ h3 i⟩

/-- The error at an element, of reals. -/
def errR (X : S16384x1024.Idx → ℝ) (G : S1024.Idx → ℝ) (Y : S16384x1024.Idx → ℝ) (r : Fin 16384) (k : Fin 1024) : ℝ :=
  X (ix2 r k) * rstd (fun k => X (ix2 r k)) * G (ix1 k) - Y (ix2 r k)

theorem rs_real (X : S16384x1024.Idx → ℝ) (r : Fin 16384) : rs (fun i => (X i : EReal)) r = ((rstd (fun k => X (ix2 r k)) : ℝ) : EReal) := by
  rw [rs, ms_eq (fun k => X (ix2 r k)), rsqrt_ms]

theorem err_real (X : S16384x1024.Idx → ℝ) (G : S1024.Idx → ℝ) (Y : S16384x1024.Idx → ℝ) (r : Fin 16384) (k : Fin 1024) :
    err (fun i => (X i : EReal)) (fun i => (G i : EReal)) (fun i => (Y i : EReal)) r k = ((errR X G Y r k : ℝ) : EReal) := by
  rw [err, rs_real]; simp only [← EReal.coe_mul, ← EReal.coe_sub]; rfl

theorem ct_real (X : S16384x1024.Idx → ℝ) (G : S1024.Idx → ℝ) (Y : S16384x1024.Idx → ℝ) (r : Fin 16384) (k : Fin 1024) :
    ct (fun i => (X i : EReal)) (fun i => (G i : EReal)) (fun i => (Y i : EReal)) r k = ((errR X G Y r k * (1 / 1024) : ℝ) : EReal) := by
  rw [ct, err_real, lit_inv_1024, ← EReal.coe_mul]

/-- The transposed pass's cotangent of the prediction is the kernel's. -/
theorem ct_ref (e : ℝ) :
    Ideal.div (Ideal.ofBits .f32 0x3F000000#32) (Ideal.ofBits .f32 0x44800000#32) * (Ideal.ofBits .f32 0x40000000#32 * (e : EReal))
      = ((e * (1 / 1024) : ℝ) : EReal) := by
  rw [lit_half, lit_1024, lit_two]; simp only [← EReal.coe_mul, div_1024]; congr 1; ring

/-- The loss. -/
theorem loss_eq (X Y : S16384x1024.Idx → ℝ) (G : S1024.Idx → ℝ) :
    val_main_v51 (F := Ideal) (fun i => (X i : EReal)) (fun i => (G i : EReal)) (fun i => (Y i : EReal))
      = lossK (fun i => (X i : EReal)) (fun i => (G i : EReal)) (fun i => (Y i : EReal)) := by
  funext i
  pointwise [val_main_v51, val_main_v24, val_main_v23, val_main_v22, val_main_v21, val_main_v20, val_main_v17, val_main_v16, val_main_v15, val_main_v14,
    val_main_v13, val_main_v12, val_main_v11, val_main_v7, val_main_v6, val_main_v5, val_main_v4, val_main_v3, val_main_v2, val_main_v1, val_main_v0,
    val_main_cst, val_main_cst_0, val_main_cst_1, val_main_cst_4, val_main_cst_5, val_main_cst_6, val_main_cst_7]
  have h : ∀ r, Ideal.div (∑ k, err (fun i => (X i : EReal)) (fun i => (G i : EReal)) (fun i => (Y i : EReal)) r k * err (fun i => (X i : EReal)) (fun i => (G i : EReal)) (fun i => (Y i : EReal)) r k)
      (Ideal.ofBits .f32 0x44800000#32) = (((∑ k, errR X G Y r k * errR X G Y r k) / 1024 : ℝ) : EReal) := fun r => by
    simp only [err_real, ← EReal.coe_mul, ← coe_sum, lit_1024, div_1024]
  refine (congrArg (Ideal.ofBits .f32 0x3F000000#32 * ·) (Finset.sum_congr rfl fun r _ => h r)).trans ?_
  simp only [lossK, mse, h, lit_half, ← coe_sum, ← EReal.coe_mul, ← Finset.mul_sum]
  exact congrArg (fun z : ℝ => ((1 / 2 * z : ℝ) : EReal)) (Fin.sum_mul_add_fin 32 512 (fun r : Fin 16384 => (∑ k, errR X G Y r k * errR X G Y r k) / 1024)).symm

/-- The gradient of `x`. -/
theorem dx_eq (X Y : S16384x1024.Idx → ℝ) (G : S1024.Idx → ℝ) :
    val_main_v50 (F := Ideal) (fun i => (X i : EReal)) (fun i => (G i : EReal)) (fun i => (Y i : EReal))
      = dxK (fun i => (X i : EReal)) (fun i => (G i : EReal)) (fun i => (Y i : EReal)) := by
  funext i
  obtain ⟨r, j, rfl⟩ : ∃ (r : Fin 16384) (j : Fin 1024), i = ix2 r j := ⟨i 0, i 1, (ix2_eta i).symm⟩
  pointwise [val_main_v50, val_main_v49, val_main_v48, val_main_v47, val_main_v46, val_main_v45, val_main_v44, val_main_v43, val_main_v42, val_main_v41,
    val_main_v40, val_main_v39, val_main_v38, val_main_v37, val_main_v35, val_main_v34, val_main_v30, val_main_v29, val_main_v28, val_main_v27, val_main_v26,
    val_main_v25, val_main_v19, val_main_v18, val_main_v16, val_main_v15, val_main_v14,
    val_main_v13, val_main_v12, val_main_v11, val_main_v10, val_main_v9, val_main_v8, val_main_v7, val_main_v6, val_main_v5, val_main_v4, val_main_v3, val_main_v2, val_main_v1, val_main_v0,
    val_main_cst, val_main_cst_0, val_main_cst_1, val_main_cst_2, val_main_cst_3, val_main_cst_8, val_main_cst_9, val_main_cst_10, val_main_cst_13, val_main_cst_14, val_main_cst_15, dxK]
  simp only [rs_real, ct_real]
  rw [ms_eq (fun k => X (ix2 r k)), rsqrt_ms]
  have he : ∀ k, (X (ix2 r k) : EReal) * ((rstd (fun k => X (ix2 r k)) : ℝ) : EReal) * (G (ix1 k) : EReal) - (Y (ix2 r k) : EReal) = ((errR X G Y r k : ℝ) : EReal) := fun k => by
    simp only [← EReal.coe_mul, ← EReal.coe_sub]; rfl
  simp only [he, ct_ref]
  rw [lit_neg_half, lit_1024]
  rw [grad_coef (fun k => X (ix2 r k)) (fun k => errR X G Y r k * (1 / 1024)) (fun k => G (ix1 k))]
  rw [grad_row (fun k => X (ix2 r k)) (fun k => errR X G Y r k * (1 / 1024)) (fun k => G (ix1 k))]
  simp only [← EReal.coe_mul, ← EReal.coe_add]
  congr 1
  ring

/-- The gradient of the gain. -/
theorem dg_eq (X Y : S16384x1024.Idx → ℝ) (G : S1024.Idx → ℝ) :
    val_main_v52 (F := Ideal) (fun i => (X i : EReal)) (fun i => (G i : EReal)) (fun i => (Y i : EReal))
      = dgK (fun i => (X i : EReal)) (fun i => (G i : EReal)) (fun i => (Y i : EReal)) := by
  funext i
  obtain ⟨z, j, rfl⟩ : ∃ (z : Fin 1) (j : Fin 1024), i = ix2 z j := ⟨i 0, i 1, (ix2_eta i).symm⟩
  pointwise [val_main_v52, val_main_v36, val_main_v33, val_main_v32, val_main_v31, val_main_v30, val_main_v29, val_main_v28, val_main_v27, val_main_v26,
    val_main_v25, val_main_v19, val_main_v18, val_main_v16, val_main_v15, val_main_v14,
    val_main_v13, val_main_v12, val_main_v11, val_main_v7, val_main_v6, val_main_v5, val_main_v4, val_main_v3, val_main_v2, val_main_v1, val_main_v0,
    val_main_cst, val_main_cst_0, val_main_cst_1, val_main_cst_3, val_main_cst_8, val_main_cst_9, val_main_cst_10, val_main_cst_11, val_main_cst_12, dgK]
  simp only [rs_real, ct_real]
  refine (Fin.sum_univ_one _).trans (Finset.sum_congr rfl fun r _ => ?_)
  rw [ms_eq (fun k => X (ix2 r k)), rsqrt_ms]
  have he : ∀ k, (X (ix2 r k) : EReal) * ((rstd (fun k => X (ix2 r k)) : ℝ) : EReal) * (G (ix1 k) : EReal) - (Y (ix2 r k) : EReal) = ((errR X G Y r k : ℝ) : EReal) := fun k => by
    simp only [← EReal.coe_mul, ← EReal.coe_sub]; rfl
  simp only [he, ct_ref]
  exact mul_comm (_ : EReal) _

open Idealize.ShloMosaic.TcCoe Idealize.SL.Sem

/-- The claim about the loss. -/
theorem algebraic : algebraic_LossHeadIdeal_LossRefIdeal_pre_loss_finite := by
  intro m g m' g' hp hm
  refine ⟨_, _, _, Cert.LossHeadIdeal.Value.run_blocks m g, ?_⟩
  refine (θ_run Cert.LossRefIdeal.defs _ _).mono (fun r h c => ?_) (Cert.LossRefIdeal.Value.run m' g')
  obtain ⟨hx, hg, hy⟩ := hm c
  obtain ⟨⟨X, eX⟩, ⟨G, eG⟩, ⟨Y, eY⟩⟩ := finite _ _ _ (hp c)
  obtain ⟨h51, h50, h52, h0, h1, h2⟩ := h c
  refine ⟨?_, ?_, ?_, h0, h1, h2⟩
  · rw [h51, val_main_v51_eq, hx, hg, hy, final3, eX, eG, eY]
    exact loss_eq X Y G
  · rw [h50, val_main_v50_eq, hx, hg, hy, final4, eX, eG, eY]
    exact dx_eq X Y G
  · rw [h52, val_main_v52_eq, hx, hg, hy, final5, eX, eG, eY]
    exact dg_eq X Y G

end Cert.LossHeadIdeal.Eq

end
-- ==== Proof.FfnRun.lean ====
/- Every execution of the feed-forward block's two calls ends with every array at the contents that the second call leaves. -/
module

public import proofs.«01_k».proof.Proof.Gen.FfnIdeal.Frame

@[expose] public section

noncomputable section

namespace Cert.FfnIdeal.Blocks

open Cert.FfnIdeal Cert.FfnIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The whole run: what every unscoped array holds at the end. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

end Cert.FfnIdeal.Blocks

end
-- ==== Proof.FfnKernel.lean ====
/- What the feed-forward block's two calls leave in their result arrays: each grid point computes 256 rows, the hidden units in two
   halves; the gain's gradient is a sum over the grid points of what each adds. -/
module

public import proofs.«01_k».proof.Proof.FfnRun
public import Idealize.ShloMosaic.Lib.Pipeline.ValueKit
public import Idealize.ShloMosaic.Lib.ValueIdx

@[expose] public section

noncomputable section

namespace Cert.FfnIdeal.Blocks

open Cert.FfnIdeal Cert.FfnIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The reciprocal root of a row of the whole array. -/
def rs (x : S16384x1024.Idx → EReal) (r : Fin 16384) : EReal :=
  Ideal.rsqrt (Ideal.div (∑ k, x (ix2 r k) * x (ix2 r k)) (Ideal.ofBits .f32 0x44800000#32) + Ideal.ofBits .f32 0x358637BD#32)

/-- The normalised row times the gain. -/
def nK (x : S16384x1024.Idx → EReal) (g : S1x1024.Idx → EReal) (i : S16384x1024.Idx) : EReal :=
  x (ix2 (i 0) (i 1)) * rs x (i 0) * g (ix2 0 (i 1))

/-- A hidden unit: the normalised row times a weight. -/
def aK (x : S16384x1024.Idx → EReal) (g : S1x1024.Idx → EReal) (w : S1024x2816.Idx → EReal) (i : S16384x2816.Idx) : EReal :=
  ∑ k, nK x g (ix2 (i 0) k) * w (ix2 k (i 1))

/-- The kernel's logistic function. -/
def sg (a : EReal) : EReal := Ideal.div 1 (1 + Ideal.exp (0 - a))

/-- A hidden unit's activation. -/
def actK (a u : S16384x2816.Idx → EReal) (i : S16384x2816.Idx) : EReal := a i * sg (a i) * u i

/-- A hidden unit of the first half, and of the second: a call takes the hidden units in two halves. -/
def lo (f : Fin 1408) : Fin 2816 := ⟨f.val, by omega⟩
@[inherit_doc lo] def hi (f : Fin 1408) : Fin 2816 := ⟨1408 + f.val, by omega⟩

/-- What the forward call returns. -/
def yK (x : S16384x1024.Idx → EReal) (a u : S16384x2816.Idx → EReal) (wd : S2816x1024.Idx → EReal) (i : S16384x1024.Idx) : EReal :=
  x (ix2 (i 0) (i 1)) + Ideal.ofBits .f32 0x3F000000#32
    * (∑ f, actK a u (ix2 (i 0) (lo f)) * wd (ix2 (lo f) (i 1)) + ∑ f, actK a u (ix2 (i 0) (hi f)) * wd (ix2 (hi f) (i 1)))

/-- The cotangent of an activation. -/
def dactK (dy : S16384x1024.Idx → EReal) (wd : S2816x1024.Idx → EReal) (r : Fin 16384) (f : Fin 2816) : EReal :=
  ∑ k, Ideal.ofBits .f32 0x3F000000#32 * dy (ix2 r k) * wd (ix2 f k)

/-- The cotangent of a gate's hidden unit. -/
def daK (dy : S16384x1024.Idx → EReal) (a u : S16384x2816.Idx → EReal) (wd : S2816x1024.Idx → EReal) (i : S16384x2816.Idx) : EReal :=
  dactK dy wd (i 0) (i 1) * u i * (sg (a i) * (1 + a i * (1 - sg (a i))))

/-- The cotangent of the other hidden unit. -/
def duK (dy : S16384x1024.Idx → EReal) (a : S16384x2816.Idx → EReal) (wd : S2816x1024.Idx → EReal) (i : S16384x2816.Idx) : EReal :=
  dactK dy wd (i 0) (i 1) * (a i * sg (a i))

/-- The cotangent of the normalised row, of the two hidden units' cotangents. -/
def dnK (da du : S16384x2816.Idx → EReal) (wg wu : S1024x2816.Idx → EReal) (r : Fin 16384) (k : Fin 1024) : EReal :=
  ∑ f, da (ix2 r (lo f)) * wg (ix2 k (lo f)) + ∑ f, du (ix2 r (lo f)) * wu (ix2 k (lo f))
    + ∑ f, da (ix2 r (hi f)) * wg (ix2 k (hi f)) + ∑ f, du (ix2 r (hi f)) * wu (ix2 k (hi f))

/-- The gradient of `x`, of the normalised row's cotangent. -/
def dxK (x : S16384x1024.Idx → EReal) (g : S1x1024.Idx → EReal) (dy : S16384x1024.Idx → EReal) (dn : Fin 16384 → Fin 1024 → EReal)
    (i : S16384x1024.Idx) : EReal :=
  dy (ix2 (i 0) (i 1)) + rs x (i 0) * (dn (i 0) (i 1) * g (ix2 0 (i 1)) - x (ix2 (i 0) (i 1)) * rs x (i 0)
    * Ideal.div (∑ k, dn (i 0) k * g (ix2 0 k) * (x (ix2 (i 0) k) * rs x (i 0))) (Ideal.ofBits .f32 0x44800000#32))

/-- The gradient of the gain: a sum over the rows. -/
def dgK (x : S16384x1024.Idx → EReal) (dn : Fin 16384 → Fin 1024 → EReal) (i : S1x1024.Idx) : EReal :=
  ∑ r, dn r (i 1) * (x (ix2 r (i 1)) * rs x r)

theorem idx0_0 : ∀ t : Fin cfg0.N, win0_0.index t = ![t.val, 0] := (by decide +kernel : ∀ t : Fin grid0.N, _)
theorem idx0_1 : ∀ t : Fin cfg0.N, win0_1.index t = ![0, 0] := (by decide +kernel : ∀ t : Fin grid0.N, _)
theorem idx0_2 : ∀ t : Fin cfg0.N, win0_2.index t = ![0, 0] := (by decide +kernel : ∀ t : Fin grid0.N, _)
theorem idx0_3 : ∀ t : Fin cfg0.N, win0_3.index t = ![0, 0] := (by decide +kernel : ∀ t : Fin grid0.N, _)
theorem idx0_4 : ∀ t : Fin cfg0.N, win0_4.index t = ![0, 0] := (by decide +kernel : ∀ t : Fin grid0.N, _)
theorem idx0_5 : ∀ t : Fin cfg0.N, win0_5.index t = ![t.val, 0] := (by decide +kernel : ∀ t : Fin grid0.N, _)
theorem idx0_6 : ∀ t : Fin cfg0.N, win0_6.index t = ![t.val, 0] := (by decide +kernel : ∀ t : Fin grid0.N, _)
theorem idx0_7 : ∀ t : Fin cfg0.N, win0_7.index t = ![t.val, 0] := (by decide +kernel : ∀ t : Fin grid0.N, _)

theorem idx1_0 : ∀ t : Fin cfg1.N, win1_0.index t = ![t.val, 0] := (by decide +kernel : ∀ t : Fin grid1.N, _)
theorem idx1_1 : ∀ t : Fin cfg1.N, win1_1.index t = ![0, 0] := (by decide +kernel : ∀ t : Fin grid1.N, _)
theorem idx1_2 : ∀ t : Fin cfg1.N, win1_2.index t = ![t.val, 0] := (by decide +kernel : ∀ t : Fin grid1.N, _)
theorem idx1_3 : ∀ t : Fin cfg1.N, win1_3.index t = ![t.val, 0] := (by decide +kernel : ∀ t : Fin grid1.N, _)
theorem idx1_4 : ∀ t : Fin cfg1.N, win1_4.index t = ![t.val, 0] := (by decide +kernel : ∀ t : Fin grid1.N, _)
theorem idx1_5 : ∀ t : Fin cfg1.N, win1_5.index t = ![0, 0] := (by decide +kernel : ∀ t : Fin grid1.N, _)
theorem idx1_6 : ∀ t : Fin cfg1.N, win1_6.index t = ![0, 0] := (by decide +kernel : ∀ t : Fin grid1.N, _)
theorem idx1_7 : ∀ t : Fin cfg1.N, win1_7.index t = ![0, 0] := (by decide +kernel : ∀ t : Fin grid1.N, _)
theorem idx1_8 : ∀ t : Fin cfg1.N, win1_8.index t = ![t.val, 0] := (by decide +kernel : ∀ t : Fin grid1.N, _)
theorem idx1_10 : ∀ t : Fin cfg1.N, win1_10.index t = ![t.val, 0] := (by decide +kernel : ∀ t : Fin grid1.N, _)
theorem idx1_11 : ∀ t : Fin cfg1.N, win1_11.index t = ![t.val, 0] := (by decide +kernel : ∀ t : Fin grid1.N, _)
theorem idx1_12 : ∀ t : Fin cfg1.N, win1_12.index t = ![t.val, 0] := (by decide +kernel : ∀ t : Fin grid1.N, _)
theorem idx1_13 : ∀ t : Fin cfg1.N, win1_13.index t = ![t.val, 0] := (by decide +kernel : ∀ t : Fin grid1.N, _)

theorem final0_6 (c : Dev nD) : (dat0 V c).arrAt 6 cfg0.N = aK (V c main_arg0) (V c main_v3) (V c main_v0) := by
  refine (dat0 V c).arrAt_eq_of_covers 6 _ (by decide +kernel) fun t hf y => ?_
  blk_simp
  rw [after0_6]
  frame_out
  canon_tiles x h
  all_goals
    pointwise [k0_pay3, k0_pay10, k0_pay1, k0_pay8, k0_pay6, k0_pay13, aK, nK, rs]
    blk_point [iblk0, idx0_0, idx0_1, idx0_2, idx0_6]

theorem final0_7 (c : Dev nD) : (dat0 V c).arrAt 7 cfg0.N = aK (V c main_arg0) (V c main_v3) (V c main_v1) := by
  refine (dat0 V c).arrAt_eq_of_covers 7 _ (by decide +kernel) fun t hf y => ?_
  blk_simp
  rw [after0_7]
  frame_out
  canon_tiles x h
  all_goals
    pointwise [k0_pay4, k0_pay11, k0_pay2, k0_pay9, k0_pay6, k0_pay13, aK, nK, rs]
    blk_point [iblk0, idx0_0, idx0_1, idx0_3, idx0_7]

/-- What the forward call returns, over the whole arrays. -/
theorem final0_5 (c : Dev nD) : (dat0 V c).arrAt 5 cfg0.N
    = yK (V c main_arg0) (aK (V c main_arg0) (V c main_v3) (V c main_v0)) (aK (V c main_arg0) (V c main_v3) (V c main_v1)) (V c main_v2) := by
  refine (dat0 V c).arrAt_eq_of_covers 5 _ (by decide +kernel) fun t hf y => ?_
  blk_simp
  rw [after0_5]
  frame_out
  pointwise [k0_pay5, k0_pay3, k0_pay10, k0_pay1, k0_pay2, k0_pay7, k0_pay9, k0_pay12, k0_pay8, k0_pay6, k0_pay13, yK, actK, sg, aK, nK, rs, lo, hi]
  blk_point [iblk0, idx0_0, idx0_1, idx0_2, idx0_3, idx0_4, idx0_5]

/-- The cotangent of the normalised rows of a grid point's block, as the second call computes it. -/
def dnT (c : Dev nD) (t : Fin cfg1.N) : FVec Ideal S256x1024 .f32 :=
  k1_pay29 (k1_pay8 (iblk1 V c 2 t))
    (k1_pay19 k1_pay9
      (k1_pay10 (View.ld (iblk1 V c 3 t) (Rect.unit ![0, 0] ![256, 1408] inb_S256x2816_S256x1408_0_0)))
      (k1_pay11 (View.ld (iblk1 V c 4 t) (Rect.unit ![0, 0] ![256, 1408] inb_S256x2816_S256x1408_0_0)))
      (k1_pay12 (iblk1 V c 2 t) (View.ld (iblk1 V c 7 t) (Rect.unit ![0, 0] ![1408, 1024] inb_S2816x1024_S1408x1024_0_0)))
      (k1_pay13 (View.ld (iblk1 V c 3 t) (Rect.unit ![0, 0] ![256, 1408] inb_S256x2816_S256x1408_0_0)))
      (View.ld (iblk1 V c 5 t) (Rect.unit ![0, 0] ![1024, 1408] inb_S1024x2816_S1024x1408_0_0))
      (View.ld (iblk1 V c 6 t) (Rect.unit ![0, 0] ![1024, 1408] inb_S1024x2816_S1024x1408_0_0)))
    (k1_pay20 (View.ld (iblk1 V c 3 t) (Rect.unit ![0, 1408] ![256, 1408] inb_S256x2816_S256x1408_0_1408)))
    (k1_pay21 (View.ld (iblk1 V c 4 t) (Rect.unit ![0, 1408] ![256, 1408] inb_S256x2816_S256x1408_0_1408)))
    (k1_pay22 (View.ld (iblk1 V c 7 t) (Rect.unit ![1408, 0] ![1408, 1024] inb_S2816x1024_S1408x1024_1408_0)))
    (constant S256x1408 .f32 0#32)
    (View.ld (iblk1 V c 5 t) (Rect.unit ![0, 1408] ![1024, 1408] inb_S1024x2816_S1024x1408_0_1408))
    (View.ld (iblk1 V c 6 t) (Rect.unit ![0, 1408] ![1024, 1408] inb_S1024x2816_S1024x1408_0_1408))

theorem row_lt (t : Fin cfg1.N) (y : S256x1024.Idx) : t.val * 256 + (y 0).val < 16384 := by
  have ht : t.val < 64 := Nat.lt_of_lt_of_eq t.isLt N_1
  have hy : (y 0).val < 256 := (y 0).isLt
  omega

theorem dnT_eq (c : Dev nD) (t : Fin cfg1.N) (y : S256x1024.Idx) :
    dnT V c t y = dnK (daK (V c main_arg5) (V c main_v4_1) (V c main_v4_2) (V c main_v2)) (duK (V c main_arg5) (V c main_v4_1) (V c main_v2)) (V c main_v0) (V c main_v1) ⟨t.val * 256 + (y 0).val, row_lt t y⟩ (y 1) := by
  pointwise [dnT, k1_pay29, k1_pay19, k1_pay9, k1_pay8, k1_pay10, k1_pay11, k1_pay12, k1_pay13, k1_pay14, k1_pay15, k1_pay16, k1_pay17, k1_pay18, k1_pay20, k1_pay21, k1_pay22, k1_pay23, k1_pay24, k1_pay25, k1_pay26, k1_pay27, k1_pay28, dnK, daK, duK, dactK, sg, lo, hi]
  blk_point [iblk1, idx1_2, idx1_3, idx1_4, idx1_5, idx1_6, idx1_7]

theorem final1_10 (c : Dev nD) : (dat1 V c).arrAt 10 cfg1.N = nK (V c main_arg0) (V c main_v5) := by
  refine (dat1 V c).arrAt_eq_of_covers 10 _ (by decide +kernel) fun t hf y => ?_
  blk_simp
  rw [after1_10]
  by_cases h : t.val % 64 = 0
  · rw [outsAt1_A V c t h]; frame_out
    pointwise [k1_pay7, k1_pay6, nK, rs]
    blk_point [iblk1, idx1_0, idx1_1, idx1_10]
  · rw [outsAt1_B V c t h]; frame_out
    pointwise [k1_pay7, k1_pay6, nK, rs]
    blk_point [iblk1, idx1_0, idx1_1, idx1_10]

theorem final1_11 (c : Dev nD) : (dat1 V c).arrAt 11 cfg1.N = actK (V c main_v4_1) (V c main_v4_2) := by
  refine (dat1 V c).arrAt_eq_of_covers 11 _ (by decide +kernel) fun t hf y => ?_
  blk_simp
  rw [after1_11]
  by_cases h : t.val % 64 = 0
  · rw [outsAt1_A V c t h]; frame_out
    canon_tiles x h
    all_goals
      pointwise [k1_pay8, k1_pay10, k1_pay11, k1_pay12, k1_pay13, k1_pay14, k1_pay15, k1_pay16, k1_pay17, k1_pay18, k1_pay20, k1_pay21, k1_pay22, k1_pay23, k1_pay24, k1_pay25, k1_pay26, k1_pay27, k1_pay28, actK, sg]
      blk_point [iblk1, idx1_3, idx1_4, idx1_11]
  · rw [outsAt1_B V c t h]; frame_out
    canon_tiles x h
    all_goals
      pointwise [k1_pay8, k1_pay10, k1_pay11, k1_pay12, k1_pay13, k1_pay14, k1_pay15, k1_pay16, k1_pay17, k1_pay18, k1_pay20, k1_pay21, k1_pay22, k1_pay23, k1_pay24, k1_pay25, k1_pay26, k1_pay27, k1_pay28, actK, sg]
      blk_point [iblk1, idx1_3, idx1_4, idx1_11]

theorem final1_12 (c : Dev nD) : (dat1 V c).arrAt 12 cfg1.N = daK (V c main_arg5) (V c main_v4_1) (V c main_v4_2) (V c main_v2) := by
  refine (dat1 V c).arrAt_eq_of_covers 12 _ (by decide +kernel) fun t hf y => ?_
  blk_simp
  rw [after1_12]
  by_cases h : t.val % 64 = 0
  · rw [outsAt1_A V c t h]; frame_out
    canon_tiles x h
    all_goals
      pointwise [k1_pay8, k1_pay10, k1_pay11, k1_pay12, k1_pay13, k1_pay14, k1_pay15, k1_pay16, k1_pay17, k1_pay18, k1_pay20, k1_pay21, k1_pay22, k1_pay23, k1_pay24, k1_pay25, k1_pay26, k1_pay27, k1_pay28, daK, dactK, sg]
      blk_point [iblk1, idx1_2, idx1_3, idx1_4, idx1_7, idx1_12]
  · rw [outsAt1_B V c t h]; frame_out
    canon_tiles x h
    all_goals
      pointwise [k1_pay8, k1_pay10, k1_pay11, k1_pay12, k1_pay13, k1_pay14, k1_pay15, k1_pay16, k1_pay17, k1_pay18, k1_pay20, k1_pay21, k1_pay22, k1_pay23, k1_pay24, k1_pay25, k1_pay26, k1_pay27, k1_pay28, daK, dactK, sg]
      blk_point [iblk1, idx1_2, idx1_3, idx1_4, idx1_7, idx1_12]

theorem final1_13 (c : Dev nD) : (dat1 V c).arrAt 13 cfg1.N = duK (V c main_arg5) (V c main_v4_1) (V c main_v2) := by
  refine (dat1 V c).arrAt_eq_of_covers 13 _ (by decide +kernel) fun t hf y => ?_
  blk_simp
  rw [after1_13]
  by_cases h : t.val % 64 = 0
  · rw [outsAt1_A V c t h]; frame_out
    canon_tiles x h
    all_goals
      pointwise [k1_pay8, k1_pay10, k1_pay11, k1_pay12, k1_pay13, k1_pay14, k1_pay15, k1_pay16, k1_pay17, k1_pay18, k1_pay20, k1_pay21, k1_pay22, k1_pay23, k1_pay24, k1_pay25, k1_pay26, k1_pay27, k1_pay28, duK, dactK, sg]
      blk_point [iblk1, idx1_2, idx1_3, idx1_7, idx1_13]
  · rw [outsAt1_B V c t h]; frame_out
    canon_tiles x h
    all_goals
      pointwise [k1_pay8, k1_pay10, k1_pay11, k1_pay12, k1_pay13, k1_pay14, k1_pay15, k1_pay16, k1_pay17, k1_pay18, k1_pay20, k1_pay21, k1_pay22, k1_pay23, k1_pay24, k1_pay25, k1_pay26, k1_pay27, k1_pay28, duK, dactK, sg]
      blk_point [iblk1, idx1_2, idx1_3, idx1_7, idx1_13]

/-- What one grid point leaves of `x`'s gradient in a block of rows. -/
theorem point8 (c : Dev nD) (t : Fin cfg1.N) (y : S256x1024.Idx) (D : Fin 16384 → Fin 1024 → EReal) (hD : ∀ y, dnT V c t y = D ⟨t.val * 256 + (y 0).val, row_lt t y⟩ (y 1)) :
    k1_pay3 (iblk1 V c 0 t) (k1_pay6 (iblk1 V c 1 t)) (iblk1 V c 2 t) (dnT V c t) (k1_pay30 (iblk1 V c 0 t)) y =
    dxK (V c main_arg0) (V c main_v5) (V c main_arg5) D ((win1_8.blk t).view.emb y) := by
  have e0 : (win1_8.blk t).view.emb y 0 = ⟨t.val * 256 + (y 0).val, row_lt t y⟩ := by apply Fin.ext; blk_simp [idx1_8]
  have e1 : (win1_8.blk t).view.emb y 1 = y 1 := by apply Fin.ext; blk_simp [idx1_8]
  simp only [dxK, e0, e1]
  pointwise [k1_pay3, k1_pay2, k1_pay1, k1_pay30, k1_pay6, rs, hD]
  blk_point [iblk1, idx1_0, idx1_1, idx1_2]

theorem final1_8 (c : Dev nD) : (dat1 V c).arrAt 8 cfg1.N = dxK (V c main_arg0) (V c main_v5) (V c main_arg5) (dnK (daK (V c main_arg5) (V c main_v4_1) (V c main_v4_2) (V c main_v2)) (duK (V c main_arg5) (V c main_v4_1) (V c main_v2)) (V c main_v0) (V c main_v1)) := by
  refine (dat1 V c).arrAt_eq_of_covers 8 _ (by decide +kernel) fun t hf y => ?_
  blk_simp
  rw [after1_8]
  by_cases h : t.val % 64 = 0
  · rw [outsAt1_A V c t h]; frame_out
    exact point8 V c t y _ (dnT_eq V c t)
  · rw [outsAt1_B V c t h]; frame_out
    exact point8 V c t y _ (dnT_eq V c t)

/-- The last grid point. -/
def tL : Fin cfg1.N := ⟨63, by decide⟩

/-- The gain's block after the last point: the rows of all the points. -/
theorem acc9 (c : Dev nD) (j : S1x1024.Idx) (D : Fin 16384 → Fin 1024 → EReal) (hD : ∀ t y, dnT V c t y = D ⟨t.val * 256 + (y 0).val, row_lt t y⟩ (y 1)) :
    (dat1 V c).after 9 tL j = dgK (V c main_arg0) D j := by
  rw [after1_9]
  rw [Pipeline.eq_sum_fin_of_reset_step_apply_last (fun n h => (outsAt1 V c n h).2.1) 64 (fun _ => 0)
      (fun t j => ∑ k : Fin 256, dnT V c t (ix2 k (j 1)) * k1_pay2 (iblk1 V c 0 t) (k1_pay30 (iblk1 V c 0 t)) (ix2 k (j 1)))
      (fun t h j => by
        rw [outsAt1_A V c t h]; frame_out
        change k1_pay5 _ (dnT V c t) _ _ _ = _
        pointwise [k1_pay5, k1_pay4])
      (fun t h j => by
        rw [outsAt1_B V c t h]; frame_out
        change k1_pay5 _ (dnT V c t) _ _ _ = _
        pointwise [k1_pay5])
      (le_of_eq N_1) tL rfl, zero_add]
  pointwise [k1_pay2, k1_pay1, k1_pay30, dgK, rs, hD]
  refine Fin.sum_mul_add_congr fun s k hl => ?_
  blk_point [iblk1, idx1_0]

/-- The array of the gain's gradient. -/
theorem final1_9 (c : Dev nD) : (dat1 V c).arrAt 9 cfg1.N = dgK (V c main_arg0) (dnK (daK (V c main_arg5) (V c main_v4_1) (V c main_v4_2) (V c main_v2)) (duK (V c main_arg5) (V c main_v4_1) (V c main_v2)) (V c main_v0) (V c main_v1)) := by
  refine (dat1 V c).arrAt_eq_of_after_last 9 tL (by decide +kernel) _ fun j => ?_
  exact acc9 V c j _ (dnT_eq V c)

end Cert.FfnIdeal.Blocks

end
-- ==== Proof.FfnReal.lean ====
/- The feed-forward block on reals: the functions that both programs compute, and that the kernel's formulas are these functions for
   arrays of reals. -/
module

public import proofs.«01_k».proof.Proof.FfnKernel
public import proofs.«01_k».proof.Proof.Norm

@[expose] public section

noncomputable section

namespace Cert.FfnIdeal.Eq

open Idealize.ShloMosaic Cert.Lift Cert.Norm Cert.FfnIdeal.Blocks
open Cert.FfnIdeal (S16384x1024 S1x1024 S1024 S1024x2816 S2816x1024 S16384x2816)

/-- An array of reals as an array of extended reals. -/
abbrev up {s : Shape} (X : s.Idx → ℝ) : s.Idx → EReal := fun i => (X i : EReal)

/-- A row of the argument. -/
abbrev row (X : S16384x1024.Idx → ℝ) (r : Fin 16384) (k : Fin 1024) : ℝ := X (ix2 r k)

/-- The normalised row times the gain. -/
def nR (X : S16384x1024.Idx → ℝ) (G : S1024.Idx → ℝ) (i : S16384x1024.Idx) : ℝ := X i * rstd (row X (i 0)) * G (ix1 (i 1))

/-- A hidden unit. -/
def aR (X : S16384x1024.Idx → ℝ) (G : S1024.Idx → ℝ) (W : S1024x2816.Idx → ℝ) (i : S16384x2816.Idx) : ℝ :=
  ∑ k, nR X G (ix2 (i 0) k) * W (ix2 k (i 1))

/-- The logistic function. -/
def sR (a : ℝ) : ℝ := 1 / (1 + Real.exp (-a))

/-- The activation of a hidden unit. -/
def actR (A U : S16384x2816.Idx → ℝ) (i : S16384x2816.Idx) : ℝ := A i * sR (A i) * U i

/-- What the block returns. -/
def yR (X : S16384x1024.Idx → ℝ) (A U : S16384x2816.Idx → ℝ) (WD : S2816x1024.Idx → ℝ) (i : S16384x1024.Idx) : ℝ :=
  X i + 1 / 2 * ∑ f, actR A U (ix2 (i 0) f) * WD (ix2 f (i 1))

/-- The cotangent of an activation. -/
def dactR (DY : S16384x1024.Idx → ℝ) (WD : S2816x1024.Idx → ℝ) (i : S16384x2816.Idx) : ℝ :=
  ∑ k, 1 / 2 * DY (ix2 (i 0) k) * WD (ix2 (i 1) k)

/-- The cotangent of the gate's hidden unit. -/
def daR (DY : S16384x1024.Idx → ℝ) (A U : S16384x2816.Idx → ℝ) (WD : S2816x1024.Idx → ℝ) (i : S16384x2816.Idx) : ℝ :=
  dactR DY WD i * U i * (sR (A i) * (1 + A i * (1 - sR (A i))))

/-- The cotangent of the other hidden unit. -/
def duR (DY : S16384x1024.Idx → ℝ) (A : S16384x2816.Idx → ℝ) (WD : S2816x1024.Idx → ℝ) (i : S16384x2816.Idx) : ℝ :=
  dactR DY WD i * (A i * sR (A i))

/-- The cotangent of the normalised row. -/
def dnR (DA DU : S16384x2816.Idx → ℝ) (WG WU : S1024x2816.Idx → ℝ) (r : Fin 16384) (k : Fin 1024) : ℝ :=
  ∑ f, DA (ix2 r f) * WG (ix2 k f) + ∑ f, DU (ix2 r f) * WU (ix2 k f)

/-- The gradient of `x`. -/
def dxR (X : S16384x1024.Idx → ℝ) (G : S1024.Idx → ℝ) (DY : S16384x1024.Idx → ℝ) (DN : Fin 16384 → Fin 1024 → ℝ) (r : Fin 16384) (j : Fin 1024) : ℝ :=
  DY (ix2 r j) + (rstd (row X r) * (DN r j * G (ix1 j))
    - X (ix2 r j) * (rstd (row X r) * (rstd (row X r) * rstd (row X r))) * ((∑ k, X (ix2 r k) * (DN r k * G (ix1 k))) / 1024))

variable (X DY : S16384x1024.Idx → ℝ) (G : S1024.Idx → ℝ) (A U : S16384x2816.Idx → ℝ) (W WG WU : S1024x2816.Idx → ℝ) (WD : S2816x1024.Idx → ℝ)

theorem one_real : (1 : EReal) = ((1 : ℝ) : EReal) := rfl

theorem logistic_real (a : ℝ) : Ideal.div 1 (1 + Ideal.exp (-(a : EReal))) = ((sR a : ℝ) : EReal) := by
  rw [← EReal.coe_neg, Ideal.exp_coe, one_real, ← EReal.coe_add, div_real _ (by positivity)]; rfl

theorem sg_real (a : ℝ) : sg (a : EReal) = ((sR a : ℝ) : EReal) := by
  rw [sg, zero_sub, logistic_real]

theorem rs_real (r : Fin 16384) : rs (up X) r = ((rstd (row X r) : ℝ) : EReal) := by
  rw [rs, ms_eq (row X r), rsqrt_ms]

/-- A sum over the hidden units is the sum over its two halves. -/
theorem sum_halves (F : Fin 2816 → ℝ) : ∑ f, F (lo f) + ∑ f, F (hi f) = ∑ f, F f :=
  (Fin.sum_univ_add (a := 1408) (b := 1408) F).symm

theorem nK_real : nK (up X) (fun i => up G (ix1 (i 1))) = up (nR X G) := by
  funext i
  obtain ⟨r, j, rfl⟩ : ∃ (r : Fin 16384) (j : Fin 1024), i = ix2 r j := ⟨i 0, i 1, (ix2_eta i).symm⟩
  change up X (ix2 r j) * rs (up X) r * up G (ix1 j) = _
  rw [rs_real]; simp only [← EReal.coe_mul]; rfl

theorem aK_real : aK (up X) (fun i => up G (ix1 (i 1))) (up W) = up (aR X G W) := by
  funext i
  simp only [aK, nK_real, ← EReal.coe_mul, ← coe_sum]; rfl

theorem actK_real : actK (up A) (up U) = up (actR A U) := by
  funext i
  simp only [actK, sg_real, ← EReal.coe_mul]; rfl

theorem yK_real : yK (up X) (up A) (up U) (up WD) = up (yR X A U WD) := by
  funext i
  simp only [yK, actK_real, ix2_eta, lit_half, ← EReal.coe_mul, ← coe_sum, ← EReal.coe_add]
  rw [sum_halves fun f => actR A U (ix2 (i 0) f) * WD (ix2 f (i 1))]; rfl

theorem dactK_real (r : Fin 16384) (f : Fin 2816) : dactK (up DY) (up WD) r f = ((dactR DY WD (ix2 r f) : ℝ) : EReal) := by
  simp only [dactK, lit_half, ← EReal.coe_mul, ← coe_sum]; rfl

theorem daK_real : daK (up DY) (up A) (up U) (up WD) = up (daR DY A U WD) := by
  funext i
  obtain ⟨r, j, rfl⟩ : ∃ (r : Fin 16384) (j : Fin 2816), i = ix2 r j := ⟨i 0, i 1, (ix2_eta i).symm⟩
  change dactK (up DY) (up WD) r j * up U (ix2 r j) * (sg (up A (ix2 r j)) * (1 + up A (ix2 r j) * (1 - sg (up A (ix2 r j))))) = _
  simp only [dactK_real, sg_real, one_real, ← EReal.coe_sub, ← EReal.coe_mul, ← EReal.coe_add]; rfl

theorem duK_real : duK (up DY) (up A) (up WD) = up (duR DY A WD) := by
  funext i
  obtain ⟨r, j, rfl⟩ : ∃ (r : Fin 16384) (j : Fin 2816), i = ix2 r j := ⟨i 0, i 1, (ix2_eta i).symm⟩
  change dactK (up DY) (up WD) r j * (up A (ix2 r j) * sg (up A (ix2 r j))) = _
  simp only [dactK_real, sg_real, ← EReal.coe_mul]; rfl

theorem dnK_real (DA DU : S16384x2816.Idx → ℝ) : dnK (up DA) (up DU) (up WG) (up WU) = fun r k => ((dnR DA DU WG WU r k : ℝ) : EReal) := by
  funext r k
  simp only [dnK, ← EReal.coe_mul, ← coe_sum, ← EReal.coe_add, dnR]
  rw [← sum_halves fun f => DA (ix2 r f) * WG (ix2 k f), ← sum_halves fun f => DU (ix2 r f) * WU (ix2 k f)]
  congr 1; ring

theorem dxK_real (DN : Fin 16384 → Fin 1024 → ℝ) (r : Fin 16384) (j : Fin 1024) :
    dxK (up X) (fun i => up G (ix1 (i 1))) (up DY) (fun r k => (DN r k : EReal)) (ix2 r j) = ((dxR X G DY DN r j : ℝ) : EReal) := by
  change up DY (ix2 r j) + rs (up X) r * ((DN r j : EReal) * up G (ix1 j) - up X (ix2 r j) * rs (up X) r
    * Ideal.div (∑ k, (DN r k : EReal) * up G (ix1 k) * (up X (ix2 r k) * rs (up X) r)) (Ideal.ofBits .f32 0x44800000#32)) = _
  rw [rs_real, lit_1024]
  refine (congrArg (_ + ·) (grad_row (row X r) (DN r) (fun k => G (ix1 k)) (X (ix2 r j)) (DN r j) (G (ix1 j)))).trans ?_
  rw [← EReal.coe_add]; rfl

theorem dgK_real (DN : Fin 16384 → Fin 1024 → ℝ) (z : Fin 1) (j : Fin 1024) :
    dgK (up X) (fun r k => (DN r k : EReal)) (ix2 z j) = ((∑ r, DN r j * (X (ix2 r j) * rstd (row X r)) : ℝ) : EReal) := by
  change (∑ r, (DN r j : EReal) * (up X (ix2 r j) * rs (up X) r)) = _
  simp only [rs_real, ← EReal.coe_mul, ← coe_sum]

end Cert.FfnIdeal.Eq

end
-- ==== Proof.FfnRefReal.lean ====
/- The feed-forward reference's values on reals: each line of the forward pass and of its transposed pass as a function of reals. -/
module

public import proofs.«01_k».proof.Proof.FfnReal
public import proofs.«01_k».proof.Proof.Gen.FfnRefIdeal.Read

@[expose] public section

noncomputable section

namespace Cert.FfnIdeal.Eq

open Idealize.ShloMosaic Cert.Lift Cert.Norm Cert.FfnIdeal.Blocks
open Cert.FfnRefIdeal.Read
open Cert.FfnIdeal (S16384x1024 S1x1024 S1024 S1024x2816 S2816x1024 S16384x2816)

variable (X DY : S16384x1024.Idx → ℝ) (G : S1024.Idx → ℝ) (WG WU : S1024x2816.Idx → ℝ) (WD : S2816x1024.Idx → ℝ)

/-- The normalised rows. -/
theorem v12_real : val_main_v12 (F := Ideal) (up X) (up G) = up (nR X G) := by
  funext i
  obtain ⟨r, j, rfl⟩ : ∃ (r : Fin 16384) (j : Fin 1024), i = ix2 r j := ⟨i 0, i 1, (ix2_eta i).symm⟩
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rw [ms_eq (row X r), rsqrt_ms]; simp only [← EReal.coe_mul]; rfl

/-- The gate's hidden units. -/
theorem v13_real : val_main_v13 (F := Ideal) (up X) (up G) (up WG) = up (aR X G WG) := by
  funext i
  obtain ⟨r, j, rfl⟩ : ∃ (r : Fin 16384) (j : Fin 2816), i = ix2 r j := ⟨i 0, i 1, (ix2_eta i).symm⟩
  pointwise [val_main_v13, v12_real]
  simp only [← EReal.coe_mul, ← coe_sum]; rfl

/-- The other hidden units. -/
theorem v15_real : val_main_v15 (F := Ideal) (up X) (up G) (up WU) = up (aR X G WU) := by
  funext i
  obtain ⟨r, j, rfl⟩ : ∃ (r : Fin 16384) (j : Fin 2816), i = ix2 r j := ⟨i 0, i 1, (ix2_eta i).symm⟩
  pointwise [val_main_v15, v12_real]
  simp only [← EReal.coe_mul, ← coe_sum]; rfl

/-- The lines that the transposed pass computes again. -/
theorem v33_real : val_main_v33 (F := Ideal) (up X) (up G) (up WG) = up (aR X G WG) := v13_real X G WG
theorem v35_real : val_main_v35 (F := Ideal) (up X) (up G) (up WU) = up (aR X G WU) := v15_real X G WU
theorem v72_real : val_main_v72 (F := Ideal) (up X) (up G) (up WG) = up (aR X G WG) := v13_real X G WG
theorem v73_real : val_main_v73 (F := Ideal) (up X) (up G) (up WU) = up (aR X G WU) := v15_real X G WU

/-- The activation. -/
theorem v16_real : val_main_v16 (F := Ideal) (up X) (up G) (up WG) (up WU) = up (actR (aR X G WG) (aR X G WU)) := by
  funext i
  obtain ⟨r, j, rfl⟩ : ∃ (r : Fin 16384) (j : Fin 2816), i = ix2 r j := ⟨i 0, i 1, (ix2_eta i).symm⟩
  pointwise [val_main_v16, val_main_v14, val_main_call0_v5, val_main_call0_v4, val_main_call0_v3, val_main_call0_v2, val_main_call0_v1, val_main_call0_v0, val_main_call0_cst, val_main_call0_cst_0, v13_real, v15_real]
  simp only [logistic_real, ← EReal.coe_mul]; rfl

/-- What the block returns. -/
theorem v40_real : val_main_v40 (F := Ideal) (up X) (up G) (up WG) (up WU) (up WD) = up (yR X (aR X G WG) (aR X G WU) WD) := by
  funext i
  obtain ⟨r, j, rfl⟩ : ∃ (r : Fin 16384) (j : Fin 1024), i = ix2 r j := ⟨i 0, i 1, (ix2_eta i).symm⟩
  have h : val_main_v36 (F := Ideal) (up X) (up G) (up WG) (up WU) = up (actR (aR X G WG) (aR X G WU)) := v16_real X G WG WU
  pointwise [val_main_v40, val_main_v39, val_main_v38, val_main_cst_6, val_main_v37, h]
  simp only [lit_half, ← EReal.coe_mul, ← coe_sum, ← EReal.coe_add]; rfl

/-- The cotangent of the activation. -/
theorem v44_real : val_main_v44 (F := Ideal) (up WD) (up DY) = up (dactR DY WD) := by
  funext i
  obtain ⟨r, j, rfl⟩ : ∃ (r : Fin 16384) (j : Fin 2816), i = ix2 r j := ⟨i 0, i 1, (ix2_eta i).symm⟩
  pointwise [val_main_v44, val_main_v43, val_main_v42, val_main_v41, val_main_cst_7]
  simp only [lit_half, ← EReal.coe_mul, ← coe_sum]; rfl

/-- The cotangent of the other hidden unit. -/
theorem v45_real : val_main_v45 (F := Ideal) (up X) (up G) (up WG) (up WD) (up DY) = up (duR DY (aR X G WG) WD) := by
  funext i
  obtain ⟨r, j, rfl⟩ : ∃ (r : Fin 16384) (j : Fin 2816), i = ix2 r j := ⟨i 0, i 1, (ix2_eta i).symm⟩
  pointwise [val_main_v45, val_main_v34_0, val_main_v34_2, val_main_call1_v4, val_main_call1_v3, val_main_call1_v2, val_main_call1_v1, val_main_call1_v0, val_main_call1_cst, val_main_call1_cst_0, v33_real, v44_real]
  simp only [logistic_real, ← EReal.coe_mul]
  exact congrArg Real.toEReal (mul_comm _ _)

/-- The cotangent of the gate's hidden unit. -/
theorem v48_real : val_main_v48 (F := Ideal) (up X) (up G) (up WG) (up WU) (up WD) (up DY) = up (daR DY (aR X G WG) (aR X G WU) WD) := by
  funext i
  obtain ⟨r, j, rfl⟩ : ∃ (r : Fin 16384) (j : Fin 2816), i = ix2 r j := ⟨i 0, i 1, (ix2_eta i).symm⟩
  pointwise [val_main_v48, val_main_call2_v2, val_main_call2_v1, val_main_call2_v0, val_main_v46, val_main_v34_1, val_main_call1_v7, val_main_call1_v6, val_main_call1_cst_1, val_main_v34_2, val_main_call1_v4, val_main_call1_v3, val_main_call1_v2, val_main_call1_v1, val_main_call1_v0, val_main_call1_cst, val_main_call1_cst_0, v33_real, v35_real, v44_real]
  simp only [logistic_real]
  simp only [one_real, ← EReal.coe_mul, ← EReal.coe_add, ← EReal.coe_sub]
  refine congrArg Real.toEReal ?_
  simp only [daR]
  ring

/-- The same three cotangents as the lines that return them spell them. -/
theorem v81_real : val_main_v81 (F := Ideal) (up WD) (up DY) = up (dactR DY WD) := by
  refine Eq.trans ?_ (v44_real DY WD)
  funext i
  pointwise [val_main_v81, val_main_v80, val_main_v79, val_main_cst_14, val_main_v44, val_main_v43, val_main_v42, val_main_v41, val_main_cst_7]

theorem v82_real : val_main_v82 (F := Ideal) (up X) (up G) (up WG) (up WD) (up DY) = up (duR DY (aR X G WG) WD) := by
  refine Eq.trans ?_ (v45_real X DY G WG WD)
  rw [val_main_v82, v81_real, val_main_v45, v44_real]; rfl

theorem v84_real : val_main_v84 (F := Ideal) (up X) (up G) (up WG) (up WU) (up WD) (up DY) = up (daR DY (aR X G WG) (aR X G WU) WD) := by
  refine Eq.trans ?_ (v48_real X DY G WG WU WD)
  rw [val_main_v84, val_main_call4_v2, val_main_call4_v1, val_main_call4_v0, val_main_v83, v81_real, val_main_v48, val_main_call2_v2, val_main_call2_v1, val_main_call2_v0,
    val_main_v46, v44_real]; rfl

/-- The cotangent of the normalised rows. -/
theorem v50_real (r : Fin 16384) (k : Fin 1024) : val_main_v50 (F := Ideal) (up X) (up G) (up WG) (up WU) (up WD) (up DY) (ix2 r k)
    = ((dnR (daR DY (aR X G WG) (aR X G WU) WD) (duR DY (aR X G WG) WD) WG WU r k : ℝ) : EReal) := by
  pointwise [val_main_v50, val_main_v49, val_main_v47, v45_real, v48_real]
  simp only [← EReal.coe_mul, ← coe_sum, ← EReal.coe_add]
  exact congrArg Real.toEReal (add_comm _ _)

/-- The gradient of the gain. -/
theorem v85_real (z : Fin 1) (j : Fin 1024) : val_main_v85 (F := Ideal) (up X) (up G) (up WG) (up WU) (up WD) (up DY) (ix2 z j)
    = ((∑ r, dnR (daR DY (aR X G WG) (aR X G WU) WD) (duR DY (aR X G WG) WD) WG WU r j * (X (ix2 r j) * rstd (row X r)) : ℝ) : EReal) := by
  pointwise [val_main_v85, val_main_v56, val_main_cst_9, val_main_v53, val_main_v52, val_main_cst_8, val_main_v51, v50_real, val_main_v29, val_main_v28, val_main_v25, val_main_v24, val_main_v23, val_main_v22, val_main_v21, val_main_v20, val_main_v19, val_main_v18, val_main_v17, val_main_cst_2, val_main_cst_3, val_main_cst_4]
  refine (Fin.sum_univ_one _).trans ?_
  rw [coe_sum]
  refine Finset.sum_congr rfl fun r _ => ?_
  rw [ms_eq (row X r), rsqrt_ms]
  simp only [← EReal.coe_mul]
  exact congrArg Real.toEReal (mul_comm _ _)

/-- The gradient of `x`. -/
theorem v71_real (r : Fin 16384) (j : Fin 1024) : val_main_v71 (F := Ideal) (up X) (up G) (up WG) (up WU) (up WD) (up DY) (ix2 r j)
    = ((dxR X G DY (dnR (daR DY (aR X G WG) (aR X G WU) WD) (duR DY (aR X G WG) WD) WG WU) r j : ℝ) : EReal) := by
  generalize hD : dnR (daR DY (aR X G WG) (aR X G WU) WD) (duR DY (aR X G WG) WD) WG WU = DN
  have h50 := fun r k => (v50_real X DY G WG WU WD r k).trans (congrArg (fun f : Fin 16384 → Fin 1024 → ℝ => ((f r k : ℝ) : EReal)) hD)
  pointwise [val_main_v71, val_main_v70, val_main_v69, val_main_v68, val_main_v67, val_main_v66, val_main_v65, val_main_v64, val_main_v63, val_main_v62, val_main_v61, val_main_v60, val_main_v59, val_main_v58, val_main_v57, val_main_v55, val_main_v54, val_main_v30, val_main_v27, val_main_v26, val_main_v25, val_main_v24, val_main_v23, val_main_v22, val_main_v21, val_main_v20, val_main_v19, val_main_v18, val_main_v17, val_main_cst_2, val_main_cst_3, val_main_cst_4, val_main_cst_5, val_main_cst_10, val_main_cst_11, val_main_cst_12, h50]
  rw [ms_eq (row X r), lit_neg_half, lit_1024, rsqrt_ms]
  rw [grad_coef (row X r) (fun k => DN r k) (fun k => G (ix1 k))]
  simp only [← EReal.coe_mul, ← EReal.coe_add]
  refine congrArg Real.toEReal ?_
  simp only [dxR]
  ring

end Cert.FfnIdeal.Eq

end
-- ==== Proof.FfnEq.lean ====
/- The feed-forward block with its gradient: the two kernel calls compute what the transposed forward pass computes, for finite
   arguments. -/
module

public import proofs.«01_k».proof.Defs
public import proofs.«01_k».proof.Proof.FfnRun
public import proofs.«01_k».proof.Proof.FfnRefReal
public import proofs.«01_k».proof.Proof.Gen.FfnRefIdeal.Run
public import proofs.«01_k».proof.Proof.Gen.Pre_ffn_finite
public import proofs.«01_k».proof.Proof.Gen.FfnIdeal
public import proofs.«01_k».proof.Proof.Gen.FfnRefIdeal

@[expose] public section

noncomputable section

namespace Cert.FfnIdeal.Eq

open Idealize.ShloMosaic Cert.Lift Cert.Norm Cert.FfnIdeal.Blocks
open Cert.FfnIdeal Cert.FfnIdeal.Gen
open Cert.FfnRefIdeal.Read (val_main_v40_eq val_main_v71_eq val_main_v85_eq val_main_v86_eq val_main_v87_eq val_main_v88_eq val_main_v89_eq)
open Idealize.ShloMosaic.TcCoe Idealize.SL.Sem

/-- The precondition says that the arguments are arrays of reals. -/
theorem finite [Cert.Pre_ffn_finite.Facts] (x : FVec Ideal S16384x1024 .f32) (g : FVec Ideal S1024 .f32) (wg wu : FVec Ideal S1024x2816 .f32)
    (wd : FVec Ideal S2816x1024 .f32) (dy : FVec Ideal S16384x1024 .f32) (h : Cert.Pre_ffn_finite.fn x g wg wu wd dy = fun _ => 1#1) :
    (∃ X, x = up X) ∧ (∃ G, g = up G) ∧ (∃ WG, wg = up WG) ∧ (∃ WU, wu = up WU) ∧ (∃ WD, wd = up WD) ∧ ∃ DY, dy = up DY := by
  obtain ⟨h1, h6⟩ := IntOp.andi_eq_one.mp (congrFun h ix0)
  obtain ⟨h1, h5⟩ := IntOp.andi_eq_one.mp h1
  obtain ⟨h1, h4⟩ := IntOp.andi_eq_one.mp h1
  obtain ⟨h1, h3⟩ := IntOp.andi_eq_one.mp h1
  obtain ⟨h1, h2⟩ := IntOp.andi_eq_one.mp h1
  exact ⟨reals fun i => Host.reduce_andi_all _ _ _ _ _ h1 i, reals fun i => Host.reduce_andi_all _ _ _ _ _ h2 i, reals fun i => Host.reduce_andi_all _ _ _ _ _ h3 i,
    reals fun i => Host.reduce_andi_all _ _ _ _ _ h4 i, reals fun i => Host.reduce_andi_all _ _ _ _ _ h5 i, reals fun i => Host.reduce_andi_all _ _ _ _ _ h6 i⟩

section
variable (X DY : S16384x1024.Idx → ℝ) (G : S1024.Idx → ℝ) (WG WU : S1024x2816.Idx → ℝ) (WD : S2816x1024.Idx → ℝ)

theorem y_all : yK (up X) (aK (up X) (fun i => up G (ix1 (i 1))) (up WG)) (aK (up X) (fun i => up G (ix1 (i 1))) (up WU)) (up WD)
    = up (yR X (aR X G WG) (aR X G WU) WD) := by
  rw [aK_real, aK_real, yK_real]

theorem dg_all (A U : S16384x2816.Idx → ℝ) : dgK (up X) (dnK (daK (up DY) (up A) (up U) (up WD)) (duK (up DY) (up A) (up WD)) (up WG) (up WU))
    = fun i => ((∑ r, dnR (daR DY A U WD) (duR DY A WD) WG WU r (i 1) * (X (ix2 r (i 1)) * rstd (row X r)) : ℝ) : EReal) := by
  rw [daK_real, duK_real, dnK_real]
  funext i
  obtain ⟨r, j, rfl⟩ : ∃ (r : Fin 1) (j : Fin 1024), i = ix2 r j := ⟨i 0, i 1, (ix2_eta i).symm⟩
  exact dgK_real X _ r j

theorem dx_all (A U : S16384x2816.Idx → ℝ) :
    dxK (up X) (fun i => up G (ix1 (i 1))) (up DY) (dnK (daK (up DY) (up A) (up U) (up WD)) (duK (up DY) (up A) (up WD)) (up WG) (up WU))
    = fun i => ((dxR X G DY (dnR (daR DY A U WD) (duR DY A WD) WG WU) (i 0) (i 1) : ℝ) : EReal) := by
  rw [daK_real, duK_real, dnK_real]
  funext i
  obtain ⟨r, j, rfl⟩ : ∃ (r : Fin 16384) (j : Fin 1024), i = ix2 r j := ⟨i 0, i 1, (ix2_eta i).symm⟩
  exact dxK_real X DY G _ r j
end

section
variable (m : (ℓ : Loc nD τ sig) → Buf (Elt Ideal) ℓ) (ρ : Dev nD → PrngReg) (c : Dev nD)

/-- The arguments of the forward call. -/
theorem in0_x : V1 m ρ c main_arg0 = m ((c.tc : Thread nD τ).loc main_arg0) := W1_args m ρ c _ (by decide)
theorem in0_g : V1 m ρ c main_v3 = fun i => m ((c.tc : Thread nD τ).loc main_arg1) (ix1 (i 1)) := by
  refine (show V1 m ρ c main_v3 = StableHlo.after hostOps0 (W0 m ρ c) (Proc.devRef .tc main_v3) from rfl).trans ?_
  funext i
  entry_read
  pointwise []
theorem in0_wg : V1 m ρ c main_v0 = m ((c.tc : Thread nD τ).loc main_arg2) := by
  refine (show V1 m ρ c main_v0 = StableHlo.after hostOps0 (W0 m ρ c) (Proc.devRef .tc main_v0) from rfl).trans ?_
  entry_read; rfl
theorem in0_wu : V1 m ρ c main_v1 = m ((c.tc : Thread nD τ).loc main_arg3) := by
  refine (show V1 m ρ c main_v1 = StableHlo.after hostOps0 (W0 m ρ c) (Proc.devRef .tc main_v1) from rfl).trans ?_
  entry_read; rfl
theorem in0_wd : V1 m ρ c main_v2 = m ((c.tc : Thread nD τ).loc main_arg4) := by
  refine (show V1 m ρ c main_v2 = StableHlo.after hostOps0 (W0 m ρ c) (Proc.devRef .tc main_v2) from rfl).trans ?_
  entry_read; rfl

/-- What the forward call leaves. -/
theorem mid_y : W2 m ρ c (Proc.devRef .tc main_v4_0) = (dat0 (V1 m ρ) c).arrAt 5 cfg0.N := W2_arr m ρ c 5
theorem mid_a : W2 m ρ c (Proc.devRef .tc main_v4_1) = (dat0 (V1 m ρ) c).arrAt 6 cfg0.N := W2_arr m ρ c 6
theorem mid_u : W2 m ρ c (Proc.devRef .tc main_v4_2) = (dat0 (V1 m ρ) c).arrAt 7 cfg0.N := W2_arr m ρ c 7

/-- The arguments of the backward call. -/
theorem in1_x : V3 m ρ c main_arg0 = m ((c.tc : Thread nD τ).loc main_arg0) := W3_args m ρ c _ (by decide)
theorem in1_dy : V3 m ρ c main_arg5 = m ((c.tc : Thread nD τ).loc main_arg5) := W3_args m ρ c _ (by decide)
theorem in1_g : V3 m ρ c main_v5 = fun i => m ((c.tc : Thread nD τ).loc main_arg1) (ix1 (i 1)) := by
  refine (show V3 m ρ c main_v5 = StableHlo.after hostOps1 (W2 m ρ c) (Proc.devRef .tc main_v5) from rfl).trans ?_
  funext i
  entry_read
  pointwise []
  exact congrFun (W2_args m ρ c main_arg1 (by decide)) _
theorem in1_a : V3 m ρ c main_v4_1 = (dat0 (V1 m ρ) c).arrAt 6 cfg0.N := (W3_of m ρ c main_v4_1 (by decide)).trans (mid_a m ρ c)
theorem in1_u : V3 m ρ c main_v4_2 = (dat0 (V1 m ρ) c).arrAt 7 cfg0.N := (W3_of m ρ c main_v4_2 (by decide)).trans (mid_u m ρ c)
theorem in1_wg : V3 m ρ c main_v0 = m ((c.tc : Thread nD τ).loc main_arg2) :=
  (W3_of m ρ c main_v0 (by decide)).trans ((W2_of m ρ c main_v0 (by decide)).trans (in0_wg m ρ c))
theorem in1_wu : V3 m ρ c main_v1 = m ((c.tc : Thread nD τ).loc main_arg3) :=
  (W3_of m ρ c main_v1 (by decide)).trans ((W2_of m ρ c main_v1 (by decide)).trans (in0_wu m ρ c))
theorem in1_wd : V3 m ρ c main_v2 = m ((c.tc : Thread nD τ).loc main_arg4) :=
  (W3_of m ρ c main_v2 (by decide)).trans ((W2_of m ρ c main_v2 (by decide)).trans (in0_wd m ρ c))

/-- What is in the results at the end. -/
theorem out_y : W4 m ρ c (Proc.devRef .tc main_v4_0) = (dat0 (V1 m ρ) c).arrAt 5 cfg0.N :=
  (W4_of m ρ c main_v4_0 (by decide)).trans ((W3_of m ρ c main_v4_0 (by decide)).trans (mid_y m ρ c))
theorem out_dx : W4 m ρ c (Proc.devRef .tc main_v6_0) = (dat1 (V3 m ρ) c).arrAt 8 cfg1.N := W4_arr m ρ c 8
theorem out_dg : W4 m ρ c (Proc.devRef .tc main_v6_1) = (dat1 (V3 m ρ) c).arrAt 9 cfg1.N := W4_arr m ρ c 9
theorem out_n : W4 m ρ c (Proc.devRef .tc main_v6_2) = (dat1 (V3 m ρ) c).arrAt 10 cfg1.N := W4_arr m ρ c 10
theorem out_act : W4 m ρ c (Proc.devRef .tc main_v6_3) = (dat1 (V3 m ρ) c).arrAt 11 cfg1.N := W4_arr m ρ c 11
theorem out_da : W4 m ρ c (Proc.devRef .tc main_v6_4) = (dat1 (V3 m ρ) c).arrAt 12 cfg1.N := W4_arr m ρ c 12
theorem out_du : W4 m ρ c (Proc.devRef .tc main_v6_5) = (dat1 (V3 m ρ) c).arrAt 13 cfg1.N := W4_arr m ρ c 13

variable (X DY : S16384x1024.Idx → ℝ) (G : S1024.Idx → ℝ) (WG WU : S1024x2816.Idx → ℝ) (WD : S2816x1024.Idx → ℝ)
  (hX : m ((c.tc : Thread nD τ).loc main_arg0) = up X) (hG : m ((c.tc : Thread nD τ).loc main_arg1) = up G)
  (hWG : m ((c.tc : Thread nD τ).loc main_arg2) = up WG) (hWU : m ((c.tc : Thread nD τ).loc main_arg3) = up WU)
  (hWD : m ((c.tc : Thread nD τ).loc main_arg4) = up WD) (hDY : m ((c.tc : Thread nD τ).loc main_arg5) = up DY)
include hX hG hWG

/-- The hidden units that the forward call saves. -/
theorem saved_a : (dat0 (V1 m ρ) c).arrAt 6 cfg0.N = up (aR X G WG) := by
  rw [final0_6, in0_x, in0_g, in0_wg, hX, hG, hWG]; exact aK_real X G WG
omit hWG in
include hWU in
theorem saved_u : (dat0 (V1 m ρ) c).arrAt 7 cfg0.N = up (aR X G WU) := by
  rw [final0_7, in0_x, in0_g, in0_wu, hX, hG, hWU]; exact aK_real X G WU

include hWU hWD in
theorem y_real : W4 m ρ c (Proc.devRef .tc main_v4_0) = up (yR X (aR X G WG) (aR X G WU) WD) := by
  rw [out_y, final0_5, in0_x, in0_g, in0_wg, in0_wu, in0_wd, hX, hG, hWG, hWU, hWD]
  exact y_all X G WG WU WD

include hWU in
theorem act_real : W4 m ρ c (Proc.devRef .tc main_v6_3) = up (actR (aR X G WG) (aR X G WU)) := by
  rw [out_act, final1_11, in1_a, in1_u, saved_a m ρ c X G WG hX hG hWG, saved_u m ρ c X G WU hX hG hWU]; exact actK_real _ _

omit hWG in
theorem n_real : W4 m ρ c (Proc.devRef .tc main_v6_2) = up (nR X G) := by
  rw [out_n, final1_10, in1_x, in1_g, hX, hG]; exact nK_real X G

include hWU hWD hDY in
theorem da_real : W4 m ρ c (Proc.devRef .tc main_v6_4) = up (daR DY (aR X G WG) (aR X G WU) WD) := by
  rw [out_da, final1_12, in1_dy, in1_a, in1_u, in1_wd, saved_a m ρ c X G WG hX hG hWG, saved_u m ρ c X G WU hX hG hWU, hWD, hDY]; exact daK_real DY _ _ WD

include hWD hDY in
theorem du_real : W4 m ρ c (Proc.devRef .tc main_v6_5) = up (duR DY (aR X G WG) WD) := by
  rw [out_du, final1_13, in1_dy, in1_a, in1_wd, saved_a m ρ c X G WG hX hG hWG, hWD, hDY]; exact duK_real DY _ WD

include hWU hWD hDY in
theorem dg_real : W4 m ρ c (Proc.devRef .tc main_v6_1)
    = fun i => ((∑ r, dnR (daR DY (aR X G WG) (aR X G WU) WD) (duR DY (aR X G WG) WD) WG WU r (i 1) * (X (ix2 r (i 1)) * rstd (row X r)) : ℝ) : EReal) := by
  rw [out_dg, final1_9, in1_x, in1_dy, in1_a, in1_u, in1_wg, in1_wu, in1_wd, saved_a m ρ c X G WG hX hG hWG, saved_u m ρ c X G WU hX hG hWU, hX, hWG, hWU, hWD, hDY]
  exact dg_all X DY WG WU WD _ _

include hWU hWD hDY in
theorem dx_real : W4 m ρ c (Proc.devRef .tc main_v6_0)
    = fun i => ((dxR X G DY (dnR (daR DY (aR X G WG) (aR X G WU) WD) (duR DY (aR X G WG) WD) WG WU) (i 0) (i 1) : ℝ) : EReal) := by
  rw [out_dx, final1_8, in1_x, in1_g, in1_dy, in1_a, in1_u, in1_wg, in1_wu, in1_wd, saved_a m ρ c X G WG hX hG hWG, saved_u m ρ c X G WU hX hG hWU, hX, hG, hWG, hWU, hWD, hDY]
  exact dx_all X DY G WG WU WD _ _
end

/-- The claim about the feed-forward block and its gradient. -/
theorem algebraic : algebraic_FfnIdeal_FfnRefIdeal_pre_ffn_finite := by
  intro m g m' g' hp hm
  refine ⟨fun c => W4 m g c (Proc.devRef .tc main_v4_0), fun c => W4 m g c (Proc.devRef .tc main_v6_0), fun c => W4 m g c (Proc.devRef .tc main_v6_1),
    fun c => W4 m g c (Proc.devRef .tc main_v6_2), fun c => W4 m g c (Proc.devRef .tc main_v6_3), fun c => W4 m g c (Proc.devRef .tc main_v6_4), fun c => W4 m g c (Proc.devRef .tc main_v6_5),
    (θ_run Cert.FfnIdeal.defs _ _).mono (fun r h c => ?_) (Cert.FfnIdeal.Blocks.run m g),
    (θ_run Cert.FfnRefIdeal.defs _ _).mono (fun r h c => ?_) (Cert.FfnRefIdeal.Value.run m' g')⟩
  · have h' := fun (b : Ref sig .tc) hb => h c (Proc.devRef .tc b) (mem_uc b hb)
    exact ⟨h' main_v4_0 (by decide), h' main_v6_0 (by decide), h' main_v6_1 (by decide), h' main_v6_2 (by decide), h' main_v6_3 (by decide),
      h' main_v6_4 (by decide), h' main_v6_5 (by decide), (h' main_arg0 (by decide)).trans (W4_main_arg0 m g c),
      (h' main_arg1 (by decide)).trans (W4_main_arg1 m g c), (h' main_arg2 (by decide)).trans (W4_main_arg2 m g c),
      (h' main_arg3 (by decide)).trans (W4_main_arg3 m g c), (h' main_arg4 (by decide)).trans (W4_main_arg4 m g c),
      (h' main_arg5 (by decide)).trans (W4_main_arg5 m g c)⟩
  · obtain ⟨hx, hg, hwg, hwu, hwd, hdy⟩ := hm c
    obtain ⟨⟨X, eX⟩, ⟨G, eG⟩, ⟨WG, eWG⟩, ⟨WU, eWU⟩, ⟨WD, eWD⟩, ⟨DY, eDY⟩⟩ := finite _ _ _ _ _ _ (hp c)
    obtain ⟨h40, h71, h85, h86, h87, h88, h89, ha⟩ := h c
    refine ⟨?_, ?_, ?_, ?_, ?_, ?_, ?_, ha⟩
    · rw [h40, val_main_v40_eq, hx, hg, hwg, hwu, hwd, eX, eG, eWG, eWU, eWD]
      exact (v40_real X G WG WU WD).trans (y_real m g c X G WG WU WD eX eG eWG eWU eWD).symm
    · rw [h71, val_main_v71_eq, hx, hg, hwg, hwu, hwd, hdy, eX, eG, eWG, eWU, eWD, eDY]
      refine Eq.trans ?_ (dx_real m g c X DY G WG WU WD eX eG eWG eWU eWD eDY).symm
      funext i
      obtain ⟨r, j, rfl⟩ : ∃ (r : Fin 16384) (j : Fin 1024), i = ix2 r j := ⟨i 0, i 1, (ix2_eta i).symm⟩
      exact v71_real X DY G WG WU WD r j
    · rw [h85, val_main_v85_eq, hx, hg, hwg, hwu, hwd, hdy, eX, eG, eWG, eWU, eWD, eDY]
      refine Eq.trans ?_ (dg_real m g c X DY G WG WU WD eX eG eWG eWU eWD eDY).symm
      funext i
      obtain ⟨r, j, rfl⟩ : ∃ (r : Fin 1) (j : Fin 1024), i = ix2 r j := ⟨i 0, i 1, (ix2_eta i).symm⟩
      exact v85_real X DY G WG WU WD r j
    · rw [h86, val_main_v86_eq, hx, hg, eX, eG]
      exact (v12_real X G).trans (n_real m g c X G eX eG).symm
    · rw [h87, val_main_v87_eq, hx, hg, hwg, hwu, eX, eG, eWG, eWU]
      exact (v16_real X G WG WU).trans (act_real m g c X G WG WU eX eG eWG eWU).symm
    · rw [h88, val_main_v88_eq, hx, hg, hwg, hwu, hwd, hdy, eX, eG, eWG, eWU, eWD, eDY]
      exact (v84_real X DY G WG WU WD).trans (da_real m g c X DY G WG WU WD eX eG eWG eWU eWD eDY).symm
    · rw [h89, val_main_v89_eq, hx, hg, hwg, hwd, hdy, eX, eG, eWG, eWD, eDY]
      exact (v82_real X DY G WG WD).trans (du_real m g c X DY G WG WD eX eG eWG eWD eDY).symm

end Cert.FfnIdeal.Eq

end
-- ==== Proof.AttnMath.lean ====
/- Banded attention of one head over the reals, query block by query block, and its gradients: what the kernel computes and
   what the reference computes are both equal to these formulas. -/
module

public import proofs.«01_k».proof.Proof.Lift

@[expose] public section

noncomputable section

namespace Cert.AttnMath

open Idealize.ShloMosaic Cert.Lift

/-- One head's rows: 1024 places, 64 numbers each. -/
abbrev Rows := Fin 1024 → Fin 64 → ℝ

/-- Row `r` of block `b`. -/
def row (b : Fin 8) (r : Fin 128) : Fin 1024 := ⟨128 * b.val + r.val, by omega⟩

/-- The row of the window's key `κ`: the block before, then the block itself. The first block has none before it: its own rows
    stand there, masked. -/
def kr (b : Fin 8) (κ : Fin 256) : Fin 1024 :=
  ⟨if b.val = 0 then κ.val % 128 else 128 * (b.val - 1) + κ.val, by split <;> omega⟩

/-- The query sees the key: the key is not after it, at most 128 before it, and not before the beginning. -/
def vis (b : Fin 8) (r : Fin 128) (κ : Fin 256) : Prop := r.val ≤ κ.val ∧ κ.val ≤ r.val + 128 ∧ (0 < b.val ∨ 128 ≤ κ.val)

instance (b r κ) : Decidable (vis b r κ) := by unfold vis; infer_instance

/-- The score. -/
def sc (Q K : Rows) (b : Fin 8) (r : Fin 128) (κ : Fin 256) : ℝ := ∑ e, Q (row b r) e * K (kr b κ) e

/-- The masked score. -/
def sE (Q K : Rows) (b : Fin 8) (r : Fin 128) (κ : Fin 256) : EReal := if vis b r κ then (sc Q K b r κ : EReal) else ⊥

/-- The greatest visible score, as the programs write it. -/
def mE (Q K : Rows) (b : Fin 8) (r : Fin 128) : EReal := Finset.univ.fold max ⊥ fun κ => sE Q K b r κ

/-- The same as a real. -/
def mR (Q K : Rows) (b : Fin 8) (r : Fin 128) : ℝ := (mE Q K b r).toReal

theorem mE_coe (Q K : Rows) (b : Fin 8) (r : Fin 128) : mE Q K b r = (mR Q K b r : EReal) := by
  refine (EReal.coe_toReal ?_ ?_).symm
  · refine ne_of_lt (Finset.fold_max_lt _ |>.mpr ⟨bot_lt_top, fun κ _ => ?_⟩)
    unfold sE; split
    · exact EReal.coe_lt_top _
    · exact bot_lt_top
  · refine ne_of_gt (Finset.lt_fold_max _ |>.mpr (.inr ⟨⟨r.val + 128, by omega⟩, Finset.mem_univ _, ?_⟩))
    unfold sE
    rw [if_pos (by unfold vis; simp)]
    exact EReal.bot_lt_coe _

/-- The weight before it is divided. -/
def pR (Q K : Rows) (b : Fin 8) (r : Fin 128) (κ : Fin 256) : ℝ := if vis b r κ then Real.exp (sc Q K b r κ - mR Q K b r) else 0

theorem exp_coe' (x : ℝ) : Ideal.exp (x : EReal) = (Real.exp x : EReal) := Ideal.exp_coe x

theorem pR_coe (Q K : Rows) (b : Fin 8) (r : Fin 128) (κ : Fin 256) :
    Ideal.exp (sE Q K b r κ - mE Q K b r) = (pR Q K b r κ : EReal) := by
  rw [mE_coe]; unfold sE pR
  split
  · rw [← EReal.coe_sub, exp_coe']
  · rw [EReal.bot_sub, EReal.coe_zero]; exact Ideal.exp_bot

/-- The weights' sum. -/
def lR (Q K : Rows) (b : Fin 8) (r : Fin 128) : ℝ := ∑ κ, pR Q K b r κ

theorem pR_nonneg (Q K : Rows) (b : Fin 8) (r : Fin 128) (κ : Fin 256) : 0 ≤ pR Q K b r κ := by
  unfold pR; split
  · exact (Real.exp_pos _).le
  · exact le_rfl

theorem lR_pos (Q K : Rows) (b : Fin 8) (r : Fin 128) : 0 < lR Q K b r := by
  refine Finset.sum_pos' (fun κ _ => pR_nonneg Q K b r κ) ⟨⟨r.val + 128, by omega⟩, Finset.mem_univ _, ?_⟩
  unfold pR; rw [if_pos (by unfold vis; simp)]
  exact Real.exp_pos _

/-- The output row. -/
def oR (Q K V : Rows) (b : Fin 8) (r : Fin 128) (e : Fin 64) : ℝ := (∑ κ, pR Q K b r κ * V (kr b κ) e) / lR Q K b r

/-- The logarithm of the row's sum of exponentials. -/
def lseR (Q K : Rows) (b : Fin 8) (r : Fin 128) : ℝ := mR Q K b r + Real.log (lR Q K b r)

/-- The weight. -/
def wR (Q K : Rows) (b : Fin 8) (r : Fin 128) (κ : Fin 256) : ℝ := if vis b r κ then Real.exp (sc Q K b r κ - lseR Q K b r) else 0

theorem wR_eq (Q K : Rows) (b : Fin 8) (r : Fin 128) (κ : Fin 256) : wR Q K b r κ = pR Q K b r κ / lR Q K b r := by
  unfold wR pR lseR
  split
  · rw [← sub_sub, Real.exp_sub, Real.exp_log (lR_pos Q K b r)]
  · rw [zero_div]

/-- The weight's cotangent. -/
def dpR (V DO : Rows) (b : Fin 8) (r : Fin 128) (κ : Fin 256) : ℝ := ∑ e, DO (row b r) e * V (kr b κ) e

/-- What the row's softmax takes away: the cotangent's product with the output, less the cotangent of the row's logarithm. -/
def deltaR (Q K V DO : Rows) (DL : Fin 1024 → ℝ) (b : Fin 8) (r : Fin 128) : ℝ :=
  (∑ e, DO (row b r) e * oR Q K V b r e) - DL (row b r)

/-- The score's cotangent. -/
def dsR (Q K V DO : Rows) (DL : Fin 1024 → ℝ) (b : Fin 8) (r : Fin 128) (κ : Fin 256) : ℝ :=
  wR Q K b r κ * (dpR V DO b r κ - deltaR Q K V DO DL b r)

/-- The scaled query's cotangent. -/
def dqR (Q K V DO : Rows) (DL : Fin 1024 → ℝ) (b : Fin 8) (r : Fin 128) (e : Fin 64) : ℝ :=
  ∑ κ, dsR Q K V DO DL b r κ * K (kr b κ) e

/-- What block `b`'s queries give to the window's key `κ`. -/
def dkW (Q K V DO : Rows) (DL : Fin 1024 → ℝ) (b : Fin 8) (κ : Fin 256) (e : Fin 64) : ℝ :=
  ∑ r, dsR Q K V DO DL b r κ * Q (row b r) e

/-- What block `b`'s queries give to the window's value `κ`. -/
def dvW (Q K DO : Rows) (b : Fin 8) (κ : Fin 256) (e : Fin 64) : ℝ := ∑ r, wR Q K b r κ * DO (row b r) e

/-- A sum over windows at row `k` of block `b`: its own block's window, and the next block's. -/
def fromWindows (W : Fin 8 → Fin 256 → Fin 64 → ℝ) (b : Fin 8) (k : Fin 128) (e : Fin 64) : ℝ :=
  W b ⟨128 + k.val, by omega⟩ e + if h : b.val < 7 then W ⟨b.val + 1, by omega⟩ ⟨k.val, by omega⟩ e else 0

/-- A maximum taken over both halves at once. -/
theorem fold_halves (z : EReal) (f : Fin 256 → EReal) :
    Finset.univ.fold max z (fun x : Fin 128 => max (f ⟨x.val, by omega⟩) (f ⟨128 + x.val, by omega⟩)) = Finset.univ.fold max z f := by
  refine eq_of_forall_ge_iff fun c => ?_
  rw [Finset.fold_max_le, Finset.fold_max_le]
  refine and_congr_right fun _ => ⟨fun h κ _ => ?_, fun h x _ => max_le (h _ (Finset.mem_univ _)) (h _ (Finset.mem_univ _))⟩
  by_cases hk : κ.val < 128
  · exact (max_le_iff.mp (h ⟨κ.val, hk⟩ (Finset.mem_univ _))).1
  · have := (max_le_iff.mp (h ⟨κ.val - 128, by omega⟩ (Finset.mem_univ _))).2
    rwa [show (⟨128 + (κ.val - 128), by omega⟩ : Fin 256) = κ from Fin.ext (by simp only; omega)] at this

/-- A sum taken over both halves at once. -/
theorem sum_halves {M : Type*} [AddCommMonoid M] (f : Fin 256 → M) :
    ∑ x : Fin 128, (f ⟨x.val, by omega⟩ + f ⟨128 + x.val, by omega⟩) = ∑ κ, f κ := by
  rw [Finset.sum_add_distrib]
  exact (Fin.sum_univ_add (a := 128) (b := 128) f).symm

/-- A lane of the pair of heads. -/
def lane (h : Fin 2) (e : Fin 64) : Fin 128 := ⟨64 * h.val + e.val, by omega⟩

/-- A sum over the lanes of both heads. -/
theorem sum_lanes {M : Type*} [AddCommMonoid M] (f : Fin 128 → M) : ∑ l, f l = (∑ e, f (lane 0 e)) + ∑ e, f (lane 1 e) := by
  refine (Fin.sum_univ_add (a := 64) (b := 64) f).trans (congrArg₂ _ ?_ ?_) <;>
    exact Finset.sum_congr rfl fun e _ => congrArg f (Fin.ext (by simp [lane, Nat.add_comm]))

theorem lane_cases (l : Fin 128) : ∃ h e, l = lane h e :=
  ⟨⟨l.val / 64, by omega⟩, ⟨l.val % 64, by omega⟩, Fin.ext (by simp only [lane]; omega)⟩

theorem lit_bot : Ideal.ofBits .f32 0xFF800000#32 = ⊥ := by simp [Ideal.ofBits, Ideal.ieee]

end Cert.AttnMath

end
-- ==== Proof.AttnRun.lean ====
/- Every execution of the two attention calls ends with every array at the contents that the program leaves. -/
module

public import proofs.«01_k».proof.Proof.Gen.AttnIdeal.Frame

@[expose] public section

noncomputable section

namespace Cert.AttnIdeal.Blocks

open Cert.AttnIdeal Cert.AttnIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The whole run: what every unscoped array holds at the end. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => h)

end Cert.AttnIdeal.Blocks

end
-- ==== Proof.AttnMask.lean ====
/- The attention's masks, word by word: what each bit says of the query's and the key's places. -/
module

public import proofs.«01_k».proof.Proof.AttnMath
public import proofs.«01_k».proof.Proof.AttnRun
public import Idealize.ShloMosaic.Lib.Pipeline.ValueKit
public import Idealize.ShloMosaic.Lib.ValueIdx

@[expose] public section

noncomputable section

namespace Cert.AttnIdeal.Blocks

open Cert.AttnIdeal Cert.AttnIdeal.Gen Idealize.ShloMosaic Idealize.ShloMosaic.TcCoe Idealize.SL.Sem Cert.AttnMath Cert.Lift

/-- The band over words: the key is at most 128 before the query and not after it. -/
theorem band (r : ℕ) (κ : ℕ) (hr : r < 128) (hκ : κ < 256) : IntOp.andi
      (IntOp.cmpi CmpIPredicate.sge (IntOp.subi (IntOp.addi (BitVec.ofNat 32 r) 128#32) (BitVec.ofNat 32 κ)) 0#32)
      (IntOp.cmpi CmpIPredicate.sle (IntOp.subi (IntOp.addi (BitVec.ofNat 32 r) 128#32) (BitVec.ofNat 32 κ)) 128#32) =
    if r ≤ κ ∧ κ ≤ r + 128 then 1#1 else 0#1 := by
  exact (by decide +kernel : ∀ (r : Fin 128) (κ : Fin 256), IntOp.andi
      (IntOp.cmpi CmpIPredicate.sge (IntOp.subi (IntOp.addi (BitVec.ofNat 32 r.val) 128#32) (BitVec.ofNat 32 κ.val)) 0#32)
      (IntOp.cmpi CmpIPredicate.sle (IntOp.subi (IntOp.addi (BitVec.ofNat 32 r.val) 128#32) (BitVec.ofNat 32 κ.val)) 128#32) =
    if r.val ≤ κ.val ∧ κ.val ≤ r.val + 128 then 1#1 else 0#1) ⟨r, hr⟩ ⟨κ, hκ⟩

theorem andi_ite (P R : Prop) [Decidable P] [Decidable R] :
    IntOp.andi (if P then 1#1 else 0#1) (if R then 1#1 else 0#1) = if P ∧ R then 1#1 else 0#1 := by
  by_cases a : P <;> by_cases c : R <;> simp only [a, c] <;> decide

theorem mask_at (b : Fin 8) (hb : 0 < b.val) (r : Fin 128) (κ : Fin 256) : k0_pay2 (ix2 r κ) = if vis b r κ then 1#1 else 0#1 := by
  pointwise [k0_pay2]
  rw [band r κ r.isLt κ.isLt]
  simp [vis, hb]

theorem mask0_at (t : Fin cfg0.N) (r : Fin 128) (κ : Fin 256) : k0_pay8 (grid0.coords t) (ix2 r κ) = if vis 0 r κ then 1#1 else 0#1 := by
  pointwise [k0_pay8, k0_pay2]
  rw [band r κ r.isLt κ.isLt]
  have h1 : IntOp.ori (IntOp.cmpi CmpIPredicate.sge (BitVec.ofNat 32 κ.val) 128#32) (Scalar.cmpi CmpIPredicate.sgt 0#32 0#32) =
      if 128 ≤ κ.val then 1#1 else 0#1 := by
    revert κ; decide +kernel
  rw [h1, andi_ite]
  exact if_congr (by simp [vis, and_assoc]) rfl rfl

end Cert.AttnIdeal.Blocks

end
-- ==== Proof.AttnFwd.lean ====
/- One query block of the attention's forward call: what the kernel's operations on a pair of heads leave, as one formula over
   extended reals, and that formula over real arguments. -/
module

public import proofs.«01_k».proof.Proof.AttnMath
public import proofs.«01_k».proof.Proof.AttnMask
public import Idealize.ShloMosaic.Lib.Pipeline.ValueKit
public import Idealize.ShloMosaic.Lib.ValueIdx

@[expose] public section

noncomputable section

namespace Cert.AttnIdeal.Blocks

open Cert.AttnIdeal Cert.AttnIdeal.Gen Idealize.ShloMosaic Idealize.ShloMosaic.TcCoe Idealize.SL.Sem Cert.AttnMath Cert.Lift

/-- A masked score of one head: the product over the lanes that the head keeps. -/
def sF (M : IVec S128x256 1) (H : IVec S128x128 1) (q : S128x128.Idx → EReal) (k : S256x128.Idx → EReal) (r : Fin 128) (κ : Fin 256) : EReal :=
  Scalar.select (M (ix2 r κ)) (∑ l, Scalar.select (H (ix2 r l)) (q (ix2 r l) * k (ix2 κ l)) 0) (Ideal.ofBits .f32 0xFF800000#32)

/-- The row's maximum, the window's halves compared first. -/
def mF (M : IVec S128x256 1) (H : IVec S128x128 1) (q : S128x128.Idx → EReal) (k : S256x128.Idx → EReal) (r : Fin 128) : EReal :=
  Finset.univ.fold max (Ideal.ofBits .f32 0xFF800000#32) fun x : Fin 128 =>
    max (sF M H q k r ⟨x.val, by omega⟩) (sF M H q k r ⟨128 + x.val, by omega⟩)

/-- The row's sum of exponentials, the window's halves added first. -/
def lF (M : IVec S128x256 1) (H : IVec S128x128 1) (q : S128x128.Idx → EReal) (k : S256x128.Idx → EReal) (r : Fin 128) : EReal :=
  ∑ x : Fin 128, (Ideal.exp (sF M H q k r ⟨x.val, by omega⟩ - mF M H q k r) + Ideal.exp (sF M H q k r ⟨128 + x.val, by omega⟩ - mF M H q k r))

/-- One head's output at a lane. -/
def oF1 (M : IVec S128x256 1) (H : IVec S128x128 1) (q : S128x128.Idx → EReal) (k v : S256x128.Idx → EReal) (r l : Fin 128) : EReal :=
  Ideal.div (∑ κ, Ideal.exp (sF M H q k r κ - mF M H q k r) * v (ix2 κ l)) (lF M H q k r)

/-- The pair's output at a lane: of the head whose lane it is. -/
def oF (M : IVec S128x256 1) (H H' : IVec S128x128 1) (q : S128x128.Idx → EReal) (k v : S256x128.Idx → EReal) (r l : Fin 128) : EReal :=
  Scalar.select (H (ix2 r l)) (oF1 M H q k v r l) (oF1 M H' q k v r l)

/-- The pair's logarithm at a lane. -/
def lseF (M : IVec S128x256 1) (H H' : IVec S128x128 1) (q : S128x128.Idx → EReal) (k : S256x128.Idx → EReal) (r l : Fin 128) : EReal :=
  Scalar.select (H (ix2 r l)) (mF M H q k r + Ideal.log (lF M H q k r)) (mF M H' q k r + Ideal.log (lF M H' q k r))

/-- The masks of the pair's heads over the lanes. -/
def headM (h : Fin 2) : IVec S128x128 1 := if h = 0 then k0_pay3 else k0_pay4

theorem slt64 (n : ℕ) (h : n < 128) : IntOp.cmpi CmpIPredicate.slt (BitVec.ofNat 32 n) 64#32 = if n < 64 then 1#1 else 0#1 := by
  revert n; decide

theorem headM_at (h h' : Fin 2) (r : Fin 128) (e : Fin 64) : headM h (ix2 r (lane h' e)) = if h' = h then 1#1 else 0#1 := by
  have e3 : k0_pay3 (ix2 r (lane h' e)) = if (lane h' e).val < 64 then 1#1 else 0#1 := by
    pointwise [k0_pay3]; exact slt64 _ (lane h' e).isLt
  have e4 : k0_pay4 (ix2 r (lane h' e)) = IntOp.xori (if (lane h' e).val < 64 then 1#1 else 0#1) 1#1 := by
    pointwise [k0_pay4]; rw [e3]
  have hl : (lane h' e).val = 64 * h'.val + e.val := rfl
  have he := e.isLt
  unfold headM
  fin_cases h <;> fin_cases h' <;> simp_all <;> decide

section Chains

variable (M : IVec S128x256 1) (H H' : IVec S128x128 1) (q : FVec Ideal S128x128 .bf16) (k v : FVec Ideal S256x128 .bf16) (r l : Fin 128)

/-- The four ways in which the query blocks' text is cut leave the same output. -/
theorem oA : k0_pay21 (F := Ideal) M H H' q k v (ix2 r l) = oF M H H' q k v r l := by
  pointwise [k0_pay21, k0_pay19, k0_pay18, k0_pay17, k0_pay16, oF, oF1, lF, mF, sF]
theorem oB : k0_pay30 (F := Ideal) H (k0_pay24 (F := Ideal) v) (k0_pay27 (F := Ideal) M H H' q k) (ix2 r l) = oF M H H' q k v r l := by
  pointwise [k0_pay30, k0_pay29, k0_pay28, k0_pay27, k0_pay26, k0_pay25, k0_pay24, oF, oF1, lF, mF, sF]
theorem oC : k0_pay40 (F := Ideal) M H H' (k0_pay32 (F := Ideal) q) (k0_pay33 (F := Ideal) k) (k0_pay34 (F := Ideal) v) (k0_pay35 (F := Ideal) H q) (FloatOps.ofBits FTy.f32 1065353216#32) (FloatOps.ofBits FTy.f32 0#32)
    (ix2 r l) = oF M H H' q k v r l := by
  pointwise [k0_pay40, k0_pay39, k0_pay38, k0_pay37, k0_pay36, k0_pay35, k0_pay34, k0_pay33, k0_pay32, oF, oF1, lF, mF, sF]
theorem oD : k0_pay14 (F := Ideal) k0_pay3 H' (k0_pay5 (F := Ideal) q) k v M (k0_pay9 (F := Ideal) q) (FloatOps.ofBits FTy.f32 1065353216#32) (FloatOps.ofBits FTy.f32 0#32)
    (ix2 r l) = oF M k0_pay3 H' q k v r l := by
  pointwise [k0_pay14, k0_pay13, k0_pay12, k0_pay11, k0_pay10, k0_pay9, k0_pay5, oF, oF1, lF, mF, sF]

/-- And the same logarithm. -/
theorem lseA : k0_pay23 (F := Ideal) H (k0_pay20 (F := Ideal) M H H' q k) (k0_pay22 (F := Ideal) M H H' q k) (ix2 r l) = lseF M H H' q k r l := by
  pointwise [k0_pay23, k0_pay22, k0_pay20, k0_pay19, k0_pay18, k0_pay17, k0_pay16, lseF, lF, mF, sF]
theorem lseB : k0_pay31 (F := Ideal) H (k0_pay26 (F := Ideal) M H H' q k) (k0_pay27 (F := Ideal) M H H' q k) (ix2 r l) = lseF M H H' q k r l := by
  pointwise [k0_pay31, k0_pay29, k0_pay28, k0_pay27, k0_pay26, k0_pay25, k0_pay24, lseF, lF, mF, sF]
theorem lseC : k0_pay41 (F := Ideal) M H H' (k0_pay32 (F := Ideal) q) (k0_pay33 (F := Ideal) k) (k0_pay35 (F := Ideal) H q) (FloatOps.ofBits FTy.f32 1065353216#32) (FloatOps.ofBits FTy.f32 0#32)
    (ix2 r l) = lseF M H H' q k r l := by
  pointwise [k0_pay41, k0_pay39, k0_pay38, k0_pay37, k0_pay36, k0_pay35, k0_pay33, k0_pay32, lseF, lF, mF, sF]
theorem lseD : k0_pay15 (F := Ideal) k0_pay3 H' (k0_pay5 (F := Ideal) q) k M (k0_pay9 (F := Ideal) q) (FloatOps.ofBits FTy.f32 1065353216#32) (FloatOps.ofBits FTy.f32 0#32)
    (ix2 r l) = lseF M k0_pay3 H' q k r l := by
  pointwise [k0_pay15, k0_pay13, k0_pay12, k0_pay11, k0_pay10, k0_pay9, k0_pay5, lseF, lF, mF, sF]

end Chains

section Reals

variable {M : IVec S128x256 1} {q : S128x128.Idx → EReal} {k v : S256x128.Idx → EReal} {Q K W : Fin 2 → Rows} {b : Fin 8}

/-- A masked score of real arrays. -/
theorem sF_real (hM : ∀ r κ, M (ix2 r κ) = if vis b r κ then 1#1 else 0#1) (hq : ∀ r h e, q (ix2 r (lane h e)) = (Q h (row b r) e : EReal))
    (hk : ∀ κ h e, k (ix2 κ (lane h e)) = (K h (kr b κ) e : EReal)) (h : Fin 2) (r : Fin 128) (κ : Fin 256) :
    sF M (headM h) q k r κ = sE (Q h) (K h) b r κ := by
  have hs : (∑ l, Scalar.select (headM h (ix2 r l)) (q (ix2 r l) * k (ix2 κ l)) 0) = (sc (Q h) (K h) b r κ : EReal) := by
    rw [sum_lanes]
    simp only [headM_at, hq, hk, ← EReal.coe_mul]
    unfold sc; rw [coe_sum]
    fin_cases h <;> simp [Scalar.select]
  unfold sF sE
  rw [hs, hM, lit_bot]
  split <;> simp [Scalar.select]

theorem mF_real (hM : ∀ r κ, M (ix2 r κ) = if vis b r κ then 1#1 else 0#1) (hq : ∀ r h e, q (ix2 r (lane h e)) = (Q h (row b r) e : EReal))
    (hk : ∀ κ h e, k (ix2 κ (lane h e)) = (K h (kr b κ) e : EReal)) (h : Fin 2) (r : Fin 128) :
    mF M (headM h) q k r = mE (Q h) (K h) b r := by
  unfold mF mE
  simp only [sF_real hM hq hk, lit_bot]
  exact fold_halves _ _

theorem lF_real (hM : ∀ r κ, M (ix2 r κ) = if vis b r κ then 1#1 else 0#1) (hq : ∀ r h e, q (ix2 r (lane h e)) = (Q h (row b r) e : EReal))
    (hk : ∀ κ h e, k (ix2 κ (lane h e)) = (K h (kr b κ) e : EReal)) (h : Fin 2) (r : Fin 128) :
    lF M (headM h) q k r = (lR (Q h) (K h) b r : EReal) := by
  unfold lF lR
  simp only [sF_real hM hq hk, mF_real hM hq hk, pR_coe]
  rw [coe_sum]
  exact sum_halves fun κ => (pR (Q h) (K h) b r κ : EReal)

/-- The block's output over real arguments. -/
theorem oF_real (hM : ∀ r κ, M (ix2 r κ) = if vis b r κ then 1#1 else 0#1) (hq : ∀ r h e, q (ix2 r (lane h e)) = (Q h (row b r) e : EReal))
    (hk : ∀ κ h e, k (ix2 κ (lane h e)) = (K h (kr b κ) e : EReal)) (hv : ∀ κ h e, v (ix2 κ (lane h e)) = (W h (kr b κ) e : EReal))
    (h : Fin 2) (r : Fin 128) (e : Fin 64) :
    oF M k0_pay3 k0_pay4 q k v r (lane h e) = (oR (Q h) (K h) (W h) b r e : EReal) := by
  have h1 : oF1 M (headM h) q k v r (lane h e) = (oR (Q h) (K h) (W h) b r e : EReal) := by
    unfold oF1 oR
    simp only [lF_real hM hq hk, sF_real hM hq hk, mF_real hM hq hk, pR_coe, hv, ← EReal.coe_mul, ← coe_sum]
    rw [div_real _ (lR_pos _ _ _ _).ne']
  have h0 := headM_at 0 h r e
  have hH : headM 0 = k0_pay3 := rfl
  have hH' : headM 1 = k0_pay4 := rfl
  unfold oF
  rw [← hH, h0, ← hH']
  fin_cases h
  · exact h1
  · exact h1

/-- The block's logarithm over real arguments. -/
theorem lseF_real (hM : ∀ r κ, M (ix2 r κ) = if vis b r κ then 1#1 else 0#1) (hq : ∀ r h e, q (ix2 r (lane h e)) = (Q h (row b r) e : EReal))
    (hk : ∀ κ h e, k (ix2 κ (lane h e)) = (K h (kr b κ) e : EReal)) (h : Fin 2) (r : Fin 128) (e : Fin 64) :
    lseF M k0_pay3 k0_pay4 q k r (lane h e) = (lseR (Q h) (K h) b r : EReal) := by
  have h1 : mF M (headM h) q k r + Ideal.log (lF M (headM h) q k r) = (lseR (Q h) (K h) b r : EReal) := by
    unfold lseR
    rw [lF_real hM hq hk, mF_real hM hq hk, mE_coe, Ideal.log_coe, if_neg (not_le.mpr (lR_pos _ _ _ _)), EReal.coe_add]
  have h0 := headM_at 0 h r e
  have hH : headM 0 = k0_pay3 := rfl
  have hH' : headM 1 = k0_pay4 := rfl
  unfold lseF
  rw [← hH, h0, ← hH']
  fin_cases h
  · exact h1
  · exact h1

end Reals

end Cert.AttnIdeal.Blocks

end
-- ==== Proof.AttnFwdOut.lean ====
/- What the attention's forward call leaves in its two result arrays, over real arguments: every grid point computes one pair of
   heads, eight query blocks. -/
module

public import proofs.«01_k».proof.Proof.AttnFwd

@[expose] public section

noncomputable section

namespace Cert.AttnIdeal.Blocks

open Cert.AttnIdeal Cert.AttnIdeal.Gen Idealize.ShloMosaic Idealize.ShloMosaic.TcCoe Idealize.SL.Sem Cert.AttnMath Cert.Lift
open Idealize.ShloMosaic.Pipeline (Dat)

/-- The head whose column it is, and the column's place in the head. -/
def hd (J : Fin 6144) : Fin 96 := ⟨J.val / 64, by omega⟩
def ln (J : Fin 6144) : Fin 64 := ⟨J.val % 64, by omega⟩

/-- The block whose row it is, and the row's place in the block. -/
def bl (R : Fin 1024) : Fin 8 := ⟨R.val / 128, by omega⟩
def rw' (R : Fin 1024) : Fin 128 := ⟨R.val % 128, by omega⟩

/-- The array of all heads' rows. -/
def arr (Q : Fin 96 → Rows) (i : S1024x6144.Idx) : EReal := (Q (hd (i 1)) (i 0) (ln (i 1)) : ℝ)

/-- A pair of heads. -/
def pair (Q : Fin 96 → Rows) (t : Fin cfg0.N) (h : Fin 2) : Rows := Q ⟨2 * t.val + h.val, by have h1 := t.isLt; have h2 : cfg0.N = 48 := rfl; omega⟩

variable (V : (c : Dev nD) → (b : Ref sig .tc) → Buf (Elt Ideal) ((c : Thread nD τ).loc b))

theorem idx0_0 : ∀ t : Fin cfg0.N, win0_0.index t = ![0, t.val] := (by decide +kernel : ∀ t : Fin grid0.N, _)
theorem idx0_1 : ∀ t : Fin cfg0.N, win0_1.index t = ![0, t.val] := (by decide +kernel : ∀ t : Fin grid0.N, _)
theorem idx0_2 : ∀ t : Fin cfg0.N, win0_2.index t = ![0, t.val] := (by decide +kernel : ∀ t : Fin grid0.N, _)
theorem idx0_3 : ∀ t : Fin cfg0.N, win0_3.index t = ![0, t.val] := (by decide +kernel : ∀ t : Fin grid0.N, _)
theorem idx0_4 : ∀ t : Fin cfg0.N, win0_4.index t = ![0, t.val] := (by decide +kernel : ∀ t : Fin grid0.N, _)
theorem idx0_5 : ∀ t : Fin cfg0.N, win0_5.index t = ![0, t.val] := (by decide +kernel : ∀ t : Fin grid0.N, _)
theorem idx0_6 : ∀ t : Fin cfg0.N, win0_6.index t = ![0, t.val] := (by decide +kernel : ∀ t : Fin grid0.N, _)

theorem lt_cols (t : Fin cfg0.N) (l : Fin 128) : 128 * t.val + l.val < 6144 := by
  have h1 := t.isLt; have h2 : cfg0.N = 48 := rfl; have := l.isLt; omega

/-- An array of heads at a lane of a pair. -/
theorem arr_at (Q : Fin 96 → Rows) (t : Fin cfg0.N) (R : Fin 1024) (h : Fin 2) (e : Fin 64) (hJ : 128 * t.val + (lane h e).val < 6144) :
    arr Q (ix2 R ⟨128 * t.val + (lane h e).val, hJ⟩) = Real.toEReal (pair Q t h R e) := by
  have hl : (lane h e).val = 64 * h.val + e.val := rfl
  have he := e.isLt
  unfold arr pair
  refine congrArg Real.toEReal (congr (congr (congrArg Q (Fin.ext ?_)) rfl) (Fin.ext ?_))
  · show (128 * t.val + (lane h e).val) / 64 = 2 * t.val + h.val; omega
  · show (128 * t.val + (lane h e).val) % 64 = e.val; omega

variable (c : Dev nD) {Q K W : Fin 96 → Rows}

theorem blk0_0 (hV : V c main_v3 = arr Q) (t : Fin cfg0.N) (R : Fin 1024) (h : Fin 2) (e : Fin 64) :
    (iblk0 V c 0 t : S1024x128.Idx → EReal) (ix2 R (lane h e)) = Real.toEReal (pair Q t h R e) := by
  have hlt := lt_cols t (lane h e)
  refine Eq.trans ?_ ((congrFun hV _).trans (arr_at Q t R h e hlt))
  blk_point [iblk0, idx0_0]

theorem blk0_1 (hV : V c main_v5 = arr K) (t : Fin cfg0.N) (R : Fin 1024) (h : Fin 2) (e : Fin 64) :
    (iblk0 V c 1 t : S1024x128.Idx → EReal) (ix2 R (lane h e)) = Real.toEReal (pair K t h R e) := by
  have hlt := lt_cols t (lane h e)
  refine Eq.trans ?_ ((congrFun hV _).trans (arr_at K t R h e hlt))
  blk_point [iblk0, idx0_1]

theorem blk0_3 (hV : V c main_v5 = arr K) (t : Fin cfg0.N) (r : Fin 128) (h : Fin 2) (e : Fin 64) :
    (iblk0 V c 3 t : S128x128.Idx → EReal) (ix2 r (lane h e)) = Real.toEReal (pair K t h ⟨r.val, by omega⟩ e) := by
  have hlt := lt_cols t (lane h e)
  refine Eq.trans ?_ ((congrFun hV _).trans (arr_at K t ⟨r.val, by omega⟩ h e hlt))
  blk_point [iblk0, idx0_3]

theorem blk0_2 (hV : V c main_v7 = arr K) (t : Fin cfg0.N) (R : Fin 1024) (h : Fin 2) (e : Fin 64) :
    (iblk0 V c 2 t : S1024x128.Idx → EReal) (ix2 R (lane h e)) = Real.toEReal (pair K t h R e) := by
  have hlt := lt_cols t (lane h e)
  refine Eq.trans ?_ ((congrFun hV _).trans (arr_at K t R h e hlt))
  blk_point [iblk0, idx0_2]

theorem blk0_4 (hV : V c main_v7 = arr K) (t : Fin cfg0.N) (r : Fin 128) (h : Fin 2) (e : Fin 64) :
    (iblk0 V c 4 t : S128x128.Idx → EReal) (ix2 r (lane h e)) = Real.toEReal (pair K t h ⟨r.val, by omega⟩ e) := by
  have hlt := lt_cols t (lane h e)
  refine Eq.trans ?_ ((congrFun hV _).trans (arr_at K t ⟨r.val, by omega⟩ h e hlt))
  blk_point [iblk0, idx0_4]

/-- Rows loaded from a block: the block's own query rows. -/
theorem ld_rows {A : Fin 2 → Rows} {e' : EltTy} {X : S1024x128.Idx → Elt Ideal e'} (f : Elt Ideal e' → EReal)
    (hX : ∀ R h e, f (X (ix2 R (lane h e))) = Real.toEReal (A h R e)) (b : Fin 8) {off : ℕ}
    {hoff : ∀ a, (![off, 0] : Fin 2 → ℕ) a + (![128, 128] : Fin 2 → ℕ) a ≤ S1024x128.size a} (ho : off = 128 * b.val) (r : Fin 128) (h : Fin 2) (e : Fin 64) :
    f (View.ld X (Rect.unit (s := S1024x128) ![off, 0] ![128, 128] hoff) (ix2 r (lane h e))) = Real.toEReal (A h (row b r) e) := by
  refine Eq.trans (congrArg f ?_) (hX (row b r) h e)
  refine congrArg X ?_
  funext a
  fin_cases a
  · apply Fin.ext; subst ho; simp [Rect.unit, row]
  · apply Fin.ext; simp [Rect.unit]

/-- Rows loaded from a block: the window of a query block that is not the first. -/
theorem ld_window {A : Fin 2 → Rows} {e' : EltTy} {X : S1024x128.Idx → Elt Ideal e'} (f : Elt Ideal e' → EReal)
    (hX : ∀ R h e, f (X (ix2 R (lane h e))) = Real.toEReal (A h R e)) (b : Fin 8) (hb : 0 < b.val) {off : ℕ}
    {hoff : ∀ a, (![off, 0] : Fin 2 → ℕ) a + (![256, 128] : Fin 2 → ℕ) a ≤ S1024x128.size a} (ho : off = 128 * (b.val - 1)) (κ : Fin 256) (h : Fin 2) (e : Fin 64) :
    f (View.ld X (Rect.unit (s := S1024x128) ![off, 0] ![256, 128] hoff) (ix2 κ (lane h e))) = Real.toEReal (A h (kr b κ) e) := by
  refine Eq.trans (congrArg f ?_) (hX (kr b κ) h e)
  refine congrArg X ?_
  funext a
  fin_cases a
  · apply Fin.ext; subst ho; simp [Rect.unit, kr, hb.ne']
  · apply Fin.ext; simp [Rect.unit]

/-- The first query block's window. -/
theorem win0_at {A : Fin 2 → Rows} (a b : Vec Ideal S128x128 .bf16)
    (ha : ∀ r h e, (a : S128x128.Idx → EReal) (ix2 r (lane h e)) = Real.toEReal (A h ⟨r.val, by omega⟩ e))
    (hb : ∀ r h e, (b : S128x128.Idx → EReal) (ix2 r (lane h e)) = Real.toEReal (A h (row 0 r) e)) (κ : Fin 256) (h : Fin 2) (e : Fin 64) :
    (k0_pay6 (F := Ideal) a b : S256x128.Idx → EReal) (ix2 κ (lane h e)) = Real.toEReal (A h (kr 0 κ) e) := by
  pointwise [k0_pay6]
  split
  · rename_i hκ
    refine (ha ⟨κ.val, hκ⟩ h e).trans (congrArg Real.toEReal (congrArg (A h · e) (Fin.ext ?_)))
    show κ.val = κ.val % 128; omega
  · rename_i hκ
    refine (hb ⟨κ.val - 128, by omega⟩ h e).trans (congrArg Real.toEReal (congrArg (A h · e) (Fin.ext ?_)))
    show 128 * 0 + (κ.val - 128) = κ.val % 128; omega

/-- A place of a block of results, from the tile that holds it. -/
theorem close {O : Fin 2 → Rows} {P : Fin 2 → Fin 8 → Fin 128 → Fin 64 → ℝ} (hO : ∀ h b r e, O h (row b r) e = P h b r e) (b : Fin 8) (x : S128x128.Idx)
    (f : S128x128.Idx → EReal) (hf : ∀ r h e, f (ix2 r (lane h e)) = Real.toEReal (P h b r e)) {R : Fin 1024} {h : Fin 2} {e : Fin 64}
    (h0 : R.val = 128 * b.val + (x 0).val) (h1 : (lane h e).val = (x 1).val) : f x = Real.toEReal (O h R e) := by
  obtain ⟨r, l, rfl⟩ : ∃ (r l : Fin 128), x = ix2 r l := ⟨x 0, x 1, (ix2_eta x).symm⟩
  obtain rfl : l = lane h e := Fin.ext h1.symm
  exact (hf r h e).trans (congrArg Real.toEReal ((hO h b r e).symm.trans (congrArg (O h · e) (Fin.ext h0.symm))))

theorem row_bl (R : Fin 1024) : row (bl R) (rw' R) = R := Fin.ext (by simp only [row, bl, rw']; omega)
theorem bl_row (b : Fin 8) (r : Fin 128) : bl (row b r) = b := Fin.ext (by simp only [row, bl]; omega)
theorem rw_row (b : Fin 8) (r : Fin 128) : rw' (row b r) = r := Fin.ext (by simp only [row, rw']; omega)

/-- The output of every head. -/
def outR (Q K W : Fin 96 → Rows) : Fin 96 → Rows := fun g R e => oR (Q g) (K g) (W g) (bl R) (rw' R) e

/-- The logarithm of every head, at each of the head's columns. -/
def logR (Q K : Fin 96 → Rows) : Fin 96 → Rows := fun g R _ => lseR (Q g) (K g) (bl R) (rw' R)

/-- The forward call's output. -/
theorem fwd_o (hQ : V c main_v3 = arr Q) (hK : V c main_v5 = arr K) (hW : V c main_v7 = arr W) :
    (dat0 V c).arrAt 5 cfg0.N = arr (outR Q K W) := by
  refine (dat0 V c).arrAt_eq_of_covers 5 _ (by decide +kernel) fun t hf y => ?_
  blk_simp
  rw [after0_5]
  obtain ⟨R, l, rfl⟩ : ∃ (R : Fin 1024) (l : Fin 128), y = ix2 R l := ⟨y 0, y 1, (ix2_eta y).symm⟩
  obtain ⟨h, e, rfl⟩ := lane_cases l
  have hlt := lt_cols t (lane h e)
  refine Eq.trans ?_ ((arr_at (outR Q K W) t R h e hlt).symm.trans ?_)
  rotate_left
  · blk_point [idx0_5]
  have close := @close (pair (outR Q K W) t) (fun h b r e => oR (pair Q t h) (pair K t h) (pair W t h) b r e)
    (fun h b r e => by simp only [pair, outR, bl_row, rw_row])
  unfold outsAt0
  frame_out
  canon_tiles x h
  case piece0 =>
    exact close 7 x _ (fun r h e => (oA ..).trans (oF_real (mask_at 7 (by decide)) (fun r h e => ld_rows (e' := .bf16) id (blk0_0 V c hQ t) 7 rfl r h e)
      (fun κ h e => ld_window (e' := .bf16) id (blk0_1 V c hK t) 7 (by decide) rfl κ h e) (fun κ h e => ld_window (e' := .bf16) id (blk0_2 V c hW t) 7 (by decide) rfl κ h e) h r e)) h0 h1
  case piece1 =>
    exact close 6 x _ (fun r h e => (oC ..).trans (oF_real (mask_at 6 (by decide)) (fun r h e => ld_rows (e' := .bf16) id (blk0_0 V c hQ t) 6 rfl r h e)
      (fun κ h e => ld_window (e' := .bf16) id (blk0_1 V c hK t) 6 (by decide) rfl κ h e) (fun κ h e => ld_window (e' := .bf16) id (blk0_2 V c hW t) 6 (by decide) rfl κ h e) h r e)) h0 h1
  case piece2 =>
    exact close 5 x _ (fun r h e => (oB ..).trans (oF_real (mask_at 5 (by decide)) (fun r h e => ld_rows (e' := .bf16) id (blk0_0 V c hQ t) 5 rfl r h e)
      (fun κ h e => ld_window (e' := .bf16) id (blk0_1 V c hK t) 5 (by decide) rfl κ h e) (fun κ h e => ld_window (e' := .bf16) id (blk0_2 V c hW t) 5 (by decide) rfl κ h e) h r e)) h0 h1
  case piece3 =>
    exact close 4 x _ (fun r h e => (oA ..).trans (oF_real (mask_at 4 (by decide)) (fun r h e => ld_rows (e' := .bf16) id (blk0_0 V c hQ t) 4 rfl r h e)
      (fun κ h e => ld_window (e' := .bf16) id (blk0_1 V c hK t) 4 (by decide) rfl κ h e) (fun κ h e => ld_window (e' := .bf16) id (blk0_2 V c hW t) 4 (by decide) rfl κ h e) h r e)) h0 h1
  case piece4 =>
    exact close 3 x _ (fun r h e => (oC ..).trans (oF_real (mask_at 3 (by decide)) (fun r h e => ld_rows (e' := .bf16) id (blk0_0 V c hQ t) 3 rfl r h e)
      (fun κ h e => ld_window (e' := .bf16) id (blk0_1 V c hK t) 3 (by decide) rfl κ h e) (fun κ h e => ld_window (e' := .bf16) id (blk0_2 V c hW t) 3 (by decide) rfl κ h e) h r e)) h0 h1
  case piece5 =>
    exact close 2 x _ (fun r h e => (oB ..).trans (oF_real (mask_at 2 (by decide)) (fun r h e => ld_rows (e' := .bf16) id (blk0_0 V c hQ t) 2 rfl r h e)
      (fun κ h e => ld_window (e' := .bf16) id (blk0_1 V c hK t) 2 (by decide) rfl κ h e) (fun κ h e => ld_window (e' := .bf16) id (blk0_2 V c hW t) 2 (by decide) rfl κ h e) h r e)) h0 h1
  case piece6 =>
    exact close 1 x _ (fun r h e => (oA ..).trans (oF_real (mask_at 1 (by decide)) (fun r h e => ld_rows (e' := .bf16) id (blk0_0 V c hQ t) 1 rfl r h e)
      (fun κ h e => ld_window (e' := .bf16) id (blk0_1 V c hK t) 1 (by decide) rfl κ h e) (fun κ h e => ld_window (e' := .bf16) id (blk0_2 V c hW t) 1 (by decide) rfl κ h e) h r e)) h0 h1
  case piece7 =>
    exact close 0 x _ (fun r h e => (oD ..).trans (oF_real (mask0_at t) (fun r h e => ld_rows (e' := .bf16) id (blk0_0 V c hQ t) 0 rfl r h e)
      (win0_at _ _ (blk0_3 V c hK t) (fun r h e => ld_rows (e' := .bf16) id (blk0_1 V c hK t) 0 rfl r h e)) (win0_at _ _ (blk0_4 V c hW t) (fun r h e => ld_rows (e' := .bf16) id (blk0_2 V c hW t) 0 rfl r h e)) h r e)) (h0.trans (by simp)) h1

/-- The forward call's logarithms. -/
theorem fwd_lse (hQ : V c main_v3 = arr Q) (hK : V c main_v5 = arr K) :
    (dat0 V c).arrAt 6 cfg0.N = arr (logR Q K) := by
  refine (dat0 V c).arrAt_eq_of_covers 6 _ (by decide +kernel) fun t hf y => ?_
  blk_simp
  rw [after0_6]
  obtain ⟨R, l, rfl⟩ : ∃ (R : Fin 1024) (l : Fin 128), y = ix2 R l := ⟨y 0, y 1, (ix2_eta y).symm⟩
  obtain ⟨h, e, rfl⟩ := lane_cases l
  have hlt := lt_cols t (lane h e)
  refine Eq.trans ?_ ((arr_at (logR Q K) t R h e hlt).symm.trans ?_)
  rotate_left
  · blk_point [idx0_6]
  have close := @close (pair (logR Q K) t) (fun h b r e => lseR (pair Q t h) (pair K t h) b r)
    (fun h b r e => by simp only [pair, logR, bl_row, rw_row])
  unfold outsAt0
  frame_out
  canon_tiles x h
  case piece0 =>
    exact close 7 x _ (fun r h e => (lseA ..).trans (lseF_real (mask_at 7 (by decide)) (fun r h e => ld_rows (e' := .bf16) id (blk0_0 V c hQ t) 7 rfl r h e)
      (fun κ h e => ld_window (e' := .bf16) id (blk0_1 V c hK t) 7 (by decide) rfl κ h e) h r e)) h0 h1
  case piece1 =>
    exact close 6 x _ (fun r h e => (lseC ..).trans (lseF_real (mask_at 6 (by decide)) (fun r h e => ld_rows (e' := .bf16) id (blk0_0 V c hQ t) 6 rfl r h e)
      (fun κ h e => ld_window (e' := .bf16) id (blk0_1 V c hK t) 6 (by decide) rfl κ h e) h r e)) h0 h1
  case piece2 =>
    exact close 5 x _ (fun r h e => (lseB ..).trans (lseF_real (mask_at 5 (by decide)) (fun r h e => ld_rows (e' := .bf16) id (blk0_0 V c hQ t) 5 rfl r h e)
      (fun κ h e => ld_window (e' := .bf16) id (blk0_1 V c hK t) 5 (by decide) rfl κ h e) h r e)) h0 h1
  case piece3 =>
    exact close 4 x _ (fun r h e => (lseA ..).trans (lseF_real (mask_at 4 (by decide)) (fun r h e => ld_rows (e' := .bf16) id (blk0_0 V c hQ t) 4 rfl r h e)
      (fun κ h e => ld_window (e' := .bf16) id (blk0_1 V c hK t) 4 (by decide) rfl κ h e) h r e)) h0 h1
  case piece4 =>
    exact close 3 x _ (fun r h e => (lseC ..).trans (lseF_real (mask_at 3 (by decide)) (fun r h e => ld_rows (e' := .bf16) id (blk0_0 V c hQ t) 3 rfl r h e)
      (fun κ h e => ld_window (e' := .bf16) id (blk0_1 V c hK t) 3 (by decide) rfl κ h e) h r e)) h0 h1
  case piece5 =>
    exact close 2 x _ (fun r h e => (lseB ..).trans (lseF_real (mask_at 2 (by decide)) (fun r h e => ld_rows (e' := .bf16) id (blk0_0 V c hQ t) 2 rfl r h e)
      (fun κ h e => ld_window (e' := .bf16) id (blk0_1 V c hK t) 2 (by decide) rfl κ h e) h r e)) h0 h1
  case piece6 =>
    exact close 1 x _ (fun r h e => (lseA ..).trans (lseF_real (mask_at 1 (by decide)) (fun r h e => ld_rows (e' := .bf16) id (blk0_0 V c hQ t) 1 rfl r h e)
      (fun κ h e => ld_window (e' := .bf16) id (blk0_1 V c hK t) 1 (by decide) rfl κ h e) h r e)) h0 h1
  case piece7 =>
    exact close 0 x _ (fun r h e => (lseD ..).trans (lseF_real (mask0_at t) (fun r h e => ld_rows (e' := .bf16) id (blk0_0 V c hQ t) 0 rfl r h e)
      (win0_at _ _ (blk0_3 V c hK t) (fun r h e => ld_rows (e' := .bf16) id (blk0_1 V c hK t) 0 rfl r h e)) h r e)) (h0.trans (by simp)) h1

end Cert.AttnIdeal.Blocks

end
-- ==== Proof.AttnBwd.lean ====
/- One query block of the attention's backward call: what the kernel's operations on a pair of heads leave, as formulas over
   extended reals in which the pair's rows are stacked, and those formulas over real arguments. -/
module

public import proofs.«01_k».proof.Proof.AttnFwdOut

@[expose] public section

noncomputable section

namespace Cert.AttnIdeal.Blocks

open Cert.AttnIdeal Cert.AttnIdeal.Gen Idealize.ShloMosaic Idealize.ShloMosaic.TcCoe Idealize.SL.Sem Cert.AttnMath Cert.Lift

/-- The rows of the pair's heads one under the other, each kept on its own lanes. -/
def st (H H' : IVec S128x128 1) (q : S128x128.Idx → EReal) (x : Fin 256) (l : Fin 128) : EReal :=
  if h : x.val < 128 then Scalar.select (H (ix2 ⟨x.val, h⟩ l)) (q (ix2 ⟨x.val, h⟩ l)) 0
  else Scalar.select (H' (ix2 ⟨x.val - 128, by omega⟩ l)) (q (ix2 ⟨x.val - 128, by omega⟩ l)) 0

/-- The largest value of a row on a head's lanes. -/
def mx (H : IVec S128x128 1) (s : S128x128.Idx → EReal) (r : Fin 128) : EReal :=
  Finset.univ.fold max (Ideal.ofBits .f32 0xFF800000#32) fun x => Scalar.select (H (ix2 r x)) (s (ix2 r x)) (Ideal.ofBits .f32 0xFF800000#32)

/-- These values of the pair's heads, stacked. -/
def co (H H' : IVec S128x128 1) (s : S128x128.Idx → EReal) (x : Fin 256) : EReal :=
  if h : x.val < 128 then mx H s ⟨x.val, h⟩ else mx H' s ⟨x.val - 128, by omega⟩

/-- The attention's weights. -/
def pF (M : IVec S128x256 1) (H H' : IVec S128x128 1) (q s : S128x128.Idx → EReal) (k : S256x128.Idx → EReal) (x κ : Fin 256) : EReal :=
  Scalar.select (if h : x.val < 128 then M (ix2 ⟨x.val, h⟩ κ) else M (ix2 ⟨x.val - 128, by omega⟩ κ))
    (Ideal.exp ((∑ l, st H H' q x l * k (ix2 κ l)) - co H H' s x)) 0

/-- The gradients of the scores. -/
def dsF (M : IVec S128x256 1) (H H' : IVec S128x128 1) (q d s u : S128x128.Idx → EReal) (k v : S256x128.Idx → EReal) (x κ : Fin 256) : EReal :=
  pF M H H' q s k x κ * ((∑ l, st H H' d x l * v (ix2 κ l)) - co H H' u x)

/-- The gradient of the queries. -/
def dqF (M : IVec S128x256 1) (H H' : IVec S128x128 1) (q d s u : S128x128.Idx → EReal) (k v : S256x128.Idx → EReal) (r l : Fin 128) : EReal :=
  (∑ κ, Scalar.select (IntOp.cmpi CmpIPredicate.slt (BitVec.ofNat 32 l.val) 64#32) (dsF M H H' q d s u k v ⟨r.val, by omega⟩ κ * k (ix2 κ l)) 0)
  + ∑ κ, Scalar.select (IntOp.xori (IntOp.cmpi CmpIPredicate.slt (BitVec.ofNat 32 l.val) 64#32) 1#1)
      (dsF M H H' q d s u k v ⟨128 + r.val, by omega⟩ κ * k (ix2 κ l)) 0

/-- What the block adds to the gradients of its window's keys and values. -/
def dkF (M : IVec S128x256 1) (H H' : IVec S128x128 1) (q d s u : S128x128.Idx → EReal) (k v : S256x128.Idx → EReal) (κ : Fin 256) (l : Fin 128) : EReal :=
  ∑ x, dsF M H H' q d s u k v x κ * st H H' q x l
def dvF (M : IVec S128x256 1) (H H' : IVec S128x128 1) (q d s : S128x128.Idx → EReal) (k : S256x128.Idx → EReal) (κ : Fin 256) (l : Fin 128) : EReal :=
  ∑ x, pF M H H' q s k x κ * st H H' d x l

section Chains

variable (M : IVec S128x256 1) (H H' : IVec S128x128 1) (q d : FVec Ideal S128x128 .bf16) (s u : FVec Ideal S128x128 .f32) (k v : FVec Ideal S256x128 .bf16) (r l : Fin 128) (κ : Fin 256)

/-- The kernel's words at the second query block. -/
theorem stA (x : Fin 256) : k1_pay35 (F := Ideal) H H' d (ix2 x l) = st H H' d x l := by
  pointwise [k1_pay35, st]
theorem stA' (x : Fin 256) : k1_pay34 (F := Ideal) H' q (k1_pay33 (F := Ideal) H) (ix2 x l) = st H H' q x l := by
  pointwise [k1_pay34, k1_pay33, st]
theorem coA (x : Fin 256) : k1_pay36 (F := Ideal) H H' u (ix2 x 0) = co H H' u x := by
  pointwise [k1_pay36, co, mx]
theorem pA (x : Fin 256) : k1_pay37 (F := Ideal) M H H' q s k (k1_pay33 (F := Ideal) H) (ix2 x κ) = pF M H H' q s k x κ := by
  pointwise [k1_pay37, k1_pay33, k1_pay34, pF, st, co, mx]
theorem dqA : k1_pay39 (F := Ideal) k v (k1_pay35 (F := Ideal) H H' d) (k1_pay36 (F := Ideal) H H' u) (k1_pay37 (F := Ideal) M H H' q s k (k1_pay33 (F := Ideal) H)) (ix2 r l)
    = dqF M H H' q d s u k v r l := by
  pointwise [k1_pay39, k1_pay38, dqF, dsF, stA, coA, pA]
theorem dkA (a : Vec Ideal S256x128 .f32) : k1_pay40 (F := Ideal) v (k1_pay34 (F := Ideal) H' q (k1_pay33 (F := Ideal) H)) (k1_pay35 (F := Ideal) H H' d) (k1_pay36 (F := Ideal) H H' u)
      (k1_pay37 (F := Ideal) M H H' q s k (k1_pay33 (F := Ideal) H)) a (ix2 κ l)
    = a (ix2 κ l) + dkF M H H' q d s u k v κ l := by
  pointwise [k1_pay40, k1_pay38, dkF, dsF, stA, stA', coA, pA]
theorem dvA (a : Vec Ideal S256x128 .f32) : k1_pay41 (F := Ideal) (k1_pay35 (F := Ideal) H H' d)
      (k1_pay37 (F := Ideal) M H H' q s k (k1_pay33 (F := Ideal) H)) a (ix2 κ l)
    = a (ix2 κ l) + dvF M H H' q d s k κ l := by
  pointwise [k1_pay41, dvF, stA, pA]

/-- The first query block's. -/
theorem stD (x : Fin 256) : k1_pay18 (F := Ideal) H H' d (ix2 x l) = st H H' d x l := by
  pointwise [k1_pay18, st]
theorem stD' (x : Fin 256) : k1_pay17 (F := Ideal) H H' q (ix2 x l) = st H H' q x l := by
  pointwise [k1_pay17, st]
theorem coD (x : Fin 256) : k1_pay19 (F := Ideal) H H' u (ix2 x 0) = co H H' u x := by
  pointwise [k1_pay19, co, mx]
theorem pD (x : Fin 256) : k1_pay20 (F := Ideal) k M (k1_pay17 (F := Ideal) H H' q) (k1_pay19 (F := Ideal) H H' s) (ix2 x κ) = pF M H H' q s k x κ := by
  pointwise [k1_pay20, k1_pay19, k1_pay17, pF, st, co, mx]
theorem dsD (x : Fin 256) : k1_pay21 (F := Ideal) H H' u k v M (k1_pay17 (F := Ideal) H H' q) (k1_pay18 (F := Ideal) H H' d) (k1_pay19 (F := Ideal) H H' s)
      (Ideal.ofBits FTy.f32 4286578688#32) (ix2 x κ) = dsF M H H' q d s u k v x κ := by
  pointwise [k1_pay21, dsF, stD, pD, co, mx]
theorem dqD : k1_pay22 (F := Ideal) H H' u k v M (k1_pay17 (F := Ideal) H H' q) (k1_pay18 (F := Ideal) H H' d) (k1_pay19 (F := Ideal) H H' s)
      (FloatOps.ofBits FTy.f32 4286578688#32) (ix2 r l) = dqF M H H' q d s u k v r l := by
  pointwise [k1_pay22, dqF, dsD]
theorem dkD (a : Vec Ideal S128x128 .f32) : k1_pay25 (F := Ideal) (k1_pay23 (F := Ideal) H H' u k v M (k1_pay17 (F := Ideal) H H' q) (k1_pay18 (F := Ideal) H H' d) (k1_pay19 (F := Ideal) H H' s)
      (FloatOps.ofBits FTy.f32 4286578688#32)) a (ix2 r l) = a (ix2 r l) + dkF M H H' q d s u k v ⟨128 + r.val, by omega⟩ l := by
  pointwise [k1_pay25, k1_pay23, dkF, dsD, stD']
theorem dvD (a : Vec Ideal S128x128 .f32) : k1_pay26 (F := Ideal) (k1_pay24 (F := Ideal) k M (k1_pay17 (F := Ideal) H H' q) (k1_pay18 (F := Ideal) H H' d) (k1_pay19 (F := Ideal) H H' s))
      a (ix2 r l) = a (ix2 r l) + dvF M H H' q d s k ⟨128 + r.val, by omega⟩ l := by
  pointwise [k1_pay26, k1_pay24, dvF, pD, stD]

/-- The block after the last one of the rows: its queries are all masked, and nothing is added. -/
theorem dkL (N : IVec S128x128 1) (X : FVec Ideal S256x128 .bf16) (X' : FVec Ideal S256x128 .bf16) (k' v' : FVec Ideal S128x128 .bf16) (y : FVec Ideal S256x1 .f32) (y' : FVec Ideal S128x1 .f32) (z) (a : Vec Ideal S128x128 .f32)
    (hN : ∀ r l, N (ix2 r l) = 0#1) :
    k1_pay152 (F := Ideal) H' u k' v' N X X' y y' z a (ix2 r l) = a (ix2 r l) := by
  pointwise [k1_pay152, k1_pay150]
  simp [hN, Scalar.select]
theorem dvL (N : IVec S128x128 1) (X : FVec Ideal S256x128 .bf16) (X' : FVec Ideal S256x128 .bf16) (k' : FVec Ideal S128x128 .bf16) (y : FVec Ideal S256x1 .f32) (a : Vec Ideal S128x128 .f32)
    (hN : ∀ r l, N (ix2 r l) = 0#1) :
    k1_pay1 (F := Ideal) (k1_pay151 (F := Ideal) k' N X X' y) a (ix2 r l) = a (ix2 r l) := by
  pointwise [k1_pay1, k1_pay151, k1_pay150]
  simp [hN, Scalar.select]

end Chains

section Reals

theorem head1_0 : k1_pay5 = headM 0 := rfl
theorem head1_1 : k1_pay6 = headM 1 := rfl

theorem mask1_at (b : Fin 8) (hb : 0 < b.val) (r : Fin 128) (κ : Fin 256) : k1_pay2 (ix2 r κ) = if vis b r κ then 1#1 else 0#1 := mask_at b hb r κ

theorem mask1_0_at (t : Fin cfg1.N) (r : Fin 128) (κ : Fin 256) :
    k1_pay16 (BitVec.ofNat 32 (grid1.coords t 1).val) k1_pay2 k1_pay4 (ix2 r κ) = if vis 0 r κ then 1#1 else 0#1 := mask0_at t r κ

theorem mask1_last (t : Fin cfg1.N) (r l : Fin 128) : k1_pay145 (BitVec.ofNat 32 (grid1.coords t 1).val) k1_pay3 (ix2 r l) = 0#1 := by
  pointwise [k1_pay145]
  show IntOp.andi _ (Scalar.cmpi CmpIPredicate.slt 0#32 0#32) = 0#1
  generalize k1_pay3 (ix2 r l) = x
  revert x; decide

/-- Row `r` of head `h` in the stack. -/
def stk (h : Fin 2) (r : Fin 128) : Fin 256 := ⟨128 * h.val + r.val, by omega⟩

theorem sum_stk {M : Type*} [AddCommMonoid M] (f : Fin 256 → M) : ∑ x, f x = (∑ r, f (stk 0 r)) + ∑ r, f (stk 1 r) := by
  refine (Fin.sum_univ_add (a := 128) (b := 128) f).trans (congrArg₂ _ ?_ ?_) <;>
    exact Finset.sum_congr rfl fun e _ => congrArg f (Fin.ext (by simp [stk, Nat.add_comm]))

variable {M : IVec S128x256 1} {q d s u : S128x128.Idx → EReal} {k v : S256x128.Idx → EReal} {Q K W D : Fin 2 → Rows} {S U : Fin 2 → Fin 1024 → ℝ} {b : Fin 8}

theorem st_stk (H H' : IVec S128x128 1) (h : Fin 2) (r l : Fin 128) :
    st H H' q (stk h r) l = Scalar.select ((if h = 0 then H else H') (ix2 r l)) (q (ix2 r l)) 0 := by
  unfold st stk
  fin_cases h
  · have : 128 * 0 + r.val < 128 := by omega
    simp
  · simp

theorem st_real (hq : ∀ r h e, q (ix2 r (lane h e)) = Real.toEReal (Q h (row b r) e)) (h h' : Fin 2) (r : Fin 128) (e : Fin 64) :
    st (headM 0) (headM 1) q (stk h r) (lane h' e) = Real.toEReal (if h' = h then Q h (row b r) e else 0) := by
  have e1 : (if h = 0 then headM 0 else headM 1) = headM h := by fin_cases h <;> rfl
  rw [st_stk, e1, headM_at, hq]
  by_cases c : h' = h
  · subst c; simp [Scalar.select]
  · simp [c, Scalar.select]

theorem mx_real (hs : ∀ r h e, s (ix2 r (lane h e)) = Real.toEReal (S h (row b r))) (h : Fin 2) (r : Fin 128) :
    mx (headM h) s r = Real.toEReal (S h (row b r)) := by
  unfold mx
  rw [lit_bot]
  refine le_antisymm ?_ ?_
  · rw [Finset.fold_max_le]
    refine ⟨bot_le, fun x _ => ?_⟩
    obtain ⟨h', e, rfl⟩ := lane_cases x
    rw [headM_at, hs]
    by_cases c : h' = h
    · subst c; simp [Scalar.select]
    · simp [c, Scalar.select]
  · rw [Finset.le_fold_max]
    refine .inr ⟨lane h 0, Finset.mem_univ _, ?_⟩
    rw [headM_at, hs]
    simp [Scalar.select]

theorem co_real (hs : ∀ r h e, s (ix2 r (lane h e)) = Real.toEReal (S h (row b r))) (h : Fin 2) (r : Fin 128) :
    co (headM 0) (headM 1) s (stk h r) = Real.toEReal (S h (row b r)) := by
  have e1 : co (headM 0) (headM 1) s (stk h r) = mx (headM h) s r := by
    unfold co stk
    fin_cases h <;> simp
  rw [e1, mx_real hs]

theorem dot_real (hq : ∀ r h e, q (ix2 r (lane h e)) = Real.toEReal (Q h (row b r) e)) (hk : ∀ κ h e, k (ix2 κ (lane h e)) = Real.toEReal (K h (kr b κ) e))
    (h : Fin 2) (r : Fin 128) (κ : Fin 256) :
    ∑ l, st (headM 0) (headM 1) q (stk h r) l * k (ix2 κ l) = Real.toEReal (∑ e, Q h (row b r) e * K h (kr b κ) e) := by
  rw [sum_lanes]
  simp only [st_real hq, hk, ← EReal.coe_mul]
  rw [coe_sum]
  fin_cases h <;> simp

theorem pF_real (hM : ∀ r κ, M (ix2 r κ) = if vis b r κ then 1#1 else 0#1) (hq : ∀ r h e, q (ix2 r (lane h e)) = Real.toEReal (Q h (row b r) e))
    (hs : ∀ r h e, s (ix2 r (lane h e)) = Real.toEReal (lseR (Q h) (K h) (bl (row b r)) (rw' (row b r)))) (hk : ∀ κ h e, k (ix2 κ (lane h e)) = Real.toEReal (K h (kr b κ) e))
    (h : Fin 2) (r : Fin 128) (κ : Fin 256) :
    pF M (headM 0) (headM 1) q s k (stk h r) κ = Real.toEReal (wR (Q h) (K h) b r κ) := by
  have e1 : (if c : (stk h r).val < 128 then M (ix2 ⟨(stk h r).val, c⟩ κ) else M (ix2 ⟨(stk h r).val - 128, by omega⟩ κ)) = M (ix2 r κ) := by
    unfold stk; fin_cases h <;> simp
  unfold pF wR
  rw [e1, hM, dot_real hq hk, co_real (S := fun h R => lseR (Q h) (K h) (bl R) (rw' R)) hs, ← EReal.coe_sub, exp_coe', bl_row, rw_row]
  unfold sc
  by_cases c : vis b r κ
  · simp [c, Scalar.select]
  · simp [c, Scalar.select]

theorem dsF_real (hM : ∀ r κ, M (ix2 r κ) = if vis b r κ then 1#1 else 0#1) (hq : ∀ r h e, q (ix2 r (lane h e)) = Real.toEReal (Q h (row b r) e))
    (hd : ∀ r h e, d (ix2 r (lane h e)) = Real.toEReal (D h (row b r) e))
    (hs : ∀ r h e, s (ix2 r (lane h e)) = Real.toEReal (lseR (Q h) (K h) (bl (row b r)) (rw' (row b r))))
    (hu : ∀ r h e, u (ix2 r (lane h e)) = Real.toEReal (U h (row b r)))
    (hk : ∀ κ h e, k (ix2 κ (lane h e)) = Real.toEReal (K h (kr b κ) e)) (hv : ∀ κ h e, v (ix2 κ (lane h e)) = Real.toEReal (W h (kr b κ) e))
    (h : Fin 2) (r : Fin 128) (κ : Fin 256) :
    dsF M (headM 0) (headM 1) q d s u k v (stk h r) κ = Real.toEReal (wR (Q h) (K h) b r κ * (dpR (W h) (D h) b r κ - U h (row b r))) := by
  unfold dsF dpR
  rw [pF_real hM hq hs hk, dot_real hd hv, co_real hu, ← EReal.coe_sub, ← EReal.coe_mul]

/-- The block's gradients over real arguments: of the queries, and what it adds for its window's keys and values. -/
theorem dqF_real (hM : ∀ r κ, M (ix2 r κ) = if vis b r κ then 1#1 else 0#1) (hq : ∀ r h e, q (ix2 r (lane h e)) = Real.toEReal (Q h (row b r) e))
    (hd : ∀ r h e, d (ix2 r (lane h e)) = Real.toEReal (D h (row b r) e))
    (hs : ∀ r h e, s (ix2 r (lane h e)) = Real.toEReal (lseR (Q h) (K h) (bl (row b r)) (rw' (row b r))))
    (hu : ∀ r h e, u (ix2 r (lane h e)) = Real.toEReal (U h (row b r)))
    (hk : ∀ κ h e, k (ix2 κ (lane h e)) = Real.toEReal (K h (kr b κ) e)) (hv : ∀ κ h e, v (ix2 κ (lane h e)) = Real.toEReal (W h (kr b κ) e))
    (r : Fin 128) (h : Fin 2) (e : Fin 64) :
    dqF M k1_pay5 k1_pay6 q d s u k v r (lane h e) = Real.toEReal (∑ κ, wR (Q h) (K h) b r κ * (dpR (W h) (D h) b r κ - U h (row b r)) * K h (kr b κ) e) := by
  have e0 : (⟨r.val, by omega⟩ : Fin 256) = stk 0 r := Fin.ext (by simp [stk])
  have e1 : (⟨128 + r.val, by omega⟩ : Fin 256) = stk 1 r := Fin.ext (by simp [stk])
  have hl : (lane h e).val = 64 * h.val + e.val := rfl
  have he := e.isLt
  unfold dqF
  rw [e0, e1, head1_0, head1_1, slt64 _ (lane h e).isLt]
  simp only [dsF_real hM hq hd hs hu hk hv, hk, ← EReal.coe_mul]
  fin_cases h
  · have c : (lane 0 e).val < 64 := by simp [lane]
    simp [c, Scalar.select, coe_sum, IntOp.xori]
  · have c : ¬ (lane 1 e).val < 64 := by simp [lane]
    simp [c, Scalar.select, coe_sum, IntOp.xori]

theorem dkF_real (hM : ∀ r κ, M (ix2 r κ) = if vis b r κ then 1#1 else 0#1) (hq : ∀ r h e, q (ix2 r (lane h e)) = Real.toEReal (Q h (row b r) e))
    (hd : ∀ r h e, d (ix2 r (lane h e)) = Real.toEReal (D h (row b r) e))
    (hs : ∀ r h e, s (ix2 r (lane h e)) = Real.toEReal (lseR (Q h) (K h) (bl (row b r)) (rw' (row b r))))
    (hu : ∀ r h e, u (ix2 r (lane h e)) = Real.toEReal (U h (row b r)))
    (hk : ∀ κ h e, k (ix2 κ (lane h e)) = Real.toEReal (K h (kr b κ) e)) (hv : ∀ κ h e, v (ix2 κ (lane h e)) = Real.toEReal (W h (kr b κ) e))
    (κ : Fin 256) (h : Fin 2) (e : Fin 64) :
    dkF M k1_pay5 k1_pay6 q d s u k v κ (lane h e) = Real.toEReal (∑ r, wR (Q h) (K h) b r κ * (dpR (W h) (D h) b r κ - U h (row b r)) * Q h (row b r) e) := by
  unfold dkF
  rw [head1_0, head1_1, sum_stk]
  simp only [dsF_real hM hq hd hs hu hk hv, st_real hq, ← EReal.coe_mul]
  rw [coe_sum]
  fin_cases h <;> simp

theorem dvF_real (hM : ∀ r κ, M (ix2 r κ) = if vis b r κ then 1#1 else 0#1) (hq : ∀ r h e, q (ix2 r (lane h e)) = Real.toEReal (Q h (row b r) e))
    (hd : ∀ r h e, d (ix2 r (lane h e)) = Real.toEReal (D h (row b r) e))
    (hs : ∀ r h e, s (ix2 r (lane h e)) = Real.toEReal (lseR (Q h) (K h) (bl (row b r)) (rw' (row b r))))
    (hk : ∀ κ h e, k (ix2 κ (lane h e)) = Real.toEReal (K h (kr b κ) e)) (κ : Fin 256) (h : Fin 2) (e : Fin 64) :
    dvF M k1_pay5 k1_pay6 q d s k κ (lane h e) = Real.toEReal (dvW (Q h) (K h) (D h) b κ e) := by
  unfold dvF dvW
  rw [head1_0, head1_1, sum_stk]
  simp only [pF_real hM hq hs hk, st_real hd, ← EReal.coe_mul]
  rw [coe_sum]
  fin_cases h <;> simp

end Reals

end Cert.AttnIdeal.Blocks

end
-- ==== Proof.AttnBwdOut.lean ====
/- What the attention's backward call leaves in its three result arrays, over real arguments: every grid point computes one pair
   of heads, eight query blocks; each block's window of keys and values receives its contribution, added onto what the block
   before left there. -/
module

public import proofs.«01_k».proof.Proof.AttnBwd

@[expose] public section

noncomputable section

namespace Cert.AttnIdeal.Blocks

open Cert.AttnIdeal Cert.AttnIdeal.Gen Idealize.ShloMosaic Idealize.ShloMosaic.TcCoe Idealize.SL.Sem Cert.AttnMath Cert.Lift
open Idealize.ShloMosaic.Pipeline (Dat)

variable (V : (c : Dev nD) → (b : Ref sig .tc) → Buf (Elt Ideal) ((c : Thread nD τ).loc b))
variable (c : Dev nD) {Q K W D : Fin 96 → Rows} {U : Fin 96 → Fin 1024 → ℝ}

theorem idx1_0 : ∀ t : Fin cfg1.N, win1_0.index t = ![0, t.val] := (by decide +kernel : ∀ t : Fin grid1.N, _)
theorem idx1_1 : ∀ t : Fin cfg1.N, win1_1.index t = ![0, t.val] := (by decide +kernel : ∀ t : Fin grid1.N, _)
theorem idx1_2 : ∀ t : Fin cfg1.N, win1_2.index t = ![0, t.val] := (by decide +kernel : ∀ t : Fin grid1.N, _)
theorem idx1_3 : ∀ t : Fin cfg1.N, win1_3.index t = ![0, t.val] := (by decide +kernel : ∀ t : Fin grid1.N, _)
theorem idx1_4 : ∀ t : Fin cfg1.N, win1_4.index t = ![0, t.val] := (by decide +kernel : ∀ t : Fin grid1.N, _)
theorem idx1_5 : ∀ t : Fin cfg1.N, win1_5.index t = ![0, t.val] := (by decide +kernel : ∀ t : Fin grid1.N, _)
theorem idx1_6 : ∀ t : Fin cfg1.N, win1_6.index t = ![0, t.val] := (by decide +kernel : ∀ t : Fin grid1.N, _)
theorem idx1_7 : ∀ t : Fin cfg1.N, win1_7.index t = ![0, t.val] := (by decide +kernel : ∀ t : Fin grid1.N, _)
theorem idx1_12 : ∀ t : Fin cfg1.N, win1_12.index t = ![0, t.val] := (by decide +kernel : ∀ t : Fin grid1.N, _)
theorem idx1_13 : ∀ t : Fin cfg1.N, win1_13.index t = ![0, t.val] := (by decide +kernel : ∀ t : Fin grid1.N, _)
theorem idx1_14 : ∀ t : Fin cfg1.N, win1_14.index t = ![0, t.val] := (by decide +kernel : ∀ t : Fin grid1.N, _)

theorem blk1_0 (hV : V c main_v3 = arr Q) (t : Fin cfg1.N) (R : Fin 1024) (h : Fin 2) (e : Fin 64) :
    (iblk1 V c 0 t : S1024x128.Idx → EReal) (ix2 R (lane h e)) = Real.toEReal (pair Q t h R e) := by
  have hlt := lt_cols t (lane h e)
  refine Eq.trans ?_ ((congrFun hV _).trans (arr_at Q t R h e hlt))
  blk_point [iblk1, idx1_0]

theorem blk1_1 (hV : V c main_v5 = arr Q) (t : Fin cfg1.N) (R : Fin 1024) (h : Fin 2) (e : Fin 64) :
    (iblk1 V c 1 t : S1024x128.Idx → EReal) (ix2 R (lane h e)) = Real.toEReal (pair Q t h R e) := by
  have hlt := lt_cols t (lane h e)
  refine Eq.trans ?_ ((congrFun hV _).trans (arr_at Q t R h e hlt))
  blk_point [iblk1, idx1_1]

theorem blk1_2 (hV : V c main_v7 = arr Q) (t : Fin cfg1.N) (R : Fin 1024) (h : Fin 2) (e : Fin 64) :
    (iblk1 V c 2 t : S1024x128.Idx → EReal) (ix2 R (lane h e)) = Real.toEReal (pair Q t h R e) := by
  have hlt := lt_cols t (lane h e)
  refine Eq.trans ?_ ((congrFun hV _).trans (arr_at Q t R h e hlt))
  blk_point [iblk1, idx1_2]

theorem blk1_3 (hV : V c main_v16 = arr Q) (t : Fin cfg1.N) (R : Fin 1024) (h : Fin 2) (e : Fin 64) :
    (iblk1 V c 3 t : S1024x128.Idx → EReal) (ix2 R (lane h e)) = Real.toEReal (pair Q t h R e) := by
  have hlt := lt_cols t (lane h e)
  refine Eq.trans ?_ ((congrFun hV _).trans (arr_at Q t R h e hlt))
  blk_point [iblk1, idx1_3]

theorem blk1_4 (hV : V c main_v8_1 = arr Q) (t : Fin cfg1.N) (R : Fin 1024) (h : Fin 2) (e : Fin 64) :
    (iblk1 V c 4 t : S1024x128.Idx → EReal) (ix2 R (lane h e)) = Real.toEReal (pair Q t h R e) := by
  have hlt := lt_cols t (lane h e)
  refine Eq.trans ?_ ((congrFun hV _).trans (arr_at Q t R h e hlt))
  blk_point [iblk1, idx1_4]

theorem blk1_5 (hV : V c main_v17 = arr Q) (t : Fin cfg1.N) (R : Fin 1024) (h : Fin 2) (e : Fin 64) :
    (iblk1 V c 5 t : S1024x128.Idx → EReal) (ix2 R (lane h e)) = Real.toEReal (pair Q t h R e) := by
  have hlt := lt_cols t (lane h e)
  refine Eq.trans ?_ ((congrFun hV _).trans (arr_at Q t R h e hlt))
  blk_point [iblk1, idx1_5]

theorem blk1_6 (hV : V c main_v5 = arr Q) (t : Fin cfg1.N) (r : Fin 128) (h : Fin 2) (e : Fin 64) :
    (iblk1 V c 6 t : S128x128.Idx → EReal) (ix2 r (lane h e)) = Real.toEReal (pair Q t h ⟨r.val, by omega⟩ e) := by
  have hlt := lt_cols t (lane h e)
  refine Eq.trans ?_ ((congrFun hV _).trans (arr_at Q t ⟨r.val, by omega⟩ h e hlt))
  blk_point [iblk1, idx1_6]

theorem blk1_7 (hV : V c main_v7 = arr Q) (t : Fin cfg1.N) (r : Fin 128) (h : Fin 2) (e : Fin 64) :
    (iblk1 V c 7 t : S128x128.Idx → EReal) (ix2 r (lane h e)) = Real.toEReal (pair Q t h ⟨r.val, by omega⟩ e) := by
  have hlt := lt_cols t (lane h e)
  refine Eq.trans ?_ ((congrFun hV _).trans (arr_at Q t ⟨r.val, by omega⟩ h e hlt))
  blk_point [iblk1, idx1_7]

/-- What a block gives: to its queries, its window's keys and its window's values. -/
def dqU (Q K W D : Rows) (U : Fin 1024 → ℝ) (b : Fin 8) (r : Fin 128) (e : Fin 64) : ℝ :=
  ∑ κ, wR Q K b r κ * (dpR W D b r κ - U (row b r)) * K (kr b κ) e
def dkU (Q K W D : Rows) (U : Fin 1024 → ℝ) (b : Fin 8) (κ : Fin 256) (e : Fin 64) : ℝ :=
  ∑ r, wR Q K b r κ * (dpR W D b r κ - U (row b r)) * Q (row b r) e

section Steps

variable {Q K W D : Fin 2 → Rows} {U : Fin 2 → Fin 1024 → ℝ} {X0 X1 X2 X3 : S1024x128.Idx → Elt Ideal .bf16} {X4 X5 : S1024x128.Idx → Elt Ideal .f32} {Y6 Y7 : Vec Ideal S128x128 .bf16}

/-- A load as the kernel's words hold it. -/
theorem same_b (x : Vec Ideal S128x128 .bf16) : k1_pay27 (F := Ideal) x = x := by unfold k1_pay27; exact shapeCast_self _ _
theorem same_f (x : Vec Ideal S128x128 .f32) : k1_pay29 (F := Ideal) x = x := by unfold k1_pay29; exact shapeCast_self _ _
theorem same_w (x : Vec Ideal S256x128 .bf16) : k1_pay31 (F := Ideal) x = x := by unfold k1_pay31; exact shapeCast_self _ _

/-- The first block's window: the keys before the rows, and its own. -/
theorem first_at {A : Fin 2 → Rows} (a b : Vec Ideal S128x128 .bf16)
    (ha : ∀ r h e, (a : S128x128.Idx → EReal) (ix2 r (lane h e)) = Real.toEReal (A h ⟨r.val, by omega⟩ e))
    (hb : ∀ r h e, (b : S128x128.Idx → EReal) (ix2 r (lane h e)) = Real.toEReal (A h (row 0 r) e)) (κ : Fin 256) (h : Fin 2) (e : Fin 64) :
    (k1_pay15 (F := Ideal) a b : S256x128.Idx → EReal) (ix2 κ (lane h e)) = Real.toEReal (A h (kr 0 κ) e) := by
  pointwise [k1_pay15]
  split
  · rename_i hκ
    refine (ha ⟨κ.val, hκ⟩ h e).trans (congrArg Real.toEReal (congrArg (A h · e) (Fin.ext ?_)))
    show κ.val = κ.val % 128; omega
  · rename_i hκ
    refine (hb ⟨κ.val - 128, by omega⟩ h e).trans (congrArg Real.toEReal (congrArg (A h · e) (Fin.ext ?_)))
    show 128 * 0 + (κ.val - 128) = κ.val % 128; omega

variable (b : Fin 8) (hb : 0 < b.val) (off off' : ℕ) (ho : off = 128 * b.val) (ho' : off' = 128 * (b.val - 1))
    (i : ∀ a, (![off, 0] : Fin 2 → ℕ) a + (![128, 128] : Fin 2 → ℕ) a ≤ S1024x128.size a)
    (i' : ∀ a, (![off', 0] : Fin 2 → ℕ) a + (![256, 128] : Fin 2 → ℕ) a ≤ S1024x128.size a)

include hb ho ho'
/-- A block that is not the first, as the second block's words have it. -/
theorem dq_step
    (h0 : ∀ R h e, (X0 (ix2 R (lane h e)) : EReal) = Real.toEReal (Q h R e)) (h1 : ∀ R h e, (X1 (ix2 R (lane h e)) : EReal) = Real.toEReal (K h R e))
    (h2 : ∀ R h e, (X2 (ix2 R (lane h e)) : EReal) = Real.toEReal (W h R e)) (h3 : ∀ R h e, (X3 (ix2 R (lane h e)) : EReal) = Real.toEReal (D h R e))
    (h4 : ∀ R h e, (X4 (ix2 R (lane h e)) : EReal) = Real.toEReal (lseR (Q h) (K h) (bl R) (rw' R))) (h5 : ∀ R h e, (X5 (ix2 R (lane h e)) : EReal) = Real.toEReal (U h R))
    (r : Fin 128) (h : Fin 2) (e : Fin 64) : k1_pay39 (F := Ideal) (k1_pay31 (F := Ideal) (View.ld X1 (Rect.unit (s := S1024x128) ![off', 0] ![256, 128] i'))) (k1_pay31 (F := Ideal) (View.ld X2 (Rect.unit (s := S1024x128) ![off', 0] ![256, 128] i'))) (k1_pay35 (F := Ideal) k1_pay5 k1_pay6 (k1_pay27 (F := Ideal) (View.ld X3 (Rect.unit (s := S1024x128) ![off, 0] ![128, 128] i)))) (k1_pay36 (F := Ideal) k1_pay5 k1_pay6 (k1_pay29 (F := Ideal) (View.ld X5 (Rect.unit (s := S1024x128) ![off, 0] ![128, 128] i)))) (k1_pay37 (F := Ideal) k1_pay2 k1_pay5 k1_pay6 (k1_pay27 (F := Ideal) (View.ld X0 (Rect.unit (s := S1024x128) ![off, 0] ![128, 128] i))) (k1_pay29 (F := Ideal) (View.ld X4 (Rect.unit (s := S1024x128) ![off, 0] ![128, 128] i))) (k1_pay31 (F := Ideal) (View.ld X1 (Rect.unit (s := S1024x128) ![off', 0] ![256, 128] i'))) (k1_pay33 (F := Ideal) k1_pay5)) (ix2 r (lane h e)) = Real.toEReal (dqU (Q h) (K h) (W h) (D h) (U h) b r e) :=
  (dqA ..).trans (dqF_real (mask1_at b hb)
      (fun r h e => (congrFun (same_b _) _).trans (ld_rows (e' := .bf16) id h0 b ho r h e))
      (fun r h e => (congrFun (same_b _) _).trans (ld_rows (e' := .bf16) id h3 b ho r h e))
      (fun r h e => (congrFun (same_f _) _).trans (ld_rows (e' := .f32) id h4 b ho r h e))
      (fun r h e => (congrFun (same_f _) _).trans (ld_rows (e' := .f32) id h5 b ho r h e))
      (fun κ h e => (congrFun (same_w _) _).trans (ld_window (e' := .bf16) id h1 b hb ho' κ h e))
      (fun κ h e => (congrFun (same_w _) _).trans (ld_window (e' := .bf16) id h2 b hb ho' κ h e)) r h e)
theorem dk_step
    (h0 : ∀ R h e, (X0 (ix2 R (lane h e)) : EReal) = Real.toEReal (Q h R e)) (h1 : ∀ R h e, (X1 (ix2 R (lane h e)) : EReal) = Real.toEReal (K h R e))
    (h2 : ∀ R h e, (X2 (ix2 R (lane h e)) : EReal) = Real.toEReal (W h R e)) (h3 : ∀ R h e, (X3 (ix2 R (lane h e)) : EReal) = Real.toEReal (D h R e))
    (h4 : ∀ R h e, (X4 (ix2 R (lane h e)) : EReal) = Real.toEReal (lseR (Q h) (K h) (bl R) (rw' R))) (h5 : ∀ R h e, (X5 (ix2 R (lane h e)) : EReal) = Real.toEReal (U h R))
    (a : Vec Ideal S256x128 .f32) (κ : Fin 256) (h : Fin 2) (e : Fin 64) : k1_pay40 (F := Ideal) (k1_pay31 (F := Ideal) (View.ld X2 (Rect.unit (s := S1024x128) ![off', 0] ![256, 128] i'))) (k1_pay34 (F := Ideal) k1_pay6 (k1_pay27 (F := Ideal) (View.ld X0 (Rect.unit (s := S1024x128) ![off, 0] ![128, 128] i))) (k1_pay33 (F := Ideal) k1_pay5)) (k1_pay35 (F := Ideal) k1_pay5 k1_pay6 (k1_pay27 (F := Ideal) (View.ld X3 (Rect.unit (s := S1024x128) ![off, 0] ![128, 128] i)))) (k1_pay36 (F := Ideal) k1_pay5 k1_pay6 (k1_pay29 (F := Ideal) (View.ld X5 (Rect.unit (s := S1024x128) ![off, 0] ![128, 128] i)))) (k1_pay37 (F := Ideal) k1_pay2 k1_pay5 k1_pay6 (k1_pay27 (F := Ideal) (View.ld X0 (Rect.unit (s := S1024x128) ![off, 0] ![128, 128] i))) (k1_pay29 (F := Ideal) (View.ld X4 (Rect.unit (s := S1024x128) ![off, 0] ![128, 128] i))) (k1_pay31 (F := Ideal) (View.ld X1 (Rect.unit (s := S1024x128) ![off', 0] ![256, 128] i'))) (k1_pay33 (F := Ideal) k1_pay5)) a (ix2 κ (lane h e)) = a (ix2 κ (lane h e)) + Real.toEReal (dkU (Q h) (K h) (W h) (D h) (U h) b κ e) :=
  (dkA ..).trans (congrArg (a (ix2 κ (lane h e)) + ·) (dkF_real (mask1_at b hb)
      (fun r h e => (congrFun (same_b _) _).trans (ld_rows (e' := .bf16) id h0 b ho r h e))
      (fun r h e => (congrFun (same_b _) _).trans (ld_rows (e' := .bf16) id h3 b ho r h e))
      (fun r h e => (congrFun (same_f _) _).trans (ld_rows (e' := .f32) id h4 b ho r h e))
      (fun r h e => (congrFun (same_f _) _).trans (ld_rows (e' := .f32) id h5 b ho r h e))
      (fun κ h e => (congrFun (same_w _) _).trans (ld_window (e' := .bf16) id h1 b hb ho' κ h e))
      (fun κ h e => (congrFun (same_w _) _).trans (ld_window (e' := .bf16) id h2 b hb ho' κ h e)) κ h e))
theorem dv_step
    (h0 : ∀ R h e, (X0 (ix2 R (lane h e)) : EReal) = Real.toEReal (Q h R e)) (h1 : ∀ R h e, (X1 (ix2 R (lane h e)) : EReal) = Real.toEReal (K h R e))
    (h3 : ∀ R h e, (X3 (ix2 R (lane h e)) : EReal) = Real.toEReal (D h R e))
    (h4 : ∀ R h e, (X4 (ix2 R (lane h e)) : EReal) = Real.toEReal (lseR (Q h) (K h) (bl R) (rw' R)))
    (a : Vec Ideal S256x128 .f32) (κ : Fin 256) (h : Fin 2) (e : Fin 64) : k1_pay41 (F := Ideal) (k1_pay35 (F := Ideal) k1_pay5 k1_pay6 (k1_pay27 (F := Ideal) (View.ld X3 (Rect.unit (s := S1024x128) ![off, 0] ![128, 128] i)))) (k1_pay37 (F := Ideal) k1_pay2 k1_pay5 k1_pay6 (k1_pay27 (F := Ideal) (View.ld X0 (Rect.unit (s := S1024x128) ![off, 0] ![128, 128] i))) (k1_pay29 (F := Ideal) (View.ld X4 (Rect.unit (s := S1024x128) ![off, 0] ![128, 128] i))) (k1_pay31 (F := Ideal) (View.ld X1 (Rect.unit (s := S1024x128) ![off', 0] ![256, 128] i'))) (k1_pay33 (F := Ideal) k1_pay5)) a (ix2 κ (lane h e)) = a (ix2 κ (lane h e)) + Real.toEReal (dvW (Q h) (K h) (D h) b κ e) :=
  (dvA ..).trans (congrArg (a (ix2 κ (lane h e)) + ·) (dvF_real (mask1_at b hb)
      (fun r h e => (congrFun (same_b _) _).trans (ld_rows (e' := .bf16) id h0 b ho r h e))
      (fun r h e => (congrFun (same_b _) _).trans (ld_rows (e' := .bf16) id h3 b ho r h e))
      (fun r h e => (congrFun (same_f _) _).trans (ld_rows (e' := .f32) id h4 b ho r h e))
      (fun κ h e => (congrFun (same_w _) _).trans (ld_window (e' := .bf16) id h1 b hb ho' κ h e)) κ h e))

end Steps

section First

variable {Q K W D : Fin 2 → Rows} {U : Fin 2 → Fin 1024 → ℝ} {X0 X1 X2 X3 : S1024x128.Idx → Elt Ideal .bf16} {X4 X5 : S1024x128.Idx → Elt Ideal .f32} {Y6 Y7 : Vec Ideal S128x128 .bf16}
variable (t : Fin cfg1.N) (i0 : ∀ a, (![0, 0] : Fin 2 → ℕ) a + (![128, 128] : Fin 2 → ℕ) a ≤ S1024x128.size a)

/-- The first block. -/
theorem dq_first
    (h0 : ∀ R h e, (X0 (ix2 R (lane h e)) : EReal) = Real.toEReal (Q h R e)) (h1 : ∀ R h e, (X1 (ix2 R (lane h e)) : EReal) = Real.toEReal (K h R e))
    (h2 : ∀ R h e, (X2 (ix2 R (lane h e)) : EReal) = Real.toEReal (W h R e)) (h3 : ∀ R h e, (X3 (ix2 R (lane h e)) : EReal) = Real.toEReal (D h R e))
    (h4 : ∀ R h e, (X4 (ix2 R (lane h e)) : EReal) = Real.toEReal (lseR (Q h) (K h) (bl R) (rw' R))) (h5 : ∀ R h e, (X5 (ix2 R (lane h e)) : EReal) = Real.toEReal (U h R))
    (h6 : ∀ r h e, (Y6 (ix2 r (lane h e)) : EReal) = Real.toEReal (K h ⟨r.val, by omega⟩ e)) (h7 : ∀ r h e, (Y7 (ix2 r (lane h e)) : EReal) = Real.toEReal (W h ⟨r.val, by omega⟩ e))
    (r : Fin 128) (h : Fin 2) (e : Fin 64) : k1_pay22 (F := Ideal) k1_pay5 k1_pay6 (k1_pay29 (F := Ideal) (View.ld X5 (Rect.unit (s := S1024x128) ![0, 0] ![128, 128] i0))) (k1_pay15 (F := Ideal) Y6 (View.ld X1 (Rect.unit (s := S1024x128) ![0, 0] ![128, 128] i0))) (k1_pay15 (F := Ideal) Y7 (View.ld X2 (Rect.unit (s := S1024x128) ![0, 0] ![128, 128] i0))) (k1_pay16 (BitVec.ofNat 32 (grid1.coords t 1).val) k1_pay2 k1_pay4) (k1_pay17 (F := Ideal) k1_pay5 k1_pay6 (k1_pay27 (F := Ideal) (View.ld X0 (Rect.unit (s := S1024x128) ![0, 0] ![128, 128] i0)))) (k1_pay18 (F := Ideal) k1_pay5 k1_pay6 (k1_pay27 (F := Ideal) (View.ld X3 (Rect.unit (s := S1024x128) ![0, 0] ![128, 128] i0)))) (k1_pay19 (F := Ideal) k1_pay5 k1_pay6 (k1_pay29 (F := Ideal) (View.ld X4 (Rect.unit (s := S1024x128) ![0, 0] ![128, 128] i0)))) (FloatOps.ofBits FTy.f32 4286578688#32) (ix2 r (lane h e)) = Real.toEReal (dqU (Q h) (K h) (W h) (D h) (U h) 0 r e) :=
  (dqD ..).trans (dqF_real (mask1_0_at t)
      (fun r h e => (congrFun (same_b _) _).trans (ld_rows (e' := .bf16) id h0 0 rfl r h e))
      (fun r h e => (congrFun (same_b _) _).trans (ld_rows (e' := .bf16) id h3 0 rfl r h e))
      (fun r h e => (congrFun (same_f _) _).trans (ld_rows (e' := .f32) id h4 0 rfl r h e))
      (fun r h e => (congrFun (same_f _) _).trans (ld_rows (e' := .f32) id h5 0 rfl r h e))
      (first_at _ _ h6 (fun r h e => ld_rows (e' := .bf16) id h1 0 rfl r h e))
      (first_at _ _ h7 (fun r h e => ld_rows (e' := .bf16) id h2 0 rfl r h e)) r h e)
theorem dk_first
    (h0 : ∀ R h e, (X0 (ix2 R (lane h e)) : EReal) = Real.toEReal (Q h R e)) (h1 : ∀ R h e, (X1 (ix2 R (lane h e)) : EReal) = Real.toEReal (K h R e))
    (h2 : ∀ R h e, (X2 (ix2 R (lane h e)) : EReal) = Real.toEReal (W h R e)) (h3 : ∀ R h e, (X3 (ix2 R (lane h e)) : EReal) = Real.toEReal (D h R e))
    (h4 : ∀ R h e, (X4 (ix2 R (lane h e)) : EReal) = Real.toEReal (lseR (Q h) (K h) (bl R) (rw' R))) (h5 : ∀ R h e, (X5 (ix2 R (lane h e)) : EReal) = Real.toEReal (U h R))
    (h6 : ∀ r h e, (Y6 (ix2 r (lane h e)) : EReal) = Real.toEReal (K h ⟨r.val, by omega⟩ e)) (h7 : ∀ r h e, (Y7 (ix2 r (lane h e)) : EReal) = Real.toEReal (W h ⟨r.val, by omega⟩ e))
    (a : Vec Ideal S128x128 .f32) (r : Fin 128) (h : Fin 2) (e : Fin 64) : k1_pay25 (F := Ideal) (k1_pay23 (F := Ideal) k1_pay5 k1_pay6 (k1_pay29 (F := Ideal) (View.ld X5 (Rect.unit (s := S1024x128) ![0, 0] ![128, 128] i0))) (k1_pay15 (F := Ideal) Y6 (View.ld X1 (Rect.unit (s := S1024x128) ![0, 0] ![128, 128] i0))) (k1_pay15 (F := Ideal) Y7 (View.ld X2 (Rect.unit (s := S1024x128) ![0, 0] ![128, 128] i0))) (k1_pay16 (BitVec.ofNat 32 (grid1.coords t 1).val) k1_pay2 k1_pay4) (k1_pay17 (F := Ideal) k1_pay5 k1_pay6 (k1_pay27 (F := Ideal) (View.ld X0 (Rect.unit (s := S1024x128) ![0, 0] ![128, 128] i0)))) (k1_pay18 (F := Ideal) k1_pay5 k1_pay6 (k1_pay27 (F := Ideal) (View.ld X3 (Rect.unit (s := S1024x128) ![0, 0] ![128, 128] i0)))) (k1_pay19 (F := Ideal) k1_pay5 k1_pay6 (k1_pay29 (F := Ideal) (View.ld X4 (Rect.unit (s := S1024x128) ![0, 0] ![128, 128] i0)))) (FloatOps.ofBits FTy.f32 4286578688#32)) a (ix2 r (lane h e)) = a (ix2 r (lane h e)) + Real.toEReal (dkU (Q h) (K h) (W h) (D h) (U h) 0 ⟨128 + r.val, by omega⟩ e) :=
  (dkD ..).trans (congrArg (a (ix2 r (lane h e)) + ·) (dkF_real (mask1_0_at t)
      (fun r h e => (congrFun (same_b _) _).trans (ld_rows (e' := .bf16) id h0 0 rfl r h e))
      (fun r h e => (congrFun (same_b _) _).trans (ld_rows (e' := .bf16) id h3 0 rfl r h e))
      (fun r h e => (congrFun (same_f _) _).trans (ld_rows (e' := .f32) id h4 0 rfl r h e))
      (fun r h e => (congrFun (same_f _) _).trans (ld_rows (e' := .f32) id h5 0 rfl r h e))
      (first_at _ _ h6 (fun r h e => ld_rows (e' := .bf16) id h1 0 rfl r h e))
      (first_at _ _ h7 (fun r h e => ld_rows (e' := .bf16) id h2 0 rfl r h e)) _ h e))
theorem dv_first
    (h0 : ∀ R h e, (X0 (ix2 R (lane h e)) : EReal) = Real.toEReal (Q h R e)) (h1 : ∀ R h e, (X1 (ix2 R (lane h e)) : EReal) = Real.toEReal (K h R e))
    (h3 : ∀ R h e, (X3 (ix2 R (lane h e)) : EReal) = Real.toEReal (D h R e))
    (h4 : ∀ R h e, (X4 (ix2 R (lane h e)) : EReal) = Real.toEReal (lseR (Q h) (K h) (bl R) (rw' R)))
    (h6 : ∀ r h e, (Y6 (ix2 r (lane h e)) : EReal) = Real.toEReal (K h ⟨r.val, by omega⟩ e))
    (a : Vec Ideal S128x128 .f32) (r : Fin 128) (h : Fin 2) (e : Fin 64) : k1_pay26 (F := Ideal) (k1_pay24 (F := Ideal) (k1_pay15 (F := Ideal) Y6 (View.ld X1 (Rect.unit (s := S1024x128) ![0, 0] ![128, 128] i0))) (k1_pay16 (BitVec.ofNat 32 (grid1.coords t 1).val) k1_pay2 k1_pay4) (k1_pay17 (F := Ideal) k1_pay5 k1_pay6 (k1_pay27 (F := Ideal) (View.ld X0 (Rect.unit (s := S1024x128) ![0, 0] ![128, 128] i0)))) (k1_pay18 (F := Ideal) k1_pay5 k1_pay6 (k1_pay27 (F := Ideal) (View.ld X3 (Rect.unit (s := S1024x128) ![0, 0] ![128, 128] i0)))) (k1_pay19 (F := Ideal) k1_pay5 k1_pay6 (k1_pay29 (F := Ideal) (View.ld X4 (Rect.unit (s := S1024x128) ![0, 0] ![128, 128] i0))))) a (ix2 r (lane h e)) = a (ix2 r (lane h e)) + Real.toEReal (dvW (Q h) (K h) (D h) 0 ⟨128 + r.val, by omega⟩ e) :=
  (dvD ..).trans (congrArg (a (ix2 r (lane h e)) + ·) (dvF_real (mask1_0_at t)
      (fun r h e => (congrFun (same_b _) _).trans (ld_rows (e' := .bf16) id h0 0 rfl r h e))
      (fun r h e => (congrFun (same_b _) _).trans (ld_rows (e' := .bf16) id h3 0 rfl r h e))
      (fun r h e => (congrFun (same_f _) _).trans (ld_rows (e' := .f32) id h4 0 rfl r h e))
      (first_at _ _ h6 (fun r h e => ld_rows (e' := .bf16) id h1 0 rfl r h e)) _ h e))

/-- A store that adds a block's contribution onto what the earlier stores left there. -/
theorem acc_step {sig' : RefSig} {κ' : Kind} {sp : Space} {v : View sig' κ' sp S1024x128 .f32} {off n : ℕ} {inb : ∀ a, (![off, 0] : Fin 2 → ℕ) a + (![n, 128] : Fin 2 → ℕ) a ≤ S1024x128.size a}
    {L : List (View.Piece (Elt Ideal) S1024x128 .f32)} {p : (Rect.unit (s := S1024x128) ![off, 0] ![n, 128] inb).shape.Idx → Elt Ideal .f32} {R : Fin 1024} {l : Fin 128} {f : Fin n → ℝ} {a : ℝ}
    (hp : ∀ κ : Fin n, (p (ix2 κ l) : EReal) = (v.readCov L (Rect.unit (s := S1024x128) ![off, 0] ![n, 128] inb).toLoadRect (ix2 κ l) : EReal) + Real.toEReal (f κ))
    (hL : (View.canon L (ix2 R l) : EReal) = Real.toEReal a) :
    (View.canon (⟨Rect.unit (s := S1024x128) ![off, 0] ![n, 128] inb, p⟩ :: L) (ix2 R l) : EReal) =
      Real.toEReal (a + if h : off ≤ R.val ∧ R.val < off + n then f ⟨R.val - off, by omega⟩ else 0) := by
  by_cases h : off ≤ R.val ∧ R.val < off + n
  · have hy : (ix2 R l : S1024x128.Idx) = (Rect.unit (s := S1024x128) ![off, 0] ![n, 128] inb).emb (ix2 ⟨R.val - off, by omega⟩ l) := by
      funext a; apply Fin.ext
      fin_cases a
      · show R.val = off + 1 * (R.val - off); omega
      · show l.val = 0 + 1 * l.val; omega
    rw [dif_pos h, EReal.coe_add, ← hL]
    refine ((congrArg _ hy).trans (View.canon_cons_emb _ _ _ _)).trans ((hp _).trans ?_)
    rw [View.readCov_eq_canon']
    refine congrArg (· + _) (congrArg (View.canon L) ?_)
    exact hy.symm
  · rw [dif_neg h, add_zero, View.canon_cons_of_not_mem _ _ ?_, hL]
    rw [Rect.mem_set_unit]
    intro hm
    exact h (hm 0)

/-- A store of zeros over all rows. -/
theorem acc_zero {inb : ∀ a, (![0, 0] : Fin 2 → ℕ) a + (![1024, 128] : Fin 2 → ℕ) a ≤ S1024x128.size a}
    {L : List (View.Piece (Elt Ideal) S1024x128 .f32)} {p : (Rect.unit (s := S1024x128) ![0, 0] ![1024, 128] inb).shape.Idx → Elt Ideal .f32} {R : Fin 1024} {l : Fin 128}
    (hp : ∀ κ : Fin 1024, (p (ix2 κ l) : EReal) = 0) : (View.canon (⟨Rect.unit (s := S1024x128) ![0, 0] ![1024, 128] inb, p⟩ :: L) (ix2 R l) : EReal) = Real.toEReal 0 := by
  have hy : (ix2 R l : S1024x128.Idx) = (Rect.unit (s := S1024x128) ![0, 0] ![1024, 128] inb).emb (ix2 R l) := by
    funext a; apply Fin.ext
    fin_cases a
    · show R.val = 0 + 1 * R.val; omega
    · show l.val = 0 + 1 * l.val; omega
  exact ((congrArg _ hy).trans (View.canon_cons_emb _ _ _ _)).trans ((hp R).trans EReal.coe_zero.symm)

/-- What the stores leave at a row, oldest first. -/
theorem acc_total (F : Fin 8 → Fin 256 → Fin 64 → ℝ) (R : Fin 1024) (e : Fin 64) :
    0 + (if h : 0 ≤ R.val ∧ R.val < 0 + 128 then F 0 ⟨128 + (R.val - 0), by omega⟩ e else 0)
      + (if h : 0 ≤ R.val ∧ R.val < 0 + 256 then F 1 ⟨R.val - 0, by omega⟩ e else 0)
      + (if h : 128 ≤ R.val ∧ R.val < 128 + 256 then F 2 ⟨R.val - 128, by omega⟩ e else 0)
      + (if h : 256 ≤ R.val ∧ R.val < 256 + 256 then F 3 ⟨R.val - 256, by omega⟩ e else 0)
      + (if h : 384 ≤ R.val ∧ R.val < 384 + 256 then F 4 ⟨R.val - 384, by omega⟩ e else 0)
      + (if h : 512 ≤ R.val ∧ R.val < 512 + 256 then F 5 ⟨R.val - 512, by omega⟩ e else 0)
      + (if h : 640 ≤ R.val ∧ R.val < 640 + 256 then F 6 ⟨R.val - 640, by omega⟩ e else 0)
      + (if h : 768 ≤ R.val ∧ R.val < 768 + 256 then F 7 ⟨R.val - 768, by omega⟩ e else 0)
      + (if h : 896 ≤ R.val ∧ R.val < 896 + 128 then (0 : ℝ) else 0)
    = fromWindows F (bl R) (rw' R) e := by
  obtain ⟨b, r, rfl⟩ : ∃ b r, R = row b r := ⟨bl R, rw' R, (row_bl R).symm⟩
  rw [bl_row, rw_row]
  have hr := r.isLt
  have hv : (row b r).val = 128 * b.val + r.val := rfl
  unfold fromWindows
  simp only [hv]
  fin_cases b <;> simp (disch := omega) only [dif_pos, dif_neg]
  all_goals simp only [zero_add, add_zero]
  all_goals first
    | exact congrArg₂ (· + ·) (congrArg (F _ · e) (Fin.ext (by simp only; omega))) (congrArg (F _ · e) (Fin.ext (by simp only; omega)))
    | exact congrArg (F _ · e) (Fin.ext (by simp only; omega))

end First

section Arrays

/-- The gradients of every head. -/
def dqG (Q K W D : Fin 96 → Rows) (U : Fin 96 → Fin 1024 → ℝ) : Fin 96 → Rows := fun g R e => dqU (Q g) (K g) (W g) (D g) (U g) (bl R) (rw' R) e
def dkG (Q K W D : Fin 96 → Rows) (U : Fin 96 → Fin 1024 → ℝ) : Fin 96 → Rows := fun g R e => fromWindows (dkU (Q g) (K g) (W g) (D g) (U g)) (bl R) (rw' R) e
def dvG (Q K D : Fin 96 → Rows) : Fin 96 → Rows := fun g R e => fromWindows (dvW (Q g) (K g) (D g)) (bl R) (rw' R) e

/-- The backward call's gradient of the scaled queries. -/
theorem bwd_dq (hQ : V c main_v3 = arr Q) (hK : V c main_v5 = arr K) (hW : V c main_v7 = arr W) (hD : V c main_v16 = arr D)
    (hS : V c main_v8_1 = arr (logR Q K)) (hU : V c main_v17 = arr (fun g R _ => U g R)) :
    (dat1 V c).arrAt 12 cfg1.N = arr (dqG Q K W D U) := by
  refine (dat1 V c).arrAt_eq_of_covers 12 _ (by decide +kernel) fun t hf y => ?_
  blk_simp
  rw [after1_12]
  obtain ⟨R, l, rfl⟩ : ∃ (R : Fin 1024) (l : Fin 128), y = ix2 R l := ⟨y 0, y 1, (ix2_eta y).symm⟩
  obtain ⟨h, e, rfl⟩ := lane_cases l
  have hlt := lt_cols t (lane h e)
  refine Eq.trans ?_ ((arr_at (dqG Q K W D U) t R h e hlt).symm.trans ?_)
  rotate_left
  · blk_point [idx1_12]
  have close := @close (pair (dqG Q K W D U) t) (fun h b r e => dqU (pair Q t h) (pair K t h) (pair W t h) (pair D t h) (pair (fun g R _ => U g R) t h · 0) b r e)
    (fun h b r e => by simp only [pair, dqG, bl_row, rw_row])
  unfold outsAt1
  frame_out
  canon_tiles x h
  case piece0 =>
    exact close 7 x _ (fun r h e => dq_step 7 (by decide) 896 768 rfl rfl (by decide) (by decide) (blk1_0 V c hQ t) (blk1_1 V c hK t) (blk1_2 V c hW t) (blk1_3 V c hD t) (blk1_4 V c hS t) (blk1_5 V c hU t) r h e) h0 h1
  case piece1 =>
    exact close 6 x _ (fun r h e => dq_step 6 (by decide) 768 640 rfl rfl (by decide) (by decide) (blk1_0 V c hQ t) (blk1_1 V c hK t) (blk1_2 V c hW t) (blk1_3 V c hD t) (blk1_4 V c hS t) (blk1_5 V c hU t) r h e) h0 h1
  case piece2 =>
    exact close 5 x _ (fun r h e => dq_step 5 (by decide) 640 512 rfl rfl (by decide) (by decide) (blk1_0 V c hQ t) (blk1_1 V c hK t) (blk1_2 V c hW t) (blk1_3 V c hD t) (blk1_4 V c hS t) (blk1_5 V c hU t) r h e) h0 h1
  case piece3 =>
    exact close 4 x _ (fun r h e => dq_step 4 (by decide) 512 384 rfl rfl (by decide) (by decide) (blk1_0 V c hQ t) (blk1_1 V c hK t) (blk1_2 V c hW t) (blk1_3 V c hD t) (blk1_4 V c hS t) (blk1_5 V c hU t) r h e) h0 h1
  case piece4 =>
    exact close 3 x _ (fun r h e => dq_step 3 (by decide) 384 256 rfl rfl (by decide) (by decide) (blk1_0 V c hQ t) (blk1_1 V c hK t) (blk1_2 V c hW t) (blk1_3 V c hD t) (blk1_4 V c hS t) (blk1_5 V c hU t) r h e) h0 h1
  case piece5 =>
    exact close 2 x _ (fun r h e => dq_step 2 (by decide) 256 128 rfl rfl (by decide) (by decide) (blk1_0 V c hQ t) (blk1_1 V c hK t) (blk1_2 V c hW t) (blk1_3 V c hD t) (blk1_4 V c hS t) (blk1_5 V c hU t) r h e) h0 h1
  case piece6 =>
    exact close 1 x _ (fun r h e => dq_step 1 (by decide) 128 0 rfl rfl (by decide) (by decide) (blk1_0 V c hQ t) (blk1_1 V c hK t) (blk1_2 V c hW t) (blk1_3 V c hD t) (blk1_4 V c hS t) (blk1_5 V c hU t) r h e) h0 h1
  case piece7 =>
    exact close 0 x _ (fun r h e => dq_first t (by decide) (blk1_0 V c hQ t) (blk1_1 V c hK t) (blk1_2 V c hW t) (blk1_3 V c hD t) (blk1_4 V c hS t) (blk1_5 V c hU t) (blk1_6 V c hK t) (blk1_7 V c hW t) r h e) (h0.trans (by simp)) h1

/-- The backward call's gradient of the keys. -/
theorem bwd_dk (hQ : V c main_v3 = arr Q) (hK : V c main_v5 = arr K) (hW : V c main_v7 = arr W) (hD : V c main_v16 = arr D)
    (hS : V c main_v8_1 = arr (logR Q K)) (hU : V c main_v17 = arr (fun g R _ => U g R)) :
    (dat1 V c).arrAt 13 cfg1.N = arr (dkG Q K W D U) := by
  refine (dat1 V c).arrAt_eq_of_covers 13 _ (by decide +kernel) fun t hf y => ?_
  blk_simp
  rw [after1_13]
  obtain ⟨R, l, rfl⟩ : ∃ (R : Fin 1024) (l : Fin 128), y = ix2 R l := ⟨y 0, y 1, (ix2_eta y).symm⟩
  obtain ⟨h, e, rfl⟩ := lane_cases l
  have hlt := lt_cols t (lane h e)
  refine Eq.trans ?_ ((arr_at (dkG Q K W D U) t R h e hlt).symm.trans ?_)
  rotate_left
  · blk_point [idx1_13]
  unfold outsAt1
  frame_out
  refine Eq.trans ?_ (congrArg Real.toEReal (acc_total (dkU (pair Q t h) (pair K t h) (pair W t h) (pair D t h) (pair (fun g R _ => U g R) t h · 0)) R e))
  refine acc_step (f := fun _ => 0) (fun r => (dkL (hN := mask1_last t) ..).trans (by rw [EReal.coe_zero, add_zero])) ?_
  refine acc_step (fun κ => dk_step 7 (by decide) 896 768 rfl rfl (by decide) (by decide) (blk1_0 V c hQ t) (blk1_1 V c hK t) (blk1_2 V c hW t) (blk1_3 V c hD t) (blk1_4 V c hS t) (blk1_5 V c hU t) _ κ h e) ?_
  refine acc_step (fun κ => dk_step 6 (by decide) 768 640 rfl rfl (by decide) (by decide) (blk1_0 V c hQ t) (blk1_1 V c hK t) (blk1_2 V c hW t) (blk1_3 V c hD t) (blk1_4 V c hS t) (blk1_5 V c hU t) _ κ h e) ?_
  refine acc_step (fun κ => dk_step 5 (by decide) 640 512 rfl rfl (by decide) (by decide) (blk1_0 V c hQ t) (blk1_1 V c hK t) (blk1_2 V c hW t) (blk1_3 V c hD t) (blk1_4 V c hS t) (blk1_5 V c hU t) _ κ h e) ?_
  refine acc_step (fun κ => dk_step 4 (by decide) 512 384 rfl rfl (by decide) (by decide) (blk1_0 V c hQ t) (blk1_1 V c hK t) (blk1_2 V c hW t) (blk1_3 V c hD t) (blk1_4 V c hS t) (blk1_5 V c hU t) _ κ h e) ?_
  refine acc_step (fun κ => dk_step 3 (by decide) 384 256 rfl rfl (by decide) (by decide) (blk1_0 V c hQ t) (blk1_1 V c hK t) (blk1_2 V c hW t) (blk1_3 V c hD t) (blk1_4 V c hS t) (blk1_5 V c hU t) _ κ h e) ?_
  refine acc_step (fun κ => dk_step 2 (by decide) 256 128 rfl rfl (by decide) (by decide) (blk1_0 V c hQ t) (blk1_1 V c hK t) (blk1_2 V c hW t) (blk1_3 V c hD t) (blk1_4 V c hS t) (blk1_5 V c hU t) _ κ h e) ?_
  refine acc_step (fun κ => dk_step 1 (by decide) 128 0 rfl rfl (by decide) (by decide) (blk1_0 V c hQ t) (blk1_1 V c hK t) (blk1_2 V c hW t) (blk1_3 V c hD t) (blk1_4 V c hS t) (blk1_5 V c hU t) _ κ h e) ?_
  refine acc_step (fun r => dk_first t (by decide) (blk1_0 V c hQ t) (blk1_1 V c hK t) (blk1_2 V c hW t) (blk1_3 V c hD t) (blk1_4 V c hS t) (blk1_5 V c hU t) (blk1_6 V c hK t) (blk1_7 V c hW t) _ r h e) ?_
  exact acc_zero (fun κ => by pointwise [k1_pay7])

/-- The backward call's gradient of the values. -/
theorem bwd_dv (hQ : V c main_v3 = arr Q) (hK : V c main_v5 = arr K) (hD : V c main_v16 = arr D)
    (hS : V c main_v8_1 = arr (logR Q K)) :
    (dat1 V c).arrAt 14 cfg1.N = arr (dvG Q K D) := by
  refine (dat1 V c).arrAt_eq_of_covers 14 _ (by decide +kernel) fun t hf y => ?_
  blk_simp
  rw [after1_14]
  obtain ⟨R, l, rfl⟩ : ∃ (R : Fin 1024) (l : Fin 128), y = ix2 R l := ⟨y 0, y 1, (ix2_eta y).symm⟩
  obtain ⟨h, e, rfl⟩ := lane_cases l
  have hlt := lt_cols t (lane h e)
  refine Eq.trans ?_ ((arr_at (dvG Q K D) t R h e hlt).symm.trans ?_)
  rotate_left
  · blk_point [idx1_14]
  unfold outsAt1
  frame_out
  refine Eq.trans ?_ (congrArg Real.toEReal (acc_total (dvW (pair Q t h) (pair K t h) (pair D t h)) R e))
  refine acc_step (f := fun _ => 0) (fun r => (dvL (hN := mask1_last t) ..).trans (by rw [EReal.coe_zero, add_zero])) ?_
  refine acc_step (fun κ => dv_step 7 (by decide) 896 768 rfl rfl (by decide) (by decide) (blk1_0 V c hQ t) (blk1_1 V c hK t) (blk1_3 V c hD t) (blk1_4 V c hS t) _ κ h e) ?_
  refine acc_step (fun κ => dv_step 6 (by decide) 768 640 rfl rfl (by decide) (by decide) (blk1_0 V c hQ t) (blk1_1 V c hK t) (blk1_3 V c hD t) (blk1_4 V c hS t) _ κ h e) ?_
  refine acc_step (fun κ => dv_step 5 (by decide) 640 512 rfl rfl (by decide) (by decide) (blk1_0 V c hQ t) (blk1_1 V c hK t) (blk1_3 V c hD t) (blk1_4 V c hS t) _ κ h e) ?_
  refine acc_step (fun κ => dv_step 4 (by decide) 512 384 rfl rfl (by decide) (by decide) (blk1_0 V c hQ t) (blk1_1 V c hK t) (blk1_3 V c hD t) (blk1_4 V c hS t) _ κ h e) ?_
  refine acc_step (fun κ => dv_step 3 (by decide) 384 256 rfl rfl (by decide) (by decide) (blk1_0 V c hQ t) (blk1_1 V c hK t) (blk1_3 V c hD t) (blk1_4 V c hS t) _ κ h e) ?_
  refine acc_step (fun κ => dv_step 2 (by decide) 256 128 rfl rfl (by decide) (by decide) (blk1_0 V c hQ t) (blk1_1 V c hK t) (blk1_3 V c hD t) (blk1_4 V c hS t) _ κ h e) ?_
  refine acc_step (fun κ => dv_step 1 (by decide) 128 0 rfl rfl (by decide) (by decide) (blk1_0 V c hQ t) (blk1_1 V c hK t) (blk1_3 V c hD t) (blk1_4 V c hS t) _ κ h e) ?_
  refine acc_step (fun r => dv_first t (by decide) (blk1_0 V c hQ t) (blk1_1 V c hK t) (blk1_3 V c hD t) (blk1_4 V c hS t) (blk1_6 V c hK t) _ r h e) ?_
  exact acc_zero (fun κ => by pointwise [k1_pay8])

end Arrays

end Cert.AttnIdeal.Blocks

end
-- ==== Proof.AttnRefReal.lean ====
/- The attention's reference at real arguments: what each of its stages holds, and its five results as arrays of the heads' rows. -/
module

public import proofs.«01_k».proof.Proof.AttnBwdOut
public import proofs.«01_k».proof.Proof.Gen.AttnRefIdeal.Read
public import Idealize.ShloMosaic.Lib.Pointwise
public import Idealize.ShloMosaic.Lib.ValueIdx

@[expose] public section

noncomputable section

namespace Cert.AttnRefIdeal.Real

open Cert.AttnRefIdeal Cert.AttnRefIdeal.Gen Cert.AttnRefIdeal.Read Idealize.ShloMosaic Cert.AttnMath Cert.Lift
open Cert.AttnIdeal.Blocks (band andi_ite hd ln bl rw' arr row_bl bl_row rw_row)

/-- An array of reals. -/
def up {s : Shape} (A : s.Idx → ℝ) : s.Idx → EReal := fun i => (A i : EReal)

/-- The rows of the reference's head `n`: residue `n % 16` of head `n / 16`. -/
def nr (A : S1x16384x6x64.Idx → ℝ) (n : Fin 96) : Rows :=
  fun s e => A (ix4 (0 : Fin 1) (⟨s.val * 16 + n.val % 16, by omega⟩ : Fin 16384) (⟨n.val / 16, by omega⟩ : Fin 6) e)

/-- The same, scaled. -/
def ns (A : S1x16384x6x64.Idx → ℝ) (n : Fin 96) : Rows := fun s e => nr A n s e * (1 / 8)

/-- One number for each of its rows. -/
def nl (L : S1x16384x6.Idx → ℝ) (n : Fin 96) : Fin 1024 → ℝ :=
  fun s => L (ix3 (0 : Fin 1) (⟨s.val * 16 + n.val % 16, by omega⟩ : Fin 16384) (⟨n.val / 16, by omega⟩ : Fin 6))

/-- The kernel's head `g` is the reference's head `hn g`. -/
def hn (g : Fin 96) : Fin 96 := ⟨g.val % 6 * 16 + g.val / 6, by omega⟩

theorem row_eq (b : Fin 8) (r : Fin 128) (h) : (⟨b.val * 128 + r.val, h⟩ : Fin 1024) = row b r := Fin.ext (by simp only [row]; omega)

/-- A window's row, zero before the beginning. -/
def kz (K : Rows) (b : Fin 8) (κ : Fin 256) (e : Fin 64) : ℝ := if b.val = 0 ∧ κ.val < 128 then 0 else K (kr b κ) e

theorem kz_vis {b r κ} (h : vis b r κ) (K : Rows) (e : Fin 64) : kz K b κ e = K (kr b κ) e :=
  if_neg fun c => by rcases h with ⟨-, -, h | h⟩ <;> omega

theorem lit_eighth : Ideal.ofBits .f32 0x3E000000#32 = ((1 / 8 : ℝ) : EReal) := by
  simp [Ideal.ofBits, Ideal.ieee, -EReal.coe_mul]; norm_num

section Reads
variable (q k v d : S1x16384x6x64.Idx → ℝ) (l : S1x16384x6.Idx → ℝ) (n : Fin 96) (b : Fin 8) (r : Fin 128) (κ : Fin 256) (e : Fin 64)

theorem v6_at (s : Fin 1024) : val_main_v6 (F := Ideal) (up k) (ix3 n s e) = (nr k n s e : EReal) := by
  pointwise [val_main_v6, val_main_v5, val_main_v4]; rfl
theorem v9_at (s : Fin 1024) : val_main_v9 (F := Ideal) (up v) (ix3 n s e) = (nr v n s e : EReal) := by
  pointwise [val_main_v9, val_main_v8, val_main_v7]; rfl
theorem v10_at : val_main_v10 (F := Ideal) (up q) (ix5 n (0 : Fin 1) b r e) = (nr q n (row b r) e : EReal) := by
  pointwise [val_main_v10, val_main_v3, val_main_v2, val_main_v1, val_main_v0]
  simp only [← row_eq b r (by omega)]; rfl
theorem v94_at : val_main_v94 (F := Ideal) (up d) (ix5 n (0 : Fin 1) b r e) = (nr d n (row b r) e : EReal) := by
  pointwise [val_main_v94, val_main_v92, val_main_v91, val_main_v90]
  simp only [← row_eq b r (by omega)]; rfl
theorem v95_at : val_main_v95 (F := Ideal) (up l) (ix5 n (0 : Fin 1) b r (0 : Fin 1)) = (nl l n (row b r) : EReal) := by
  pointwise [val_main_v95, val_main_v93, val_main_v89, val_main_v88, val_main_v87]
  simp only [← row_eq b r (by omega)]; rfl

theorem window (K : Rows) (x : Fin 96 → Fin 1024 → Fin 64 → EReal) (hx : ∀ s, x n s e = (K s e : EReal))
    (h1 : κ.val < 128 → ¬ b.val * 128 + κ.val < 128 → b.val * 128 + κ.val - 128 < 1024) (h2 : ¬ κ.val < 128 → b.val * 128 + (κ.val - 128) < 1024) :
    (if h : κ.val < 128 then if h' : b.val * 128 + κ.val < 128 then 0 else x n ⟨b.val * 128 + κ.val - 128, h1 h h'⟩ e
      else x n ⟨b.val * 128 + (κ.val - 128), h2 h⟩ e) = (kz K b κ e : EReal) := by
  unfold kz
  by_cases h : κ.val < 128
  · rw [dif_pos h]
    by_cases hb : b.val = 0
    · rw [dif_pos (by omega), if_pos ⟨hb, h⟩, EReal.coe_zero]
    · rw [dif_neg (by omega), if_neg (by omega), hx]
      congr 2; exact Fin.ext (by simp only [kr]; rw [if_neg hb]; omega)
  · rw [dif_neg h, if_neg (by omega), hx]
    congr 2; exact Fin.ext (by simp only [kr]; split <;> omega)

theorem v20_at : val_main_v20 (F := Ideal) (up k) (ix4 n b κ e) = (kz (nr k n) b κ e : EReal) := by
  pointwise [val_main_v20, val_main_v12, val_main_v11, val_main_v16, val_main_v17, val_main_v18, val_main_v19, val_main_cst]
  exact window n b κ e (nr k n) (fun n s e => val_main_v6 (F := Ideal) (up k) (ix3 n s e)) (fun s => v6_at k n e s) (by omega) (by omega)
theorem v25_at : val_main_v25 (F := Ideal) (up v) (ix4 n b κ e) = (kz (nr v n) b κ e : EReal) := by
  pointwise [val_main_v25, val_main_v14, val_main_v11, val_main_v21, val_main_v22, val_main_v23, val_main_v24, val_main_cst]
  exact window n b κ e (nr v n) (fun n s e => val_main_v9 (F := Ideal) (up v) (ix3 n s e)) (fun s => v9_at v n e s) (by omega) (by omega)

theorem dist_eq : IntOp.subi (BitVec.ofNat 32 (b.val * 128 + r.val))
      (IntOp.subi (IntOp.addi (IntOp.muli (BitVec.ofNat 32 b.val) 128#32) (BitVec.ofNat 32 κ.val)) 128#32) =
    IntOp.subi (IntOp.addi (BitVec.ofNat 32 r.val) 128#32) (BitVec.ofNat 32 κ.val) := by
  simp only [IntOp.subi, IntOp.addi, IntOp.muli, BitVec.ofNat_add, BitVec.ofNat_mul]
  generalize BitVec.ofNat 32 r.val = x
  generalize BitVec.ofNat 32 κ.val = y
  generalize BitVec.ofNat 32 b.val = z
  refine BitVec.eq_of_toNat_eq ?_
  simp only [BitVec.toNat_sub, BitVec.toNat_add, BitVec.toNat_mul, BitVec.toNat_ofNat]
  omega

theorem kpos_eq : IntOp.cmpi CmpIPredicate.sge
      (IntOp.subi (IntOp.addi (IntOp.muli (BitVec.ofNat 32 b.val) 128#32) (BitVec.ofNat 32 κ.val)) 128#32) 0#32 =
    if 0 < b.val ∨ 128 ≤ κ.val then 1#1 else 0#1 := by
  revert b κ; decide +kernel

theorem v51_at : val_main_v51 (F := Ideal) (ix3 b r κ) = if vis b r κ then 1#1 else 0#1 := by
  pointwise [val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_c, val_main_c_2, val_main_c_3, val_main_c_4, val_main_c_5]
  rw [dist_eq, band r κ r.isLt κ.isLt, kpos_eq, andi_ite]
  exact if_congr (by simp [vis, and_assoc]) rfl rfl
theorem v56_1_at : val_main_v56_1 (F := Ideal) (ix5 n (0 : Fin 1) b r κ) = if vis b r κ then 1#1 else 0#1 := by
  pointwise [val_main_v56_1]; exact v51_at b r κ

end Reads

end Cert.AttnRefIdeal.Real

end
-- ==== Proof.AttnRefSoft.lean ====
/- The attention's reference at real arguments: the softmax, the cotangent of the scores, and the five results. -/
module

public import proofs.«01_k».proof.Proof.AttnRefReal

@[expose] public section

noncomputable section

namespace Cert.AttnRefIdeal.Real

open Cert.AttnRefIdeal Cert.AttnRefIdeal.Gen Cert.AttnRefIdeal.Read Idealize.ShloMosaic Cert.AttnMath Cert.Lift
open Cert.AttnIdeal.Blocks (band andi_ite hd ln bl rw' arr row_bl bl_row rw_row)

theorem p_kz (Q K V : Rows) (b r κ e) : pR Q K b r κ * kz V b κ e = pR Q K b r κ * V (kr b κ) e := by
  by_cases h : vis b r κ
  · rw [kz_vis h]
  · rw [pR, if_neg h, zero_mul, zero_mul]

theorem sc_kz {Q K : Rows} {b r κ} (h : vis b r κ) : (∑ e, kz K b κ e * Q (row b r) e) = sc Q K b r κ :=
  Finset.sum_congr rfl fun e _ => by rw [kz_vis h, mul_comm]

section Reads
variable (q k v d : S1x16384x6x64.Idx → ℝ) (l : S1x16384x6.Idx → ℝ) (n : Fin 96) (b : Fin 8) (r : Fin 128) (κ : Fin 256) (e : Fin 64)

theorem v56_at : val_main_v56_0 (F := Ideal) (up q) (up k) (ix5 n (0 : Fin 1) b r κ) = sE (ns q n) (nr k n) b r κ := by
  pointwise [val_main_v56_0, val_main_v55, val_main_v54, val_main_v53, val_main_v52, val_main_cst_6, val_main_call0_v2, val_main_call0_v0, val_main_cst_7, v56_1_at, v20_at, v10_at, lit_eighth, lit_bot]
  unfold sE
  by_cases h : vis b r κ
  · simp only [if_pos h]
    simp only [← EReal.coe_mul, ← coe_sum]
    refine (show _ from rfl : Scalar.select (1#1) _ _ = _).trans (congrArg Real.toEReal ?_)
    rw [Finset.sum_mul]
    exact Finset.sum_congr rfl fun e _ => by rw [kz_vis h]; unfold ns; ring
  · simp only [if_neg h]; rfl

theorem v57_at : val_main_v57 (F := Ideal) (up q) (up k) (ix4 n (0 : Fin 1) b r) = mE (ns q n) (nr k n) b r := by
  pointwise [val_main_v57, val_main_cst_8, v56_at, lit_bot]
  rfl

theorem v66_at : val_main_v66 (F := Ideal) (up q) (up k) (ix5 n (0 : Fin 1) b r κ) = (pR (ns q n) (nr k n) b r κ : EReal) := by
  pointwise [val_main_v66, val_main_v65, val_main_v64, val_main_v63, v57_at, v56_at]
  exact pR_coe _ _ _ _ _

theorem v68_at : val_main_v68 (F := Ideal) (up q) (up k) (ix5 n (0 : Fin 1) b r (0 : Fin 1)) = (lR (ns q n) (nr k n) b r : EReal) := by
  pointwise [val_main_v68, val_main_v67, val_main_cst_10, v66_at]
  exact (coe_sum _ _).symm

/-- The weighted sum of the window's values, before its division. -/
def pv (Q K V : Rows) (b : Fin 8) (r : Fin 128) (e : Fin 64) : ℝ := ∑ κ, pR Q K b r κ * V (kr b κ) e

theorem v70_at : val_main_v70 (F := Ideal) (up q) (up k) (up v) (ix5 n (0 : Fin 1) b r e) = (pv (ns q n) (nr k n) (nr v n) b r e : EReal) := by
  pointwise [val_main_v70, val_main_v69, v66_at, v25_at]
  simp only [← EReal.coe_mul, ← coe_sum]
  exact congrArg Real.toEReal (Finset.sum_congr rfl fun κ _ => by rw [mul_comm, p_kz])

theorem v72_at : val_main_v72 (F := Ideal) (up q) (up k) (up v) (ix5 n (0 : Fin 1) b r e) = (oR (ns q n) (nr k n) (nr v n) b r e : EReal) := by
  pointwise [val_main_v72, val_main_v71, v70_at, v68_at]
  exact div_real _ (lR_pos _ _ _ _).ne'

theorem v63_at : val_main_v63 (F := Ideal) (up q) (up k) (ix5 n (0 : Fin 1) b r (0 : Fin 1)) = (mR (ns q n) (nr k n) b r : EReal) := by
  pointwise [val_main_v63, v57_at]
  exact mE_coe _ _ _ _

theorem v76_at : val_main_v76 (F := Ideal) (up q) (up k) (ix5 n (0 : Fin 1) b r (0 : Fin 1)) = (Real.log (lR (ns q n) (nr k n) b r) : EReal) := by
  rw [val_main_v76_apply, v68_at]
  exact (Ideal.log_coe _).trans (if_neg (not_le.mpr (lR_pos _ _ _ _)))

theorem v77_at : val_main_v77 (F := Ideal) (up q) (up k) (ix5 n (0 : Fin 1) b r (0 : Fin 1)) = (lseR (ns q n) (nr k n) b r : EReal) := by
  rw [val_main_v77_apply, v63_at, v76_at]
  exact (EReal.coe_add _ _).symm

theorem v78_at : val_main_v78 (F := Ideal) (up q) (up k) (ix4 n (0 : Fin 1) b r) = (lseR (ns q n) (nr k n) b r : EReal) := by
  pointwise [val_main_v78, v77_at]

theorem v105_at : val_main_v105 (F := Ideal) (up q) (up k) (up d) (ix5 n (0 : Fin 1) b r e) =
    ((nr d n (row b r) e / lR (ns q n) (nr k n) b r : ℝ) : EReal) := by
  pointwise [val_main_v105, val_main_v104, v94_at, v68_at]
  exact div_real _ (lR_pos _ _ _ _).ne'

theorem v103_at : val_main_v103 (F := Ideal) (up q) (up k) (up v) (up d) (up l) (ix5 n (0 : Fin 1) b r (0 : Fin 1)) =
    ((nl l n (row b r) / lR (ns q n) (nr k n) b r + -∑ e, nr d n (row b r) e * (1 / (lR (ns q n) (nr k n) b r * lR (ns q n) (nr k n) b r)) * pv (ns q n) (nr k n) (nr v n) b r e : ℝ) : EReal) := by
  pointwise [val_main_v103, val_main_v102, val_main_v101, val_main_v100, val_main_v99, val_main_v98, val_main_v97, val_main_v96, val_main_v75, val_main_v74, val_main_v73, val_main_cst_11, val_main_cst_12, v70_at, v68_at, v94_at, v95_at]
  have h := (lR_pos (ns q n) (nr k n) b r).ne'
  rw [← EReal.coe_mul, ← EReal.coe_one, div_real _ h, div_real _ (mul_ne_zero h h)]
  simp only [← EReal.coe_mul, ← coe_sum, ← EReal.coe_neg, ← EReal.coe_add]

/-- A sum over axes of size one is its element. -/
theorem units (x : S96x1x8x128x1.Idx → EReal) (z : EReal) :
    Ideal.hostReduceAdd reducesTo_S96x1x8x128x1_S96x8x128_d1_4 x z (ix3 n b r) = z + x (ix5 n (0 : Fin 1) b r (0 : Fin 1)) := by
  unfold Ideal.hostReduceAdd
  have h : (Finset.univ.filter fun i => reducesTo_S96x1x8x128x1_S96x8x128_d1_4.drop i = ix3 n b r) = {ix5 n (0 : Fin 1) b r (0 : Fin 1)} := by
    ext i
    obtain ⟨i0, i1, i2, i3, i4, rfl⟩ : ∃ (i0 : Fin 96) (i1 : Fin 1) (i2 : Fin 8) (i3 : Fin 128) (i4 : Fin 1), i = ix5 i0 i1 i2 i3 i4 := ⟨_, _, _, _, _, eq_ix5 i⟩
    rw [Finset.mem_filter, Finset.mem_singleton]
    constructor
    · rintro ⟨-, hi⟩
      have h0 : i0 = n := congrFun hi 0
      have h1 : i2 = b := congrFun hi 1
      have h2 : i3 = r := congrFun hi 2
      have h3 : i1 = (0 : Fin 1) := Subsingleton.elim (α := Fin 1) _ _
      have h4 : i4 = (0 : Fin 1) := Subsingleton.elim (α := Fin 1) _ _
      rw [h0, h1, h2, h3, h4]
    · intro hi
      rw [hi]
      refine ⟨Finset.mem_univ _, funext fun a => ?_⟩
      fin_cases a <;> rfl
  rw [h, Finset.sum_singleton]

/-- The score's cotangent, as the reference writes it. -/
theorem ds_eq (Q K V DO : Rows) (DL : Fin 1024 → ℝ) :
    ((∑ e, DO (row b r) e / lR Q K b r * kz V b κ e) +
        (DL (row b r) / lR Q K b r + -∑ e, DO (row b r) e * (1 / (lR Q K b r * lR Q K b r)) * pv Q K V b r e)) * pR Q K b r κ =
      dsR Q K V DO DL b r κ := by
  unfold dsR
  rw [wR_eq]
  by_cases h : vis b r κ
  · have hl := (lR_pos Q K b r).ne'
    have h1 : (∑ e, DO (row b r) e / lR Q K b r * kz V b κ e) = dpR V DO b r κ / lR Q K b r := by
      unfold dpR
      rw [Finset.sum_div]
      exact Finset.sum_congr rfl fun e _ => by rw [kz_vis h]; ring
    have h2 : (∑ e, DO (row b r) e * (1 / (lR Q K b r * lR Q K b r)) * pv Q K V b r e) = (∑ e, DO (row b r) e * oR Q K V b r e) / lR Q K b r := by
      rw [Finset.sum_div]
      exact Finset.sum_congr rfl fun e _ => by unfold oR pv; field_simp
    rw [h1, h2]
    unfold deltaR
    field_simp
    ring
  · rw [pR, if_neg h, mul_zero, zero_div, zero_mul]

/-- A row's cotangents of the scores sum to the cotangent of its logarithm. -/
theorem ds_sum (Q K V DO : Rows) (DL : Fin 1024 → ℝ) : ∑ κ, dsR Q K V DO DL b r κ = DL (row b r) := by
  have hl := (lR_pos Q K b r).ne'
  have h1 : ∑ κ, wR Q K b r κ = 1 := by
    simp only [wR_eq]
    rw [← Finset.sum_div]
    exact div_self hl
  have h2 : ∑ κ, wR Q K b r κ * dpR V DO b r κ = ∑ e, DO (row b r) e * oR Q K V b r e := by
    simp only [dpR, Finset.mul_sum]
    rw [Finset.sum_comm]
    refine Finset.sum_congr rfl fun e _ => ?_
    unfold oR
    rw [Finset.sum_div, Finset.mul_sum]
    exact Finset.sum_congr rfl fun κ _ => by rw [wR_eq]; ring
  unfold dsR
  simp only [mul_sub, Finset.sum_sub_distrib]
  rw [h2, ← Finset.sum_mul, h1]
  unfold deltaR
  ring

theorem ds_mask (Q K V DO : Rows) (DL : Fin 1024 → ℝ) (h : ¬ vis b r κ) : dsR Q K V DO DL b r κ = 0 := by
  unfold dsR wR; rw [if_neg h, zero_mul]

theorem ds_kz (Q K V DO X : Rows) (DL : Fin 1024 → ℝ) : dsR Q K V DO DL b r κ * kz X b κ e = dsR Q K V DO DL b r κ * X (kr b κ) e := by
  by_cases h : vis b r κ
  · rw [kz_vis h]
  · rw [ds_mask b r κ Q K V DO DL h, zero_mul, zero_mul]

theorem v108_at : val_main_v108 (F := Ideal) (up q) (up k) (up v) (up d) (ix5 n (0 : Fin 1) b r κ) =
    ((∑ e, nr d n (row b r) e / lR (ns q n) (nr k n) b r * kz (nr v n) b κ e : ℝ) : EReal) := by
  pointwise [val_main_v108, val_main_v107, val_main_v106, v105_at, v25_at]
  simp only [← EReal.coe_mul, ← coe_sum]

theorem v113_at : val_main_v113 (F := Ideal) (up q) (up k) (up v) (up d) (up l) (ix5 n (0 : Fin 1) b r κ) =
    val_main_v103 (F := Ideal) (up q) (up k) (up v) (up d) (up l) (ix5 n (0 : Fin 1) b r (0 : Fin 1)) := by
  have h : val_main_v111 (F := Ideal) (up q) (up k) (up v) (up d) (up l) (ix3 n b r) =
      val_main_v103 (F := Ideal) (up q) (up k) (up v) (up d) (up l) (ix5 n (0 : Fin 1) b r (0 : Fin 1)) := by
    refine (show _ = Ideal.hostReduceAdd reducesTo_S96x1x8x128x1_S96x8x128_d1_4 _ (Ideal.ofBits .f32 0#32) _ from rfl).trans ?_
    rw [units]
    pointwise []
  pointwise [val_main_v113, val_main_v112, h]

/-- The cotangent of a score. -/
abbrev ds (n : Fin 96) (b : Fin 8) (r : Fin 128) (κ : Fin 256) : ℝ := dsR (ns q n) (nr k n) (nr v n) (nr d n) (nl l n) b r κ

theorem v115_at : val_main_v115 (F := Ideal) (up q) (up k) (up v) (up d) (up l) (ix5 n (0 : Fin 1) b r κ) = (ds q k v d l n b r κ : EReal) := by
  pointwise [val_main_v115, val_main_v114, v108_at, v113_at, v103_at, v66_at]
  rw [← EReal.coe_add, ← EReal.coe_mul, ds_eq]

theorem v119_at : val_main_v119 (F := Ideal) (up q) (up k) (up v) (up d) (up l) (ix5 n (0 : Fin 1) b r (0 : Fin 1)) = 0 := by
  pointwise [val_main_v119, val_main_v118, val_main_v117, val_main_v116, val_main_cst_14, v95_at, v115_at]
  simp only [← EReal.coe_neg, ← coe_sum, ← EReal.coe_add]
  rw [Finset.sum_neg_distrib, ds_sum, add_neg_cancel, EReal.coe_zero]

theorem v120_at : val_main_v120 (F := Ideal) (up q) (up k) (up v) (up d) (up l) (ix3 n b r) = 0 := by
  refine (show _ = Ideal.hostReduceAdd reducesTo_S96x1x8x128x1_S96x8x128_d1_4 _ (Ideal.ofBits .f32 0#32) _ from rfl).trans ?_
  rw [units, v119_at]
  pointwise []

/-- A row's maximum is one of its scores. -/
theorem max_attained (Q K : Rows) : ∃ κ, sE Q K b r κ = mE Q K b r := by
  by_contra h
  push Not at h
  refine lt_irrefl (mE Q K b r) ?_
  refine (Finset.fold_max_lt _).mpr ⟨by rw [mE_coe]; exact EReal.bot_lt_coe _, fun κ hκ => lt_of_le_of_ne ?_ (h κ)⟩
  exact (Finset.le_fold_max _).mpr (.inr ⟨κ, hκ, le_rfl⟩)

/-- How many of a row's scores are its maximum. -/
theorem v62_at : ∃ x : ℝ, 0 < x ∧ val_main_v62 (F := Ideal) (up q) (up k) (ix4 n (0 : Fin 1) b r) = (x : EReal) := by
  refine ⟨∑ κ, if sE (ns q n) (nr k n) b r κ = mE (ns q n) (nr k n) b r then 1 else 0, ?_, ?_⟩
  · obtain ⟨κ, hκ⟩ := max_attained b r (ns q n) (nr k n)
    refine Finset.sum_pos' (fun κ _ => by split <;> norm_num) ⟨κ, Finset.mem_univ _, ?_⟩
    rw [if_pos hκ]; norm_num
  · pointwise [val_main_v62, val_main_v61, val_main_v60, val_main_v59, val_main_v58, val_main_cst_9, v56_at, v57_at]
    rw [coe_sum]
    refine Finset.sum_congr rfl fun κ _ => ?_
    by_cases h : sE (ns q n) (nr k n) b r κ = mE (ns q n) (nr k n) b r
    · rw [if_pos h, decide_eq_true h]; simp [FloatOps.uitofp]
    · rw [if_neg h, decide_eq_false h]; simp [FloatOps.uitofp]

theorem v124_at : val_main_v124 (F := Ideal) (up q) (up k) (up v) (up d) (up l) (ix5 n (0 : Fin 1) b r κ) = 0 := by
  obtain ⟨x, hx, h⟩ := v62_at q k n b r
  pointwise [val_main_v124, val_main_v123, val_main_v122, val_main_v121, v120_at, h]
  rw [Ideal.div_coe hx.ne', zero_mul, zero_mul]

theorem v128_at : val_main_v128 (F := Ideal) (up q) (up k) (up v) (up d) (up l) (ix5 n (0 : Fin 1) b r κ) = ((ds q k v d l n b r κ * (1 / 8) : ℝ) : EReal) := by
  pointwise [val_main_v128, val_main_v127, val_main_v126, val_main_v125, val_main_cst_16, val_main_call1_v0, val_main_call1_cst, v124_at, v115_at, v56_1_at, lit_eighth]
  by_cases h : vis b r κ
  · rw [if_pos h, EReal.coe_mul]; rfl
  · rw [if_neg h, ds, ds_mask _ _ _ _ _ _ _ _ h, zero_mul, EReal.coe_zero]
    rfl

/-- What block `b`'s queries give to the window's key `κ`, for the reference's head. -/
theorem v132_at : val_main_v132 (F := Ideal) (up q) (up k) (up v) (up d) (up l) (ix4 n b κ e) =
    (dkW (ns q n) (nr k n) (nr v n) (nr d n) (nl l n) b κ e : EReal) := by
  pointwise [val_main_v132, val_main_v129]
  rw [Fin.sum_univ_one]
  simp only [v128_at, v10_at, ← EReal.coe_mul, ← coe_sum]
  exact congrArg Real.toEReal (Finset.sum_congr rfl fun r _ => by rw [mul_assoc, mul_comm (1 / 8 : ℝ)]; rfl)

theorem v110_at : val_main_v110 (F := Ideal) (up q) (up k) (up d) (ix4 n b κ e) = (dvW (ns q n) (nr k n) (nr d n) b κ e : EReal) := by
  pointwise [val_main_v110, val_main_v109, val_main_v106]
  rw [Fin.sum_univ_one]
  simp only [v105_at, v66_at, ← EReal.coe_mul, ← coe_sum]
  exact congrArg Real.toEReal (Finset.sum_congr rfl fun r _ => by rw [wR_eq]; ring)

theorem v131_at : val_main_v131 (F := Ideal) (up q) (up k) (up v) (up d) (up l) (ix5 n (0 : Fin 1) b r e) =
    ((dqR (ns q n) (nr k n) (nr v n) (nr d n) (nl l n) b r e * (1 / 8) : ℝ) : EReal) := by
  pointwise [val_main_v131, val_main_v130, val_main_v129, v128_at, v20_at]
  simp only [← EReal.coe_mul, ← coe_sum]
  refine congrArg Real.toEReal ?_
  unfold dqR
  rw [Finset.sum_mul]
  exact Finset.sum_congr rfl fun κ _ => by rw [mul_right_comm, ds_kz]

theorem windows (W : Fin 8 → Fin 256 → Fin 64 → ℝ) (s : Fin 1024) (h1 h2) (h3 : 128 + s.val < 1024 → (128 + s.val) / 128 < 8)
    (h4 : 128 + s.val < 1024 → (128 + s.val) % 128 < 256) :
    ((W ⟨s.val / 128, h1⟩ ⟨128 + s.val % 128, h2⟩ e : EReal) +
        if h : 128 + s.val < 1024 then (W ⟨(128 + s.val) / 128, h3 h⟩ ⟨(128 + s.val) % 128, h4 h⟩ e : EReal) else 0) =
      (fromWindows W (bl s) (rw' s) e : EReal) := by
  unfold fromWindows
  rw [EReal.coe_add]
  refine congrArg₂ _ rfl ?_
  by_cases h : 128 + s.val < 1024
  · rw [dif_pos h, dif_pos (by simp only [bl]; omega)]
    congr 2
    · exact Fin.ext (by simp only [bl]; omega)
    · exact Fin.ext (by simp only [rw']; omega)
  · rw [dif_neg h, dif_neg (by simp only [bl]; omega), EReal.coe_zero]

theorem v150_at (s : Fin 1024) : val_main_v150 (F := Ideal) (up q) (up k) (up v) (up d) (up l) (ix3 n s e) =
    (fromWindows (dkW (ns q n) (nr k n) (nr v n) (nr d n) (nl l n)) (bl s) (rw' s) e : EReal) := by
  pointwise [val_main_v150, val_main_v146, val_main_v145, val_main_v144, val_main_v143, val_main_v142, val_main_v141, val_main_v140, val_main_cst_19, val_main_cst_20, v132_at]
  exact windows _ _ _ _ _ (by omega) (by omega)

theorem v148_at (s : Fin 1024) : val_main_v148 (F := Ideal) (up q) (up k) (up d) (ix3 n s e) =
    (fromWindows (dvW (ns q n) (nr k n) (nr d n)) (bl s) (rw' s) e : EReal) := by
  pointwise [val_main_v148, val_main_v139, val_main_v138, val_main_v137, val_main_v136, val_main_v135, val_main_v134, val_main_v133, val_main_cst_17, val_main_cst_18, v110_at]
  exact windows _ _ _ _ _ (by omega) (by omega)

end Reads

section Results
variable (q k v d : S1x16384x6x64.Idx → ℝ) (l : S1x16384x6.Idx → ℝ)

/-- The head of a column, in the reference's order. -/
theorem hn_eq (J : Fin 6144) (s : Fin 1024) (h) : (⟨J.val / 64 % 6 * 16 + (s.val * 16 + J.val / 384) % 16, h⟩ : Fin 96) = hn (hd J) :=
  Fin.ext (by simp only [hn, hd]; omega)

theorem hn_eq' (J : Fin 6144) (s : Fin 1024) (h) : (⟨J.val % 384 / 64 * 16 + (s.val * 16 + J.val / 384) % 16, h⟩ : Fin 96) = hn (hd J) :=
  Fin.ext (by simp only [hn, hd]; omega)

/-- An array of rows, from its elements. -/
theorem arr_of (x : S1024x6144.Idx → EReal) (Q : Fin 96 → Rows) (h : ∀ (s : Fin 1024) (J : Fin 6144), x (ix2 s J) = (Q (hd J) s (ln J) : EReal)) : x = arr Q := by
  funext i
  rw [eq_ix2 i]
  exact h _ _

theorem v162_real : val_main_v162 (F := Ideal) (up q) (up k) (up v) =
    arr fun g s e => oR (ns q (hn g)) (nr k (hn g)) (nr v (hn g)) (bl s) (rw' s) e := by
  refine arr_of _ _ fun s J => ?_
  pointwise [val_main_v162, val_main_v83, val_main_v82, val_main_v81, val_main_v79, v72_at]
  simp only [hn_eq]; rfl

theorem v165_real : val_main_v165 (F := Ideal) (up q) (up k) =
    arr fun g s _ => lseR (ns q (hn g)) (nr k (hn g)) (bl s) (rw' s) := by
  refine arr_of _ _ fun s J => ?_
  pointwise [val_main_v165, val_main_v164, val_main_v163, val_main_v86, val_main_v85, val_main_v84, val_main_v80, v78_at]
  simp only [hn_eq']; rfl

theorem v166_real : val_main_v166 (F := Ideal) (up q) (up k) (up v) (up d) (up l) =
    arr fun g s e => dqR (ns q (hn g)) (nr k (hn g)) (nr v (hn g)) (nr d (hn g)) (nl l (hn g)) (bl s) (rw' s) e * (1 / 8) := by
  refine arr_of _ _ fun s J => ?_
  pointwise [val_main_v166, val_main_v161, val_main_v160, val_main_v159, val_main_v158, val_main_v151, val_main_cst_21]
  rw [Fin.sum_univ_one, v131_at]
  simp only [hn_eq]; rfl

theorem v167_real : val_main_v167 (F := Ideal) (up q) (up k) (up v) (up d) (up l) =
    arr fun g s e => fromWindows (dkW (ns q (hn g)) (nr k (hn g)) (nr v (hn g)) (nr d (hn g)) (nl l (hn g))) (bl s) (rw' s) e := by
  refine arr_of _ _ fun s J => ?_
  pointwise [val_main_v167, val_main_v157, val_main_v156, val_main_v155, v150_at]
  simp only [hn_eq]; rfl

theorem v168_real : val_main_v168 (F := Ideal) (up q) (up k) (up d) =
    arr fun g s e => fromWindows (dvW (ns q (hn g)) (nr k (hn g)) (nr d (hn g))) (bl s) (rw' s) e := by
  refine arr_of _ _ fun s J => ?_
  pointwise [val_main_v168, val_main_v154, val_main_v153, val_main_v152, v148_at]
  simp only [hn_eq]; rfl

end Results

end Cert.AttnRefIdeal.Real

end
-- ==== Proof.AttnEq.lean ====
/- The dilated attention with its gradient: the two kernel calls compute what the transposed attention computes, for finite
   arguments. -/
module

public import proofs.«01_k».proof.Defs
public import proofs.«01_k».proof.Proof.AttnRefSoft
public import proofs.«01_k».proof.Proof.Gen.AttnRefIdeal.Run
public import proofs.«01_k».proof.Proof.Gen.Pre_attn_finite
public import proofs.«01_k».proof.Proof.Gen.AttnIdeal
public import proofs.«01_k».proof.Proof.Gen.AttnRefIdeal

@[expose] public section

noncomputable section

namespace Cert.AttnIdeal.Eq

open Idealize.ShloMosaic Cert.Lift Cert.AttnMath Cert.AttnIdeal.Blocks
open Cert.AttnIdeal Cert.AttnIdeal.Gen
open Cert.AttnRefIdeal.Real (up nr ns nl hn arr_of v162_real v165_real v166_real v167_real v168_real)
open Cert.AttnRefIdeal.Read (val_main_v162_eq val_main_v165_eq val_main_v166_eq val_main_v167_eq val_main_v168_eq)
open Idealize.ShloMosaic.TcCoe Idealize.SL.Sem

/-- The precondition says that the arguments are arrays of reals. -/
theorem finite [Cert.Pre_attn_finite.Facts] (q k v d : FVec Ideal S1x16384x6x64 .f32) (l : FVec Ideal S1x16384x6 .f32)
    (h : Cert.Pre_attn_finite.fn q k v d l = fun _ => 1#1) :
    (∃ X, q = up X) ∧ (∃ X, k = up X) ∧ (∃ X, v = up X) ∧ (∃ X, d = up X) ∧ ∃ X, l = up X := by
  obtain ⟨h1, h5⟩ := IntOp.andi_eq_one.mp (congrFun h ix0)
  obtain ⟨h1, h4⟩ := IntOp.andi_eq_one.mp h1
  obtain ⟨h1, h3⟩ := IntOp.andi_eq_one.mp h1
  obtain ⟨h1, h2⟩ := IntOp.andi_eq_one.mp h1
  exact ⟨reals fun i => Host.reduce_andi_all _ _ _ _ _ h1 i, reals fun i => Host.reduce_andi_all _ _ _ _ _ h2 i, reals fun i => Host.reduce_andi_all _ _ _ _ _ h3 i,
    reals fun i => Host.reduce_andi_all _ _ _ _ _ h4 i, reals fun i => Host.reduce_andi_all _ _ _ _ _ h5 i⟩

section
variable (m : (ℓ : Loc nD τ sig) → Buf (Elt Ideal) ℓ) (ρ : Dev nD → PrngReg) (c : Dev nD)
variable (q k v d : S1x16384x6x64.Idx → ℝ) (l : S1x16384x6.Idx → ℝ)
  (hq : m ((c.tc : Thread nD τ).loc main_arg0) = up q) (hk : m ((c.tc : Thread nD τ).loc main_arg1) = up k)

/-- A place of the kernel's array, in the reference's order. -/
theorem place (A : S1x16384x6x64.Idx → ℝ) (s : Fin 1024) (J : Fin 6144) (e : Fin 64) (h1 h2) :
    up A (ix4 (0 : Fin 1) (⟨s.val * 16 + J.val / 384, h1⟩ : Fin 16384) (⟨J.val / 64 % 6, h2⟩ : Fin 6) e) = (nr A (hn (hd J)) s e : EReal) := by
  refine congrArg (fun x => (A x : EReal)) (congrArg₂ (fun x y => ix4 (0 : Fin 1) x y e) (Fin.ext ?_) (Fin.ext ?_)) <;>
    (simp only [hn, hd]; have h3 : J.val / 384 = J.val / 64 / 6 := (Nat.div_div_eq_div_mul J.val 64 6).symm; omega)

theorem place' (L : S1x16384x6.Idx → ℝ) (s : Fin 1024) (J : Fin 6144) (h1 h2) :
    up L (ix3 (0 : Fin 1) (⟨s.val * 16 + J.val / 384, h1⟩ : Fin 16384) (⟨J.val / 64 % 6, h2⟩ : Fin 6)) = (nl L (hn (hd J)) s : EReal) := by
  refine congrArg (fun x => (L x : EReal)) (congrArg₂ (fun x y => ix3 (0 : Fin 1) x y) (Fin.ext ?_) (Fin.ext ?_)) <;>
    (simp only [hn, hd]; have h3 : J.val / 384 = J.val / 64 / 6 := (Nat.div_div_eq_div_mul J.val 64 6).symm; omega)

/-- A row of a head, where the host finds it. -/
theorem arr_place (Q : Fin 96 → Rows) (s : Fin 1024) (J : Fin 6144) (e : Fin 64) (h1 h2) :
    arr Q (ix2 (⟨(s.val * 16 + J.val / 384) / 16, h1⟩ : Fin 1024) (⟨(s.val * 16 + J.val / 384) % 16 * 384 + J.val / 64 % 6 * 64 + e.val, h2⟩ : Fin 6144)) =
      (Q (hd J) s e : EReal) := by
  have hg : hd (⟨(s.val * 16 + J.val / 384) % 16 * 384 + J.val / 64 % 6 * 64 + e.val, h2⟩ : Fin 6144) = hd J := Fin.ext (by simp only [hd]; omega)
  have he : ln (⟨(s.val * 16 + J.val / 384) % 16 * 384 + J.val / 64 % 6 * 64 + e.val, h2⟩ : Fin 6144) = e := Fin.ext (by simp only [ln]; omega)
  have hs : (⟨(s.val * 16 + J.val / 384) / 16, h1⟩ : Fin 1024) = s := Fin.ext (by simp only; omega)
  refine (show _ = ((Q (hd ⟨(s.val * 16 + J.val / 384) % 16 * 384 + J.val / 64 % 6 * 64 + e.val, h2⟩) ⟨(s.val * 16 + J.val / 384) / 16, h1⟩
    (ln ⟨(s.val * 16 + J.val / 384) % 16 * 384 + J.val / 64 % 6 * 64 + e.val, h2⟩) : ℝ) : EReal) from rfl).trans ?_
  rw [hg, he, hs]

/-- The heads' rows of the arguments. -/
abbrev qg : Fin 96 → Rows := fun g => ns q (hn g)
abbrev rg (A : S1x16384x6x64.Idx → ℝ) : Fin 96 → Rows := fun g => nr A (hn g)

/-- The arguments of the forward call. -/
theorem in0_q (hq : m ((c.tc : Thread nD τ).loc main_arg0) = up q) : V1 m ρ c main_v3 = arr (qg q) := by
  refine (show V1 m ρ c main_v3 = StableHlo.after hostOps0 (W0 m ρ c) (Proc.devRef .tc main_v3) from rfl).trans (arr_of _ _ fun s J => ?_)
  entry_read
  pointwise [(show W0 m ρ c (Proc.devRef .tc main_arg0) = up q from hq), place, Cert.AttnRefIdeal.Real.lit_eighth]
  exact (EReal.coe_mul _ _).symm
theorem in0_k (hk : m ((c.tc : Thread nD τ).loc main_arg1) = up k) : V1 m ρ c main_v5 = arr (rg k) := by
  refine (show V1 m ρ c main_v5 = StableHlo.after hostOps0 (W0 m ρ c) (Proc.devRef .tc main_v5) from rfl).trans (arr_of _ _ fun s J => ?_)
  entry_read
  pointwise [(show W0 m ρ c (Proc.devRef .tc main_arg1) = up k from hk), place]
  rfl
theorem in0_v (hv : m ((c.tc : Thread nD τ).loc main_arg2) = up v) : V1 m ρ c main_v7 = arr (rg v) := by
  refine (show V1 m ρ c main_v7 = StableHlo.after hostOps0 (W0 m ρ c) (Proc.devRef .tc main_v7) from rfl).trans (arr_of _ _ fun s J => ?_)
  entry_read
  pointwise [(show W0 m ρ c (Proc.devRef .tc main_arg2) = up v from hv), place]
  rfl

include hq hk

/-- What the forward call leaves. -/
theorem mid_o (hv : m ((c.tc : Thread nD τ).loc main_arg2) = up v) :
    W2 m ρ c (Proc.devRef .tc main_v8_0) = arr (outR (qg q) (rg k) (rg v)) :=
  (W2_arr m ρ c 5).trans (fwd_o (V1 m ρ) c (in0_q m ρ c q hq) (in0_k m ρ c k hk) (in0_v m ρ c v hv))
theorem mid_s : W2 m ρ c (Proc.devRef .tc main_v8_1) = arr (logR (qg q) (rg k)) :=
  (W2_arr m ρ c 6).trans (fwd_lse (V1 m ρ) c (in0_q m ρ c q hq) (in0_k m ρ c k hk))

/-- The arguments of the backward call. -/
theorem in1_q : V3 m ρ c main_v3 = arr (qg q) :=
  (W3_of m ρ c main_v3 (by decide)).trans ((W2_of m ρ c main_v3 (by decide)).trans (in0_q m ρ c q hq))
theorem in1_k : V3 m ρ c main_v5 = arr (rg k) :=
  (W3_of m ρ c main_v5 (by decide)).trans ((W2_of m ρ c main_v5 (by decide)).trans (in0_k m ρ c k hk))
theorem in1_v (hv : m ((c.tc : Thread nD τ).loc main_arg2) = up v) : V3 m ρ c main_v7 = arr (rg v) :=
  (W3_of m ρ c main_v7 (by decide)).trans ((W2_of m ρ c main_v7 (by decide)).trans (in0_v m ρ c v hv))
theorem in1_s : V3 m ρ c main_v8_1 = arr (logR (qg q) (rg k)) :=
  (W3_of m ρ c main_v8_1 (by decide)).trans (mid_s m ρ c q k hq hk)
theorem in1_d (hd : m ((c.tc : Thread nD τ).loc main_arg3) = up d) : V3 m ρ c main_v16 = arr (rg d) := by
  refine (show V3 m ρ c main_v16 = StableHlo.after hostOps1 (W2 m ρ c) (Proc.devRef .tc main_v16) from rfl).trans (arr_of _ _ fun s J => ?_)
  entry_read
  pointwise [((W2_args m ρ c main_arg3 (by decide)).trans hd : W2 m ρ c (Proc.devRef .tc main_arg3) = up d), place]
  rfl

/-- What each row takes away, as the host computes it. -/
abbrev ug : Fin 96 → Fin 1024 → ℝ := fun g R => deltaR (qg q g) (rg k g) (rg v g) (rg d g) (nl l (hn g)) (bl R) (rw' R)

theorem in1_u (hv : m ((c.tc : Thread nD τ).loc main_arg2) = up v) (hd : m ((c.tc : Thread nD τ).loc main_arg3) = up d)
    (hl : m ((c.tc : Thread nD τ).loc main_arg4) = up l) : V3 m ρ c main_v17 = arr fun g R _ => ug q k v d l g R := by
  refine (show V3 m ρ c main_v17 = StableHlo.after hostOps1 (W2 m ρ c) (Proc.devRef .tc main_v17) from rfl).trans (arr_of _ _ fun s J => ?_)
  entry_read
  pointwise [((W2_args m ρ c main_arg3 (by decide)).trans hd : W2 m ρ c (Proc.devRef .tc main_arg3) = up d),
    ((W2_args m ρ c main_arg4 (by decide)).trans hl : W2 m ρ c (Proc.devRef .tc main_arg4) = up l), place, place', mid_o m ρ c q k v hq hk hv, arr_place]
  unfold ug deltaR
  rw [EReal.coe_sub, coe_sum, row_bl]
  refine congrArg₂ _ (Finset.sum_congr rfl fun e _ => ?_) rfl
  rw [EReal.coe_mul]
  rfl

omit hq hk in
theorem ug_row (g : Fin 96) (b : Fin 8) (r : Fin 128) :
    ug q k v d l g (row b r) = deltaR (qg q g) (rg k g) (rg v g) (rg d g) (nl l (hn g)) b r := by
  unfold ug; rw [bl_row, rw_row]

variable (hv : m ((c.tc : Thread nD τ).loc main_arg2) = up v) (hd : m ((c.tc : Thread nD τ).loc main_arg3) = up d)
  (hl : m ((c.tc : Thread nD τ).loc main_arg4) = up l)

include hv in
/-- The results at the end. -/
theorem out_o : W5 m ρ c (Proc.devRef .tc main_v8_0) = arr fun g s e => oR (ns q (hn g)) (nr k (hn g)) (nr v (hn g)) (bl s) (rw' s) e :=
  (W5_of m ρ c main_v8_0 (by decide)).trans ((W4_of m ρ c main_v8_0 (by decide)).trans ((W3_of m ρ c main_v8_0 (by decide)).trans (mid_o m ρ c q k v hq hk hv)))
theorem out_s : W5 m ρ c (Proc.devRef .tc main_v8_1) = arr fun g s _ => lseR (ns q (hn g)) (nr k (hn g)) (bl s) (rw' s) :=
  (W5_of m ρ c main_v8_1 (by decide)).trans ((W4_of m ρ c main_v8_1 (by decide)).trans ((W3_of m ρ c main_v8_1 (by decide)).trans (mid_s m ρ c q k hq hk)))

include hv hd hl in
theorem out_k : W5 m ρ c (Proc.devRef .tc main_v18_1) =
    arr fun g s e => fromWindows (dkW (ns q (hn g)) (nr k (hn g)) (nr v (hn g)) (nr d (hn g)) (nl l (hn g))) (bl s) (rw' s) e := by
  refine (W5_of m ρ c main_v18_1 (by decide)).trans ((W4_arr m ρ c 13).trans ((bwd_dk (V3 m ρ) c (in1_q m ρ c q k hq hk) (in1_k m ρ c q k hq hk)
    (in1_v m ρ c q k v hq hk hv) (in1_d m ρ c q k d hq hk hd) (in1_s m ρ c q k hq hk) (in1_u m ρ c q k v d l hq hk hv hd hl)).trans ?_))
  refine congrArg arr (funext fun g => funext fun s => funext fun e => congrArg (fun W => fromWindows W (bl s) (rw' s) e) ?_)
  funext b κ e
  exact Finset.sum_congr rfl fun r _ => by rw [ug_row]; rfl

include hd in
theorem out_v : W5 m ρ c (Proc.devRef .tc main_v18_2) =
    arr fun g s e => fromWindows (dvW (ns q (hn g)) (nr k (hn g)) (nr d (hn g))) (bl s) (rw' s) e :=
  (W5_of m ρ c main_v18_2 (by decide)).trans ((W4_arr m ρ c 14).trans (bwd_dv (V3 m ρ) c (in1_q m ρ c q k hq hk) (in1_k m ρ c q k hq hk)
    (in1_d m ρ c q k d hq hk hd) (in1_s m ρ c q k hq hk)))

include hv hd hl in
theorem out_q : W5 m ρ c (Proc.devRef .tc main_v20) =
    arr fun g s e => dqR (ns q (hn g)) (nr k (hn g)) (nr v (hn g)) (nr d (hn g)) (nl l (hn g)) (bl s) (rw' s) e * (1 / 8) := by
  have h : W4 m ρ c (Proc.devRef .tc main_v18_0) = arr (dqG (qg q) (rg k) (rg v) (rg d) (ug q k v d l)) :=
    (W4_arr m ρ c 12).trans (bwd_dq (V3 m ρ) c (in1_q m ρ c q k hq hk) (in1_k m ρ c q k hq hk)
      (in1_v m ρ c q k v hq hk hv) (in1_d m ρ c q k d hq hk hd) (in1_s m ρ c q k hq hk) (in1_u m ρ c q k v d l hq hk hv hd hl))
  refine (show W5 m ρ c (Proc.devRef .tc main_v20) = StableHlo.after hostOps2 (W4 m ρ c) (Proc.devRef .tc main_v20) from rfl).trans (arr_of _ _ fun s J => ?_)
  entry_read
  pointwise [h, Cert.AttnRefIdeal.Real.lit_eighth]
  rw [EReal.coe_mul]
  refine congrArg (· * _) (congrArg Real.toEReal ?_)
  refine (show _ = dqU (qg q (Blocks.hd J)) (rg k (Blocks.hd J)) (rg v (Blocks.hd J)) (rg d (Blocks.hd J)) (ug q k v d l (Blocks.hd J)) (bl s) (rw' s) (ln J) from rfl).trans ?_
  exact Finset.sum_congr rfl fun κ _ => by rw [ug_row]; rfl
end

open Cert.AttnRefIdeal.Real in
theorem algebraic : algebraic_AttnIdeal_AttnRefIdeal_pre_attn_finite := by
  intro m g m' g' hp hm
  refine ⟨fun c => W5 m g c (Proc.devRef .tc main_v8_0), fun c => W5 m g c (Proc.devRef .tc main_v8_1), fun c => W5 m g c (Proc.devRef .tc main_v20),
    fun c => W5 m g c (Proc.devRef .tc main_v18_1), fun c => W5 m g c (Proc.devRef .tc main_v18_2),
    (θ_run Cert.AttnIdeal.defs _ _).mono (fun r h c => ?_) (Cert.AttnIdeal.Blocks.run m g),
    (θ_run Cert.AttnRefIdeal.defs _ _).mono (fun r h c => ?_) (Cert.AttnRefIdeal.Value.run m' g')⟩
  · have h' := fun (b : Ref sig .tc) hb => h c (Proc.devRef .tc b) (mem_uc b hb)
    exact ⟨h' main_v8_0 (by decide), h' main_v8_1 (by decide), h' main_v20 (by decide), h' main_v18_1 (by decide), h' main_v18_2 (by decide),
      (h' main_arg0 (by decide)).trans (W5_main_arg0 m g c), (h' main_arg1 (by decide)).trans (W5_main_arg1 m g c),
      (h' main_arg2 (by decide)).trans (W5_main_arg2 m g c), (h' main_arg3 (by decide)).trans (W5_main_arg3 m g c),
      (h' main_arg4 (by decide)).trans (W5_main_arg4 m g c)⟩
  · obtain ⟨hq, hk, hv, hd, hl⟩ := hm c
    obtain ⟨⟨q, eq⟩, ⟨k, ek⟩, ⟨v, ev⟩, ⟨d, ed⟩, ⟨l, el⟩⟩ := finite _ _ _ _ _ (hp c)
    have e0 : StableHlo.launchContents m' c (Proc.devRef .tc Cert.AttnRefIdeal.main_arg0) = up q := hq.trans eq
    have e1 : StableHlo.launchContents m' c (Proc.devRef .tc Cert.AttnRefIdeal.main_arg1) = up k := hk.trans ek
    have e2 : StableHlo.launchContents m' c (Proc.devRef .tc Cert.AttnRefIdeal.main_arg2) = up v := hv.trans ev
    have e3 : StableHlo.launchContents m' c (Proc.devRef .tc Cert.AttnRefIdeal.main_arg3) = up d := hd.trans ed
    have e4 : StableHlo.launchContents m' c (Proc.devRef .tc Cert.AttnRefIdeal.main_arg4) = up l := hl.trans el
    obtain ⟨h0, h1, h2, h3, h4, ha⟩ := h c
    refine ⟨?_, ?_, ?_, ?_, ?_, ha⟩
    · rw [h0, val_main_v162_eq, e0, e1, e2]; exact (v162_real q k v).trans (out_o m g c q k v eq ek ev).symm
    · rw [h1, val_main_v165_eq, e0, e1]; exact (v165_real q k).trans (out_s m g c q k eq ek).symm
    · rw [h2, val_main_v166_eq, e0, e1, e2, e3, e4]; exact (v166_real q k v d l).trans (out_q m g c q k v d l eq ek ev ed el).symm
    · rw [h3, val_main_v167_eq, e0, e1, e2, e3, e4]; exact (v167_real q k v d l).trans (out_k m g c q k v d l eq ek ev ed el).symm
    · rw [h4, val_main_v168_eq, e0, e1, e3]; exact (v168_real q k d).trans (out_v m g c q k d eq ek ed).symm

end Cert.AttnIdeal.Eq

end
-- ==== Proof.Stage.lean ====
module
public import proofs.«01_k».proof.Proof.Lift
public import Idealize.ShloMosaic.Lib.Pipeline.ValueKit
public import Idealize.ShloMosaic.Lib.ValueIdx

/-!
A strided layout keeps `d` consecutive tokens side by side in one row. A block of such an array, `n` rows of `d · 384` columns with
`n · d = 512`, is put back in token order through a scratch of three planes of 512 rows of 128 lanes: token `r` of every row goes to
the rows `r, r + d, r + 2d, …`, its lanes `128 k … 128 k + 127` to plane `k`. What the scratch holds afterwards is read here, whatever
was in it before.
-/

@[expose] public section
noncomputable section
namespace Cert.Stage
open Idealize.ShloMosaic Idealize.ShloMosaic.TcCoe

/-- The scratch: three planes of 512 rows of 128 lanes. -/
abbrev Planes : Shape := ⟨3, ![3, 512, 128]⟩
/-- One plane, as it is stored through. -/
abbrev Flat : Shape := ⟨2, ![512, 128]⟩
/-- One plane, as it is read. -/
abbrev Plane : Shape := ⟨3, ![1, 512, 128]⟩

variable {d n : ℕ}

theorem row_lt (h : n * d = 512) {r : ℕ} (hr : r < d) : r + d * (n - 1) < 512 := by
  rcases Nat.eq_zero_or_pos n with h0 | h0
  · rw [h0, Nat.zero_mul] at h; omega
  · have e : d * (n - 1) + d = n * d := by
      rw [← Nat.mul_succ, Nat.mul_comm, Nat.succ_eq_add_one, Nat.sub_add_cancel h0]
    omega

/-- The rows `r, r + d, r + 2d, …` of a plane. -/
def rows (h : n * d = 512) (r : ℕ) (hr : r < d) : Rect Flat :=
  ⟨⟨![r, 0], ![n, 128], ![d, 1], fun a => by
    fin_cases a
    · exact Or.inr (row_lt h hr)
    · exact Or.inr (show 0 + 1 * (128 - 1) < 128 by omega)⟩, fun a => by
    fin_cases a
    · exact (show 0 < d by omega)
    · exact Nat.one_pos⟩

/-- Plane `k` of the scratch. -/
def plane (k : ℕ) (hk : k < 3) : Rect Planes :=
  Rect.unit ![k, 0, 0] ![1, 512, 128] fun a => by
    fin_cases a
    · exact (show k + 1 ≤ 3 by omega)
    · exact (show 0 + 512 ≤ 512 by omega)
    · exact (show 0 + 128 ≤ 128 by omega)

/-- The columns of token `r`, lanes of plane `k`. -/
def cols (d n k : ℕ) (hk : k < 3) (r : ℕ) (hr : r < d) : Rect (⟨2, ![n, d * 384]⟩ : Shape) :=
  Rect.unit ![0, r * 384 + k * 128] ![n, 128] fun a => by
    fin_cases a
    · exact (show 0 + n ≤ n by omega)
    · exact (show r * 384 + k * 128 + 128 ≤ d * 384 by omega)

/-- The rows `r, r + d, …` of plane `k` of the scratch. -/
def place (h : n * d = 512) (k : ℕ) (hk : k < 3) (r : ℕ) (hr : r < d) : Rect Planes :=
  (plane k hk).within ((rows h r hr).consLift ![1, 512, 128] rfl (Fin.forall_fin_two.2 ⟨rfl, rfl⟩)) (fun _ => rfl)

/-- One store: token `r` of every row, the lanes of plane `k`. -/
def piece (h : n * d = 512) (x : Vec Ideal (⟨2, ![n, d * 384]⟩ : Shape) .f32) (k : ℕ) (hk : k < 3) (r : ℕ) (hr : r < d) :
    View.Piece (Elt Ideal) Planes .f32 :=
  ⟨place h k hk r hr,
    Rect.payAlong (Rect.numel_consLift (rows h r hr) ![1, 512, 128] rfl (Fin.forall_fin_two.2 ⟨rfl, rfl⟩))
      (shapeCast (⟨2, ![n, 128]⟩ : Shape) (View.ld x (cols d n k hk r hr)) rfl)⟩

/-- The stores of the first `N` tokens, the newest first, after whatever was stored before. -/
def strips (h : n * d = 512) (x : Vec Ideal (⟨2, ![n, d * 384]⟩ : Shape) .f32) (L : List (View.Piece (Elt Ideal) Planes .f32)) :
    (N : ℕ) → N ≤ d → List (View.Piece (Elt Ideal) Planes .f32)
  | 0, _ => L
  | N + 1, hN => piece h x 2 (by decide) N hN :: piece h x 1 (by decide) N hN :: piece h x 0 (by decide) N hN ::
      strips h x L N (Nat.le_of_succ_le hN)

theorem emb_place (h : n * d = 512) (k : ℕ) (hk : k < 3) (r : ℕ) (hr : r < d) (x : (place h k hk r hr).shape.Idx) :
    ((place h k hk r hr).emb x 0).val = k ∧ ((place h k hk r hr).emb x 1).val = r + d * (x 1).val
      ∧ ((place h k hk r hr).emb x 2).val = (x 2).val := by
  have h0 : (x 0).val < 1 := (x 0).isLt
  refine ⟨?_, ?_, ?_⟩
  · show k + 0 + 1 * (x 0).val = k; omega
  · show 0 + r + d * (x 1).val = _; omega
  · show 0 + 0 + 1 * (x 2).val = _; omega

theorem pay_piece (h : n * d = 512) (x : Vec Ideal (⟨2, ![n, d * 384]⟩ : Shape) .f32) (k : ℕ) (hk : k < 3) (r : ℕ) (hr : r < d)
    (y : (place h k hk r hr).shape.Idx) (i : Fin n) (J : Fin (d * 384)) (hi : i.val = (y 1).val)
    (hJ : J.val = r * 384 + k * 128 + (y 2).val) : (piece h x k hk r hr).2 y = x (ix2 i J) := by
  have hz : ∀ a : Fin 2, ((ix2 (⟨(y 1).val, (y 1).isLt⟩ : Fin n) (⟨(y 2).val, (y 2).isLt⟩ : Fin 128) : (⟨2, ![n, 128]⟩ : Shape).Idx) a).val =
      (y a.succ).val := Fin.forall_fin_two.2 ⟨rfl, rfl⟩
  refine Eq.trans (b := (shapeCast (⟨2, ![n, 128]⟩ : Shape) (View.ld x (cols d n k hk r hr)) rfl)
    (ix2 (⟨(y 1).val, (y 1).isLt⟩ : Fin n) (⟨(y 2).val, (y 2).isLt⟩ : Fin 128))) ?_ ?_
  · exact Rect.payAlong_consLift (rows h r hr) ![1, 512, 128] rfl (Fin.forall_fin_two.2 ⟨rfl, rfl⟩)
      (shapeCast (⟨2, ![n, 128]⟩ : Shape) (View.ld x (cols d n k hk r hr)) rfl)
      (Rect.numel_consLift (rows h r hr) ![1, 512, 128] rfl (Fin.forall_fin_two.2 ⟨rfl, rfl⟩)) y _ hz
  refine (congrFun (shapeCast_self (s := (⟨2, ![n, 128]⟩ : Shape)) (View.ld x (cols d n k hk r hr)) rfl) _).trans ?_
  refine congrArg x (funext fun a => Fin.ext ?_)
  fin_cases a
  · show 0 + 1 * (y 1).val = i.val; omega
  · show r * 384 + k * 128 + 1 * (y 2).val = J.val; omega

theorem mem_place (h : n * d = 512) (k : ℕ) (hk : k < 3) (r : ℕ) (hr : r < d) (y : Planes.Idx) (h0 : (y 0).val = k)
    (h1 : (y 1).val % d = r) : ∃ x : (place h k hk r hr).shape.Idx, y = (place h k hk r hr).emb x ∧ (x 1).val = (y 1).val / d ∧
      (x 2).val = (y 2).val := by
  have hy : (y 1).val < 512 := (y 1).isLt
  have hd : (y 1).val / d < n := by
    rw [Nat.div_lt_iff_lt_mul (by omega)]; omega
  refine ⟨ix3 (0 : Fin 1) (⟨(y 1).val / d, hd⟩ : Fin n) (⟨(y 2).val, (y 2).isLt⟩ : Fin 128), ?_, rfl, rfl⟩
  obtain ⟨e0, e1, e2⟩ := emb_place h k hk r hr (ix3 (0 : Fin 1) (⟨(y 1).val / d, hd⟩ : Fin n) (⟨(y 2).val, (y 2).isLt⟩ : Fin 128))
  funext a; apply Fin.ext
  fin_cases a
  · exact h0.trans e0.symm
  · refine Eq.trans ?_ e1.symm
    show (y 1).val = r + d * ((y 1).val / d)
    have := Nat.mod_add_div (y 1).val d
    omega
  · exact e2.symm

theorem not_mem_place (h : n * d = 512) (k : ℕ) (hk : k < 3) (r : ℕ) (hr : r < d) (y : Planes.Idx)
    (hy : ¬((y 0).val = k ∧ (y 1).val % d = r)) : y ∉ (place h k hk r hr).set := by
  intro hm
  obtain ⟨x, rfl⟩ := (place h k hk r hr).exists_idx_of_mem hm
  obtain ⟨e0, e1, e2⟩ := emb_place h k hk r hr x
  refine hy ⟨e0, ?_⟩
  refine (congrArg (· % d) e1).trans ?_
  show (r + d * (x 1).val) % d = r
  rw [Nat.add_mul_mod_self_left, Nat.mod_eq_of_lt hr]

/-- A store puts its token where the index names it, and leaves everything else as it was. -/
theorem canon_piece (h : n * d = 512) (x : Vec Ideal (⟨2, ![n, d * 384]⟩ : Shape) .f32) (k : ℕ) (hk : k < 3) (r : ℕ) (hr : r < d)
    (L : List (View.Piece (Elt Ideal) Planes .f32)) (y : Planes.Idx) (i : Fin n) (J : Fin (d * 384)) (hi : i.val = (y 1).val / d)
    (hJ : J.val = (y 1).val % d * 384 + (y 0).val * 128 + (y 2).val)
    (hL : ¬((y 0).val = k ∧ (y 1).val % d = r) → View.canon L y = x (ix2 i J)) :
    View.canon (piece h x k hk r hr :: L) y = x (ix2 i J) := by
  by_cases hy : (y 0).val = k ∧ (y 1).val % d = r
  · obtain ⟨z, e, z1, z2⟩ := mem_place h k hk r hr y hy.1 hy.2
    refine (congrArg _ e).trans ((View.canon_cons_emb _ _ _ _).trans (pay_piece h x k hk r hr z i J (hi.trans z1.symm) ?_))
    rw [hJ, hy.1, hy.2, z2]
  · exact (View.canon_cons_of_not_mem (piece h x k hk r hr) L (y := y) (not_mem_place h k hk r hr y hy)).trans (hL hy)

/-- After the stores of `N` tokens, every place of a token below `N` holds it. -/
theorem canon_strips (h : n * d = 512) (x : Vec Ideal (⟨2, ![n, d * 384]⟩ : Shape) .f32) (L : List (View.Piece (Elt Ideal) Planes .f32))
    (y : Planes.Idx) (i : Fin n) (J : Fin (d * 384)) (hi : i.val = (y 1).val / d)
    (hJ : J.val = (y 1).val % d * 384 + (y 0).val * 128 + (y 2).val) :
    ∀ (N : ℕ) (hN : N ≤ d), (y 1).val % d < N → View.canon (strips h x L N hN) y = x (ix2 i J)
  | 0, _, hy => absurd hy (Nat.not_lt_zero _)
  | N + 1, hN, hy => by
    have h0 : (y 0).val < 3 := (y 0).isLt
    have hN' : N < d := hN
    rw [strips]
    refine canon_piece h x 2 (by decide) N hN' _ y i J hi hJ fun n2 => ?_
    refine canon_piece h x 1 (by decide) N hN' _ y i J hi hJ fun n1 => ?_
    refine canon_piece h x 0 (by decide) N hN' _ y i J hi hJ fun n0 => ?_
    exact canon_strips h x L y i J hi hJ N _ (by omega)

/-- What plane `k` reads after all the stores: row `R`, lane `l` is token `R % d` of row `R / d`. -/
def put (h : n * d = 512) (x : Vec Ideal (⟨2, ![n, d * 384]⟩ : Shape) .f32) (k : ℕ) (hk : k < 3) : Vec Ideal Plane .f32 := fun y =>
  x (ix2 (⟨(y 1).val / d, by
      have hy : (y 1).val < 512 := (y 1).isLt
      rw [Nat.div_lt_iff_lt_mul (Nat.pos_of_ne_zero fun e => by subst e; omega)]; omega⟩ : Fin n)
    (⟨(y 1).val % d * 384 + k * 128 + (y 2).val, by
      have hy : (y 1).val % d < d := Nat.mod_lt _ (Nat.pos_of_ne_zero fun e => by subst e; omega)
      have h2 : (y 2).val < 128 := (y 2).isLt
      omega⟩ : Fin (d * 384)))

theorem read_strips (h : n * d = 512) (x : Vec Ideal (⟨2, ![n, d * 384]⟩ : Shape) .f32) (L : List (View.Piece (Elt Ideal) Planes .f32))
    (k : ℕ) (hk : k < 3) {sig' : RefSig} {κ' : Kind} {sp : Space} (v : View sig' κ' sp Planes .f32) :
    v.readCov (strips h x L d le_rfl) (plane k hk).toLoadRect = put h x k hk := by
  rw [View.readCov_eq_canon']
  funext y
  have h0 : (y 0).val < 1 := (y 0).isLt
  have e1 : (((plane k hk).toLoadRect.idx y 1).val) = (y 1).val := by show 0 + 1 * (y 1).val = _; omega
  refine canon_strips h x L _ _ _ ?_ ?_ d le_rfl (Nat.mod_lt _ (Nat.pos_of_ne_zero fun e => by subst e; omega))
  · show (y 1).val / d = _ / d
    rw [e1]
  · show (y 1).val % d * 384 + k * 128 + (y 2).val = _ % d * 384 + (k + 1 * (y 0).val) * 128 + (0 + 1 * (y 2).val)
    rw [e1]; omega

/-- Three planes beside each other, which the rows of an array whose rows hold several tokens were spread into. -/
theorem planes (R : Fin 512) {d n : ℕ} (h : n * d = 512) (x : Vec Ideal (⟨2, ![n, d * 384]⟩ : Shape) .f32) (κ : Fin 384) (i : Fin n) (J : Fin (d * 384))
    (hi : i.val = R.val / d) (hJ : J.val = R.val % d * 384 + κ.val) :
    (if h' : κ.val < 128 then put h x 0 (by decide) (ix3 0 R ⟨κ.val, h'⟩)
      else if h'' : κ.val - 128 < 128 then put h x 1 (by decide) (ix3 0 R ⟨κ.val - 128, h''⟩)
      else put h x 2 (by decide) (ix3 0 R ⟨κ.val - 128 - 128, by omega⟩)) = x (ix2 i J) := by
  split
  · exact congrArg₂ (fun a b => x (ix2 a b)) (Fin.ext hi.symm) (Fin.ext (by rw [hJ]; show R.val % d * 384 + 0 * 128 + κ.val = _; omega))
  · split
    · exact congrArg₂ (fun a b => x (ix2 a b)) (Fin.ext hi.symm) (Fin.ext (by rw [hJ]; show R.val % d * 384 + 1 * 128 + (κ.val - 128) = _; omega))
    · exact congrArg₂ (fun a b => x (ix2 a b)) (Fin.ext hi.symm) (Fin.ext (by rw [hJ]; show R.val % d * 384 + 2 * 128 + (κ.val - 128 - 128) = _; omega))

end Cert.Stage
end
-- ==== Proof.MergeOut.lean ====
module
public import proofs.«01_k».proof.Proof.Stage
public import proofs.«01_k».proof.Proof.Gen.MergeIdeal.Value
public import Idealize.ShloMosaic.Lib.Pipeline.ValueKit
public import Idealize.ShloMosaic.Lib.ValueIdx

@[expose] public section
noncomputable section
namespace Cert.MergeIdeal.Blocks
open Cert.MergeIdeal Cert.MergeIdeal.Gen Idealize.ShloMosaic Idealize.ShloMosaic.TcCoe Idealize.SL.Sem Cert.Lift Cert.Stage
open Idealize.ShloMosaic.Pipeline (Dat)
variable (m : (ℓ : Loc nD τ sig) → Buf (Elt Ideal) ℓ)

theorem congr4 {α β γ δ ε : Type} (f : α → β → γ → δ → ε) {a a' : α} {b b' : β} {c c' : γ} {d d' : δ} (ha : a = a') (hb : b = b')
    (hc : c = c') (hd : d = d') : f a b c d = f a' b' c' d' := by subst ha hb hc hd; rfl

/-- Plane `k` of the scratch after a block of the array of stride 4. -/
abbrev p4 (x : Vec Ideal S128x1536 .f32) (k : ℕ) (hk : k < 3 := by decide) : Vec Ideal S1x512x128 .f32 := put (d := 4) (n := 128) rfl x k hk
/-- Plane `k` of the scratch after a block of the array of stride 16. -/
abbrev p16 (x : Vec Ideal S32x6144 .f32) (k : ℕ) (hk : k < 3 := by decide) : Vec Ideal S1x512x128 .f32 := put (d := 16) (n := 32) rfl x k hk

/-- The stores into the output block, the newest first. -/
def outs (x0 x1 x2 : Vec Ideal S512x256 .f32) (x3 : Vec Ideal S512x384 .f32) (x4 : Vec Ideal S128x1536 .f32) (x5 : Vec Ideal S32x6144 .f32)
    (x6 : Vec Ideal S512x384 .f32) (x7 : Vec Ideal S128x1536 .f32) (x8 : Vec Ideal S32x6144 .f32) (x9 : Vec Ideal S512x384 .f32)
    (x10 : Vec Ideal S128x1536 .f32) (x11 : Vec Ideal S32x6144 .f32) (x12 x13 : Vec Ideal S512x384 .f32) (x14 x15 : Vec Ideal S512x128 .f32) :
    List (View.Piece (Elt Ideal) S512x2432 .bf16) :=
  [⟨Rect.unit ![0, 2048] ![512, 384] inb_S512x2432_S512x384_0_2048, k0_pay5 (F := Ideal) x13⟩,
   ⟨Rect.unit ![0, 1664] ![512, 384] inb_S512x2432_S512x384_0_1664, k0_pay4 (F := Ideal) x12⟩,
   ⟨Rect.unit ![0, 1536] ![512, 128] inb_S512x2432_S512x128_0_1536,
    k0_pay3 (F := Ideal) (k0_pay213 (k0_pay163 x9 (p4 x10 0) (p4 x10 1) (p4 x10 2)) (k0_pay212 (p16 x11 0)) (p16 x11 1) (p16 x11 2))⟩,
   ⟨Rect.unit ![0, 1408] ![512, 128] inb_S512x2432_S512x128_0_1408,
    k0_pay2 (F := Ideal) (k0_pay213 (k0_pay163 x9 (p4 x10 0) (p4 x10 1) (p4 x10 2)) (k0_pay212 (p16 x11 0)) (p16 x11 1) (p16 x11 2))⟩,
   ⟨Rect.unit ![0, 1280] ![512, 128] inb_S512x2432_S512x128_0_1280,
    k0_pay1 (F := Ideal) (k0_pay214 (k0_pay163 x9 (p4 x10 0) (p4 x10 1) (p4 x10 2)) (k0_pay212 (p16 x11 0)) (p16 x11 1) (p16 x11 2))⟩,
   ⟨Rect.unit ![0, 1152] ![512, 128] inb_S512x2432_S512x128_0_1152,
    k0_pay150 (F := Ideal) (k0_pay6 x14) (k0_pay7 x15) (k0_pay144 (k0_pay95 x6 (p4 x7 0) (p4 x7 1) (p4 x7 2)) (p16 x8 0) (p16 x8 1) (p16 x8 2))⟩,
   ⟨Rect.unit ![0, 1024] ![512, 128] inb_S512x2432_S512x128_0_1024,
    k0_pay149 (F := Ideal) (k0_pay7 x15) (k0_pay147 (k0_pay6 x14) (k0_pay95 x6 (p4 x7 0) (p4 x7 1) (p4 x7 2)) (p16 x8 0) (p16 x8 1) (p16 x8 2))
      (k0_pay148 (k0_pay95 x6 (p4 x7 0) (p4 x7 1) (p4 x7 2)) (p16 x8 0) (p16 x8 1) (p16 x8 2))⟩,
   ⟨Rect.unit ![0, 896] ![512, 128] inb_S512x2432_S512x128_0_896,
    k0_pay145 (F := Ideal) (k0_pay6 x14) (k0_pay7 x15) (k0_pay95 x6 (p4 x7 0) (p4 x7 1) (p4 x7 2)) (p16 x8 0) (p16 x8 1) (p16 x8 2)⟩,
   ⟨Rect.unit ![0, 768] ![512, 128] inb_S512x2432_S512x128_0_768,
    k0_pay82 (F := Ideal) (k0_pay6 x14) (k0_pay7 x15)
      (k0_pay77 (k0_pay28 x3 (k0_pay26 (p4 x4 0)) (k0_pay27 (p4 x4 1)) (p4 x4 2)) (p16 x5 0) (p16 x5 1) (p16 x5 2))⟩,
   ⟨Rect.unit ![0, 640] ![512, 128] inb_S512x2432_S512x128_0_640,
    k0_pay81 (F := Ideal) (k0_pay7 x15) (k0_pay79 (k0_pay28 x3 (k0_pay26 (p4 x4 0)) (k0_pay27 (p4 x4 1)) (p4 x4 2)) (p16 x5 0) (p16 x5 1) (p16 x5 2))
      (k0_pay80 (k0_pay6 x14) (k0_pay28 x3 (k0_pay26 (p4 x4 0)) (k0_pay27 (p4 x4 1)) (p4 x4 2)) (p16 x5 0) (p16 x5 1) (p16 x5 2))
      (iota .tc S512x128 32 [1] iota_S512x128_d1_w32)⟩,
   ⟨Rect.unit ![0, 512] ![512, 128] inb_S512x2432_S512x128_0_512,
    k0_pay78 (F := Ideal) (k0_pay6 x14) (k0_pay7 x15) (k0_pay28 x3 (k0_pay26 (p4 x4 0)) (k0_pay27 (p4 x4 1)) (p4 x4 2)) (p16 x5 0) (p16 x5 1) (p16 x5 2)⟩,
   ⟨Rect.unit ![0, 384] ![512, 128] inb_S512x2432_S512x128_0_384,
    k0_pay13 (F := Ideal) k0_pay8 (View.ld x2 (Rect.unit ![0, 0] ![512, 128] inb_S512x256_S512x128_0_0))
      (View.ld x2 (Rect.unit ![0, 128] ![512, 128] inb_S512x256_S512x128_0_128))⟩,
   ⟨Rect.unit ![0, 256] ![512, 128] inb_S512x2432_S512x128_0_256,
    k0_pay12 (F := Ideal) (k0_pay6 x14) (k0_pay7 x15) k0_pay8 (View.ld x1 (Rect.unit ![0, 0] ![512, 128] inb_S512x256_S512x128_0_0))
      (View.ld x1 (Rect.unit ![0, 128] ![512, 128] inb_S512x256_S512x128_0_128))⟩,
   ⟨Rect.unit ![0, 128] ![512, 128] inb_S512x2432_S512x128_0_128,
    k0_pay11 (F := Ideal) (k0_pay10 x14 x15 (View.ld x0 (Rect.unit ![0, 128] ![512, 128] inb_S512x256_S512x128_0_128)))⟩,
   ⟨Rect.unit ![0, 0] ![512, 128] inb_S512x2432_S512x128_0_0,
    k0_pay9 (F := Ideal) x14 x15 (View.ld x0 (Rect.unit ![0, 0] ![512, 128] inb_S512x256_S512x128_0_0))⟩]

set_option maxHeartbeats 4000000 in
/-- What the body leaves in the output block. -/
theorem left (c : Dev nD) (t : Fin cfg0.N) : outsAt0 m c t = View.canon (outs (iblk m c 0 t) (iblk m c 1 t) (iblk m c 2 t) (iblk m c 3 t)
    (iblk m c 4 t) (iblk m c 5 t) (iblk m c 6 t) (iblk m c 7 t) (iblk m c 8 t) (iblk m c 9 t) (iblk m c 10 t) (iblk m c 11 t) (iblk m c 12 t)
    (iblk m c 13 t) (iblk m c 14 t) (iblk m c 15 t)) := by
  unfold outsAt0
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  generalize iblk m c 12 t = x12
  generalize iblk m c 13 t = x13
  generalize iblk m c 14 t = x14
  generalize iblk m c 15 t = x15
  frame_out
  refine congrArg View.canon ?_
  unfold outs
  refine congrArg₂ List.cons rfl ?_
  refine congrArg₂ List.cons rfl ?_
  refine congrArg₂ List.cons (congrArg (Sigma.mk _) (congrArg k0_pay3 (congr4 k0_pay213 (congr4 k0_pay163 rfl (read_strips (d := 4) (n := 128) rfl x10 _ 0 (by decide) _) (read_strips (d := 4) (n := 128) rfl x10 _ 1 (by decide) _) (read_strips (d := 4) (n := 128) rfl x10 _ 2 (by decide) _)) (congrArg k0_pay212 (read_strips (d := 16) (n := 32) rfl x11 _ 0 (by decide) _)) (read_strips (d := 16) (n := 32) rfl x11 _ 1 (by decide) _) (read_strips (d := 16) (n := 32) rfl x11 _ 2 (by decide) _)))) ?_
  refine congrArg₂ List.cons (congrArg (Sigma.mk _) (congrArg k0_pay2 (congr4 k0_pay213 (congr4 k0_pay163 rfl (read_strips (d := 4) (n := 128) rfl x10 _ 0 (by decide) _) (read_strips (d := 4) (n := 128) rfl x10 _ 1 (by decide) _) (read_strips (d := 4) (n := 128) rfl x10 _ 2 (by decide) _)) (congrArg k0_pay212 (read_strips (d := 16) (n := 32) rfl x11 _ 0 (by decide) _)) (read_strips (d := 16) (n := 32) rfl x11 _ 1 (by decide) _) (read_strips (d := 16) (n := 32) rfl x11 _ 2 (by decide) _)))) ?_
  refine congrArg₂ List.cons (congrArg (Sigma.mk _) (congrArg k0_pay1 (congr4 k0_pay214 (congr4 k0_pay163 rfl (read_strips (d := 4) (n := 128) rfl x10 _ 0 (by decide) _) (read_strips (d := 4) (n := 128) rfl x10 _ 1 (by decide) _) (read_strips (d := 4) (n := 128) rfl x10 _ 2 (by decide) _)) (congrArg k0_pay212 (read_strips (d := 16) (n := 32) rfl x11 _ 0 (by decide) _)) (read_strips (d := 16) (n := 32) rfl x11 _ 1 (by decide) _) (read_strips (d := 16) (n := 32) rfl x11 _ 2 (by decide) _)))) ?_
  refine congrArg₂ List.cons (congrArg (Sigma.mk _) (congrArg (k0_pay150 _ _) (congr4 k0_pay144 (congr4 k0_pay95 rfl (read_strips (d := 4) (n := 128) rfl x7 _ 0 (by decide) _) (read_strips (d := 4) (n := 128) rfl x7 _ 1 (by decide) _) (read_strips (d := 4) (n := 128) rfl x7 _ 2 (by decide) _)) (read_strips (d := 16) (n := 32) rfl x8 _ 0 (by decide) _) (read_strips (d := 16) (n := 32) rfl x8 _ 1 (by decide) _) (read_strips (d := 16) (n := 32) rfl x8 _ 2 (by decide) _)))) ?_
  refine congrArg₂ List.cons (congrArg (Sigma.mk _) (congr (congrArg (k0_pay149 _) (congr4 (k0_pay147 _) (congr4 k0_pay95 rfl (read_strips (d := 4) (n := 128) rfl x7 _ 0 (by decide) _) (read_strips (d := 4) (n := 128) rfl x7 _ 1 (by decide) _) (read_strips (d := 4) (n := 128) rfl x7 _ 2 (by decide) _)) (read_strips (d := 16) (n := 32) rfl x8 _ 0 (by decide) _) (read_strips (d := 16) (n := 32) rfl x8 _ 1 (by decide) _) (read_strips (d := 16) (n := 32) rfl x8 _ 2 (by decide) _))) (congr4 k0_pay148 (congr4 k0_pay95 rfl (read_strips (d := 4) (n := 128) rfl x7 _ 0 (by decide) _) (read_strips (d := 4) (n := 128) rfl x7 _ 1 (by decide) _) (read_strips (d := 4) (n := 128) rfl x7 _ 2 (by decide) _)) (read_strips (d := 16) (n := 32) rfl x8 _ 0 (by decide) _) (read_strips (d := 16) (n := 32) rfl x8 _ 1 (by decide) _) (read_strips (d := 16) (n := 32) rfl x8 _ 2 (by decide) _)))) ?_
  refine congrArg₂ List.cons (congrArg (Sigma.mk _) ((congr4 (k0_pay145 _ _) (congr4 k0_pay95 rfl (read_strips (d := 4) (n := 128) rfl x7 _ 0 (by decide) _) (read_strips (d := 4) (n := 128) rfl x7 _ 1 (by decide) _) (read_strips (d := 4) (n := 128) rfl x7 _ 2 (by decide) _)) (read_strips (d := 16) (n := 32) rfl x8 _ 0 (by decide) _) (read_strips (d := 16) (n := 32) rfl x8 _ 1 (by decide) _) (read_strips (d := 16) (n := 32) rfl x8 _ 2 (by decide) _)))) ?_
  refine congrArg₂ List.cons (congrArg (Sigma.mk _) (congrArg (k0_pay82 _ _) (congr4 k0_pay77 (congr4 k0_pay28 rfl (congrArg k0_pay26 (read_strips (d := 4) (n := 128) rfl x4 _ 0 (by decide) _)) (congrArg k0_pay27 (read_strips (d := 4) (n := 128) rfl x4 _ 1 (by decide) _)) (read_strips (d := 4) (n := 128) rfl x4 _ 2 (by decide) _)) (read_strips (d := 16) (n := 32) rfl x5 _ 0 (by decide) _) (read_strips (d := 16) (n := 32) rfl x5 _ 1 (by decide) _) (read_strips (d := 16) (n := 32) rfl x5 _ 2 (by decide) _)))) ?_
  refine congrArg₂ List.cons (congrArg (Sigma.mk _) (congrFun (congr (congrArg (k0_pay81 _) (congr4 k0_pay79 (congr4 k0_pay28 rfl (congrArg k0_pay26 (read_strips (d := 4) (n := 128) rfl x4 _ 0 (by decide) _)) (congrArg k0_pay27 (read_strips (d := 4) (n := 128) rfl x4 _ 1 (by decide) _)) (read_strips (d := 4) (n := 128) rfl x4 _ 2 (by decide) _)) (read_strips (d := 16) (n := 32) rfl x5 _ 0 (by decide) _) (read_strips (d := 16) (n := 32) rfl x5 _ 1 (by decide) _) (read_strips (d := 16) (n := 32) rfl x5 _ 2 (by decide) _))) (congr4 (k0_pay80 _) (congr4 k0_pay28 rfl (congrArg k0_pay26 (read_strips (d := 4) (n := 128) rfl x4 _ 0 (by decide) _)) (congrArg k0_pay27 (read_strips (d := 4) (n := 128) rfl x4 _ 1 (by decide) _)) (read_strips (d := 4) (n := 128) rfl x4 _ 2 (by decide) _)) (read_strips (d := 16) (n := 32) rfl x5 _ 0 (by decide) _) (read_strips (d := 16) (n := 32) rfl x5 _ 1 (by decide) _) (read_strips (d := 16) (n := 32) rfl x5 _ 2 (by decide) _))) _)) ?_
  refine congrArg₂ List.cons (congrArg (Sigma.mk _) ((congr4 (k0_pay78 _ _) (congr4 k0_pay28 rfl (congrArg k0_pay26 (read_strips (d := 4) (n := 128) rfl x4 _ 0 (by decide) _)) (congrArg k0_pay27 (read_strips (d := 4) (n := 128) rfl x4 _ 1 (by decide) _)) (read_strips (d := 4) (n := 128) rfl x4 _ 2 (by decide) _)) (read_strips (d := 16) (n := 32) rfl x5 _ 0 (by decide) _) (read_strips (d := 16) (n := 32) rfl x5 _ 1 (by decide) _) (read_strips (d := 16) (n := 32) rfl x5 _ 2 (by decide) _)))) ?_
  rfl
end Cert.MergeIdeal.Blocks
end
-- ==== Proof.MergeBlock.lean ====
/- What one block of the merged gradient holds: each row is the rows of the incoming gradients, summed over the three strides, the
   queries' and keys' turned back by the rotation of the token's position. -/
module

public import proofs.«01_k».proof.Proof.MergeOut
public import proofs.«01_k».proof.Proof.Lift
public import Idealize.ShloMosaic.Lib.ValueIdx

@[expose] public section

noncomputable section

namespace Cert.MergeIdeal.Blocks

open Cert.MergeIdeal Cert.MergeIdeal.Gen Idealize.ShloMosaic Idealize.ShloMosaic.TcCoe Idealize.SL.Sem Cert.Stage

/-- The lane that is turned together with lane `l`: the one of the other half of the same head. -/
def part (l : Fin 128) : Fin 128 := ⟨if l.val % 64 < 32 then l.val + 32 else l.val - 32, by have := l.isLt; split <;> omega⟩

/-- The lane of the other head. -/
def opp (l : Fin 128) : Fin 128 := ⟨(l.val + 128 - 64) % 128, Nat.mod_lt _ (by decide)⟩

/-- Two heads turned back. -/
def turn (X C S : Fin 128 → EReal) (l : Fin 128) : EReal := X l * C l - X (part l) * S l

/-- Four heads summed to two: the first two go to the first, the others to the second. -/
def fold (f g : Fin 128 → EReal) (l : Fin 128) : EReal := if l.val < 64 then f l + f (opp l) else g l + g (opp l)

/-- The lanes `128 k ‥` of a row. -/
def line {n : ℕ} (T : Fin n → EReal) (k : ℕ) (hk : 128 * k + 128 ≤ n) (l : Fin 128) : EReal := T ⟨128 * k + l.val, by omega⟩

/-- The scale of the queries. -/
abbrev eighth : EReal := Ideal.ofBits .f32 0x3E000000#32

/-- A row of the merged gradient, from the rows of what is merged and the row of the rotation. -/
def rowOut (qa ka va : Fin 256 → EReal) (q k v u g : Fin 384 → EReal) (C S : Fin 128 → EReal) (J : Fin 2432) : EReal :=
  if h : J.val < 256 then turn (line qa (J.val / 128) (by omega)) C S ⟨J.val % 128, Nat.mod_lt _ (by decide)⟩ * eighth
  else if h : J.val < 384 then turn (fold (line ka 0 (by decide)) (line ka 1 (by decide))) C S ⟨J.val - 256, by omega⟩
  else if h : J.val < 512 then fold (line va 0 (by decide)) (line va 1 (by decide)) ⟨J.val - 384, by omega⟩
  else if h : J.val < 896 then turn (line q ((J.val - 512) / 128) (by omega)) C S ⟨J.val % 128, Nat.mod_lt _ (by decide)⟩ * eighth
  else if h : J.val < 1280 then turn (line k ((J.val - 896) / 128) (by omega)) C S ⟨J.val % 128, Nat.mod_lt _ (by decide)⟩
  else if h : J.val < 1664 then v ⟨J.val - 1280, by omega⟩
  else if h : J.val < 2048 then u ⟨J.val - 1664, by omega⟩
  else g ⟨J.val - 2048, by omega⟩

/-- The sum over the strides: the row itself, and its tokens' lanes in the arrays whose rows hold four and sixteen tokens. -/
def tot (x : Vec Ideal S512x384 .f32) (x4 : Vec Ideal S128x1536 .f32) (x16 : Vec Ideal S32x6144 .f32) (R : Fin 512) (κ : Fin 384) : EReal :=
  x (ix2 R κ) + x4 (ix2 ⟨R.val / 4, by omega⟩ ⟨R.val % 4 * 384 + κ.val, by omega⟩)
    + x16 (ix2 ⟨R.val / 16, by omega⟩ ⟨R.val % 16 * 384 + κ.val, by omega⟩)

section
variable (qa ka va : Fin 256 → EReal) (q k v u g : Fin 384 → EReal) (C S : Fin 128 → EReal) (J : Fin 2432) (l : Fin 128)

theorem row_qa (n : ℕ) (hn : 128 * n + 128 ≤ 256) (h : J.val = 128 * n + l.val) :
    rowOut qa ka va q k v u g C S J = turn (line qa n hn) C S l * eighth := by
  obtain rfl : n = J.val / 128 := by omega
  unfold rowOut
  rw [dif_pos (by omega)]
  exact congrArg (fun l => turn (line qa _ _) C S l * eighth) (Fin.ext (show J.val % 128 = _ by omega))

theorem row_ka (h : J.val = 256 + l.val) :
    rowOut qa ka va q k v u g C S J = turn (fold (line ka 0 (by decide)) (line ka 1 (by decide))) C S l := by
  unfold rowOut
  rw [dif_neg (by omega), dif_pos (by omega)]
  exact congrArg (turn _ C S) (Fin.ext (show J.val - 256 = _ by omega))

theorem row_va (h : J.val = 384 + l.val) :
    rowOut qa ka va q k v u g C S J = fold (line va 0 (by decide)) (line va 1 (by decide)) l := by
  unfold rowOut
  rw [dif_neg (by omega), dif_neg (by omega), dif_pos (by omega)]
  exact congrArg (fold _ _) (Fin.ext (show J.val - 384 = _ by omega))

theorem row_q (n : ℕ) (hn : 128 * n + 128 ≤ 384) (h : J.val = 512 + 128 * n + l.val) :
    rowOut qa ka va q k v u g C S J = turn (line q n hn) C S l * eighth := by
  obtain rfl : n = (J.val - 512) / 128 := by omega
  unfold rowOut
  rw [dif_neg (by omega), dif_neg (by omega), dif_neg (by omega), dif_pos (by omega)]
  exact congrArg (fun l => turn (line q _ _) C S l * eighth) (Fin.ext (show J.val % 128 = _ by omega))

theorem row_k (n : ℕ) (hn : 128 * n + 128 ≤ 384) (h : J.val = 896 + 128 * n + l.val) :
    rowOut qa ka va q k v u g C S J = turn (line k n hn) C S l := by
  obtain rfl : n = (J.val - 896) / 128 := by omega
  unfold rowOut
  rw [dif_neg (by omega), dif_neg (by omega), dif_neg (by omega), dif_neg (by omega), dif_pos (by omega)]
  exact congrArg (turn _ C S) (Fin.ext (show J.val % 128 = _ by omega))

variable (κ : Fin 384)

theorem row_v (h : J.val = 1280 + κ.val) :
    rowOut qa ka va q k v u g C S J = v κ := by
  unfold rowOut
  rw [dif_neg (by omega), dif_neg (by omega), dif_neg (by omega), dif_neg (by omega), dif_neg (by omega), dif_pos (by omega)]
  exact congrArg v (Fin.ext (show J.val - 1280 = _ by omega))

theorem row_u (h : J.val = 1664 + κ.val) :
    rowOut qa ka va q k v u g C S J = u κ := by
  unfold rowOut
  rw [dif_neg (by omega), dif_neg (by omega), dif_neg (by omega), dif_neg (by omega), dif_neg (by omega), dif_neg (by omega), dif_pos (by omega)]
  exact congrArg u (Fin.ext (show J.val - 1664 = _ by omega))

theorem row_g (h : J.val = 2048 + κ.val) :
    rowOut qa ka va q k v u g C S J = g κ := by
  unfold rowOut
  rw [dif_neg (by omega), dif_neg (by omega), dif_neg (by omega), dif_neg (by omega), dif_neg (by omega), dif_neg (by omega), dif_neg (by omega)]
  exact congrArg g (Fin.ext (show J.val - 2048 = _ by omega))

end

theorem sel_one (a b : EReal) : Scalar.select 1#1 a b = a := rfl
theorem sel_zero (a b : EReal) : Scalar.select 0#1 a b = b := rfl

/-- The lanes of a head's first half take the lane that a rotation by 96 brings, the others the lane that a rotation by 32 brings. -/
theorem half : ∀ l : Fin 128, (IntOp.cmpi .slt (IntOp.andi (BitVec.ofNat 32 l.val) 63#32) 32#32 = 1#1 ∧ (l.val + 128 - 96) % 128 = (part l).val)
    ∨ (IntOp.cmpi .slt (IntOp.andi (BitVec.ofNat 32 l.val) 63#32) 32#32 = 0#1 ∧ (l.val + 128 - 32) % 128 = (part l).val) := by
  decide +kernel

theorem head : ∀ l : Fin 128, IntOp.cmpi .slt (BitVec.ofNat 32 l.val) 64#32 = if l.val < 64 then 1#1 else 0#1 := by decide +kernel

theorem sel_head (l : Fin 128) (a b : EReal) :
    Scalar.select (IntOp.cmpi .slt (BitVec.ofNat 32 l.val) 64#32) a b = if l.val < 64 then a else b := by
  rw [head l]; split <;> rfl

variable (C S B B' : Vec Ideal S512x128 .f32) (V : Vec Ideal S512x384 .f32) (P0 P1 P2 Q0 Q1 Q2 : Vec Ideal S1x512x128 .f32)
  (R : Fin 512) (l : Fin 128)

theorem pay9 : k0_pay9 (F := Ideal) C S B (ix2 R l) = turn (fun j => B (ix2 R j)) (fun j => C (ix2 R j)) (fun j => S (ix2 R j)) l * eighth := by
  pointwise [k0_pay9, k0_pay6, k0_pay7]
  rcases half l with ⟨hb, hn⟩ | ⟨hb, hn⟩ <;> simp only [hb, hn, sel_one, sel_zero] <;> rfl

theorem pay11 : k0_pay11 (F := Ideal) (k0_pay10 C S B) (ix2 R l)
    = turn (fun j => B (ix2 R j)) (fun j => C (ix2 R j)) (fun j => S (ix2 R j)) l * eighth := by
  pointwise [k0_pay11, k0_pay10, k0_pay6, k0_pay7]
  rcases half l with ⟨hb, hn⟩ | ⟨hb, hn⟩ <;> simp only [hb, hn, sel_one, sel_zero] <;> rfl

theorem pay13 : k0_pay13 (F := Ideal) k0_pay8 B B' (ix2 R l) = fold (fun j => B (ix2 R j)) (fun j => B' (ix2 R j)) l := by
  pointwise [k0_pay13, k0_pay8]
  rw [sel_head]; rfl

theorem pay12 : k0_pay12 (F := Ideal) (k0_pay6 C) (k0_pay7 S) k0_pay8 B B' (ix2 R l)
    = turn (fold (fun j => B (ix2 R j)) (fun j => B' (ix2 R j))) (fun j => C (ix2 R j)) (fun j => S (ix2 R j)) l := by
  pointwise [k0_pay12, k0_pay8, k0_pay6, k0_pay7]
  rcases half l with ⟨hb, hn⟩ | ⟨hb, hn⟩ <;> simp only [hb, hn, sel_one, sel_zero, sel_head] <;> rfl

variable (x : Vec Ideal S512x384 .f32) (x4 : Vec Ideal S128x1536 .f32) (x16 : Vec Ideal S32x6144 .f32) (κ : Fin 384)

theorem tot_of (f g : EReal) (hf : f = x4 (ix2 ⟨R.val / 4, by omega⟩ ⟨R.val % 4 * 384 + κ.val, by omega⟩))
    (hg : g = x16 (ix2 ⟨R.val / 16, by omega⟩ ⟨R.val % 16 * 384 + κ.val, by omega⟩)) : x (ix2 R κ) + f + g = tot x x4 x16 R κ := by
  rw [hf, hg]; rfl

theorem totV : k0_pay213 (F := Ideal) (k0_pay163 x (p4 x4 0) (p4 x4 1) (p4 x4 2)) (k0_pay212 (p16 x16 0)) (p16 x16 1) (p16 x16 2) (ix2 R κ)
    = tot x x4 x16 R κ := by
  pointwise [k0_pay213, k0_pay163, k0_pay212]
  exact tot_of R x x4 x16 κ _ _ (planes R (d := 4) (n := 128) rfl x4 κ _ _ rfl rfl) (planes R (d := 16) (n := 32) rfl x16 κ _ _ rfl rfl)

theorem totK : k0_pay144 (F := Ideal) (k0_pay95 x (p4 x4 0) (p4 x4 1) (p4 x4 2)) (p16 x16 0) (p16 x16 1) (p16 x16 2) (ix2 R κ)
    = tot x x4 x16 R κ := by
  pointwise [k0_pay144, k0_pay95]
  exact tot_of R x x4 x16 κ _ _ (planes R (d := 4) (n := 128) rfl x4 κ _ _ rfl rfl) (planes R (d := 16) (n := 32) rfl x16 κ _ _ rfl rfl)

theorem totQ : k0_pay77 (F := Ideal) (k0_pay28 x (k0_pay26 (p4 x4 0)) (k0_pay27 (p4 x4 1)) (p4 x4 2)) (p16 x16 0) (p16 x16 1) (p16 x16 2) (ix2 R κ)
    = tot x x4 x16 R κ := by
  pointwise [k0_pay77, k0_pay28, k0_pay26, k0_pay27]
  exact tot_of R x x4 x16 κ _ _ (planes R (d := 4) (n := 128) rfl x4 κ _ _ rfl rfl) (planes R (d := 16) (n := 32) rfl x16 κ _ _ rfl rfl)

theorem one : Ideal.ofBits .f32 0x3F800000#32 = 1 := Lift.lit_one.trans rfl

theorem pay78 : k0_pay78 (F := Ideal) (k0_pay6 C) (k0_pay7 S) V P0 P1 P2 (ix2 R l)
    = turn (line (fun j => (k0_pay77 V P0 P1 P2) (ix2 R j)) 0 (by decide)) (fun j => C (ix2 R j)) (fun j => S (ix2 R j)) l * eighth := by
  pointwise [k0_pay78, k0_pay6, k0_pay7]
  rcases half l with ⟨hb, hn⟩ | ⟨hb, hn⟩ <;> simp only [hb, hn, sel_one, sel_zero, turn, line, Nat.reduceMul, Nat.zero_add] <;> rfl

theorem pay81 : k0_pay81 (F := Ideal) (k0_pay7 S) (k0_pay79 V P0 P1 P2) (k0_pay80 (k0_pay6 C) V P0 P1 P2) (iota .tc S512x128 32 [1] iota_S512x128_d1_w32) (ix2 R l)
    = turn (line (fun j => (k0_pay77 V P0 P1 P2) (ix2 R j)) 1 (by decide)) (fun j => C (ix2 R j)) (fun j => S (ix2 R j)) l * eighth := by
  pointwise [k0_pay81, k0_pay79, k0_pay80, k0_pay6, k0_pay7]
  rcases half l with ⟨hb, hn⟩ | ⟨hb, hn⟩ <;> simp only [hb, hn, sel_one, sel_zero, turn, line, Nat.reduceMul, Nat.zero_add] <;> rfl

theorem pay82 : k0_pay82 (F := Ideal) (k0_pay6 C) (k0_pay7 S) V (ix2 R l)
    = turn (line (fun j => V (ix2 R j)) 2 (by decide)) (fun j => C (ix2 R j)) (fun j => S (ix2 R j)) l * eighth := by
  pointwise [k0_pay82, k0_pay6, k0_pay7]
  rcases half l with ⟨hb, hn⟩ | ⟨hb, hn⟩ <;> simp only [hb, hn, sel_one, sel_zero, turn, line, Nat.reduceMul, Nat.zero_add] <;> rfl

theorem pay145 : k0_pay145 (F := Ideal) (k0_pay6 C) (k0_pay7 S) V P0 P1 P2 (ix2 R l)
    = turn (line (fun j => (k0_pay144 V P0 P1 P2) (ix2 R j)) 0 (by decide)) (fun j => C (ix2 R j)) (fun j => S (ix2 R j)) l := by
  pointwise [k0_pay145, k0_pay6, k0_pay7]
  rcases half l with ⟨hb, hn⟩ | ⟨hb, hn⟩ <;> simp only [hb, hn, sel_one, sel_zero, turn, line, Nat.reduceMul, Nat.zero_add, one, mul_one] <;> rfl

theorem pay149 : k0_pay149 (F := Ideal) (k0_pay7 S) (k0_pay147 (k0_pay6 C) V P0 P1 P2) (k0_pay148 V P0 P1 P2) (ix2 R l)
    = turn (line (fun j => (k0_pay144 V P0 P1 P2) (ix2 R j)) 1 (by decide)) (fun j => C (ix2 R j)) (fun j => S (ix2 R j)) l := by
  pointwise [k0_pay149, k0_pay147, k0_pay148, k0_pay146, k0_pay6, k0_pay7]
  rcases half l with ⟨hb, hn⟩ | ⟨hb, hn⟩ <;> simp only [hb, hn, sel_one, sel_zero, turn, line, Nat.reduceMul, Nat.zero_add, one, mul_one] <;> rfl

theorem pay150 : k0_pay150 (F := Ideal) (k0_pay6 C) (k0_pay7 S) V (ix2 R l)
    = turn (line (fun j => V (ix2 R j)) 2 (by decide)) (fun j => C (ix2 R j)) (fun j => S (ix2 R j)) l := by
  pointwise [k0_pay150, k0_pay6, k0_pay7]
  rcases half l with ⟨hb, hn⟩ | ⟨hb, hn⟩ <;> simp only [hb, hn, sel_one, sel_zero, turn, line, Nat.reduceMul, Nat.zero_add, one, mul_one] <;> rfl

/-- Lanes `o ‥` of a row that was read in two halves. -/
theorem half_line (x : Vec Ideal S512x256 .f32) (k : ℕ) (hk : 128 * k + 128 ≤ 256) (h : ∀ a, (![0, 128 * k] : Fin 2 → ℕ) a + (![512, 128] : Fin 2 → ℕ) a ≤ S512x256.size a) :
    (fun j : Fin 128 => View.ld x (Rect.unit ![0, 128 * k] ![512, 128] h) (ix2 R j)) = line (fun j => x (ix2 R j)) k hk := by
  funext j
  pointwise
  rfl

theorem pay5 (x : Vec Ideal S512x384 .f32) (κ : Fin 384) : k0_pay5 (F := Ideal) x (ix2 R κ) = x (ix2 R κ) := by
  pointwise [k0_pay5]

theorem pay4 (x : Vec Ideal S512x384 .f32) (κ : Fin 384) : k0_pay4 (F := Ideal) x (ix2 R κ) = x (ix2 R κ) := by
  pointwise [k0_pay4]

theorem pay1 : k0_pay1 (F := Ideal) (k0_pay214 V B Q1 Q2) (ix2 R l) = k0_pay213 V B Q1 Q2 (ix2 R ⟨l.val, by omega⟩) := by
  pointwise [k0_pay1, k0_pay214]

theorem pay2 : k0_pay2 (F := Ideal) V (ix2 R l) = V (ix2 R ⟨128 + l.val, by omega⟩) := by
  pointwise [k0_pay2]

theorem pay3 : k0_pay3 (F := Ideal) V (ix2 R l) = V (ix2 R ⟨256 + l.val, by omega⟩) := by
  pointwise [k0_pay3]

variable (x0 x1 x2 : Vec Ideal S512x256 .f32) (x3 : Vec Ideal S512x384 .f32) (x4 : Vec Ideal S128x1536 .f32) (x5 : Vec Ideal S32x6144 .f32)
    (x6 : Vec Ideal S512x384 .f32) (x7 : Vec Ideal S128x1536 .f32) (x8 : Vec Ideal S32x6144 .f32) (x9 : Vec Ideal S512x384 .f32)
    (x10 : Vec Ideal S128x1536 .f32) (x11 : Vec Ideal S32x6144 .f32) (x12 x13 : Vec Ideal S512x384 .f32) (x14 x15 : Vec Ideal S512x128 .f32)

/-- A row of the block. -/
def blockRow (R : Fin 512) : Fin 2432 → EReal :=
  rowOut (fun j => x0 (ix2 R j)) (fun j => x1 (ix2 R j)) (fun j => x2 (ix2 R j)) (tot x3 x4 x5 R) (tot x6 x7 x8 R) (tot x9 x10 x11 R)
    (fun j => x12 (ix2 R j)) (fun j => x13 (ix2 R j)) (fun j => x14 (ix2 R j)) (fun j => x15 (ix2 R j))

set_option maxHeartbeats 4000000 in
theorem block (y : S512x2432.Idx) : View.canon (outs x0 x1 x2 x3 x4 x5 x6 x7 x8 x9 x10 x11 x12 x13 x14 x15) y
    = blockRow x0 x1 x2 x3 x4 x5 x6 x7 x8 x9 x10 x11 x12 x13 x14 x15 (y 0) (y 1) := by
  unfold outs
  canon_tiles x h using (View.cover_of_tiledBy _ ![512, 128] (by sl_kernel_rfl) _)
  all_goals
    obtain ⟨r, l, rfl⟩ : ∃ r l, x = ix2 r l := ⟨_, _, eq_ix2 x⟩
    replace h0 : (y 0).val = r.val := h0
    obtain e0 : y 0 = r := Fin.ext h0
    rw [e0]
    unfold blockRow
  case piece0 => refine (pay5 ..).trans (Eq.trans ?_ (row_g _ _ _ _ _ _ _ _ _ _ _ l h1).symm); rfl
  case piece1 => refine (pay4 ..).trans (Eq.trans ?_ (row_u _ _ _ _ _ _ _ _ _ _ _ l h1).symm); rfl
  case piece2 => exact (pay3 ..).trans ((totV ..).trans (row_v _ _ _ _ _ _ _ _ _ _ _ ⟨256 + l.val, by omega⟩ (h1.trans (Nat.add_assoc 1280 256 l.val))).symm)
  case piece3 => exact (pay2 ..).trans ((totV ..).trans (row_v _ _ _ _ _ _ _ _ _ _ _ ⟨128 + l.val, by omega⟩ (h1.trans (Nat.add_assoc 1280 128 l.val))).symm)
  case piece4 => exact (pay1 ..).trans ((totV ..).trans (row_v _ _ _ _ _ _ _ _ _ _ _ _ h1).symm)
  case piece5 =>
    refine (pay150 ..).trans (Eq.trans ?_ (row_k _ _ _ _ _ _ _ _ _ _ _ l 2 (by decide) h1).symm)
    exact congrArg (fun T => turn (line T 2 (by decide)) _ _ l) (funext fun j => totK r _ _ _ j)
  case piece6 =>
    refine (pay149 ..).trans (Eq.trans ?_ (row_k _ _ _ _ _ _ _ _ _ _ _ l 1 (by decide) h1).symm)
    exact congrArg (fun T => turn (line T 1 (by decide)) _ _ l) (funext fun j => totK r _ _ _ j)
  case piece7 =>
    refine (pay145 ..).trans (Eq.trans ?_ (row_k _ _ _ _ _ _ _ _ _ _ _ l 0 (by decide) h1).symm)
    exact congrArg (fun T => turn (line T 0 (by decide)) _ _ l) (funext fun j => totK r _ _ _ j)
  case piece8 =>
    refine (pay82 ..).trans (Eq.trans ?_ (row_q _ _ _ _ _ _ _ _ _ _ _ l 2 (by decide) h1).symm)
    exact congrArg (fun T => turn (line T 2 (by decide)) _ _ l * eighth) (funext fun j => totQ r _ _ _ j)
  case piece9 =>
    refine (pay81 ..).trans (Eq.trans ?_ (row_q _ _ _ _ _ _ _ _ _ _ _ l 1 (by decide) h1).symm)
    exact congrArg (fun T => turn (line T 1 (by decide)) _ _ l * eighth) (funext fun j => totQ r _ _ _ j)
  case piece10 =>
    refine (pay78 ..).trans (Eq.trans ?_ (row_q _ _ _ _ _ _ _ _ _ _ _ l 0 (by decide) h1).symm)
    exact congrArg (fun T => turn (line T 0 (by decide)) _ _ l * eighth) (funext fun j => totQ r _ _ _ j)
  case piece11 =>
    refine (pay13 ..).trans (Eq.trans ?_ (row_va _ _ _ _ _ _ _ _ _ _ _ l h1).symm)
    exact congrFun (congrArg₂ fold (half_line r x2 0 _ _) (half_line r x2 1 _ _)) l
  case piece12 =>
    refine (pay12 ..).trans (Eq.trans ?_ (row_ka _ _ _ _ _ _ _ _ _ _ _ l h1).symm)
    exact congrArg (fun T => turn T _ _ l) (congrArg₂ fold (half_line r x1 0 _ _) (half_line r x1 1 _ _))
  case piece13 =>
    refine (pay11 ..).trans (Eq.trans ?_ (row_qa _ _ _ _ _ _ _ _ _ _ _ l 1 (by decide) h1).symm)
    exact congrArg (fun T => turn T _ _ l * eighth) (half_line r x0 1 _ _)
  case piece14 =>
    refine (pay9 ..).trans (Eq.trans ?_ (row_qa _ _ _ _ _ _ _ _ _ _ _ l 0 (by decide) (h1.trans (Nat.zero_add _).symm)).symm)
    exact congrArg (fun T => turn T _ _ l * eighth) (half_line r x0 0 _ _)

end Cert.MergeIdeal.Blocks
end
-- ==== Proof.MergeKernel.lean ====
/- What the call leaves in its result array: every row is written by the grid point that holds it. -/
module

public import proofs.«01_k».proof.Proof.MergeBlock
public import Idealize.ShloMosaic.Lib.Pipeline.ValueKit

@[expose] public section

noncomputable section

namespace Cert.MergeIdeal.Blocks

open Cert.MergeIdeal Cert.MergeIdeal.Gen Idealize.ShloMosaic Idealize.ShloMosaic.TcCoe Idealize.SL.Sem Cert.Stage

/-- The sum over the strides, of a row of the whole arrays. -/
def totW (x : S16384x384.Idx → EReal) (x4 : S4096x1536.Idx → EReal) (x16 : S1024x6144.Idx → EReal) (R : Fin 16384) (κ : Fin 384) : EReal :=
  x (ix2 R κ) + x4 (ix2 ⟨R.val / 4, by omega⟩ ⟨R.val % 4 * 384 + κ.val, by omega⟩)
    + x16 (ix2 ⟨R.val / 16, by omega⟩ ⟨R.val % 16 * 384 + κ.val, by omega⟩)

/-- The merged gradient. -/
def outW (x0 x1 x2 : S16384x256.Idx → EReal) (x3 : S16384x384.Idx → EReal) (x4 : S4096x1536.Idx → EReal) (x5 : S1024x6144.Idx → EReal)
    (x6 : S16384x384.Idx → EReal) (x7 : S4096x1536.Idx → EReal) (x8 : S1024x6144.Idx → EReal) (x9 : S16384x384.Idx → EReal)
    (x10 : S4096x1536.Idx → EReal) (x11 : S1024x6144.Idx → EReal) (x12 x13 : S16384x384.Idx → EReal) (x14 x15 : S16384x128.Idx → EReal)
    (R : Fin 16384) : Fin 2432 → EReal :=
  rowOut (fun j => x0 (ix2 R j)) (fun j => x1 (ix2 R j)) (fun j => x2 (ix2 R j)) (totW x3 x4 x5 R) (totW x6 x7 x8 R) (totW x9 x10 x11 R)
    (fun j => x12 (ix2 R j)) (fun j => x13 (ix2 R j)) (fun j => x14 (ix2 R j)) (fun j => x15 (ix2 R j))

theorem row_congr {qa ka va qa' ka' va' : Fin 256 → EReal} {q k v u g q' k' v' u' g' : Fin 384 → EReal} {C S C' S' : Fin 128 → EReal}
    (J : Fin 2432) (h0 : ∀ j, qa j = qa' j) (h1 : ∀ j, ka j = ka' j) (h2 : ∀ j, va j = va' j) (h3 : ∀ j, q j = q' j) (h4 : ∀ j, k j = k' j)
    (h5 : ∀ j, v j = v' j) (h6 : ∀ j, u j = u' j) (h7 : ∀ j, g j = g' j) (h8 : ∀ j, C j = C' j) (h9 : ∀ j, S j = S' j) :
    rowOut qa ka va q k v u g C S J = rowOut qa' ka' va' q' k' v' u' g' C' S' J := by
  rw [funext h0, funext h1, funext h2, funext h3, funext h4, funext h5, funext h6, funext h7, funext h8, funext h9]

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![t.val, 0] := (by decide +kernel : ∀ t : Fin grid0.N, _)
theorem idx13 : ∀ t : Fin cfg0.N, win0_13.index t = ![t.val, 0] := (by decide +kernel : ∀ t : Fin grid0.N, _)
theorem idx14 : ∀ t : Fin cfg0.N, win0_14.index t = ![t.val, 0] := (by decide +kernel : ∀ t : Fin grid0.N, _)
theorem idx15 : ∀ t : Fin cfg0.N, win0_15.index t = ![t.val, 0] := (by decide +kernel : ∀ t : Fin grid0.N, _)
theorem idx16 : ∀ t : Fin cfg0.N, win0_16.index t = ![t.val, 0] := (by decide +kernel : ∀ t : Fin grid0.N, _)

/-- The call's result array. -/
theorem out16 (c : Dev nD) : (dats m 0 c).arrAt 16 cfg0.N = fun i => outW (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_v22) (V m c main_v27) (i 0) (i 1) := by
  refine (dats m 0 c).arrAt_eq_of_covers 16 _ (by decide +kernel) fun t hf y => ?_
  blk_simp
  rw [after0_16, left]
  refine (block ..).trans ?_
  unfold blockRow outW
  refine (row_congr (y 1) ?_ ?_ ?_ ?_ ?_ ?_ ?_ ?_ ?_ ?_).trans (congrArg _ ?_)
  case refine_11 => exact Fin.ext (by blk_point [idx16])
  case refine_4 | refine_5 | refine_6 =>
    intro j
    unfold tot totW
    refine congrArg₂ (· + ·) (congrArg₂ (· + ·) ?_ ?_) ?_
    all_goals blk_point [iblk, V, idx3, idx4, idx5, idx6, idx7, idx8, idx9, idx10, idx11, idx16]
  all_goals
    intro j
    blk_point [iblk, V, idx0, idx1, idx2, idx12, idx13, idx14, idx15, idx16]

end Cert.MergeIdeal.Blocks
end
-- ==== Proof.MergeRef.lean ====
/- What the reference computes: per row, the gradients with respect to the columns that the projection was cut into, each turned back
   or summed, put beside each other. -/
module

public import proofs.«01_k».proof.Proof.Gen.MergeRefIdeal.Read
public import Idealize.ShloMosaic.Lib.Pipeline.ValueKit
public import Idealize.ShloMosaic.Lib.ValueIdx

@[expose] public section

noncomputable section

namespace Cert.MergeRefIdeal.Rows

open Cert.MergeRefIdeal Cert.MergeRefIdeal.Gen Cert.MergeRefIdeal.Read Idealize.ShloMosaic Idealize.ShloMosaic.TcCoe Idealize.SL.Sem

/-- Heads of 64 lanes, turned back by the angles whose cosines and sines are `c` and `s`: the other half's lane comes in with the sine. -/
def rot {n : ℕ} (hn : n % 64 = 0) (T : Fin n → EReal) (c s : Fin 32 → EReal) (κ : Fin n) : EReal :=
  if h : κ.val % 64 < 32 then T ⟨κ.val + 32, by omega⟩ * s ⟨κ.val % 64, h⟩ + T κ * c ⟨κ.val % 64, h⟩
  else T κ * c ⟨κ.val % 64 - 32, by omega⟩ + -T ⟨κ.val - 32, by omega⟩ * s ⟨κ.val % 64 - 32, by omega⟩

/-- Two heads that read the same keys, summed. -/
def pair (T : Fin 256 → EReal) (κ : Fin 128) : EReal :=
  T ⟨κ.val / 64 * 128 + κ.val % 64, by omega⟩ + T ⟨κ.val / 64 * 128 + 64 + κ.val % 64, by omega⟩

/-- The gradients of the three strides, summed: an array of rows of one, of four and of sixteen tokens. -/
def sumT (x : (⟨S16384x384, .f32⟩ : BufTy).Contents (Elt Ideal)) (x4 : (⟨S4096x1536, .f32⟩ : BufTy).Contents (Elt Ideal)) (x16 : (⟨S1024x6144, .f32⟩ : BufTy).Contents (Elt Ideal))
    (R : Fin 16384) (κ : Fin 384) : EReal :=
  x16 (ix2 ⟨R.val / 16, by omega⟩ ⟨R.val % 16 * 384 + κ.val, by omega⟩)
    + x4 (ix2 ⟨R.val / 4, by omega⟩ ⟨R.val % 4 * 384 + κ.val, by omega⟩) + x (ix2 R κ)

/-- The angle of a token at a rotation's frequency. -/
def angle (x0 : (⟨S1x16384, .i32⟩ : BufTy).Contents (Elt Ideal)) (R : Fin 16384) (j : Fin 32) : EReal :=
  FloatOps.sitofp (F := Ideal) .f32 (x0 (ix2 0 R)) *
    Ideal.div 1 (Ideal.pow (Ideal.ofBits .f32 0x461C4000#32)
      (Ideal.div (Ideal.ofBits .f32 0x40000000#32 * FloatOps.sitofp (F := Ideal) .f32 (BitVec.ofNat 32 j.val)) (Ideal.ofBits .f32 0x42800000#32)))

/-- A row of the gradient. -/
def refRow (qa ka va : Fin 256 → EReal) (q k v u g : Fin 384 → EReal) (c s : Fin 32 → EReal) (J : Fin 2432) : EReal :=
  if h : J.val < 256 then rot rfl (fun κ => qa κ * Ideal.ofBits .f32 0x3E000000#32) c s ⟨J.val, h⟩
  else if h : J.val < 384 then rot rfl (pair ka) c s ⟨J.val - 256, by omega⟩
  else if h : J.val < 512 then pair va ⟨J.val - 384, by omega⟩
  else if h : J.val < 896 then rot rfl (fun κ => q κ * Ideal.ofBits .f32 0x3E000000#32) c s ⟨J.val - 512, by omega⟩
  else if h : J.val < 1280 then rot rfl k c s ⟨J.val - 896, by omega⟩
  else if h : J.val < 1664 then v ⟨J.val - 1280, by omega⟩
  else if h : J.val < 2048 then u ⟨J.val - 1664, by omega⟩
  else g ⟨J.val - 2048, by omega⟩

/-- The same rotation, of lanes that are given by head and lane. -/
theorem rot_heads {n N : ℕ} (hn : n % 64 = 0) (hN : n = N * 64) (T : Fin n → EReal) (U : Fin N → Fin 64 → EReal)
    (hU : ∀ (h : Fin N) (e : Fin 64) (p : h.val * 64 + e.val < n), U h e = T ⟨h.val * 64 + e.val, p⟩) (c s : Fin 32 → EReal) (κ : Fin n)
    (hκ : κ.val / 64 < N) (he : κ.val % 64 < 64) :
    (if h : κ.val % 64 < 32 then U ⟨κ.val / 64, hκ⟩ ⟨32 + κ.val % 64, by omega⟩ * s ⟨κ.val % 64, h⟩ + U ⟨κ.val / 64, hκ⟩ ⟨κ.val % 64, he⟩ * c ⟨κ.val % 64, h⟩
      else U ⟨κ.val / 64, hκ⟩ ⟨32 + (κ.val % 64 - 32), by omega⟩ * c ⟨κ.val % 64 - 32, by omega⟩
        + -U ⟨κ.val / 64, hκ⟩ ⟨κ.val % 64 - 32, by omega⟩ * s ⟨κ.val % 64 - 32, by omega⟩) = rot hn T c s κ := by
  have key : ∀ (e : Fin 64) (κ' : Fin n), κ'.val = κ.val / 64 * 64 + e.val → U ⟨κ.val / 64, hκ⟩ e = T κ' := by
    intro e κ' h
    have p : κ.val / 64 * 64 + e.val < n := h ▸ κ'.isLt
    exact (hU ⟨κ.val / 64, hκ⟩ e p).trans (congrArg T (Fin.ext h.symm))
  unfold rot
  split
  case isTrue h =>
    have e1 : κ.val + 32 = κ.val / 64 * 64 + (32 + κ.val % 64) := by omega
    have e2 : κ.val = κ.val / 64 * 64 + κ.val % 64 := by omega
    rw [key ⟨32 + κ.val % 64, by omega⟩ ⟨κ.val + 32, by omega⟩ e1, key ⟨κ.val % 64, he⟩ κ e2]
  case isFalse h =>
    have e1 : κ.val - 32 = κ.val / 64 * 64 + (κ.val % 64 - 32) := by omega
    have e2 : κ.val = κ.val / 64 * 64 + (32 + (κ.val % 64 - 32)) := by omega
    rw [key ⟨κ.val % 64 - 32, by omega⟩ ⟨κ.val - 32, by omega⟩ e1, key ⟨32 + (κ.val % 64 - 32), by omega⟩ κ e2]

variable (x0 : (⟨S1x16384, .i32⟩ : BufTy).Contents (Elt Ideal)) (x1 x2 x3 : (⟨S16384x256, .f32⟩ : BufTy).Contents (Elt Ideal))
  (x4 : (⟨S16384x384, .f32⟩ : BufTy).Contents (Elt Ideal)) (x5 : (⟨S4096x1536, .f32⟩ : BufTy).Contents (Elt Ideal))
  (x6 : (⟨S1024x6144, .f32⟩ : BufTy).Contents (Elt Ideal)) (x7 : (⟨S16384x384, .f32⟩ : BufTy).Contents (Elt Ideal))
  (x8 : (⟨S4096x1536, .f32⟩ : BufTy).Contents (Elt Ideal)) (x9 : (⟨S1024x6144, .f32⟩ : BufTy).Contents (Elt Ideal))
  (x10 : (⟨S16384x384, .f32⟩ : BufTy).Contents (Elt Ideal)) (x11 : (⟨S4096x1536, .f32⟩ : BufTy).Contents (Elt Ideal))
  (x12 : (⟨S1024x6144, .f32⟩ : BufTy).Contents (Elt Ideal)) (x13 x14 : (⟨S16384x384, .f32⟩ : BufTy).Contents (Elt Ideal))
  (R : Fin 16384)

theorem v17_at (j : Fin 32) : val_main_v17 (F := Ideal) x0 (ix3 0 R j) = Ideal.cos (angle x0 R j) := by
  pointwise [val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, angle]

theorem v18_at (j : Fin 32) : val_main_v18 (F := Ideal) x0 (ix3 0 R j) = Ideal.sin (angle x0 R j) := by
  pointwise [val_main_v18, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, angle]

/-- The cosines and sines of a token. -/
abbrev cs (j : Fin 32) : EReal := Ideal.cos (angle x0 R j)
@[inherit_doc cs] abbrev sn (j : Fin 32) : EReal := Ideal.sin (angle x0 R j)

/-- A sum over a unit axis and over the two heads that read the same keys. -/
theorem two (x : (⟨S1x16384x2x2x64, .f32⟩ : BufTy).Contents (Elt Ideal)) (z : EReal) (h : Fin 2) (e : Fin 64) :
    Ideal.hostReduceAdd reducesTo_S1x16384x2x2x64_S16384x2x64_d0_3 x z (ix3 R h e)
      = z + (x (ix5 (0 : Fin 1) R h (0 : Fin 2) e) + x (ix5 (0 : Fin 1) R h (1 : Fin 2) e)) := by
  unfold Ideal.hostReduceAdd
  have hs : (Finset.univ.filter fun i => reducesTo_S1x16384x2x2x64_S16384x2x64_d0_3.drop i = ix3 R h e)
      = {ix5 (0 : Fin 1) R h (0 : Fin 2) e, ix5 (0 : Fin 1) R h (1 : Fin 2) e} := by
    ext i
    obtain ⟨i0, i1, i2, i3, i4, rfl⟩ : ∃ (i0 : Fin 1) (i1 : Fin 16384) (i2 : Fin 2) (i3 : Fin 2) (i4 : Fin 64), i = ix5 i0 i1 i2 i3 i4 := ⟨_, _, _, _, _, eq_ix5 i⟩
    rw [Finset.mem_filter, Finset.mem_insert, Finset.mem_singleton]
    constructor
    · rintro ⟨-, hi⟩
      have h1 : i1 = R := congrFun hi 0
      have h2 : i2 = h := congrFun hi 1
      have h4 : i4 = e := congrFun hi 2
      have h0 : i0 = (0 : Fin 1) := Subsingleton.elim (α := Fin 1) _ _
      rw [h0, h1, h2, h4]
      rcases (by omega : i3 = 0 ∨ i3 = 1) with h3 | h3
      · exact .inl (by rw [h3])
      · exact .inr (by rw [h3])
    · rintro (hi | hi) <;> rw [hi] <;> exact ⟨Finset.mem_univ _, funext fun a => by fin_cases a <;> rfl⟩
  rw [hs, Finset.sum_pair fun hh => absurd (show (0 : Fin 2) = 1 from congrFun hh 3) (by decide)]

/-- A sum over axes of size one is its element. -/
theorem one (x : (⟨S1x16384x2x1x64, .f32⟩ : BufTy).Contents (Elt Ideal)) (z : EReal) (h : Fin 2) (e : Fin 64) :
    Ideal.hostReduceAdd reducesTo_S1x16384x2x1x64_S16384x2x64_d0_3 x z (ix3 R h e) = z + x (ix5 (0 : Fin 1) R h (0 : Fin 1) e) := by
  unfold Ideal.hostReduceAdd
  have hs : (Finset.univ.filter fun i => reducesTo_S1x16384x2x1x64_S16384x2x64_d0_3.drop i = ix3 R h e) = {ix5 (0 : Fin 1) R h (0 : Fin 1) e} := by
    ext i
    obtain ⟨i0, i1, i2, i3, i4, rfl⟩ : ∃ (i0 : Fin 1) (i1 : Fin 16384) (i2 : Fin 2) (i3 : Fin 1) (i4 : Fin 64), i = ix5 i0 i1 i2 i3 i4 := ⟨_, _, _, _, _, eq_ix5 i⟩
    rw [Finset.mem_filter, Finset.mem_singleton]
    constructor
    · rintro ⟨-, hi⟩
      have h1 : i1 = R := congrFun hi 0
      have h2 : i2 = h := congrFun hi 1
      have h4 : i4 = e := congrFun hi 2
      have h0 : i0 = (0 : Fin 1) := Subsingleton.elim (α := Fin 1) _ _
      have h3 : i3 = (0 : Fin 1) := Subsingleton.elim (α := Fin 1) _ _
      rw [h0, h1, h2, h3, h4]
    · intro hi
      rw [hi]
      exact ⟨Finset.mem_univ _, funext fun a => by fin_cases a <;> rfl⟩
  rw [hs, Finset.sum_singleton]

theorem v136_at (h : Fin 2) (e : Fin 64) : val_main_v136 (F := Ideal) x3 (ix3 R h e)
    = x3 (ix2 R ⟨h.val * 128 + e.val, by omega⟩) + x3 (ix2 R ⟨h.val * 128 + 64 + e.val, by omega⟩) := by
  pointwise [val_main_v136, val_main_cst_8]
  rw [two]
  pointwise [val_main_v135]

theorem v139_at (h : Fin 2) (e : Fin 64) : val_main_v139 (F := Ideal) x3 (ix4 0 R h e)
    = x3 (ix2 R ⟨h.val * 128 + e.val, by omega⟩) + x3 (ix2 R ⟨h.val * 128 + 64 + e.val, by omega⟩) := by
  have hv : val_main_v138 (F := Ideal) x3 (ix3 R h e) = val_main_v136 (F := Ideal) x3 (ix3 R h e) := by
    pointwise [val_main_v138, val_main_cst_9]
    rw [one]
    pointwise [val_main_v137]
  pointwise [val_main_v139, hv, v136_at]

theorem v141_at (h : Fin 2) (e : Fin 64) : val_main_v141 (F := Ideal) x2 (ix3 R h e)
    = x2 (ix2 R ⟨h.val * 128 + e.val, by omega⟩) + x2 (ix2 R ⟨h.val * 128 + 64 + e.val, by omega⟩) := by
  pointwise [val_main_v141, val_main_cst_10]
  rw [two]
  pointwise [val_main_v140]

theorem v144_at (h : Fin 2) (e : Fin 64) : val_main_v144 (F := Ideal) x2 (ix4 0 R h e)
    = x2 (ix2 R ⟨h.val * 128 + e.val, by omega⟩) + x2 (ix2 R ⟨h.val * 128 + 64 + e.val, by omega⟩) := by
  have hv : val_main_v143 (F := Ideal) x2 (ix3 R h e) = val_main_v141 (F := Ideal) x2 (ix3 R h e) := by
    pointwise [val_main_v143, val_main_cst_11]
    rw [one]
    pointwise [val_main_v142]
  pointwise [val_main_v144, hv, v141_at]

theorem v179_at (κ : Fin 128) : val_main_v179 (F := Ideal) x3 (ix3 0 R κ) = pair (fun j => x3 (ix2 R j)) κ := by
  pointwise [val_main_v179, v139_at, pair]

theorem v122_at (h : Fin 6) (e : Fin 64) (p : h.val * 64 + e.val < 384) :
    val_main_v122 (F := Ideal) x10 x11 x12 (ix4 0 R h e) = sumT x10 x11 x12 R ⟨h.val * 64 + e.val, p⟩ := by
  pointwise [val_main_v122, val_main_v121, val_main_v120, val_main_v119, val_main_v118, sumT, Nat.add_assoc]

theorem v127_at (h : Fin 6) (e : Fin 64) (p : h.val * 64 + e.val < 384) :
    val_main_v127 (F := Ideal) x7 x8 x9 (ix4 0 R h e) = sumT x7 x8 x9 R ⟨h.val * 64 + e.val, p⟩ := by
  pointwise [val_main_v127, val_main_v126, val_main_v125, val_main_v124, val_main_v123, sumT, Nat.add_assoc]

theorem v132_at (h : Fin 6) (e : Fin 64) (p : h.val * 64 + e.val < 384) :
    val_main_v132 (F := Ideal) x4 x5 x6 (ix4 0 R h e) = sumT x4 x5 x6 R ⟨h.val * 64 + e.val, p⟩ := by
  pointwise [val_main_v132, val_main_v131, val_main_v130, val_main_v129, val_main_v128, sumT, Nat.add_assoc]

theorem v134_at (h : Fin 6) (e : Fin 64) (p : h.val * 64 + e.val < 384) :
    val_main_v134 (F := Ideal) x4 x5 x6 (ix4 0 R h e) = sumT x4 x5 x6 R ⟨h.val * 64 + e.val, p⟩ * Ideal.ofBits .f32 0x3E000000#32 := by
  pointwise [val_main_v134, val_main_v133, val_main_cst_7]
  rw [v132_at]

theorem v148_at (κ : Fin 384) : val_main_v148 (F := Ideal) x10 x11 x12 (ix3 0 R κ) = sumT x10 x11 x12 R κ := by
  pointwise [val_main_v148]
  refine (v122_at _ _ _ _ _ _ (by dsimp only; omega)).trans (congrArg _ (Fin.ext ?_))
  dsimp only; omega

theorem v163_at (κ : Fin 384) : val_main_v163 (F := Ideal) x0 x7 x8 x9 (ix3 0 R κ) = rot rfl (sumT x7 x8 x9 R) (cs x0 R) (sn x0 R) κ := by
  pointwise [val_main_v163, val_main_v162, val_main_v161, val_main_v160, val_main_v159, val_main_v158, val_main_v157, val_main_v156, val_main_v155, val_main_v154, val_main_v153, val_main_v152, val_main_v151, val_main_v150, val_main_v149, val_main_v80, val_main_v81, v17_at, v18_at]
  exact rot_heads (n := 384) (N := 6) rfl (by decide) (sumT x7 x8 x9 R) (fun h e => val_main_v127 (F := Ideal) x7 x8 x9 (ix4 0 R h e)) (fun h e p => v127_at x7 x8 x9 R h e p)
    (cs x0 R) (sn x0 R) κ (by omega) (by omega)

theorem v178_at (κ : Fin 384) : val_main_v178 (F := Ideal) x0 x4 x5 x6 (ix3 0 R κ)
    = rot rfl (fun κ => sumT x4 x5 x6 R κ * Ideal.ofBits .f32 0x3E000000#32) (cs x0 R) (sn x0 R) κ := by
  pointwise [val_main_v178, val_main_v177, val_main_v176, val_main_v175, val_main_v174, val_main_v173, val_main_v172, val_main_v171, val_main_v170, val_main_v169, val_main_v168, val_main_v167, val_main_v166, val_main_v165, val_main_v164, val_main_v64, val_main_v65, v17_at, v18_at]
  exact rot_heads (n := 384) (N := 6) rfl (by decide) (fun κ => sumT x4 x5 x6 R κ * Ideal.ofBits .f32 0x3E000000#32) (fun h e => val_main_v134 (F := Ideal) x4 x5 x6 (ix4 0 R h e)) (fun h e p => v134_at x4 x5 x6 R h e p)
    (cs x0 R) (sn x0 R) κ (by omega) (by omega)

theorem pair_at (h : Fin 2) (e : Fin 64) (p : h.val * 64 + e.val < 128) : val_main_v144 (F := Ideal) x2 (ix4 0 R h e)
    = pair (fun j => x2 (ix2 R j)) ⟨h.val * 64 + e.val, p⟩ := by
  refine (v144_at ..).trans ?_
  unfold pair
  refine congrArg₂ (· + ·) (congrArg (fun j => x2 (ix2 R j)) (Fin.ext ?_)) (congrArg (fun j => x2 (ix2 R j)) (Fin.ext ?_)) <;> dsimp only <;> omega

theorem v194_at (κ : Fin 128) : val_main_v194 (F := Ideal) x0 x2 (ix3 0 R κ)
    = rot rfl (pair fun j => x2 (ix2 R j)) (cs x0 R) (sn x0 R) κ := by
  pointwise [val_main_v194, val_main_v193, val_main_v192, val_main_v191, val_main_v190, val_main_v189, val_main_v188, val_main_v187, val_main_v186, val_main_v185, val_main_v184, val_main_v183, val_main_v182, val_main_v181, val_main_v180, val_main_v47, val_main_v48, v17_at, v18_at]
  exact rot_heads (n := 128) (N := 2) rfl (by decide) (pair fun j => x2 (ix2 R j)) (fun h e => val_main_v144 (F := Ideal) x2 (ix4 0 R h e)) (fun h e p => pair_at x2 R h e p)
    (cs x0 R) (sn x0 R) κ (by omega) (by omega)

theorem v147_at (h : Fin 4) (e : Fin 64) (p : h.val * 64 + e.val < 256) :
    val_main_v147 (F := Ideal) x1 (ix4 0 R h e) = x1 (ix2 R ⟨h.val * 64 + e.val, p⟩) * Ideal.ofBits .f32 0x3E000000#32 := by
  pointwise [val_main_v147, val_main_v146, val_main_v145, val_main_cst_12]

theorem v209_at (κ : Fin 256) : val_main_v209 (F := Ideal) x0 x1 (ix3 0 R κ)
    = rot rfl (fun κ => x1 (ix2 R κ) * Ideal.ofBits .f32 0x3E000000#32) (cs x0 R) (sn x0 R) κ := by
  pointwise [val_main_v209, val_main_v208, val_main_v207, val_main_v206, val_main_v205, val_main_v204, val_main_v203, val_main_v202, val_main_v201, val_main_v200, val_main_v199, val_main_v198, val_main_v197, val_main_v196, val_main_v195, val_main_v31, val_main_v32, v17_at, v18_at]
  exact rot_heads (n := 256) (N := 4) rfl (by decide) (fun κ => x1 (ix2 R κ) * Ideal.ofBits .f32 0x3E000000#32) (fun h e => val_main_v147 (F := Ideal) x1 (ix4 0 R h e)) (fun h e p => v147_at x1 R h e p)
    (cs x0 R) (sn x0 R) κ (by omega) (by omega)

/-- What the reference returns. -/
theorem v226_at (J : Fin 2432) : val_main_v226 (F := Ideal) x0 x1 x2 x3 x4 x5 x6 x7 x8 x9 x10 x11 x12 x13 x14 (ix2 R J)
    = refRow (fun j => x1 (ix2 R j)) (fun j => x2 (ix2 R j)) (fun j => x3 (ix2 R j)) (sumT x4 x5 x6 R) (sumT x7 x8 x9 R) (sumT x10 x11 x12 R)
      (fun j => x13 (ix2 R j)) (fun j => x14 (ix2 R j)) (cs x0 R) (sn x0 R) J := by
  pointwise [val_main_v226, val_main_v225, val_main_v224, val_main_v223, val_main_v222, val_main_v221, val_main_v220, val_main_v219, val_main_v218, val_main_v217, val_main_v216, val_main_v215, val_main_v214, val_main_v213, val_main_v212, val_main_v211, val_main_v210, val_main_v116, val_main_v117, val_main_cst_13, val_main_cst_14, val_main_cst_15, val_main_cst_16, val_main_cst_17, val_main_cst_18, val_main_cst_19, val_main_cst_20,
    v148_at, v163_at, v178_at, v179_at, v194_at, v209_at]
  unfold refRow
  rcases (by omega : J.val < 256 ∨ (256 ≤ J.val ∧ J.val < 384) ∨ (384 ≤ J.val ∧ J.val < 512) ∨ (512 ≤ J.val ∧ J.val < 896) ∨ (896 ≤ J.val ∧ J.val < 1280) ∨ (1280 ≤ J.val ∧ J.val < 1664) ∨ (1664 ≤ J.val ∧ J.val < 2048) ∨ 2048 ≤ J.val) with h | h | h | h | h | h | h | h
  · simp only [dif_neg (show ¬(2048 ≤ J.val ∧ J.val - 2048 < 384) by omega), dif_neg (show ¬(1664 ≤ J.val ∧ J.val - 1664 < 384) by omega), dif_neg (show ¬(1280 ≤ J.val ∧ J.val - 1280 < 384) by omega), dif_neg (show ¬(896 ≤ J.val ∧ J.val - 896 < 384) by omega), dif_neg (show ¬(512 ≤ J.val ∧ J.val - 512 < 384) by omega), dif_neg (show ¬(384 ≤ J.val ∧ J.val - 384 < 128) by omega), dif_neg (show ¬(256 ≤ J.val ∧ J.val - 256 < 128) by omega), dif_pos (show J.val < 256 by omega), zero_add, add_zero]
  · simp only [dif_neg (show ¬(2048 ≤ J.val ∧ J.val - 2048 < 384) by omega), dif_neg (show ¬(1664 ≤ J.val ∧ J.val - 1664 < 384) by omega), dif_neg (show ¬(1280 ≤ J.val ∧ J.val - 1280 < 384) by omega), dif_neg (show ¬(896 ≤ J.val ∧ J.val - 896 < 384) by omega), dif_neg (show ¬(512 ≤ J.val ∧ J.val - 512 < 384) by omega), dif_neg (show ¬(384 ≤ J.val ∧ J.val - 384 < 128) by omega), dif_pos (show 256 ≤ J.val ∧ J.val - 256 < 128 by omega), dif_neg (show ¬(J.val < 256) by omega), dif_pos (show J.val < 384 by omega), zero_add, add_zero]
  · simp only [dif_neg (show ¬(2048 ≤ J.val ∧ J.val - 2048 < 384) by omega), dif_neg (show ¬(1664 ≤ J.val ∧ J.val - 1664 < 384) by omega), dif_neg (show ¬(1280 ≤ J.val ∧ J.val - 1280 < 384) by omega), dif_neg (show ¬(896 ≤ J.val ∧ J.val - 896 < 384) by omega), dif_neg (show ¬(512 ≤ J.val ∧ J.val - 512 < 384) by omega), dif_pos (show 384 ≤ J.val ∧ J.val - 384 < 128 by omega), dif_neg (show ¬(256 ≤ J.val ∧ J.val - 256 < 128) by omega), dif_neg (show ¬(J.val < 256) by omega), dif_neg (show ¬(J.val < 384) by omega), dif_pos (show J.val < 512 by omega), zero_add, add_zero]
  · simp only [dif_neg (show ¬(2048 ≤ J.val ∧ J.val - 2048 < 384) by omega), dif_neg (show ¬(1664 ≤ J.val ∧ J.val - 1664 < 384) by omega), dif_neg (show ¬(1280 ≤ J.val ∧ J.val - 1280 < 384) by omega), dif_neg (show ¬(896 ≤ J.val ∧ J.val - 896 < 384) by omega), dif_pos (show 512 ≤ J.val ∧ J.val - 512 < 384 by omega), dif_neg (show ¬(384 ≤ J.val ∧ J.val - 384 < 128) by omega), dif_neg (show ¬(256 ≤ J.val ∧ J.val - 256 < 128) by omega), dif_neg (show ¬(J.val < 256) by omega), dif_neg (show ¬(J.val < 384) by omega), dif_neg (show ¬(J.val < 512) by omega), dif_pos (show J.val < 896 by omega), zero_add, add_zero]
  · simp only [dif_neg (show ¬(2048 ≤ J.val ∧ J.val - 2048 < 384) by omega), dif_neg (show ¬(1664 ≤ J.val ∧ J.val - 1664 < 384) by omega), dif_neg (show ¬(1280 ≤ J.val ∧ J.val - 1280 < 384) by omega), dif_pos (show 896 ≤ J.val ∧ J.val - 896 < 384 by omega), dif_neg (show ¬(512 ≤ J.val ∧ J.val - 512 < 384) by omega), dif_neg (show ¬(384 ≤ J.val ∧ J.val - 384 < 128) by omega), dif_neg (show ¬(256 ≤ J.val ∧ J.val - 256 < 128) by omega), dif_neg (show ¬(J.val < 256) by omega), dif_neg (show ¬(J.val < 384) by omega), dif_neg (show ¬(J.val < 512) by omega), dif_neg (show ¬(J.val < 896) by omega), dif_pos (show J.val < 1280 by omega), zero_add, add_zero]
  · simp only [dif_neg (show ¬(2048 ≤ J.val ∧ J.val - 2048 < 384) by omega), dif_neg (show ¬(1664 ≤ J.val ∧ J.val - 1664 < 384) by omega), dif_pos (show 1280 ≤ J.val ∧ J.val - 1280 < 384 by omega), dif_neg (show ¬(896 ≤ J.val ∧ J.val - 896 < 384) by omega), dif_neg (show ¬(512 ≤ J.val ∧ J.val - 512 < 384) by omega), dif_neg (show ¬(384 ≤ J.val ∧ J.val - 384 < 128) by omega), dif_neg (show ¬(256 ≤ J.val ∧ J.val - 256 < 128) by omega), dif_neg (show ¬(J.val < 256) by omega), dif_neg (show ¬(J.val < 384) by omega), dif_neg (show ¬(J.val < 512) by omega), dif_neg (show ¬(J.val < 896) by omega), dif_neg (show ¬(J.val < 1280) by omega), dif_pos (show J.val < 1664 by omega), zero_add, add_zero]
  · simp only [dif_neg (show ¬(2048 ≤ J.val ∧ J.val - 2048 < 384) by omega), dif_pos (show 1664 ≤ J.val ∧ J.val - 1664 < 384 by omega), dif_neg (show ¬(1280 ≤ J.val ∧ J.val - 1280 < 384) by omega), dif_neg (show ¬(896 ≤ J.val ∧ J.val - 896 < 384) by omega), dif_neg (show ¬(512 ≤ J.val ∧ J.val - 512 < 384) by omega), dif_neg (show ¬(384 ≤ J.val ∧ J.val - 384 < 128) by omega), dif_neg (show ¬(256 ≤ J.val ∧ J.val - 256 < 128) by omega), dif_neg (show ¬(J.val < 256) by omega), dif_neg (show ¬(J.val < 384) by omega), dif_neg (show ¬(J.val < 512) by omega), dif_neg (show ¬(J.val < 896) by omega), dif_neg (show ¬(J.val < 1280) by omega), dif_neg (show ¬(J.val < 1664) by omega), dif_pos (show J.val < 2048 by omega), zero_add, add_zero]
  · simp only [dif_pos (show 2048 ≤ J.val ∧ J.val - 2048 < 384 by omega), dif_neg (show ¬(1664 ≤ J.val ∧ J.val - 1664 < 384) by omega), dif_neg (show ¬(1280 ≤ J.val ∧ J.val - 1280 < 384) by omega), dif_neg (show ¬(896 ≤ J.val ∧ J.val - 896 < 384) by omega), dif_neg (show ¬(512 ≤ J.val ∧ J.val - 512 < 384) by omega), dif_neg (show ¬(384 ≤ J.val ∧ J.val - 384 < 128) by omega), dif_neg (show ¬(256 ≤ J.val ∧ J.val - 256 < 128) by omega), dif_neg (show ¬(J.val < 256) by omega), dif_neg (show ¬(J.val < 384) by omega), dif_neg (show ¬(J.val < 512) by omega), dif_neg (show ¬(J.val < 896) by omega), dif_neg (show ¬(J.val < 1280) by omega), dif_neg (show ¬(J.val < 1664) by omega), dif_neg (show ¬(J.val < 2048) by omega), zero_add, add_zero]

end Cert.MergeRefIdeal.Rows
end
-- ==== Proof.MergeEq.lean ====
/- The value claim of the merged gradient: the rotation that the kernel reads from its tables is the reference's, a scale taken after a
   rotation is the scale taken before it, and the sums differ in their order. No element needs to be finite. -/
module

public import proofs.«01_k».proof.Defs
public import proofs.«01_k».proof.Proof.MergeKernel
public import proofs.«01_k».proof.Proof.MergeRef

@[expose] public section

noncomputable section

namespace Cert.MergeIdeal.Eq

open Cert.MergeIdeal Cert.MergeIdeal.Gen Cert.MergeIdeal.Blocks Idealize.ShloMosaic Idealize.ShloMosaic.TcCoe Idealize.SL.Sem
open Cert.MergeRefIdeal.Rows (rot pair sumT angle refRow cs sn)

variable (m : (ℓ : Loc nD τ sig) → Buf (Elt Ideal) ℓ) (c : Dev nD)

/-- The table of cosines. -/
theorem table_cos (R : Fin 16384) (l : Fin 128) :
    V m c main_v22 (ix2 R l) = Ideal.cos (angle (m ((c.tc : Thread nD τ).loc main_arg0)) R ⟨l.val % 32, Nat.mod_lt _ (by decide)⟩) := by
  entry_read
  pointwise [angle]

/-- The table of sines, with the sign of the half of the head. -/
theorem table_sin (R : Fin 16384) (l : Fin 128) :
    V m c main_v27 (ix2 R l) = if l.val % 64 < 32 then -Ideal.sin (angle (m ((c.tc : Thread nD τ).loc main_arg0)) R ⟨l.val % 32, Nat.mod_lt _ (by decide)⟩)
      else Ideal.sin (angle (m ((c.tc : Thread nD τ).loc main_arg0)) R ⟨l.val % 32, Nat.mod_lt _ (by decide)⟩) := by
  entry_read
  pointwise [angle]
  by_cases h : l.val % 64 < 32
  · rw [dif_pos h, if_pos h, show l.val % 64 = l.val % 32 by omega]
  · rw [dif_neg h, if_neg h, show l.val % 64 - 32 = l.val % 32 by omega]

/-- The kernel's rotation of lanes `128 k ‥` is the reference's. -/
theorem turn_rot {n : ℕ} (hn : n % 64 = 0) (T : Fin n → EReal) (k : ℕ) (hk : 128 * k + 128 ≤ n) (C S : Fin 128 → EReal) (c s : Fin 32 → EReal)
    (hC : ∀ l : Fin 128, C l = c ⟨l.val % 32, Nat.mod_lt _ (by decide)⟩)
    (hS : ∀ l : Fin 128, S l = if l.val % 64 < 32 then -s ⟨l.val % 32, Nat.mod_lt _ (by decide)⟩ else s ⟨l.val % 32, Nat.mod_lt _ (by decide)⟩)
    (l : Fin 128) (J : Fin n) (hJ : J.val = 128 * k + l.val) : turn (line T k hk) C S l = rot hn T c s J := by
  have hl : l.val < 128 := l.isLt
  unfold turn rot line
  rw [hC, hS]
  by_cases h : l.val % 64 < 32
  · rw [if_pos h, dif_pos (show J.val % 64 < 32 by omega), mul_neg, sub_eq_add_neg, neg_neg, add_comm]
    have e : (⟨l.val % 32, Nat.mod_lt _ (by decide)⟩ : Fin 32) = ⟨J.val % 64, by omega⟩ := Fin.ext (show l.val % 32 = J.val % 64 by omega)
    have e1 : (⟨128 * k + (part l).val, by have := (part l).isLt; omega⟩ : Fin n) = ⟨J.val + 32, by omega⟩ :=
      Fin.ext (show 128 * k + (if l.val % 64 < 32 then l.val + 32 else l.val - 32) = J.val + 32 by rw [if_pos h]; omega)
    rw [e, e1, show (⟨128 * k + l.val, by omega⟩ : Fin n) = J from Fin.ext hJ.symm]
  · rw [if_neg h, dif_neg (show ¬(J.val % 64 < 32) by omega), sub_eq_add_neg, ← neg_mul]
    have e : (⟨l.val % 32, Nat.mod_lt _ (by decide)⟩ : Fin 32) = ⟨J.val % 64 - 32, by omega⟩ := Fin.ext (show l.val % 32 = J.val % 64 - 32 by omega)
    have e1 : (⟨128 * k + (part l).val, by have := (part l).isLt; omega⟩ : Fin n) = ⟨J.val - 32, by omega⟩ :=
      Fin.ext (show 128 * k + (if l.val % 64 < 32 then l.val + 32 else l.val - 32) = J.val - 32 by rw [if_neg h]; omega)
    rw [e, e1, show (⟨128 * k + l.val, by omega⟩ : Fin n) = J from Fin.ext hJ.symm]

theorem eighth_pos : (0 : EReal) ≤ eighth ∧ eighth ≠ ⊤ := by
  rw [show eighth = ((1 / 8 : ℝ) : EReal) by simp [eighth, Ideal.ofBits, Ideal.ieee, -EReal.coe_mul]; norm_num]
  exact ⟨EReal.coe_nonneg.mpr (by norm_num), EReal.coe_ne_top _⟩

/-- The scale may be taken before the rotation. -/
theorem rot_scale {n : ℕ} (hn : n % 64 = 0) (T : Fin n → EReal) (c s : Fin 32 → EReal) (J : Fin n) :
    rot hn T c s J * eighth = rot hn (fun κ => T κ * eighth) c s J := by
  have h (a b : EReal) : eighth * (a * b) = a * eighth * b := by rw [← mul_assoc, mul_comm eighth]
  unfold rot
  split
  all_goals rw [mul_comm _ eighth, EReal.left_distrib_of_nonneg_of_ne_top eighth_pos.1 eighth_pos.2, h, h]
  rw [neg_mul]

/-- The kernel's sum of four heads to two is the reference's. -/
theorem fold_pair (T : Fin 256 → EReal) : fold (line T 0 (by decide)) (line T 1 (by decide)) = pair T := by
  funext l
  have hl : l.val < 128 := l.isLt
  unfold fold line pair opp
  split
  case isTrue h =>
    exact congrArg₂ (fun a b => T a + T b) (Fin.ext (show 128 * 0 + l.val = l.val / 64 * 128 + l.val % 64 by omega))
      (Fin.ext (show 128 * 0 + (l.val + 128 - 64) % 128 = l.val / 64 * 128 + 64 + l.val % 64 by omega))
  case isFalse h =>
    exact (add_comm _ _).trans (congrArg₂ (fun a b => T a + T b)
      (Fin.ext (show 128 * 1 + (l.val + 128 - 64) % 128 = l.val / 64 * 128 + l.val % 64 by omega))
      (Fin.ext (show 128 * 1 + l.val = l.val / 64 * 128 + 64 + l.val % 64 by omega)))

theorem line_zero (T : Fin 128 → EReal) : line T 0 (by decide) = T :=
  funext fun l => congrArg T (Fin.ext (show 128 * 0 + l.val = l.val by omega))

theorem tot_sum (x : S16384x384.Idx → EReal) (x4 : S4096x1536.Idx → EReal) (x16 : S1024x6144.Idx → EReal) (R : Fin 16384) :
    totW x x4 x16 R = sumT x x4 x16 R := by
  funext κ
  unfold totW sumT
  rw [add_comm (x _), add_comm (x4 _ + _), ← add_assoc]

/-- A row of the kernel's result is the reference's. -/
theorem row_eq (qa ka va : Fin 256 → EReal) (q k v u g : Fin 384 → EReal) (C S : Fin 128 → EReal) (c s : Fin 32 → EReal)
    (hC : ∀ l : Fin 128, C l = c ⟨l.val % 32, Nat.mod_lt _ (by decide)⟩)
    (hS : ∀ l : Fin 128, S l = if l.val % 64 < 32 then -s ⟨l.val % 32, Nat.mod_lt _ (by decide)⟩ else s ⟨l.val % 32, Nat.mod_lt _ (by decide)⟩)
    (J : Fin 2432) : rowOut qa ka va q k v u g C S J = refRow qa ka va q k v u g c s J := by
  unfold rowOut refRow
  rw [fold_pair, fold_pair]
  by_cases h0 : J.val < 256
  · rw [dif_pos h0, dif_pos h0, ← rot_scale]
    exact congrArg (· * eighth) (turn_rot (n := 256) rfl qa _ (by omega) C S c s hC hS _ ⟨J.val, h0⟩ (show J.val = 128 * (J.val / 128) + J.val % 128 by omega))
  rw [dif_neg h0, dif_neg h0]
  by_cases h1 : J.val < 384
  · rw [dif_pos h1, dif_pos h1]
    have e := turn_rot (n := 128) rfl (pair ka) 0 (by decide) C S c s hC hS ⟨J.val - 256, by omega⟩ ⟨J.val - 256, by omega⟩ (show J.val - 256 = 128 * 0 + (J.val - 256) by omega)
    rw [line_zero] at e
    exact e
  rw [dif_neg h1, dif_neg h1]
  by_cases h2 : J.val < 512
  · rw [dif_pos h2, dif_pos h2]
  rw [dif_neg h2, dif_neg h2]
  by_cases h3 : J.val < 896
  · rw [dif_pos h3, dif_pos h3, ← rot_scale]
    exact congrArg (· * eighth) (turn_rot (n := 384) rfl q _ (by omega) C S c s hC hS _ ⟨J.val - 512, by omega⟩
      (show J.val - 512 = 128 * ((J.val - 512) / 128) + J.val % 128 by omega))
  rw [dif_neg h3, dif_neg h3]
  by_cases h4 : J.val < 1280
  · rw [dif_pos h4, dif_pos h4]
    exact turn_rot (n := 384) rfl k _ (by omega) C S c s hC hS _ ⟨J.val - 896, by omega⟩
      (show J.val - 896 = 128 * ((J.val - 896) / 128) + J.val % 128 by omega)
  rw [dif_neg h4, dif_neg h4]

/-- The same of the whole array. -/
theorem out_row (x1 x2 x3 : S16384x256.Idx → EReal) (x4 : S16384x384.Idx → EReal) (x5 : S4096x1536.Idx → EReal) (x6 : S1024x6144.Idx → EReal)
    (x7 : S16384x384.Idx → EReal) (x8 : S4096x1536.Idx → EReal) (x9 : S1024x6144.Idx → EReal) (x10 : S16384x384.Idx → EReal)
    (x11 : S4096x1536.Idx → EReal) (x12 : S1024x6144.Idx → EReal) (x13 x14 : S16384x384.Idx → EReal) (R : Fin 16384) (J : Fin 2432) :
    outW x1 x2 x3 x4 x5 x6 x7 x8 x9 x10 x11 x12 x13 x14 (V m c main_v22) (V m c main_v27) R J
      = refRow (fun j => x1 (ix2 R j)) (fun j => x2 (ix2 R j)) (fun j => x3 (ix2 R j)) (sumT x4 x5 x6 R) (sumT x7 x8 x9 R) (sumT x10 x11 x12 R)
        (fun j => x13 (ix2 R j)) (fun j => x14 (ix2 R j)) (cs (m ((c.tc : Thread nD τ).loc main_arg0)) R)
        (sn (m ((c.tc : Thread nD τ).loc main_arg0)) R) J := by
  unfold outW
  rw [row_eq _ _ _ _ _ _ _ _ _ _ (cs (m ((c.tc : Thread nD τ).loc main_arg0)) R) (sn (m ((c.tc : Thread nD τ).loc main_arg0)) R)
    (fun l => table_cos m c R l) (fun l => table_sin m c R l), tot_sum, tot_sum, tot_sum]

theorem algebraic : algebraic_MergeIdeal_MergeRefIdeal := by
  intro m g m' g' _ hm
  refine ⟨_, Cert.MergeIdeal.Value.run_blocks m g, ?_⟩
  refine (θ_run Cert.MergeRefIdeal.defs _ _).mono (fun r h c => ?_) (Cert.MergeRefIdeal.Value.run m' g')
  obtain ⟨q0, q1, q2, q3, q4, q5, q6, q7, q8, q9, q10, q11, q12, q13, q14⟩ := hm c
  obtain ⟨hr, hrest⟩ := h c
  refine ⟨?_, hrest⟩
  have e0 : StableHlo.launchContents m' c (Proc.devRef .tc Cert.MergeRefIdeal.main_arg0) = m ((c.tc : Thread nD τ).loc main_arg0) := q0
  have e1 : StableHlo.launchContents m' c (Proc.devRef .tc Cert.MergeRefIdeal.main_arg1) = m ((c.tc : Thread nD τ).loc main_arg1) := q1
  have e2 : StableHlo.launchContents m' c (Proc.devRef .tc Cert.MergeRefIdeal.main_arg2) = m ((c.tc : Thread nD τ).loc main_arg2) := q2
  have e3 : StableHlo.launchContents m' c (Proc.devRef .tc Cert.MergeRefIdeal.main_arg3) = m ((c.tc : Thread nD τ).loc main_arg3) := q3
  have e4 : StableHlo.launchContents m' c (Proc.devRef .tc Cert.MergeRefIdeal.main_arg4) = m ((c.tc : Thread nD τ).loc main_arg4) := q4
  have e5 : StableHlo.launchContents m' c (Proc.devRef .tc Cert.MergeRefIdeal.main_arg5) = m ((c.tc : Thread nD τ).loc main_arg5) := q5
  have e6 : StableHlo.launchContents m' c (Proc.devRef .tc Cert.MergeRefIdeal.main_arg6) = m ((c.tc : Thread nD τ).loc main_arg6) := q6
  have e7 : StableHlo.launchContents m' c (Proc.devRef .tc Cert.MergeRefIdeal.main_arg7) = m ((c.tc : Thread nD τ).loc main_arg7) := q7
  have e8 : StableHlo.launchContents m' c (Proc.devRef .tc Cert.MergeRefIdeal.main_arg8) = m ((c.tc : Thread nD τ).loc main_arg8) := q8
  have e9 : StableHlo.launchContents m' c (Proc.devRef .tc Cert.MergeRefIdeal.main_arg9) = m ((c.tc : Thread nD τ).loc main_arg9) := q9
  have e10 : StableHlo.launchContents m' c (Proc.devRef .tc Cert.MergeRefIdeal.main_arg10) = m ((c.tc : Thread nD τ).loc main_arg10) := q10
  have e11 : StableHlo.launchContents m' c (Proc.devRef .tc Cert.MergeRefIdeal.main_arg11) = m ((c.tc : Thread nD τ).loc main_arg11) := q11
  have e12 : StableHlo.launchContents m' c (Proc.devRef .tc Cert.MergeRefIdeal.main_arg12) = m ((c.tc : Thread nD τ).loc main_arg12) := q12
  have e13 : StableHlo.launchContents m' c (Proc.devRef .tc Cert.MergeRefIdeal.main_arg13) = m ((c.tc : Thread nD τ).loc main_arg13) := q13
  have e14 : StableHlo.launchContents m' c (Proc.devRef .tc Cert.MergeRefIdeal.main_arg14) = m ((c.tc : Thread nD τ).loc main_arg14) := q14
  rw [hr, Cert.MergeRefIdeal.Read.val_main_v226_eq, e0, e1, e2, e3, e4, e5, e6, e7, e8, e9, e10, e11, e12, e13, e14, out16]
  funext i
  obtain ⟨R, J, rfl⟩ : ∃ (R : Fin 16384) (J : Fin 2432), i = ix2 R J := ⟨i 0, i 1, (ix2_eta i).symm⟩
  refine (Cert.MergeRefIdeal.Rows.v226_at ..).trans ?_
  refine Eq.trans ?_ (out_row m c _ _ _ _ _ _ _ _ _ _ _ _ _ _ R J).symm
  rw [V_main_arg1, V_main_arg2, V_main_arg3, V_main_arg4, V_main_arg5, V_main_arg6, V_main_arg7, V_main_arg8, V_main_arg9, V_main_arg10, V_main_arg11, V_main_arg12, V_main_arg13, V_main_arg14]

end Cert.MergeIdeal.Eq

end
-- ==== Proof.Gather.lean ====
module
public import proofs.«01_k».proof.Proof.Stage
public import Idealize.ShloMosaic.Lib.Pipeline.ValueKit
public import Idealize.ShloMosaic.Lib.ValueIdx

/-!
The way back from token order to a strided layout. An array of 512 rows of 384 lanes is stored as three planes of 128 lanes; token `r` of
every row of the strided block is then read from the rows `r, r + d, r + 2d, …` of each plane and stored to its columns. What the strided
block holds afterwards is read here, whatever the scratch held before.
-/

@[expose] public section
noncomputable section
namespace Cert.Stage
open Idealize.ShloMosaic Idealize.ShloMosaic.TcCoe

/-- A store of one plane. -/
abbrev pl (k : ℕ) (hk : k < 3) (Q : Vec Ideal Plane .f32) : View.Piece (Elt Ideal) Planes .f32 := ⟨plane k hk, Q⟩

/-- The stores of the three planes, after whatever was stored before. -/
abbrev pls (P : Fin 3 → Vec Ideal Plane .f32) (L : List (View.Piece (Elt Ideal) Planes .f32)) : List (View.Piece (Elt Ideal) Planes .f32) :=
  pl 2 (by decide) (P 2) :: pl 1 (by decide) (P 1) :: pl 0 (by decide) (P 0) :: L

theorem emb_plane (k : ℕ) (hk : k < 3) (a : Fin 512) (l : Fin 128) (q : Fin 3) (hq : q.val = k) :
    (plane k hk).emb (ix3 (0 : Fin 1) a l) = ix3 q a l := by
  funext b; apply Fin.ext
  fin_cases b
  · show k + 1 * 0 = q.val; omega
  · show 0 + 1 * a.val = a.val; omega
  · show 0 + 1 * l.val = l.val; omega

theorem canon_pl (k : ℕ) (hk : k < 3) (Q : Vec Ideal Plane .f32) (L : List (View.Piece (Elt Ideal) Planes .f32)) (a : Fin 512) (l : Fin 128)
    (q : Fin 3) (hq : q.val = k) : View.canon (pl k hk Q :: L) (ix3 q a l) = Q (ix3 (0 : Fin 1) a l) :=
  (congrArg _ (emb_plane k hk a l q hq).symm).trans (View.canon_cons_emb (plane k hk) Q L (ix3 (0 : Fin 1) a l))

theorem canon_off (k : ℕ) (hk : k < 3) (Q : Vec Ideal Plane .f32) (L : List (View.Piece (Elt Ideal) Planes .f32)) (a : Fin 512) (l : Fin 128)
    (q : Fin 3) (hq : q.val ≠ k) : View.canon (pl k hk Q :: L) (ix3 q a l) = View.canon L (ix3 q a l) := by
  refine View.canon_cons_of_not_mem (pl k hk Q) L fun hm => ?_
  obtain ⟨x, hx⟩ := (plane k hk).exists_idx_of_mem hm
  have h0 : (x 0).val < 1 := (x 0).isLt
  have : k + 1 * (x 0).val = q.val := congrArg Fin.val (congrFun hx 0)
  omega

/-- What the scratch holds after its three planes were stored. -/
theorem canon_planes (P : Fin 3 → Vec Ideal Plane .f32) (L : List (View.Piece (Elt Ideal) Planes .f32)) (a : Fin 512) (l : Fin 128) :
    ∀ k : Fin 3, View.canon (pls P L) (ix3 k a l) = P k (ix3 (0 : Fin 1) a l)
  | 0 => (canon_off 2 _ (P 2) _ a l 0 (by decide)).trans ((canon_off 1 _ (P 1) _ a l 0 (by decide)).trans (canon_pl 0 _ (P 0) L a l 0 rfl))
  | 1 => (canon_off 2 _ (P 2) _ a l 1 (by decide)).trans (canon_pl 1 _ (P 1) _ a l 1 rfl)
  | 2 => canon_pl 2 _ (P 2) _ a l 2 rfl

variable {d n : ℕ}

/-- The rows `r, r + d, …` of plane `k`, as they are read. -/
abbrev fetch (h : n * d = 512) (k : ℕ) (hk : k < 3) (r : ℕ) (hr : r < d) : LoadRect Planes :=
  (plane k hk).withinL ((rows h r hr).toLoadRect.consLift ![1, 512, 128] rfl (Fin.forall_fin_two.2 ⟨rfl, rfl⟩)) (fun _ => rfl)

theorem numel_fetch (h : n * d = 512) (k : ℕ) (hk : k < 3) (r : ℕ) (hr : r < d) :
    (rows h r hr).toLoadRect.shape.numel = (fetch h k hk r hr).shape.numel :=
  (rows h r hr).toLoadRect.numel_consLift ![1, 512, 128] rfl (Fin.forall_fin_two.2 ⟨rfl, rfl⟩)

theorem read_rows (h : n * d = 512) {sig' : RefSig} {κ' : Kind} {sp : Space} (v : View sig' κ' sp Planes .f32) (P : Fin 3 → Vec Ideal Plane .f32)
    (L : List (View.Piece (Elt Ideal) Planes .f32)) (k : ℕ) (hk : k < 3) (r : ℕ) (hr : r < d) (y : (⟨2, ![n, 128]⟩ : Shape).Idx)
    (a : Fin 512) (ha : a.val = r + d * (y 0).val) :
    LoadRect.valAlong (numel_fetch h k hk r hr)
      (v.readCov (pls P L)
        (fetch h k hk r hr)) y = P ⟨k, hk⟩ (ix3 (0 : Fin 1) a (y 1)) := by
  have hx : Shape.reshapeEquiv (numel_fetch h k hk r hr) y = Fin.cons ⟨0, Nat.one_pos⟩ y :=
    Shape.reshapeEquiv_cons_one (d := ![n, 128]) (numel_fetch h k hk r hr) y
  have he : (fetch h k hk r hr).idx (Shape.reshapeEquiv (numel_fetch h k hk r hr) y) = ix3 (⟨k, hk⟩ : Fin 3) a (⟨(y 1).val, (y 1).isLt⟩ : Fin 128) := by
    rw [hx]
    funext b; apply Fin.ext
    fin_cases b
    · show k + 0 + 1 * 0 = k; omega
    · show 0 + r + d * (y 0).val = a.val; omega
    · show 0 + 0 + 1 * (y 1).val = (y 1).val; omega
  refine (congrFun (View.readCov_eq_canon' v (pls P L) (fetch h k hk r hr)) _).trans ?_
  exact (congrArg (View.canon (pls P L)) he).trans (canon_planes P L a _ ⟨k, hk⟩)

/-- The stores of the first `N` tokens, the newest first. -/
def gathers (h : n * d = 512) {e : EltTy} (conv : Vec Ideal (⟨2, ![n, 128]⟩ : Shape) .f32 → (⟨2, ![n, 128]⟩ : Shape).Idx → Elt Ideal e)
    {sig' : RefSig} {κ' : Kind} {sp : Space} (v : View sig' κ' sp Planes .f32) (M : List (View.Piece (Elt Ideal) Planes .f32)) :
    (N : ℕ) → N ≤ d → List (View.Piece (Elt Ideal) (⟨2, ![n, d * 384]⟩ : Shape) e)
  | 0, _ => []
  | N + 1, hN => ⟨cols d n 2 (by decide) N hN, conv (LoadRect.valAlong (numel_fetch h 2 (by decide) N hN) (v.readCov M (fetch h 2 (by decide) N hN)))⟩
    :: ⟨cols d n 1 (by decide) N hN, conv (LoadRect.valAlong (numel_fetch h 1 (by decide) N hN) (v.readCov M (fetch h 1 (by decide) N hN)))⟩
    :: ⟨cols d n 0 (by decide) N hN, conv (LoadRect.valAlong (numel_fetch h 0 (by decide) N hN) (v.readCov M (fetch h 0 (by decide) N hN)))⟩
    :: gathers h conv v M N (Nat.le_of_succ_le hN)

/-- The strided block that holds token `r` of row `y` at the columns of `r`. -/
def laid (h : n * d = 512) {α : Type} (V : Fin 512 → Fin 384 → α) : (⟨2, ![n, d * 384]⟩ : Shape).Idx → α := fun y =>
  V (⟨(y 0).val * d + (y 1).val / 384, by
      have h0 : (y 0).val < n := (y 0).isLt
      have h1 : (y 1).val < d * 384 := (y 1).isLt
      have h2 : (y 1).val / 384 < d := Nat.div_lt_of_lt_mul (by omega)
      have h3 : ((y 0).val + 1) * d ≤ n * d := Nat.mul_le_mul_right d h0
      rw [Nat.add_mul, Nat.one_mul] at h3; omega⟩ : Fin 512) (⟨(y 1).val % 384, Nat.mod_lt _ (by decide)⟩ : Fin 384)

theorem canon_gathers (h : n * d = 512) {e : EltTy} (conv : Vec Ideal (⟨2, ![n, 128]⟩ : Shape) .f32 → (⟨2, ![n, 128]⟩ : Shape).Idx → Elt Ideal e)
    (g : EReal → Elt Ideal e) (hc : ∀ x y, conv x y = g (x y)) {sig' : RefSig} {κ' : Kind} {sp : Space} (v : View sig' κ' sp Planes .f32)
    (P : Fin 3 → Vec Ideal Plane .f32) (L : List (View.Piece (Elt Ideal) Planes .f32)) (V : Fin 512 → Fin 384 → EReal)
    (hV : ∀ (k : Fin 3) (a : Fin 512) (l : Fin 128), P k (ix3 (0 : Fin 1) a l) = V a ⟨k.val * 128 + l.val, by omega⟩) :
    View.canon (gathers h conv v (pls P L) d le_rfl) = fun y => g (laid h V y) := by
  have one : ∀ (k : ℕ) (hk : k < 3) (r : ℕ) (hr : r < d) (x : (cols d n k hk r hr).shape.Idx),
      conv (LoadRect.valAlong (numel_fetch h k hk r hr) (v.readCov (pls P L) (fetch h k hk r hr))) x = g (laid h V ((cols d n k hk r hr).emb x)) := by
    intro k hk r hr x
    have h0 : (x 0).val < n := (x 0).isLt
    have h1 : (x 1).val < 128 := (x 1).isLt
    have h3 : ((x 0).val + 1) * d ≤ n * d := Nat.mul_le_mul_right d h0
    have h4 : d * (x 0).val = (x 0).val * d := Nat.mul_comm _ _
    rw [Nat.add_mul, Nat.one_mul] at h3
    have e0 : ((cols d n k hk r hr).emb x 0).val = (x 0).val := by show 0 + 1 * (x 0).val = _; omega
    have e1 : ((cols d n k hk r hr).emb x 1).val = r * 384 + k * 128 + (x 1).val := by show r * 384 + k * 128 + 1 * (x 1).val = _; omega
    refine (hc _ _).trans (congrArg g ?_)
    refine (read_rows h v P L k hk r hr x ⟨r + d * (x 0).val, by omega⟩ rfl).trans ((hV ⟨k, hk⟩ _ (x 1)).trans (congrArg₂ V (Fin.ext ?_) (Fin.ext ?_)))
    · show r + d * (x 0).val = ((cols d n k hk r hr).emb x 0).val * d + ((cols d n k hk r hr).emb x 1).val / 384
      rw [e0, e1]; omega
    · show k * 128 + (x 1).val = ((cols d n k hk r hr).emb x 1).val % 384
      rw [e1]; omega
  have all : ∀ (N : ℕ) (hN : N ≤ d), ∀ p ∈ gathers h conv v (pls P L) N hN, ∀ x, p.2 x = g (laid h V (p.1.emb x)) := by
    intro N
    induction N with
    | zero => intro hN p hp; exact absurd hp (List.not_mem_nil)
    | succ N ih =>
      intro hN
      rw [gathers]
      refine List.forall_mem_cons.2 ⟨one 2 _ N hN, List.forall_mem_cons.2 ⟨one 1 _ N hN, List.forall_mem_cons.2 ⟨one 0 _ N hN, ih _⟩⟩⟩
  have cov : ∀ (M : List (View.Piece (Elt Ideal) Planes .f32)) (y : (⟨2, ![n, d * 384]⟩ : Shape).Idx) (N : ℕ) (hN : N ≤ d), (y 1).val / 384 < N →
      ∃ p ∈ gathers h conv v M N hN, y ∈ p.1.set := by
    intro M y N
    have mem : ∀ (k : ℕ) (hk : k < 3) (r : ℕ) (hr : r < d), (y 1).val / 384 = r → (y 1).val % 384 / 128 = k → y ∈ (cols d n k hk r hr).set := by
      intro k hk r hr e1 e2
      suffices e : (cols d n k hk r hr).emb (ix2 (⟨(y 0).val, (y 0).isLt⟩ : Fin n) (⟨(y 1).val % 128, Nat.mod_lt _ (by decide)⟩ : Fin 128)) = y by
        rw [← e]; exact (cols d n k hk r hr).idx_mem _
      funext b; apply Fin.ext
      fin_cases b
      · show 0 + 1 * (y 0).val = (y 0).val; omega
      · show r * 384 + k * 128 + 1 * ((y 1).val % 128) = (y 1).val; omega
    induction N with
    | zero => intro hN hy; exact absurd hy (Nat.not_lt_zero _)
    | succ N ih =>
      intro hN hy
      rw [gathers]
      by_cases hr : (y 1).val / 384 = N
      · have hk : (y 1).val % 384 / 128 < 3 := by omega
        rcases (by omega : (y 1).val % 384 / 128 = 0 ∨ (y 1).val % 384 / 128 = 1 ∨ (y 1).val % 384 / 128 = 2) with hq | hq | hq
        · exact ⟨_, List.mem_cons_of_mem _ (List.mem_cons_of_mem _ List.mem_cons_self), mem 0 (by decide) N hN hr hq⟩
        · exact ⟨_, List.mem_cons_of_mem _ List.mem_cons_self, mem 1 (by decide) N hN hr hq⟩
        · exact ⟨_, List.mem_cons_self, mem 2 (by decide) N hN hr hq⟩
      · obtain ⟨p, hp, hm⟩ := ih (Nat.le_of_succ_le hN) (by omega)
        exact ⟨p, List.mem_cons_of_mem _ (List.mem_cons_of_mem _ (List.mem_cons_of_mem _ hp)), hm⟩
  funext y
  have hy : (y 1).val < d * 384 := (y 1).isLt
  exact View.canon_apply_of_pieces (fun y => g (laid h V y)) _ (all d le_rfl) y (cov _ y d le_rfl (Nat.div_lt_of_lt_mul (by omega)))

/-- The same with the three planes named. -/
theorem canon_three (h : n * d = 512) {e : EltTy} (conv : Vec Ideal (⟨2, ![n, 128]⟩ : Shape) .f32 → (⟨2, ![n, 128]⟩ : Shape).Idx → Elt Ideal e)
    (g : EReal → Elt Ideal e) (hc : ∀ x y, conv x y = g (x y)) {sig' : RefSig} {κ' : Kind} {sp : Space} (v : View sig' κ' sp Planes .f32)
    (P0 P1 P2 : Vec Ideal Plane .f32) (L : List (View.Piece (Elt Ideal) Planes .f32)) (V : Fin 512 → Fin 384 → EReal)
    (h0 : ∀ (a : Fin 512) (l : Fin 128), P0 (ix3 (0 : Fin 1) a l) = V a ⟨l.val, by omega⟩)
    (h1 : ∀ (a : Fin 512) (l : Fin 128), P1 (ix3 (0 : Fin 1) a l) = V a ⟨128 + l.val, by omega⟩)
    (h2 : ∀ (a : Fin 512) (l : Fin 128), P2 (ix3 (0 : Fin 1) a l) = V a ⟨256 + l.val, by omega⟩) :
    View.canon (gathers h conv v (pl 2 (by decide) P2 :: pl 1 (by decide) P1 :: pl 0 (by decide) P0 :: L) d le_rfl) = fun y => g (laid h V y) := by
  have hV : ∀ (k : Fin 3) (a : Fin 512) (l : Fin 128), (![P0, P1, P2] : Fin 3 → Vec Ideal Plane .f32) k (ix3 (0 : Fin 1) a l) = V a ⟨k.val * 128 + l.val, by omega⟩
    | 0, a, l => (h0 a l).trans (congrArg (V a) (Fin.ext (show l.val = 0 * 128 + l.val by omega)))
    | 1, a, l => (h1 a l).trans (congrArg (V a) (Fin.ext (show 128 + l.val = 1 * 128 + l.val by omega)))
    | 2, a, l => (h2 a l).trans (congrArg (V a) (Fin.ext (show 256 + l.val = 2 * 128 + l.val by omega)))
  exact canon_gathers h conv g hc v ![P0, P1, P2] L V hV

/-- A store of a token whose value passes through two casts of its shape. -/
def piece2 (h : n * d = 512) (x : Vec Ideal (⟨2, ![n, d * 384]⟩ : Shape) .f32) (k : ℕ) (hk : k < 3) (r : ℕ) (hr : r < d) :
    View.Piece (Elt Ideal) Planes .f32 :=
  ⟨place h k hk r hr,
    Rect.payAlong (Rect.numel_consLift (rows h r hr) ![1, 512, 128] rfl (Fin.forall_fin_two.2 ⟨rfl, rfl⟩))
      (shapeCast (⟨2, ![n, 128]⟩ : Shape) (shapeCast (⟨2, ![n, 128]⟩ : Shape) (View.ld x (cols d n k hk r hr)) rfl) rfl)⟩

theorem piece2_eq (h : n * d = 512) (x : Vec Ideal (⟨2, ![n, d * 384]⟩ : Shape) .f32) (k : ℕ) (hk : k < 3) (r : ℕ) (hr : r < d) :
    piece2 h x k hk r hr = piece h x k hk r hr := by
  unfold piece2 piece
  exact congrArg (fun z => (⟨place h k hk r hr, Rect.payAlong (Rect.numel_consLift (rows h r hr) ![1, 512, 128] rfl (Fin.forall_fin_two.2 ⟨rfl, rfl⟩)) z⟩ :
    View.Piece (Elt Ideal) Planes .f32)) (shapeCast_self (s := (⟨2, ![n, 128]⟩ : Shape)) (shapeCast (⟨2, ![n, 128]⟩ : Shape) (View.ld x (cols d n k hk r hr)) rfl) rfl)

/-- The stores of the first `N` tokens, through two casts. -/
def strips2 (h : n * d = 512) (x : Vec Ideal (⟨2, ![n, d * 384]⟩ : Shape) .f32) (L : List (View.Piece (Elt Ideal) Planes .f32)) :
    (N : ℕ) → N ≤ d → List (View.Piece (Elt Ideal) Planes .f32)
  | 0, _ => L
  | N + 1, hN => piece2 h x 2 (by decide) N hN :: piece2 h x 1 (by decide) N hN :: piece2 h x 0 (by decide) N hN ::
      strips2 h x L N (Nat.le_of_succ_le hN)

theorem strips2_eq (h : n * d = 512) (x : Vec Ideal (⟨2, ![n, d * 384]⟩ : Shape) .f32) (L : List (View.Piece (Elt Ideal) Planes .f32)) :
    ∀ (N : ℕ) (hN : N ≤ d), strips2 h x L N hN = strips h x L N hN
  | 0, _ => rfl
  | N + 1, hN => by
    rw [strips2, strips, piece2_eq, piece2_eq, piece2_eq, strips2_eq h x L N]

theorem read_strips2 (h : n * d = 512) (x : Vec Ideal (⟨2, ![n, d * 384]⟩ : Shape) .f32) (L : List (View.Piece (Elt Ideal) Planes .f32))
    (k : ℕ) (hk : k < 3) {sig' : RefSig} {κ' : Kind} {sp : Space} (v : View sig' κ' sp Planes .f32) :
    v.readCov (strips2 h x L d le_rfl) (plane k hk).toLoadRect = put h x k hk :=
  (congrArg (fun M => v.readCov M (plane k hk).toLoadRect) (strips2_eq h x L d le_rfl)).trans (read_strips h x L k hk v)

/-- The same where the block's contents are given by an equal array. -/
theorem read_strips3 (h : n * d = 512) {X x : Vec Ideal (⟨2, ![n, d * 384]⟩ : Shape) .f32} (hX : X = x) (L : List (View.Piece (Elt Ideal) Planes .f32))
    (k : ℕ) (hk : k < 3) {sig' : RefSig} {κ' : Kind} {sp : Space} (v : View sig' κ' sp Planes .f32) :
    v.readCov (strips2 h X L d le_rfl) (plane k hk).toLoadRect = put h x k hk := hX ▸ read_strips2 h X L k hk v

end Cert.Stage
end
-- ==== Proof.CombineBlock.lean ====
/- What the body computes from its blocks: the weights of the dilated branches, the sums over a head's lanes (a product with a matrix of
   ones), and the gradients of the outputs and of the log-sums. -/
module

public import proofs.«01_k».proof.Proof.Gather
public import proofs.«01_k».proof.Proof.Gen.CombineIdeal.Value
public import Idealize.ShloMosaic.Lib.Pipeline.ValueKit
public import Idealize.ShloMosaic.Lib.ValueIdx

@[expose] public section
noncomputable section
namespace Cert.CombineIdeal.Blocks
open Cert.CombineIdeal Cert.CombineIdeal.Gen Idealize.ShloMosaic Idealize.ShloMosaic.TcCoe Idealize.SL.Sem Cert.Lift Cert.Stage
open Idealize.ShloMosaic.Pipeline (Dat)

/-- The matrix that adds the lanes of a head: one where both lanes belong to the same head. -/
def one (k l : Fin 128) : EReal := if k.val / 64 = l.val / 64 then (1 : EReal) else 0

/-- The head of a lane, as the body computes it. -/
abbrev quo (k : Fin 128) : BitVec 32 :=
  Scalar.select (IntOp.andi
      (IntOp.cmpi .ne (IntOp.subi (BitVec.setWidth 32 (IntOp.cmpi .sgt (BitVec.ofNat 32 k.val) 0#32)) (BitVec.setWidth 32 (IntOp.cmpi .slt (BitVec.ofNat 32 k.val) 0#32)))
        (Scalar.subi (Scalar.extui (Scalar.cmpi .sgt 64#32 0#32)) (Scalar.extui (Scalar.cmpi .slt 64#32 0#32))))
      (IntOp.cmpi .ne (IntOp.remsi .vector (BitVec.ofNat 32 k.val) 64#32) 0#32))
    (IntOp.subi (IntOp.divsi .vector (BitVec.ofNat 32 k.val) 64#32) 1#32) (IntOp.divsi .vector (BitVec.ofNat 32 k.val) 64#32)

theorem quo_eq : ∀ k : Fin 128, quo k = BitVec.ofNat 32 (k.val / 64) := by decide +kernel

theorem ones (k l : Fin 128) : Scalar.select (IntOp.cmpi .eq (quo k) (quo l)) (1 : EReal) 0 = one k l := by
  rw [quo_eq, quo_eq]
  unfold one
  rcases (by omega : k.val / 64 = 0 ∨ k.val / 64 = 1) with h | h <;> rcases (by omega : l.val / 64 = 0 ∨ l.val / 64 = 1) with h' | h' <;> rw [h, h'] <;> rfl

theorem one_10 (k l : Fin 128) : k0_pay10 (F := Ideal) (iota .tc S128x128 32 [0] iota_S128x128_d0_w32) (64#32) k0_pay7 k0_pay8 k0_pay9 (ix2 k l) = one k l := by
  pointwise [k0_pay10, k0_pay7, k0_pay8, k0_pay9]; exact ones k l

theorem one_98 (k l : Fin 128) : k0_pay98 (F := Ideal) k0_pay94 k0_pay95 k0_pay96 k0_pay97 (ix2 k l) = one k l := by
  pointwise [k0_pay98, k0_pay94, k0_pay95, k0_pay96, k0_pay97]; exact ones k l

theorem one_124 (k l : Fin 128) : k0_pay124 (F := Ideal) k0_pay123 (iota .tc S128x128 32 [1] iota_S128x128_d1_w32) (ix2 k l) = one k l := by
  pointwise [k0_pay124, k0_pay123]; exact ones k l

/-- The comparison of the heads of two lanes. -/
abbrev same : IVec S128x128 1 := k0_pay192 (iota .tc S128x128 32 [0] iota_S128x128_d0_w32) (64#32) k0_pay190 k0_pay191

theorem one_193 (k l : Fin 128) : k0_pay193 (F := Ideal) same (FloatOps.ofBits .f32 1065353216#32) (FloatOps.ofBits .f32 0#32) (ix2 k l) = one k l := by
  pointwise [k0_pay193, same, k0_pay192, k0_pay190, k0_pay191]; exact ones k l

/-- The product with the ones, of a row in three parts: what the first rounding keeps, what it loses, and what the second loses. -/
def hs3 (f : Fin 128 → EReal) (l : Fin 128) : EReal :=
  ∑ k, f k * one k l + ∑ k, (f k - f k) * one k l + ∑ k, (f k - f k - (f k - f k)) * one k l

/-- The sum over the lanes of the head of lane `κ`, in a row of any number of groups of 128 lanes. -/
def hs {n : ℕ} (hn : 128 ∣ n) (f : Fin n → EReal) (κ : Fin n) : EReal :=
  hs3 (fun k => f ⟨κ.val / 128 * 128 + k.val, by omega⟩) ⟨κ.val % 128, Nat.mod_lt _ (by decide)⟩

theorem hs_part {n : ℕ} (hn : 128 ∣ n) (f : Fin n → EReal) (κ : Fin n) (g : Fin 128 → EReal) (l : Fin 128) (q : ℕ) (hκ : κ.val = 128 * q + l.val)
    (hg : ∀ k : Fin 128, g k = f ⟨128 * q + k.val, by omega⟩) : hs3 g l = hs hn f κ := by
  unfold hs
  refine congrArg₂ hs3 (funext fun k => (hg k).trans (congrArg f (Fin.ext (by show 128 * q + k.val = κ.val / 128 * 128 + k.val; omega)))) (Fin.ext (by show l.val = κ.val % 128; omega))

section
variable (V : Vec Ideal S512x384 .f32) (R : Fin 512) (κ : Fin 384)

/-- The sums over the heads, of the first branch. -/
theorem sum_106 : k0_pay106 (F := Ideal) (k0_pay98 k0_pay94 k0_pay95 k0_pay96 k0_pay97) (k0_pay99 V k0_pay94 k0_pay95 k0_pay96 k0_pay97)
    (k0_pay100 V k0_pay94 k0_pay95 k0_pay96 k0_pay97) (k0_pay103 V k0_pay94 k0_pay95 k0_pay96 k0_pay97) (k0_pay104 V) (k0_pay105 V) (ix2 R κ)
    = hs (by decide) (fun j => V (ix2 R j)) κ := by
  pointwise [k0_pay106, k0_pay99, k0_pay100, k0_pay103, k0_pay104, k0_pay105, k0_pay102, k0_pay101, one_98]
  split
  · exact hs_part _ _ κ _ ⟨κ.val, by omega⟩ 0 (show κ.val = 128 * 0 + κ.val by omega) fun k => congrArg V (congrArg (ix2 R) (Fin.ext (by show k.val = 128 * 0 + k.val; omega)))
  · split
    · exact hs_part _ _ κ _ ⟨κ.val - 128, by omega⟩ 1 (show κ.val = 128 * 1 + (κ.val - 128) by omega) fun k => congrArg V (congrArg (ix2 R) (Fin.ext (by show 128 + k.val = 128 * 1 + k.val; omega)))
    · exact hs_part _ _ κ _ ⟨κ.val - 128 - 128, by omega⟩ 2 (show κ.val = 128 * 2 + (κ.val - 128 - 128) by omega) fun k => congrArg V (congrArg (ix2 R) (Fin.ext (by show 256 + k.val = 128 * 2 + k.val; omega)))

/-- The sums over the heads, of the branch of stride 4. -/
theorem sum_128 (p q : IVec S128x128 32) (ho : ∀ k l, k0_pay124 (F := Ideal) p q (ix2 k l) = one k l) :
    k0_pay128 (F := Ideal) V (k0_pay124 p q) (k0_pay125 V p q) (k0_pay126 V) k0_pay127 (ix2 R κ)
    = hs (by decide) (fun j => V (ix2 R j)) κ := by
  pointwise [k0_pay128, k0_pay125, k0_pay126, k0_pay127, ho]
  split
  · exact hs_part _ _ κ _ ⟨κ.val, by omega⟩ 0 (show κ.val = 128 * 0 + κ.val by omega) fun k => congrArg V (congrArg (ix2 R) (Fin.ext (by show k.val = 128 * 0 + k.val; omega)))
  · split
    · exact hs_part _ _ κ _ ⟨κ.val - 128, by omega⟩ 1 (show κ.val = 128 * 1 + (κ.val - 128) by omega) fun k => congrArg V (congrArg (ix2 R) (Fin.ext (by show 128 + k.val = 128 * 1 + k.val; omega)))
    · exact hs_part _ _ κ _ ⟨κ.val - 128 - 128, by omega⟩ 2 (show κ.val = 128 * 2 + (κ.val - 128 - 128) by omega) fun k => congrArg V (congrArg (ix2 R) (Fin.ext (by show 256 + k.val = 128 * 2 + k.val; omega)))

/-- The gradients of the log-sums before the weights, with the sums over the heads of the branch of stride 16. -/
theorem sum_202 (w0 w1 w2 s0 s1 : Vec Ideal S512x384 .f32) (M : IVec S128x128 1) (u z : Ideal .f32)
    (ho : ∀ k l, k0_pay193 (F := Ideal) M u z (ix2 k l) = one k l) :
    k0_pay202 (F := Ideal) w0 w1 w2 s0 s1 (k0_pay194 V M u z)
      (k0_pay195 V M u z)
      (k0_pay200 V M u z)
      (k0_pay201 V M u z) (ix2 R κ)
    = w0 (ix2 R κ) * s0 (ix2 R κ) + w1 (ix2 R κ) * s1 (ix2 R κ) + w2 (ix2 R κ) * hs (by decide) (fun j => V (ix2 R j)) κ := by
  pointwise [k0_pay202, k0_pay194, k0_pay195, k0_pay200, k0_pay201, k0_pay199, k0_pay198, k0_pay197, k0_pay196, ho]
  refine congrArg (fun b => w0 (ix2 R κ) * s0 (ix2 R κ) + w1 (ix2 R κ) * s1 (ix2 R κ) + w2 (ix2 R κ) * b) ?_
  split
  · exact hs_part _ _ κ _ ⟨κ.val, by omega⟩ 0 (show κ.val = 128 * 0 + κ.val by omega) fun k => congrArg V (congrArg (ix2 R) (Fin.ext (by show k.val = 128 * 0 + k.val; omega)))
  · split
    · exact hs_part _ _ κ _ ⟨κ.val - 128, by omega⟩ 1 (show κ.val = 128 * 1 + (κ.val - 128) by omega) fun k => congrArg V (congrArg (ix2 R) (Fin.ext (by show 128 + k.val = 128 * 1 + k.val; omega)))
    · exact hs_part _ _ κ _ ⟨κ.val - 128 - 128, by omega⟩ 2 (show κ.val = 128 * 2 + (κ.val - 128 - 128) by omega) fun k => congrArg V (congrArg (ix2 R) (Fin.ext (by show 256 + k.val = 128 * 2 + k.val; omega)))

end

/-- The sums over the heads of the attention with a sink. -/
theorem sum_12 (V : Vec Ideal S512x256 .f32) (M : Vec Ideal S128x128 .bf16) (ho : ∀ k l, M (ix2 k l) = one k l) (R : Fin 512) (j : Fin 256) :
    k0_pay12 (F := Ideal) V M (k0_pay11 V) (ix2 R j)
    = hs (by decide) (fun j => V (ix2 R j)) j := by
  pointwise [k0_pay12, k0_pay11, ho]
  split
  · exact hs_part _ _ j _ ⟨j.val, by omega⟩ 0 (show j.val = 128 * 0 + j.val by omega) fun k => congrArg V (congrArg (ix2 R) (Fin.ext (by show k.val = 128 * 0 + k.val; omega)))
  · exact hs_part _ _ j _ ⟨j.val - 128, by omega⟩ 1 (show j.val = 128 * 1 + (j.val - 128) by omega) fun k => congrArg V (congrArg (ix2 R) (Fin.ext (by show 128 + k.val = 128 * 1 + k.val; omega)))

/-- The greatest of three. -/
def tp (a b c : EReal) : EReal := max (max a b) c

/-- The weight of the branch whose log-sum is `x`. -/
def wte (x a b c : EReal) : EReal := Ideal.div (Ideal.exp (x - tp a b c)) (Ideal.exp (a - tp a b c) + Ideal.exp (b - tp a b c) + Ideal.exp (c - tp a b c))

/-- Row `R` of an array. -/
def rw1 {r w : ℕ} (x : (⟨2, ![r, w]⟩ : Shape).Idx → EReal) (R : Fin r) (κ : Fin w) : EReal := x (ix2 R κ)

/-- The lanes of token `R` of an array whose rows hold `d` tokens. -/
def rd {r d n : ℕ} (h : n * d = r) (x : (⟨2, ![n, d * 384]⟩ : Shape).Idx → EReal) (R : Fin r) (κ : Fin 384) : EReal :=
  x (ix2 (⟨R.val / d, by
      have hR := R.isLt
      rw [Nat.div_lt_iff_lt_mul (Nat.pos_of_ne_zero fun e => by subst e; omega)]; omega⟩ : Fin n)
    (⟨R.val % d * 384 + κ.val, by
      have hR := R.isLt
      have hy : R.val % d < d := Nat.mod_lt _ (Nat.pos_of_ne_zero fun e => by subst e; omega)
      omega⟩ : Fin (d * 384)))

/-- The cotangent of the dilated branches' lanes of row `R`. -/
def mid {r : ℕ} (x : (⟨2, ![r, 1024]⟩ : Shape).Idx → EReal) (R : Fin r) (κ : Fin 384) : EReal := x (ix2 R ⟨256 + κ.val, by omega⟩)

/-- A row of the gradients of a branch's outputs. -/
def dobR (x d a b c : Fin 384 → EReal) (κ : Fin 384) : EReal := wte (x κ) (a κ) (b κ) (c κ) * d κ

/-- A row of the weighted sums over the heads. -/
def lesR (d u v w a b c : Fin 384 → EReal) (κ : Fin 384) : EReal :=
  wte (a κ) (a κ) (b κ) (c κ) * hs (by decide) (fun j => d j * u j) κ + wte (b κ) (a κ) (b κ) (c κ) * hs (by decide) (fun j => d j * v j) κ
    + wte (c κ) (a κ) (b κ) (c κ) * hs (by decide) (fun j => d j * w j) κ

/-- A row of what is taken from the gradients of a branch's log-sums. -/
def dlbR (x d u v w a b c : Fin 384 → EReal) (κ : Fin 384) : EReal := wte (x κ) (a κ) (b κ) (c κ) * lesR d u v w a b c κ

/-- Plane `k` of the scratch after a block of the array of stride 4. -/
abbrev p4 (x : Vec Ideal S128x1536 .f32) (k : ℕ) (hk : k < 3 := by decide) : Vec Ideal S1x512x128 .f32 := put (d := 4) (n := 128) rfl x k hk
/-- Plane `k` of the scratch after a block of the array of stride 16. -/
abbrev p16 (x : Vec Ideal S32x6144 .f32) (k : ℕ) (hk : k < 3 := by decide) : Vec Ideal S1x512x128 .f32 := put (d := 16) (n := 32) rfl x k hk

abbrev rd4 (x : Vec Ideal S128x1536 .f32) : Fin 512 → Fin 384 → EReal := rd (r := 512) (d := 4) (n := 128) rfl x
abbrev rd16 (x : Vec Ideal S32x6144 .f32) : Fin 512 → Fin 384 → EReal := rd (r := 512) (d := 16) (n := 32) rfl x

theorem pl_4 (x : Vec Ideal S128x1536 .f32) (a0 a1 a2 : Vec Ideal S1x512x128 .f32) (h0 : a0 = p4 x 0) (h1 : a1 = p4 x 1) (h2 : a2 = p4 x 2)
    (R : Fin 512) (κ : Fin 384) : k0_pay83 (F := Ideal) a0 a1 a2 (ix2 R κ) = rd4 x R κ := by
  subst h0; subst h1; subst h2
  pointwise [k0_pay83]
  exact planes R (d := 4) (n := 128) rfl x κ _ _ rfl rfl

theorem pl_16 (x : Vec Ideal S32x6144 .f32) (a0 a1 a2 : Vec Ideal S1x512x128 .f32) (h0 : a0 = p16 x 0) (h1 : a1 = p16 x 1) (h2 : a2 = p16 x 2)
    (R : Fin 512) (κ : Fin 384) : k0_pay83 (F := Ideal) a0 a1 a2 (ix2 R κ) = rd16 x R κ := by
  subst h0; subst h1; subst h2
  pointwise [k0_pay83]
  exact planes R (d := 16) (n := 32) rfl x κ _ _ rfl rfl

section
variable (x0 : Vec Ideal S512x1024 .f32) (x4 x7 : Vec Ideal S512x384 .f32)

/-- The part of the cotangent that the body reads for the dilated branches. -/
abbrev v3 : Vec Ideal S512x384 .f32 := k0_pay2 (F := Ideal) (View.ld x0 (Rect.unit ![0, 256] ![512, 384] inb_S512x1024_S512x384_0_256))

theorem v3_at (R : Fin 512) (κ : Fin 384) : v3 x0 (ix2 R κ) = mid x0 R κ := by
  pointwise [v3, k0_pay2, mid]

theorem pr_93 (R : Fin 512) (κ : Fin 384) : k0_pay93 (F := Ideal) (v3 x0) (k0_pay92 x4) (ix2 R κ) = mid x0 R κ * rw1 x4 R κ := by
  pointwise [k0_pay93, k0_pay92, v3_at, rw1]

variable (a0 a1 a2 b0 b1 b2 : Vec Ideal S1x512x128 .f32) (f g : Fin 512 → Fin 384 → EReal)
  (ha : ∀ R κ, k0_pay83 (F := Ideal) a0 a1 a2 (ix2 R κ) = f R κ) (hb : ∀ R κ, k0_pay83 (F := Ideal) b0 b1 b2 (ix2 R κ) = g R κ)

include ha

theorem pr_122 (R : Fin 512) (κ : Fin 384) : k0_pay122 (F := Ideal) (v3 x0) a0 a1 a2 (ix2 R κ) = mid x0 R κ * f R κ :=
  congrArg₂ (fun p q : EReal => p * q) (v3_at x0 R κ) (ha R κ)

theorem pr_189 (R : Fin 512) (κ : Fin 384) : k0_pay189 (F := Ideal) (v3 x0) a0 a1 a2 (ix2 R κ) = mid x0 R κ * f R κ :=
  congrArg₂ (fun p q : EReal => p * q) (v3_at x0 R κ) (ha R κ)

include hb

theorem w_89 (R : Fin 512) (κ : Fin 384) :
    k0_pay89 (F := Ideal) (k0_pay18 x7) (k0_pay83 a0 a1 a2) b0 b1 b2 (ix2 R κ) = wte (rw1 x7 R κ) (rw1 x7 R κ) (f R κ) (g R κ) := by
  pointwise [k0_pay89, k0_pay88, k0_pay87, k0_pay86, k0_pay85, k0_pay84, k0_pay18, ha, hb, wte, tp, rw1]

theorem w_90 (R : Fin 512) (κ : Fin 384) :
    k0_pay90 (F := Ideal) (k0_pay18 x7) (k0_pay83 a0 a1 a2) b0 b1 b2 (ix2 R κ) = wte (f R κ) (rw1 x7 R κ) (f R κ) (g R κ) := by
  pointwise [k0_pay90, k0_pay88, k0_pay87, k0_pay86, k0_pay85, k0_pay84, k0_pay18, ha, hb, wte, tp, rw1]

theorem w_91 (R : Fin 512) (κ : Fin 384) :
    k0_pay91 (F := Ideal) (k0_pay18 x7) (k0_pay83 a0 a1 a2) b0 b1 b2 (ix2 R κ) = wte (g R κ) (rw1 x7 R κ) (f R κ) (g R κ) := by
  pointwise [k0_pay91, k0_pay88, k0_pay87, k0_pay86, k0_pay85, k0_pay84, k0_pay18, ha, hb, wte, tp, rw1]

end

/-- What the body multiplies by a weight to reach the gradient of a branch's log-sums. -/
abbrev sums (w0 w1 w2 V0 V1 V2 : Vec Ideal S512x384 .f32) : Vec Ideal S512x384 .f32 :=
  k0_pay202 (F := Ideal) w0 w1 w2
    (k0_pay106 (k0_pay98 k0_pay94 k0_pay95 k0_pay96 k0_pay97) (k0_pay99 V0 k0_pay94 k0_pay95 k0_pay96 k0_pay97)
      (k0_pay100 V0 k0_pay94 k0_pay95 k0_pay96 k0_pay97) (k0_pay103 V0 k0_pay94 k0_pay95 k0_pay96 k0_pay97) (k0_pay104 V0) (k0_pay105 V0))
    (k0_pay128 V1 (k0_pay124 k0_pay123 (iota .tc S128x128 32 [1] iota_S128x128_d1_w32))
      (k0_pay125 V1 k0_pay123 (iota .tc S128x128 32 [1] iota_S128x128_d1_w32)) (k0_pay126 V1) k0_pay127)
    (k0_pay194 V2 same (FloatOps.ofBits .f32 1065353216#32) (FloatOps.ofBits .f32 0#32))
    (k0_pay195 V2 same (FloatOps.ofBits .f32 1065353216#32) (FloatOps.ofBits .f32 0#32))
    (k0_pay200 V2 same (FloatOps.ofBits .f32 1065353216#32) (FloatOps.ofBits .f32 0#32))
    (k0_pay201 V2 same (FloatOps.ofBits .f32 1065353216#32) (FloatOps.ofBits .f32 0#32))

theorem sums_at (w0 w1 w2 V0 V1 V2 : Vec Ideal S512x384 .f32) (d u v w a b c : Fin 512 → Fin 384 → EReal)
    (h0 : ∀ R κ, w0 (ix2 R κ) = wte (a R κ) (a R κ) (b R κ) (c R κ)) (h1 : ∀ R κ, w1 (ix2 R κ) = wte (b R κ) (a R κ) (b R κ) (c R κ))
    (h2 : ∀ R κ, w2 (ix2 R κ) = wte (c R κ) (a R κ) (b R κ) (c R κ)) (k0 : ∀ R κ, V0 (ix2 R κ) = d R κ * u R κ)
    (k1 : ∀ R κ, V1 (ix2 R κ) = d R κ * v R κ) (k2 : ∀ R κ, V2 (ix2 R κ) = d R κ * w R κ) (R : Fin 512) (κ : Fin 384) :
    sums w0 w1 w2 V0 V1 V2 (ix2 R κ) = lesR (d R) (u R) (v R) (w R) (a R) (b R) (c R) κ := by
  unfold sums
  refine (sum_202 V2 R κ w0 w1 w2 _ _ same _ _ one_193).trans ?_
  rw [sum_106, sum_128 V1 R κ _ _ one_124, h0, h1, h2, funext (k0 R), funext (k1 R), funext (k2 R)]
  rfl

/-- The same from the blocks and the planes that the strided blocks were spread into. -/
theorem sums_blk (x0 : Vec Ideal S512x1024 .f32) (x4 x7 : Vec Ideal S512x384 .f32) (a0 a1 a2 b0 b1 b2 c0 c1 c2 d0 d1 d2 : Vec Ideal S1x512x128 .f32)
    (f g u v : Fin 512 → Fin 384 → EReal)
    (ha : ∀ R κ, k0_pay83 (F := Ideal) a0 a1 a2 (ix2 R κ) = f R κ) (hb : ∀ R κ, k0_pay83 (F := Ideal) b0 b1 b2 (ix2 R κ) = g R κ)
    (hc : ∀ R κ, k0_pay83 (F := Ideal) c0 c1 c2 (ix2 R κ) = u R κ) (hd : ∀ R κ, k0_pay83 (F := Ideal) d0 d1 d2 (ix2 R κ) = v R κ)
    (R : Fin 512) (κ : Fin 384) :
    sums (k0_pay89 (k0_pay18 x7) (k0_pay83 a0 a1 a2) b0 b1 b2) (k0_pay90 (k0_pay18 x7) (k0_pay83 a0 a1 a2) b0 b1 b2)
      (k0_pay91 (k0_pay18 x7) (k0_pay83 a0 a1 a2) b0 b1 b2) (k0_pay93 (v3 x0) (k0_pay92 x4)) (k0_pay122 (v3 x0) c0 c1 c2) (k0_pay189 (v3 x0) d0 d1 d2) (ix2 R κ)
    = lesR (mid x0 R) (rw1 x4 R) (u R) (v R) (rw1 x7 R) (f R) (g R) κ :=
  sums_at _ _ _ _ _ _ (mid x0) (rw1 x4) u v (rw1 x7) f g (w_89 x7 a0 a1 a2 b0 b1 b2 f g ha hb) (w_90 x7 a0 a1 a2 b0 b1 b2 f g ha hb)
    (w_91 x7 a0 a1 a2 b0 b1 b2 f g ha hb) (pr_93 x0 x4) (pr_122 x0 c0 c1 c2 u hc) (pr_189 x0 d0 d1 d2 v hd) R κ

section
variable (v w s : Vec Ideal S512x384 .f32) (R : Fin 512)

theorem r_203 (κ : Fin 384) : k0_pay203 (F := Ideal) v w (ix2 R κ) = w (ix2 R κ) * v (ix2 R κ) := by pointwise [k0_pay203]

variable (l : Fin 128)

theorem r_206 : k0_pay206 (F := Ideal) v w (ix3 0 R l) = w (ix2 R ⟨l.val, by omega⟩) * v (ix2 R ⟨l.val, by omega⟩) := by pointwise [k0_pay206, k0_pay205]
theorem r_207 : k0_pay207 (F := Ideal) v w (ix3 0 R l) = w (ix2 R ⟨128 + l.val, by omega⟩) * v (ix2 R ⟨128 + l.val, by omega⟩) := by pointwise [k0_pay207, k0_pay205]
theorem r_208 : k0_pay208 (F := Ideal) v w (ix3 0 R l) = w (ix2 R ⟨256 + l.val, by omega⟩) * v (ix2 R ⟨256 + l.val, by omega⟩) := by pointwise [k0_pay208, k0_pay205]
theorem r_222 : k0_pay222 (F := Ideal) w s (ix3 0 R l) = w (ix2 R ⟨l.val, by omega⟩) * s (ix2 R ⟨l.val, by omega⟩) := by pointwise [k0_pay222, k0_pay221]
theorem r_223 : k0_pay223 (F := Ideal) w s (ix3 0 R l) = w (ix2 R ⟨128 + l.val, by omega⟩) * s (ix2 R ⟨128 + l.val, by omega⟩) := by pointwise [k0_pay223, k0_pay221]
theorem r_224 : k0_pay224 (F := Ideal) w s (ix3 0 R l) = w (ix2 R ⟨256 + l.val, by omega⟩) * s (ix2 R ⟨256 + l.val, by omega⟩) := by pointwise [k0_pay224, k0_pay221]
theorem r_226 : k0_pay226 (F := Ideal) v w (ix3 0 R l) = w (ix2 R ⟨l.val, by omega⟩) * v (ix2 R ⟨l.val, by omega⟩) := by pointwise [k0_pay226, k0_pay225]
theorem r_227 : k0_pay227 (F := Ideal) v w (ix3 0 R l) = w (ix2 R ⟨128 + l.val, by omega⟩) * v (ix2 R ⟨128 + l.val, by omega⟩) := by pointwise [k0_pay227, k0_pay225]
theorem r_228 : k0_pay228 (F := Ideal) v w (ix3 0 R l) = w (ix2 R ⟨256 + l.val, by omega⟩) * v (ix2 R ⟨256 + l.val, by omega⟩) := by pointwise [k0_pay228, k0_pay225]

end

end Cert.CombineIdeal.Blocks
end
-- ==== Proof.CombineMath.lean ====
/- The combination of the attentions over the reals: the sink's gate, the weights of the dilated branches, and the gradients that pass
   through them. -/
module

public import proofs.«01_k».proof.Proof.Lift

@[expose] public section

noncomputable section

namespace Cert.CombineMath

open Idealize.ShloMosaic Cert.Lift

/-- The gate: the logistic function. -/
def gate (x : ℝ) : ℝ := 1 / (1 + Real.exp (-x))

/-- The greatest of three log-sums. -/
def top (a b c : ℝ) : ℝ := max (max a b) c

/-- The sum of the exponentials, over the greatest. -/
def den (a b c : ℝ) : ℝ := Real.exp (a - top a b c) + Real.exp (b - top a b c) + Real.exp (c - top a b c)

theorem den_pos (a b c : ℝ) : 0 < den a b c := by unfold den; positivity

/-- The weight of the branch whose log-sum is `x`. -/
def wt (x a b c : ℝ) : ℝ := Real.exp (x - top a b c) / den a b c

/-- The sum of the weighted products. -/
def mix (a b c u v w : ℝ) : ℝ := wt a a b c * u + wt b a b c * v + wt c a b c * w

theorem one_real : (Ideal.ofBits .f32 0x3F800000#32 : EReal) = ((1 : ℝ) : EReal) := lit_one
theorem exp_real (x : ℝ) : Ideal.exp (x : EReal) = (Real.exp x : EReal) := Ideal.exp_coe x
theorem max_real (a b : ℝ) : max (a : EReal) (b : EReal) = ((max a b : ℝ) : EReal) := (EReal.coe_strictMono.monotone.map_max (a := a) (b := b)).symm

/-- The gate as the programs write it. -/
theorem gate_real (x : ℝ) : Ideal.div ((1 : ℝ) : EReal) (((1 : ℝ) : EReal) + Ideal.exp (-(x : EReal))) = ((gate x : ℝ) : EReal) := by
  rw [← EReal.coe_neg, exp_real, ← EReal.coe_add, div_real _ (by positivity)]; rfl

/-- The weight as the programs write it. -/
theorem wt_real (x a b c : ℝ) :
    Ideal.div (Ideal.exp ((x : EReal) - max (max (a : EReal) b) c))
      (Ideal.exp ((a : EReal) - max (max (a : EReal) b) c) + Ideal.exp ((b : EReal) - max (max (a : EReal) b) c)
        + Ideal.exp ((c : EReal) - max (max (a : EReal) b) c)) = ((wt x a b c : ℝ) : EReal) := by
  simp only [max_real, ← EReal.coe_sub, exp_real, ← EReal.coe_add]
  exact div_real _ (den_pos a b c).ne'

end Cert.CombineMath
end
-- ==== Proof.CombineRef.lean ====
/- The reference of the combination's gradient at real arguments, result by result. -/
module

public import proofs.«01_k».proof.Proof.CombineMath
public import proofs.«01_k».proof.Proof.Gen.CombineRefIdeal.Read
public import Idealize.ShloMosaic.Lib.ValueIdx

@[expose] public section

noncomputable section

namespace Cert.CombineRefIdeal.Real

open Cert.CombineRefIdeal Cert.CombineRefIdeal.Gen Cert.CombineRefIdeal.Read Idealize.ShloMosaic Cert.CombineMath Cert.Lift

/-- An array of reals as an array of extended reals. -/
def up {s : Shape} (x : s.Idx → ℝ) : s.Idx → EReal := fun i => (x i : EReal)

variable (x0 : S1x16384x1024.Idx → ℝ) (x1 : S1x16384x4x64.Idx → ℝ) (x2 : S1x16384x4.Idx → ℝ) (x3 : S4.Idx → ℝ)
  (x4 x5 x6 : S1x16384x6x64.Idx → ℝ) (x7 x8 x9 : S1x16384x6.Idx → ℝ) (R : Fin 16384)

/-- The gate of a token's head. -/
def gt (h : Fin 4) : ℝ := gate (x2 (ix3 (0 : Fin 1) R h) - x3 (ix1 h))
/-- The cotangent of a lane of the gated attention. -/
def da (h : Fin 4) (e : Fin 64) : ℝ := x0 (ix3 (0 : Fin 1) R (⟨h.val * 64 + e.val, by omega⟩ : Fin 1024))
/-- The cotangent of a lane of the combined branches. -/
def db (h : Fin 6) (e : Fin 64) : ℝ := x0 (ix3 (0 : Fin 1) R (⟨256 + (h.val * 64 + e.val), by omega⟩ : Fin 1024))
/-- The sum of a head's products of cotangent and gated attention. -/
def ua (h : Fin 4) : ℝ := ∑ e, x1 (ix4 (0 : Fin 1) R h e) * da x0 R h e
/-- The sum of a head's products of cotangent and a branch's output. -/
def ub (o : S1x16384x6x64.Idx → ℝ) (h : Fin 6) : ℝ := ∑ e, o (ix4 (0 : Fin 1) R h e) * db x0 R h e
/-- The weight of a branch. -/
def wb (l : S1x16384x6.Idx → ℝ) (h : Fin 6) : ℝ :=
  wt (l (ix3 (0 : Fin 1) R h)) (x7 (ix3 (0 : Fin 1) R h)) (x8 (ix3 (0 : Fin 1) R h)) (x9 (ix3 (0 : Fin 1) R h))

section A
variable (h : Fin 4) (e : Fin 64)

theorem v9_at : val_main_v9 (F := Ideal) (up x2) (up x3) (ix3 (0 : Fin 1) R h) = (gt x2 x3 R h : EReal) := by
  pointwise [val_main_v9, val_main_v8, val_main_cst_1, val_main_v7, val_main_v6, val_main_cst_0, val_main_v5, val_main_v4, val_main_v3, val_main_v2, val_main_v1, up]
  rw [← EReal.coe_sub, ← EReal.coe_one]
  exact gate_real _

theorem v66_at : val_main_v66 (F := Ideal) (up x0) (ix4 (0 : Fin 1) R h e) = (da x0 R h e : EReal) := by
  pointwise [val_main_v66, val_main_v62, up]
  rfl

theorem v110_at : val_main_v110 (F := Ideal) (up x0) (up x2) (up x3) (ix4 (0 : Fin 1) R h e) = ((da x0 R h e * gt x2 x3 R h : ℝ) : EReal) := by
  pointwise [val_main_v110, val_main_v109, val_main_v13, v66_at, v9_at]
  exact (EReal.coe_mul _ _).symm

theorem v107_at : val_main_v107 (F := Ideal) (up x0) (up x1) (ix3 (0 : Fin 1) R h) = (ua x0 x1 R h : EReal) := by
  pointwise [val_main_v107, val_main_v106, val_main_cst_21, v66_at, up]
  simp only [← EReal.coe_mul, ← coe_sum]
  rfl

/-- A sum over axes of size one is its element. -/
theorem one_sum {s t : Shape} {axes : List (Fin s.rank)} (w : s.ReducesTo axes t) (x : s.Idx → EReal) (z : EReal) (j : t.Idx) (i0 : s.Idx)
    (hi : ∀ i, w.drop i = j ↔ i = i0) : Ideal.hostReduceAdd w x z j = z + x i0 := by
  unfold Ideal.hostReduceAdd
  have h : (Finset.univ.filter fun i => w.drop i = j) = {i0} := by
    ext i
    rw [Finset.mem_filter, Finset.mem_singleton, hi i]
    exact ⟨fun h => h.2, fun h => ⟨Finset.mem_univ _, h⟩⟩
  rw [h, Finset.sum_singleton]

theorem one_sum4 (x : S1x16384x4x1.Idx → EReal) (z : EReal) :
    Ideal.hostReduceAdd reducesTo_S1x16384x4x1_S16384x4_d0_3 x z (ix2 R h) = z + x (ix4 (0 : Fin 1) R h (0 : Fin 1)) := by
  refine one_sum _ x z _ _ fun i => ⟨fun hi => ?_, fun hi => ?_⟩
  · obtain ⟨i0, i1, i2, i3, rfl⟩ : ∃ (i0 : Fin 1) (i1 : Fin 16384) (i2 : Fin 4) (i3 : Fin 1), i = ix4 i0 i1 i2 i3 := ⟨_, _, _, _, eq_ix4 i⟩
    have h0 : i1 = R := congrFun hi 0
    have h1 : i2 = h := congrFun hi 1
    rw [h0, h1, Subsingleton.elim (α := Fin 1) i0 0, Subsingleton.elim (α := Fin 1) i3 0]
  · rw [hi]
    refine funext fun a => ?_
    fin_cases a <;> rfl

theorem one_sum2 (x : S1x1x4.Idx → EReal) (z : EReal) :
    Ideal.hostReduceAdd reducesTo_S1x1x4_S4_d0_1 x z (ix1 h) = z + x (ix3 (0 : Fin 1) (0 : Fin 1) h) := by
  refine one_sum _ x z _ _ fun i => ⟨fun hi => ?_, fun hi => ?_⟩
  · obtain ⟨i0, i1, i2, rfl⟩ : ∃ (i0 : Fin 1) (i1 : Fin 1) (i2 : Fin 4), i = ix3 i0 i1 i2 := ⟨_, _, _, eq_ix3 i⟩
    have h0 : i2 = h := congrFun hi 0
    rw [h0, Subsingleton.elim (α := Fin 1) i0 0, Subsingleton.elim (α := Fin 1) i1 0]
  · rw [hi]
    refine funext fun a => ?_
    fin_cases a; rfl

theorem v113_at : val_main_v113 (F := Ideal) (up x0) (up x1) (up x2) (up x3) (ix3 (0 : Fin 1) R h) =
    ((ua x0 x1 R h * (gt x2 x3 R h * (1 - gt x2 x3 R h)) : ℝ) : EReal) := by
  have e111 : val_main_v111 (F := Ideal) (up x0) (up x1) (ix2 R h) = (ua x0 x1 R h : EReal) := by
    refine (one_sum4 R h _ _).trans ?_
    pointwise [val_main_v108, val_main_cst_22, v107_at]
  pointwise [val_main_v113, val_main_v112, val_main_v12, val_main_v11, val_main_v10, val_main_cst_2, v9_at, e111]
  rw [← EReal.coe_one, ← EReal.coe_sub, ← EReal.coe_mul, ← EReal.coe_mul]

theorem v117_at : val_main_v117 (F := Ideal) (up x0) (up x1) (up x2) (up x3) (ix1 h) =
    ((∑ R, -(ua x0 x1 R h * (gt x2 x3 R h * (1 - gt x2 x3 R h))) : ℝ) : EReal) := by
  refine (one_sum2 h _ _).trans ?_
  pointwise [val_main_v116, val_main_cst_24, val_main_v115, val_main_cst_23, val_main_v114, v113_at]
  simp only [← EReal.coe_neg, ← coe_sum]

theorem v146_at : val_main_v146 (F := Ideal) (up x0) (up x1) (up x2) (up x3) (ix3 (0 : Fin 1) R h) =
    ((ua x0 x1 R h * gt x2 x3 R h - ua x0 x1 R h * (gt x2 x3 R h * (1 - gt x2 x3 R h)) : ℝ) : EReal) := by
  pointwise [val_main_v146, val_main_v145, val_main_cst_28, val_main_v144, v110_at, v113_at, up]
  simp only [← EReal.coe_mul, ← coe_sum, ← EReal.coe_sub]
  refine congrArg Real.toEReal (congrArg (· - _) ?_)
  unfold ua
  rw [Finset.sum_mul]
  exact Finset.sum_congr rfl fun e _ => by ring

/-- The cotangent of the gated attention, in the kernel's layout. -/
theorem v143_at (J : Fin 256) : val_main_v143 (F := Ideal) (up x0) (up x2) (up x3) (ix2 R J) =
    ((da x0 R ⟨J.val / 64, by omega⟩ ⟨J.val % 64, by omega⟩ * gt x2 x3 R ⟨J.val / 64, by omega⟩ : ℝ) : EReal) := by
  pointwise [val_main_v143, val_main_v142, v110_at]

theorem v149_at (J : Fin 256) : val_main_v149 (F := Ideal) (up x0) (up x1) (up x2) (up x3) (ix2 R J) =
    ((ua x0 x1 R ⟨J.val / 64, by omega⟩ * gt x2 x3 R ⟨J.val / 64, by omega⟩
      - ua x0 x1 R ⟨J.val / 64, by omega⟩ * (gt x2 x3 R ⟨J.val / 64, by omega⟩ * (1 - gt x2 x3 R ⟨J.val / 64, by omega⟩)) : ℝ) : EReal) := by
  pointwise [val_main_v149, val_main_v148, val_main_v147, v146_at]

theorem v153_at (J : Fin 256) : val_main_v153 (F := Ideal) (up x0) (up x1) (up x2) (up x3) (ix2 (0 : Fin 1) J) =
    ((∑ R, -(ua x0 x1 R ⟨J.val / 64, by omega⟩ * (gt x2 x3 R ⟨J.val / 64, by omega⟩ * (1 - gt x2 x3 R ⟨J.val / 64, by omega⟩))) : ℝ) : EReal) := by
  pointwise [val_main_v153, val_main_v152, val_main_v151, v117_at]

theorem v150_at (J : Fin 384) : val_main_v150 (F := Ideal) (up x0) (ix2 R J) = (x0 (ix3 (0 : Fin 1) R (⟨640 + J.val, by omega⟩ : Fin 1024)) : EReal) := by
  pointwise [val_main_v150, val_main_v64, up]
end A

section B
variable (h : Fin 6) (e : Fin 64)

theorem lit_bot : Ideal.ofBits .f32 0xFF800000#32 = (⊥ : EReal) := by simp [Ideal.ofBits, Ideal.ieee]

theorem fold3 (f : Fin 3 → EReal) : Finset.univ.fold max ⊥ f = max (max (f 0) (f 1)) (f 2) := by
  refine le_antisymm (Finset.fold_max_le _ |>.mpr ⟨bot_le, fun i _ => ?_⟩) (max_le (max_le ?_ ?_) ?_)
  · fin_cases i
    · exact le_max_of_le_left (le_max_left _ _)
    · exact le_max_of_le_left (le_max_right _ _)
    · exact le_max_right _ _
  all_goals exact Finset.le_fold_max _ |>.mpr (.inr ⟨_, Finset.mem_univ _, le_rfl⟩)

theorem v27_at : val_main_v27 (F := Ideal) (up x7) (up x8) (up x9) (ix3 (0 : Fin 1) R h) =
    (top (x7 (ix3 (0 : Fin 1) R h)) (x8 (ix3 (0 : Fin 1) R h)) (x9 (ix3 (0 : Fin 1) R h)) : EReal) := by
  pointwise [val_main_v27, val_main_v26, val_main_cst_5, val_main_v20, val_main_cst_3, val_main_v19, val_main_v18, val_main_v17, val_main_v16, up]
  rw [lit_bot, fold3, max_eq_right bot_le]
  exact (congrArg₂ max (max_real _ _) rfl).trans (max_real _ _)

/-- The three log-sums of a token's head. -/
def ls (R : Fin 16384) (x7 x8 x9 : S1x16384x6.Idx → ℝ) (h : Fin 6) (i : Fin 3) : ℝ := ![x7, x8, x9] i (ix3 (0 : Fin 1) R h)

theorem v40_at (i : Fin 3) : val_main_v40 (F := Ideal) (up x7) (up x8) (up x9) (ix4 (0 : Fin 1) R h i) =
    ((Real.exp (ls R x7 x8 x9 h i - top (ls R x7 x8 x9 h 0) (ls R x7 x8 x9 h 1) (ls R x7 x8 x9 h 2)) : ℝ) : EReal) := by
  pointwise [val_main_v40, val_main_v39, val_main_v38, val_main_v37, v27_at, val_main_v19, val_main_v18, val_main_v17, val_main_v16, up]
  fin_cases i <;> exact (congrArg Ideal.exp (EReal.coe_sub _ _).symm).trans (exp_real _)

theorem v42_at : val_main_v42 (F := Ideal) (up x7) (up x8) (up x9) (ix4 (0 : Fin 1) R h (0 : Fin 1)) =
    (den (ls R x7 x8 x9 h 0) (ls R x7 x8 x9 h 1) (ls R x7 x8 x9 h 2) : EReal) := by
  pointwise [val_main_v42, val_main_v41, val_main_cst_11, v40_at]
  rw [Fin.sum_univ_three, ← EReal.coe_add, ← EReal.coe_add]
  rfl

/-- The weight of branch `i`. -/
def w3 (R : Fin 16384) (x7 x8 x9 : S1x16384x6.Idx → ℝ) (h : Fin 6) (i : Fin 3) : ℝ := wt (ls R x7 x8 x9 h i) (ls R x7 x8 x9 h 0) (ls R x7 x8 x9 h 1) (ls R x7 x8 x9 h 2)

theorem v44_at (i : Fin 3) : val_main_v44 (F := Ideal) (up x7) (up x8) (up x9) (ix4 (0 : Fin 1) R h i) = (w3 R x7 x8 x9 h i : EReal) := by
  pointwise [val_main_v44, val_main_v43, v40_at, v42_at]
  exact div_real _ (den_pos _ _ _).ne'

theorem v65_at : val_main_v65 (F := Ideal) (up x0) (ix4 (0 : Fin 1) R h e) = (db x0 R h e : EReal) := by
  pointwise [val_main_v65, val_main_v63, up]
  rfl

theorem v86_at (i : Fin 3) : val_main_v86 (F := Ideal) (up x0) (up x4) (up x5) (up x6) (ix4 (0 : Fin 1) R h i) =
    (ub x0 R (![x4, x5, x6] i) h : EReal) := by
  pointwise [val_main_v86, val_main_v85, val_main_v82, val_main_v81, val_main_v80, val_main_v79, val_main_v78, val_main_v75, val_main_v74, val_main_v73, val_main_v72, val_main_v69, val_main_v68, val_main_v67, val_main_cst_13, val_main_cst_14, val_main_cst_15, val_main_cst_16, val_main_cst_17, val_main_cst_18, v65_at, up]
  simp only [← EReal.coe_mul, ← coe_sum]
  fin_cases i <;> simp <;> rfl

theorem one_sum6 (x : S1x16384x6x1.Idx → EReal) (z : EReal) :
    Ideal.hostReduceAdd reducesTo_S1x16384x6x1_S16384x6_d0_3 x z (ix2 R h) = z + x (ix4 (0 : Fin 1) R h (0 : Fin 1)) := by
  refine one_sum _ x z _ _ fun i => ⟨fun hi => ?_, fun hi => ?_⟩
  · obtain ⟨i0, i1, i2, i3, rfl⟩ : ∃ (i0 : Fin 1) (i1 : Fin 16384) (i2 : Fin 6) (i3 : Fin 1), i = ix4 i0 i1 i2 i3 := ⟨_, _, _, _, eq_ix4 i⟩
    have h0 : i1 = R := congrFun hi 0
    have h1 : i2 = h := congrFun hi 1
    rw [h0, h1, Subsingleton.elim (α := Fin 1) i0 0, Subsingleton.elim (α := Fin 1) i3 0]
  · rw [hi]
    refine funext fun a => ?_
    fin_cases a <;> rfl

/-- The products' sum of branch `i`. -/
def u3 (x0 : S1x16384x1024.Idx → ℝ) (R : Fin 16384) (x4 x5 x6 : S1x16384x6x64.Idx → ℝ) (h : Fin 6) (i : Fin 3) : ℝ := ub x0 R (![x4, x5, x6] i) h

theorem v90_at : val_main_v90 (F := Ideal) (up x0) (up x4) (up x5) (up x6) (up x7) (up x8) (up x9) (ix3 (0 : Fin 1) R h) =
    ((mix (ls R x7 x8 x9 h 0) (ls R x7 x8 x9 h 1) (ls R x7 x8 x9 h 2) (u3 x0 R x4 x5 x6 h 0) (u3 x0 R x4 x5 x6 h 1) (u3 x0 R x4 x5 x6 h 2)
      / den (ls R x7 x8 x9 h 0) (ls R x7 x8 x9 h 1) (ls R x7 x8 x9 h 2) : ℝ) : EReal) := by
  have hd := (den_pos (ls R x7 x8 x9 h 0) (ls R x7 x8 x9 h 1) (ls R x7 x8 x9 h 2)).ne'
  pointwise [val_main_v90, val_main_cst_19, val_main_v89, val_main_v88, val_main_v87, val_main_v47, val_main_v46, val_main_cst_12, val_main_v45, v42_at, v40_at, v86_at]
  rw [← EReal.coe_mul, ← EReal.coe_one, div_real _ (mul_ne_zero hd hd)]
  simp only [← EReal.coe_mul, ← coe_sum]
  refine congrArg Real.toEReal ?_
  rw [Fin.sum_univ_three]
  unfold mix wt u3
  field_simp

theorem v99_at (i : Fin 3) : val_main_v99 (F := Ideal) (up x0) (up x4) (up x5) (up x6) (up x7) (up x8) (up x9) (ix4 (0 : Fin 1) R h i) =
    ((w3 R x7 x8 x9 h i * (u3 x0 R x4 x5 x6 h i
      - mix (ls R x7 x8 x9 h 0) (ls R x7 x8 x9 h 1) (ls R x7 x8 x9 h 2) (u3 x0 R x4 x5 x6 h 0) (u3 x0 R x4 x5 x6 h 1) (u3 x0 R x4 x5 x6 h 2)) : ℝ) : EReal) := by
  have hd := (den_pos (ls R x7 x8 x9 h 0) (ls R x7 x8 x9 h 1) (ls R x7 x8 x9 h 2)).ne'
  have e95 : val_main_v95 (F := Ideal) (up x0) (up x4) (up x5) (up x6) (up x7) (up x8) (up x9) (ix2 R h) =
      ((-(mix (ls R x7 x8 x9 h 0) (ls R x7 x8 x9 h 1) (ls R x7 x8 x9 h 2) (u3 x0 R x4 x5 x6 h 0) (u3 x0 R x4 x5 x6 h 1) (u3 x0 R x4 x5 x6 h 2)
        / den (ls R x7 x8 x9 h 0) (ls R x7 x8 x9 h 1) (ls R x7 x8 x9 h 2)) : ℝ) : EReal) := by
    refine (one_sum6 R h _ _).trans ?_
    pointwise [val_main_v92, val_main_v91, val_main_cst_20, v90_at]
    exact (EReal.coe_neg _).symm
  pointwise [val_main_v99, val_main_v98, val_main_v97, val_main_v96, val_main_v94, val_main_v93, e95, v86_at, v42_at, v40_at]
  rw [div_real _ hd, ← EReal.coe_add, ← EReal.coe_mul]
  refine congrArg Real.toEReal ?_
  unfold w3 wt
  show _ = _ * (ub x0 R (![x4, x5, x6] i) h - _)
  field_simp
  ring

theorem v84_at : val_main_v84 (F := Ideal) (up x0) (up x7) (up x8) (up x9) (ix4 (0 : Fin 1) R h e) = ((db x0 R h e * w3 R x7 x8 x9 h 0 : ℝ) : EReal) := by
  pointwise [val_main_v84, val_main_v83, val_main_v48, v65_at, v44_at]
  exact (EReal.coe_mul _ _).symm

theorem v77_at : val_main_v77 (F := Ideal) (up x0) (up x7) (up x8) (up x9) (ix4 (0 : Fin 1) R h e) = ((db x0 R h e * w3 R x7 x8 x9 h 1 : ℝ) : EReal) := by
  pointwise [val_main_v77, val_main_v76, val_main_v51, v65_at, v44_at]
  exact (EReal.coe_mul _ _).symm

theorem v71_at : val_main_v71 (F := Ideal) (up x0) (up x7) (up x8) (up x9) (ix4 (0 : Fin 1) R h e) = ((db x0 R h e * w3 R x7 x8 x9 h 2 : ℝ) : EReal) := by
  pointwise [val_main_v71, val_main_v70, val_main_v55, v65_at, v44_at]
  exact (EReal.coe_mul _ _).symm

/-- What the rows of branch `i`'s scores take away. -/
def less (x0 : S1x16384x1024.Idx → ℝ) (R : Fin 16384) (x4 x5 x6 : S1x16384x6x64.Idx → ℝ) (x7 x8 x9 : S1x16384x6.Idx → ℝ) (h : Fin 6) (i : Fin 3) : ℝ := w3 R x7 x8 x9 h i
  * mix (ls R x7 x8 x9 h 0) (ls R x7 x8 x9 h 1) (ls R x7 x8 x9 h 2) (u3 x0 R x4 x5 x6 h 0) (u3 x0 R x4 x5 x6 h 1) (u3 x0 R x4 x5 x6 h 2)

theorem less_of (o : S1x16384x6x64.Idx → ℝ) (w u m : ℝ) (hu : u = ub x0 R o h) :
    (∑ e, ((db x0 R h e * w : ℝ) : EReal) * (o (ix4 (0 : Fin 1) R h e) : EReal)) - ((w * (u - m) : ℝ) : EReal) = ((w * m : ℝ) : EReal) := by
  simp only [← EReal.coe_mul, ← coe_sum, ← EReal.coe_sub]
  have : ∑ e, db x0 R h e * w * o (ix4 (0 : Fin 1) R h e) = w * u := by
    rw [hu]; unfold ub; rw [Finset.mul_sum]
    exact Finset.sum_congr rfl fun e _ => by ring
  rw [this]
  exact congrArg Real.toEReal (by ring)

theorem v126_at : val_main_v126 (F := Ideal) (up x0) (up x4) (up x5) (up x6) (up x7) (up x8) (up x9) (ix3 (0 : Fin 1) R h) = (less x0 R x4 x5 x6 x7 x8 x9 h 0 : EReal) := by
  pointwise [val_main_v126, val_main_v125, val_main_cst_25, val_main_v124, val_main_v101, val_main_v100, v84_at, v99_at, up]
  exact less_of x0 R h x4 _ _ _ rfl

theorem v132_at : val_main_v132 (F := Ideal) (up x0) (up x4) (up x5) (up x6) (up x7) (up x8) (up x9) (ix3 (0 : Fin 1) R h) = (less x0 R x4 x5 x6 x7 x8 x9 h 1 : EReal) := by
  pointwise [val_main_v132, val_main_v131, val_main_cst_26, val_main_v130, val_main_v103, val_main_v102, v77_at, v99_at, up]
  exact less_of x0 R h x5 _ _ _ rfl

theorem v138_at : val_main_v138 (F := Ideal) (up x0) (up x4) (up x5) (up x6) (up x7) (up x8) (up x9) (ix3 (0 : Fin 1) R h) = (less x0 R x4 x5 x6 x7 x8 x9 h 2 : EReal) := by
  pointwise [val_main_v138, val_main_v137, val_main_cst_27, val_main_v136, val_main_v105, val_main_v104, v71_at, v99_at, up]
  exact less_of x0 R h x6 _ _ _ rfl

/-- The token and the lane that a place of an array whose rows hold `d` tokens names. -/
abbrev tok (n d : ℕ) (h : n * d = 16384) (i : Fin n) (J : Fin (d * 384)) : Fin 16384 := ⟨i.val * d + J.val / 384, by
  have h1 : J.val / 384 < d := Nat.div_lt_of_lt_mul (by have := J.isLt; omega)
  have h2 : (i.val + 1) * d ≤ n * d := Nat.mul_le_mul_right d i.isLt
  rw [Nat.add_mul, Nat.one_mul] at h2; omega⟩

/-- Branch `i`'s gradient of a token, by lanes. -/
def dob (x0 : S1x16384x1024.Idx → ℝ) (x7 x8 x9 : S1x16384x6.Idx → ℝ) (i : Fin 3) (R : Fin 16384) (L : Fin 384) : ℝ :=
  db x0 R ⟨L.val / 64, by omega⟩ ⟨L.val % 64, by omega⟩ * w3 R x7 x8 x9 ⟨L.val / 64, by omega⟩ i

theorem v119_at (J : Fin 384) : val_main_v119 (F := Ideal) (up x0) (up x7) (up x8) (up x9) (ix2 R J) = (dob x0 x7 x8 x9 0 R J : EReal) := by
  pointwise [val_main_v119, val_main_v118, v84_at]
  rfl

theorem v129_at (J : Fin 384) : val_main_v129 (F := Ideal) (up x0) (up x4) (up x5) (up x6) (up x7) (up x8) (up x9) (ix2 R J) =
    (less x0 R x4 x5 x6 x7 x8 x9 ⟨J.val / 64, by omega⟩ 0 : EReal) := by
  pointwise [val_main_v129, val_main_v128, val_main_v127, v126_at]

theorem dob_congr (i : Fin 3) (R : Fin 16384) (L : Fin 384) (h : Fin 6) (e : Fin 64) (hh : h.val = L.val / 64) (he : e.val = L.val % 64) :
    ((db x0 R h e * w3 R x7 x8 x9 h i : ℝ) : EReal) = (dob x0 x7 x8 x9 i R L : EReal) := by
  rw [show h = ⟨L.val / 64, by omega⟩ from Fin.ext hh, show e = ⟨L.val % 64, by omega⟩ from Fin.ext he]
  rfl

theorem v121_at (i : Fin 4096) (J : Fin 1536) : val_main_v121 (F := Ideal) (up x0) (up x7) (up x8) (up x9) (ix2 i J) =
    (dob x0 x7 x8 x9 1 (tok 4096 4 rfl i J) ⟨J.val % 384, by omega⟩ : EReal) := by
  pointwise [val_main_v121, val_main_v120, v77_at]
  exact dob_congr x0 x7 x8 x9 1 _ _ _ _ (show J.val / 64 % 6 = J.val % 384 / 64 by omega) (show J.val % 64 = J.val % 384 % 64 by omega)

theorem v135_at (i : Fin 4096) (J : Fin 1536) : val_main_v135 (F := Ideal) (up x0) (up x4) (up x5) (up x6) (up x7) (up x8) (up x9) (ix2 i J) =
    (less x0 (tok 4096 4 rfl i J) x4 x5 x6 x7 x8 x9 ⟨J.val % 384 / 64, by omega⟩ 1 : EReal) := by
  pointwise [val_main_v135, val_main_v134, val_main_v133, v132_at]

theorem v123_at (i : Fin 1024) (J : Fin 6144) : val_main_v123 (F := Ideal) (up x0) (up x7) (up x8) (up x9) (ix2 i J) =
    (dob x0 x7 x8 x9 2 (tok 1024 16 rfl i J) ⟨J.val % 384, by omega⟩ : EReal) := by
  pointwise [val_main_v123, val_main_v122, v71_at]
  exact dob_congr x0 x7 x8 x9 2 _ _ _ _ (show J.val / 64 % 6 = J.val % 384 / 64 by omega) (show J.val % 64 = J.val % 384 % 64 by omega)

theorem v141_at (i : Fin 1024) (J : Fin 6144) : val_main_v141 (F := Ideal) (up x0) (up x4) (up x5) (up x6) (up x7) (up x8) (up x9) (ix2 i J) =
    (less x0 (tok 1024 16 rfl i J) x4 x5 x6 x7 x8 x9 ⟨J.val % 384 / 64, by omega⟩ 2 : EReal) := by
  pointwise [val_main_v141, val_main_v140, val_main_v139, v138_at]
end B
end Cert.CombineRefIdeal.Real
end
-- ==== Proof.CombineLeaf.lean ====
/- The blocks of the combination's gradient at real arguments: which element of the arguments each lane of a block holds. -/
module

public import proofs.«01_k».proof.Proof.CombineBlock
public import proofs.«01_k».proof.Proof.CombineRef

@[expose] public section
noncomputable section
namespace Cert.CombineIdeal.Blocks
open Cert.CombineIdeal Cert.CombineIdeal.Gen Idealize.ShloMosaic Idealize.ShloMosaic.TcCoe Idealize.SL.Sem Cert.Lift Cert.CombineMath
open Cert.CombineRefIdeal.Real (up db ls)

/-- The same token and lane, named in two ways. -/
theorem same4 (o : S1x16384x6x64.Idx → ℝ) {T T' : Fin 16384} {h h' : Fin 6} {e e' : Fin 64} (hT : T.val = T'.val) (hh : h.val = h'.val) (he : e.val = e'.val) :
    (o (ix4 (0 : Fin 1) T h e) : EReal) = (o (ix4 (0 : Fin 1) T' h' e') : EReal) := by
  rw [Fin.ext hT, Fin.ext hh, Fin.ext he]
theorem same3 (o : S1x16384x6.Idx → ℝ) {T T' : Fin 16384} {h h' : Fin 6} (hT : T.val = T'.val) (hh : h.val = h'.val) :
    (o (ix3 (0 : Fin 1) T h) : EReal) = (o (ix3 (0 : Fin 1) T' h') : EReal) := by
  rw [Fin.ext hT, Fin.ext hh]

variable (m : (ℓ : Loc nD τ sig) → Buf (Elt Ideal) ℓ) (c : Dev nD) (t : Fin cfg0.N)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)

section
variable {x0 : S1x16384x1024.Idx → ℝ} {x1 : S1x16384x4x64.Idx → ℝ} {x2 : S1x16384x4.Idx → ℝ} {x3 : S4.Idx → ℝ}
  {x4 x5 x6 : S1x16384x6x64.Idx → ℝ} {x7 x8 x9 : S1x16384x6.Idx → ℝ}

theorem ent0 (R : Fin 16384) (J : Fin 1024) : V m c main_v12 (ix2 R J) = m ((c.tc : Thread nD τ).loc main_arg0) (ix3 (0 : Fin 1) R J) := by
  entry_read
  pointwise []

theorem ent1 (R : Fin 16384) (J : Fin 256) : V m c main_v13 (ix2 R J) = m ((c.tc : Thread nD τ).loc main_arg1) (ix4 (0 : Fin 1) R ⟨J.val / 64, by omega⟩ ⟨J.val % 64, by omega⟩) := by
  entry_read
  pointwise []

theorem ent2 (R : Fin 16384) (J : Fin 256) : V m c main_v16 (ix2 R J) = m ((c.tc : Thread nD τ).loc main_arg2) (ix3 (0 : Fin 1) R ⟨J.val / 64, by omega⟩) := by
  entry_read
  pointwise []

theorem ent3 (J : Fin 256) : V m c main_v19 (ix2 (0 : Fin 1) J) = m ((c.tc : Thread nD τ).loc main_arg3) (ix1 (⟨J.val / 64, by omega⟩ : Fin 4)) := by
  entry_read
  pointwise []

theorem ent4 (R : Fin 16384) (J : Fin 384) : V m c main_v0 (ix2 R J) = m ((c.tc : Thread nD τ).loc main_arg4) (ix4 (0 : Fin 1) R ⟨J.val / 64, by omega⟩ ⟨J.val % 64, by omega⟩) := by
  entry_read
  pointwise []

theorem ent5 (R : Fin 4096) (J : Fin 1536) : V m c main_v1 (ix2 R J) = m ((c.tc : Thread nD τ).loc main_arg5)
    (ix4 (0 : Fin 1) (⟨R.val * 4 + J.val / 384, by omega⟩ : Fin 16384) ⟨J.val / 64 % 6, by omega⟩ ⟨J.val % 64, by omega⟩) := by
  entry_read
  pointwise []

theorem ent6 (R : Fin 1024) (J : Fin 6144) : V m c main_v2 (ix2 R J) = m ((c.tc : Thread nD τ).loc main_arg6)
    (ix4 (0 : Fin 1) (⟨R.val * 16 + J.val / 384, by omega⟩ : Fin 16384) ⟨J.val / 64 % 6, by omega⟩ ⟨J.val % 64, by omega⟩) := by
  entry_read
  pointwise []

theorem ent7 (R : Fin 16384) (J : Fin 384) : V m c main_v5 (ix2 R J) = m ((c.tc : Thread nD τ).loc main_arg7) (ix3 (0 : Fin 1) R ⟨J.val / 64, by omega⟩) := by
  entry_read
  pointwise []

theorem ent8 (R : Fin 4096) (J : Fin 1536) : V m c main_v8 (ix2 R J) = m ((c.tc : Thread nD τ).loc main_arg8)
    (ix3 (0 : Fin 1) (⟨R.val * 4 + J.val / 384, by omega⟩ : Fin 16384) ⟨J.val / 64 % 6, by omega⟩) := by
  entry_read
  pointwise []

theorem ent9 (R : Fin 1024) (J : Fin 6144) : V m c main_v11 (ix2 R J) = m ((c.tc : Thread nD τ).loc main_arg9)
    (ix3 (0 : Fin 1) (⟨R.val * 16 + J.val / 384, by omega⟩ : Fin 16384) ⟨J.val / 64 % 6, by omega⟩) := by
  entry_read
  pointwise []

/-- The sink's row at every point. -/
theorem blk3 (J : Fin 256) : iblk m c 3 t (ix2 (0 : Fin 1) J) = V m c main_v19 (ix2 (0 : Fin 1) J) := by blk_point [iblk, V, idx3]

theorem at3 (h : m ((c.tc : Thread nD τ).loc main_arg3) = up x3) (J : Fin 256) : iblk m c 3 t (ix2 (0 : Fin 1) J) = (x3 (ix1 (⟨J.val / 64, by omega⟩ : Fin 4)) : EReal) := by
  rw [blk3, ent3, h]; rfl

variable (R : Fin 512) (T : Fin 16384) (hT : T.val = t.val * 512 + R.val)
include hT

theorem blk0 (J : Fin 1024) : iblk m c 0 t (ix2 R J) = V m c main_v12 (ix2 T J) := by blk_point [iblk, V, idx0]
theorem blk1 (J : Fin 256) : iblk m c 1 t (ix2 R J) = V m c main_v13 (ix2 T J) := by blk_point [iblk, V, idx1]
theorem blk2 (J : Fin 256) : iblk m c 2 t (ix2 R J) = V m c main_v16 (ix2 T J) := by blk_point [iblk, V, idx2]
theorem blk4 (J : Fin 384) : rw1 (iblk m c 4 t) R J = V m c main_v0 (ix2 T J) := by unfold rw1; blk_point [iblk, V, idx4]
theorem blk7 (J : Fin 384) : rw1 (iblk m c 7 t) R J = V m c main_v5 (ix2 T J) := by unfold rw1; blk_point [iblk, V, idx7]
theorem blk5 (J : Fin 384) : rd4 (iblk m c 5 t) R J = V m c main_v1 (ix2 ⟨T.val / 4, by omega⟩ ⟨T.val % 4 * 384 + J.val, by omega⟩) := by
  unfold rd4 rd; blk_point [iblk, V, idx5]
theorem blk8 (J : Fin 384) : rd4 (iblk m c 8 t) R J = V m c main_v8 (ix2 ⟨T.val / 4, by omega⟩ ⟨T.val % 4 * 384 + J.val, by omega⟩) := by
  unfold rd4 rd; blk_point [iblk, V, idx8]
theorem blk6 (J : Fin 384) : rd16 (iblk m c 6 t) R J = V m c main_v2 (ix2 ⟨T.val / 16, by omega⟩ ⟨T.val % 16 * 384 + J.val, by omega⟩) := by
  unfold rd16 rd; blk_point [iblk, V, idx6]
theorem blk9 (J : Fin 384) : rd16 (iblk m c 9 t) R J = V m c main_v11 (ix2 ⟨T.val / 16, by omega⟩ ⟨T.val % 16 * 384 + J.val, by omega⟩) := by
  unfold rd16 rd; blk_point [iblk, V, idx9]

theorem at0 (h : m ((c.tc : Thread nD τ).loc main_arg0) = up x0) (J : Fin 1024) : iblk m c 0 t (ix2 R J) = (x0 (ix3 (0 : Fin 1) T J) : EReal) := by
  rw [blk0 m c t R T hT, ent0, h]; rfl
theorem at1 (h : m ((c.tc : Thread nD τ).loc main_arg1) = up x1) (J : Fin 256) :
    iblk m c 1 t (ix2 R J) = (x1 (ix4 (0 : Fin 1) T ⟨J.val / 64, by omega⟩ ⟨J.val % 64, by omega⟩) : EReal) := by
  rw [blk1 m c t R T hT, ent1, h]; rfl
theorem at2 (h : m ((c.tc : Thread nD τ).loc main_arg2) = up x2) (J : Fin 256) : iblk m c 2 t (ix2 R J) = (x2 (ix3 (0 : Fin 1) T ⟨J.val / 64, by omega⟩) : EReal) := by
  rw [blk2 m c t R T hT, ent2, h]; rfl
theorem at4 (h : m ((c.tc : Thread nD τ).loc main_arg4) = up x4) (J : Fin 384) :
    rw1 (iblk m c 4 t) R J = (x4 (ix4 (0 : Fin 1) T ⟨J.val / 64, by omega⟩ ⟨J.val % 64, by omega⟩) : EReal) := by
  rw [blk4 m c t R T hT, ent4, h]; rfl
theorem at5 (h : m ((c.tc : Thread nD τ).loc main_arg5) = up x5) (J : Fin 384) :
    rd4 (iblk m c 5 t) R J = (x5 (ix4 (0 : Fin 1) T ⟨J.val / 64, by omega⟩ ⟨J.val % 64, by omega⟩) : EReal) := by
  rw [blk5 m c t R T hT, ent5, h]
  exact same4 x5 (by first | omega | (dsimp only; omega)) (by first | omega | (dsimp only; omega)) (by first | omega | (dsimp only; omega))
theorem at6 (h : m ((c.tc : Thread nD τ).loc main_arg6) = up x6) (J : Fin 384) :
    rd16 (iblk m c 6 t) R J = (x6 (ix4 (0 : Fin 1) T ⟨J.val / 64, by omega⟩ ⟨J.val % 64, by omega⟩) : EReal) := by
  rw [blk6 m c t R T hT, ent6, h]
  exact same4 x6 (by first | omega | (dsimp only; omega)) (by first | omega | (dsimp only; omega)) (by first | omega | (dsimp only; omega))
theorem at7 (h : m ((c.tc : Thread nD τ).loc main_arg7) = up x7) (J : Fin 384) :
    rw1 (iblk m c 7 t) R J = (ls T x7 x8 x9 ⟨J.val / 64, by omega⟩ 0 : EReal) := by
  rw [blk7 m c t R T hT, ent7, h]; rfl
theorem at8 (h : m ((c.tc : Thread nD τ).loc main_arg8) = up x8) (J : Fin 384) :
    rd4 (iblk m c 8 t) R J = (ls T x7 x8 x9 ⟨J.val / 64, by omega⟩ 1 : EReal) := by
  rw [blk8 m c t R T hT, ent8, h]
  exact same3 x8 (by first | omega | (dsimp only; omega)) (by first | omega | (dsimp only; omega))
theorem at9 (h : m ((c.tc : Thread nD τ).loc main_arg9) = up x9) (J : Fin 384) :
    rd16 (iblk m c 9 t) R J = (ls T x7 x8 x9 ⟨J.val / 64, by omega⟩ 2 : EReal) := by
  rw [blk9 m c t R T hT, ent9, h]
  exact same3 x9 (by first | omega | (dsimp only; omega)) (by first | omega | (dsimp only; omega))
theorem atm (h : m ((c.tc : Thread nD τ).loc main_arg0) = up x0) (J : Fin 384) :
    mid (iblk m c 0 t) R J = (db x0 T ⟨J.val / 64, by omega⟩ ⟨J.val % 64, by omega⟩ : EReal) := by
  refine (at0 m c t R T hT h _).trans (congrArg (fun J => (x0 (ix3 (0 : Fin 1) T J) : EReal)) (Fin.ext ?_))
  show 256 + J.val = 256 + (J.val / 64 * 64 + J.val % 64)
  omega

end
end Cert.CombineIdeal.Blocks
end
-- ==== Proof.CombineStore.lean ====
/- What the body leaves in its output blocks: the staged rows read back and stored in the strided layouts. -/
module

public import proofs.«01_k».proof.Proof.CombineBlock
public import proofs.«01_k».proof.Proof.Gen.CombineIdeal.Value
public import Idealize.ShloMosaic.Lib.Pipeline.ValueKit
public import Idealize.ShloMosaic.Lib.ValueIdx

@[expose] public section
noncomputable section
namespace Cert.CombineIdeal.Blocks
open Cert.CombineIdeal Cert.CombineIdeal.Gen Idealize.ShloMosaic Idealize.ShloMosaic.TcCoe Idealize.SL.Sem Cert.Lift Cert.Stage
open Idealize.ShloMosaic.Pipeline (Dat)

variable (m : (ℓ : Loc nD τ sig) → Buf (Elt Ideal) ℓ)

/-- The conversion of the stored gradients, which at ideal values is the identity. -/
abbrev half {s : Shape} (x : Vec Ideal s .f32) : s.Idx → Elt Ideal .bf16 := truncf (F := Ideal) .bf16 x bitsLt_bf16_f32

section
variable (x w : Vec Ideal S512x384 .f32) (f g : Fin 512 → Fin 384 → EReal) (hw : ∀ R κ, w (ix2 R κ) = f R κ) (hx : ∀ R κ, x (ix2 R κ) = g R κ)
  {sig' : RefSig} {κ' : Kind} {sp : Space} (v : View sig' κ' sp Planes .f32) (L : List (View.Piece (Elt Ideal) Planes .f32))
include hw hx

/-- The gradients of the outputs, of the branch of stride 4. -/
theorem st_13 : View.canon (gathers (d := 4) (n := 128) (e := .bf16) rfl half v
      (pl 2 (by decide) (k0_pay208 (F := Ideal) x w) :: pl 1 (by decide) (k0_pay207 (F := Ideal) x w) :: pl 0 (by decide) (k0_pay206 (F := Ideal) x w) :: L) 4 le_rfl)
    = fun y => laid (d := 4) (n := 128) rfl (fun R κ => f R κ * g R κ) y :=
  canon_three (d := 4) (n := 128) (e := .bf16) rfl half id (fun _ _ => rfl) v _ _ _ L (fun R κ => f R κ * g R κ)
    (fun R l => (r_206 x w R l).trans (congrArg₂ (fun p q : EReal => p * q) (hw R _) (hx R _)))
    (fun R l => (r_207 x w R l).trans (congrArg₂ (fun p q : EReal => p * q) (hw R _) (hx R _)))
    (fun R l => (r_208 x w R l).trans (congrArg₂ (fun p q : EReal => p * q) (hw R _) (hx R _)))

/-- The gradients of the outputs, of the branch of stride 16. -/
theorem st_14 : View.canon (gathers (d := 16) (n := 32) (e := .bf16) rfl half v
      (pl 2 (by decide) (k0_pay228 (F := Ideal) x w) :: pl 1 (by decide) (k0_pay227 (F := Ideal) x w) :: pl 0 (by decide) (k0_pay226 (F := Ideal) x w) :: L) 16 le_rfl)
    = fun y => laid (d := 16) (n := 32) rfl (fun R κ => f R κ * g R κ) y :=
  canon_three (d := 16) (n := 32) (e := .bf16) rfl half id (fun _ _ => rfl) v _ _ _ L (fun R κ => f R κ * g R κ)
    (fun R l => (r_226 x w R l).trans (congrArg₂ (fun p q : EReal => p * q) (hw R _) (hx R _)))
    (fun R l => (r_227 x w R l).trans (congrArg₂ (fun p q : EReal => p * q) (hw R _) (hx R _)))
    (fun R l => (r_228 x w R l).trans (congrArg₂ (fun p q : EReal => p * q) (hw R _) (hx R _)))

/-- The gradients of the log-sums, of the branch of stride 4. -/
theorem st_16 : View.canon (gathers (d := 4) (n := 128) (e := .f32) rfl (fun x => x) v
      (pl 2 (by decide) (k0_pay224 (F := Ideal) w x) :: pl 1 (by decide) (k0_pay223 (F := Ideal) w x) :: pl 0 (by decide) (k0_pay222 (F := Ideal) w x) :: L) 4 le_rfl)
    = fun y => laid (d := 4) (n := 128) rfl (fun R κ => f R κ * g R κ) y :=
  canon_three (d := 4) (n := 128) (e := .f32) rfl (fun x => x) id (fun _ _ => rfl) v _ _ _ L (fun R κ => f R κ * g R κ)
    (fun R l => (r_222 w x R l).trans (congrArg₂ (fun p q : EReal => p * q) (hw R _) (hx R _)))
    (fun R l => (r_223 w x R l).trans (congrArg₂ (fun p q : EReal => p * q) (hw R _) (hx R _)))
    (fun R l => (r_224 w x R l).trans (congrArg₂ (fun p q : EReal => p * q) (hw R _) (hx R _)))

/-- The gradients of the log-sums, of the branch of stride 16. -/
theorem st_17 : View.canon (gathers (d := 16) (n := 32) (e := .f32) rfl (fun x => x) v
      (pl 2 (by decide) (k0_pay281 (F := Ideal) (k0_pay277 w x)) :: pl 1 (by decide) (k0_pay280 (F := Ideal) (k0_pay277 w x))
        :: pl 0 (by decide) (k0_pay279 (F := Ideal) (k0_pay278 w x)) :: L) 16 le_rfl)
    = fun y => laid (d := 16) (n := 32) rfl (fun R κ => f R κ * g R κ) y :=
  canon_three (d := 16) (n := 32) (e := .f32) rfl (fun x => x) id (fun _ _ => rfl) v _ _ _ L (fun R κ => f R κ * g R κ)
    (fun R l => Eq.trans (by pointwise [k0_pay279, k0_pay278, k0_pay277]) (congrArg₂ (fun p q : EReal => p * q) (hw R ⟨l.val, by omega⟩) (hx R ⟨l.val, by omega⟩)))
    (fun R l => Eq.trans (by pointwise [k0_pay280, k0_pay277]) (congrArg₂ (fun p q : EReal => p * q) (hw R ⟨128 + l.val, by omega⟩) (hx R ⟨128 + l.val, by omega⟩)))
    (fun R l => Eq.trans (by pointwise [k0_pay281, k0_pay277]) (congrArg₂ (fun p q : EReal => p * q) (hw R ⟨256 + l.val, by omega⟩) (hx R ⟨256 + l.val, by omega⟩)))

end

/-- The gradients of the outputs, of the first branch. -/
theorem st_12 (x w : Vec Ideal S512x384 .f32) (f g : Fin 512 → Fin 384 → EReal) (hw : ∀ R κ, w (ix2 R κ) = f R κ) (hx : ∀ R κ, x (ix2 R κ) = g R κ)
    (R : Fin 512) (κ : Fin 384) : k0_pay203 (F := Ideal) x w (ix2 R κ) = f R κ * g R κ :=
  (r_203 x w R κ).trans (congrArg₂ (fun p q : EReal => p * q) (hw R κ) (hx R κ))

/-- The gradients of the log-sums, of the first branch. -/
theorem st_15 (w0 w1 w2 V0 V1 V2 : Vec Ideal S512x384 .f32) (f g : Fin 512 → Fin 384 → EReal) (hw : ∀ R κ, w0 (ix2 R κ) = f R κ)
    (hs : ∀ R κ, sums w0 w1 w2 V0 V1 V2 (ix2 R κ) = g R κ) (R : Fin 512) (κ : Fin 384) :
    k0_pay204 (F := Ideal) w0 w1 w2
      (k0_pay106 (k0_pay98 k0_pay94 k0_pay95 k0_pay96 k0_pay97) (k0_pay99 V0 k0_pay94 k0_pay95 k0_pay96 k0_pay97)
        (k0_pay100 V0 k0_pay94 k0_pay95 k0_pay96 k0_pay97) (k0_pay103 V0 k0_pay94 k0_pay95 k0_pay96 k0_pay97) (k0_pay104 V0) (k0_pay105 V0))
      (k0_pay128 V1 (k0_pay124 k0_pay123 (iota .tc S128x128 32 [1] iota_S128x128_d1_w32))
        (k0_pay125 V1 k0_pay123 (iota .tc S128x128 32 [1] iota_S128x128_d1_w32)) (k0_pay126 V1) k0_pay127)
      (k0_pay194 V2 same (FloatOps.ofBits .f32 1065353216#32) (FloatOps.ofBits .f32 0#32))
      (k0_pay195 V2 same (FloatOps.ofBits .f32 1065353216#32) (FloatOps.ofBits .f32 0#32))
      (k0_pay200 V2 same (FloatOps.ofBits .f32 1065353216#32) (FloatOps.ofBits .f32 0#32))
      (k0_pay201 V2 same (FloatOps.ofBits .f32 1065353216#32) (FloatOps.ofBits .f32 0#32)) (ix2 R κ) = f R κ * g R κ :=
  congrArg₂ (fun p q : EReal => p * q) (hw R κ) (hs R κ)

end Cert.CombineIdeal.Blocks
end
-- ==== Proof.CombineGate.lean ====
/- What the body leaves in the blocks of the gated attention's gradients and of the part that passes through. -/
module

public import proofs.«01_k».proof.Proof.CombineStore

@[expose] public section
noncomputable section
namespace Cert.CombineIdeal.Blocks
open Cert.CombineIdeal Cert.CombineIdeal.Gen Idealize.ShloMosaic Idealize.ShloMosaic.TcCoe Idealize.SL.Sem Cert.Lift Cert.Stage
open Idealize.ShloMosaic.Pipeline (Dat)

variable (m : (ℓ : Loc nD τ sig) → Buf (Elt Ideal) ℓ)

/-- The gate of a lane, as the body computes it. -/
def gte (a s : EReal) : EReal := Ideal.div 1 (1 + Ideal.exp (0 - (a - s)))

theorem gte_at (x2 : Vec Ideal S512x256 .f32) (x3 : Vec Ideal S1x256 .f32) (R : Fin 512) (j : Fin 256) :
    k0_pay4 (F := Ideal) x2 x3 (ix2 R j) = gte (x2 (ix2 R j)) (x3 (ix2 0 j)) := by
  pointwise [k0_pay4, gte]

/-- The first 256 lanes of the cotangent. -/
abbrev lo (x0 : Vec Ideal S512x1024 .f32) : Vec Ideal S512x256 .f32 := View.ld x0 (Rect.unit ![0, 0] ![512, 256] inb_S512x1024_S512x256_0_0)

theorem lo_at (x0 : Vec Ideal S512x1024 .f32) (R : Fin 512) (j : Fin 256) : lo x0 (ix2 R j) = x0 (ix2 R ⟨j.val, by omega⟩) := by
  pointwise [lo]

/-- The sums over the heads of the gated attention. -/
abbrev sm (x0 : Vec Ideal S512x1024 .f32) (x1 : Vec Ideal S512x256 .f32) : Vec Ideal S512x256 .f32 :=
  k0_pay12 (F := Ideal) (k0_pay6 (lo x0) x1) (k0_pay10 (iota .tc S128x128 32 [0] iota_S128x128_d0_w32) (64#32) k0_pay7 k0_pay8 k0_pay9) (k0_pay11 (k0_pay6 (lo x0) x1))

/-- A row's sums. -/
def smR (d o : Fin 256 → EReal) (j : Fin 256) : EReal := hs (by decide) (fun j => d j * o j) j

theorem sm_at (x0 : Vec Ideal S512x1024 .f32) (x1 : Vec Ideal S512x256 .f32) (R : Fin 512) (j : Fin 256) :
    sm x0 x1 (ix2 R j) = smR (fun j => x0 (ix2 R ⟨j.val, by omega⟩)) (fun j => x1 (ix2 R j)) j := by
  refine (sum_12 _ _ one_10 R j).trans ?_
  unfold smR
  refine congrArg (fun f => hs _ f j) (funext fun j => ?_)
  pointwise [k0_pay6, k0_pay1, lo]

theorem left10 (c : Dev nD) (t : Fin cfg0.N) : (outsAt0 m c t.val t.isLt).1 = fun y =>
    (show EReal from iblk m c 0 t (ix2 (y 0) ⟨(y 1).val, by have := (y 1).isLt; change _ < 256 at this; omega⟩)) * gte (iblk m c 2 t (ix2 (y 0) (y 1))) (iblk m c 3 t (ix2 0 (y 1))) := by
  by_cases h : t.val % 32 = 0
  case' pos => rw [outsAt0_A m c t h]
  case' neg => rw [outsAt0_B m c t h]
  all_goals
    frame_out
    funext y
    obtain ⟨R, j, rfl⟩ : ∃ (R : Fin 512) (j : Fin 256), y = ix2 R j := ⟨y 0, y 1, (ix2_eta y).symm⟩
    pointwise [k0_pay5, k0_pay1, gte_at]

theorem left11 (c : Dev nD) (t : Fin cfg0.N) : (outsAt0 m c t.val t.isLt).2.1 = fun y =>
    smR (fun j => iblk m c 0 t (ix2 (y 0) ⟨j.val, by omega⟩)) (fun j => iblk m c 1 t (ix2 (y 0) j)) (y 1) * gte (iblk m c 2 t (ix2 (y 0) (y 1))) (iblk m c 3 t (ix2 0 (y 1)))
    - smR (fun j => iblk m c 0 t (ix2 (y 0) ⟨j.val, by omega⟩)) (fun j => iblk m c 1 t (ix2 (y 0) j)) (y 1) * gte (iblk m c 2 t (ix2 (y 0) (y 1))) (iblk m c 3 t (ix2 0 (y 1)))
      * (1 - gte (iblk m c 2 t (ix2 (y 0) (y 1))) (iblk m c 3 t (ix2 0 (y 1)))) := by
  by_cases h : t.val % 32 = 0
  case' pos => rw [outsAt0_A m c t h]
  case' neg => rw [outsAt0_B m c t h]
  all_goals
    frame_out
    funext y
    obtain ⟨R, j, rfl⟩ : ∃ (R : Fin 512) (j : Fin 256), y = ix2 R j := ⟨y 0, y 1, (ix2_eta y).symm⟩
    pointwise [k0_pay14, k0_pay13, gte_at]
    refine congrArg₂ (fun a b : EReal => a * gte (iblk m c 2 t (ix2 R j)) (iblk m c 3 t (ix2 0 j)) - b * gte (iblk m c 2 t (ix2 R j)) (iblk m c 3 t (ix2 0 j)) * (1 - gte (iblk m c 2 t (ix2 R j)) (iblk m c 3 t (ix2 0 j)))) ?_ ?_ <;> exact sm_at (iblk m c 0 t) (iblk m c 1 t) R j

theorem left18 (c : Dev nD) (t : Fin cfg0.N) : (outsAt0 m c t.val t.isLt).2.2.2.2.2.2.2.2.1 = fun y => iblk m c 0 t (ix2 (y 0) ⟨640 + (y 1).val, by have := (y 1).isLt; change _ < 384 at this; omega⟩) := by
  by_cases h : t.val % 32 = 0
  case' pos => rw [outsAt0_A m c t h]
  case' neg => rw [outsAt0_B m c t h]
  all_goals
    frame_out
    funext y
    obtain ⟨R, j, rfl⟩ : ∃ (R : Fin 512) (j : Fin 384), y = ix2 R j := ⟨y 0, y 1, (ix2_eta y).symm⟩
    pointwise [k0_pay3]

end Cert.CombineIdeal.Blocks
end
-- ==== Proof.CombineReal.lean ====
/- The body's formulas at reals: a product with the matrix of ones is a sum over a head's lanes, and the weights are the reference's. -/
module

public import proofs.«01_k».proof.Proof.CombineGate
public import proofs.«01_k».proof.Proof.CombineRef

@[expose] public section
noncomputable section
namespace Cert.CombineIdeal.Blocks
open Cert.CombineIdeal Idealize.ShloMosaic Cert.Lift Cert.CombineMath
open Cert.CombineRefIdeal.Real (up db ls w3 u3 ub less dob da ua gt)

theorem hs3_real (f : Fin 128 → ℝ) (l : Fin 128) : hs3 (fun k => (f k : EReal)) l = ((∑ e : Fin 64, f ⟨l.val / 64 * 64 + e.val, by omega⟩ : ℝ) : EReal) := by
  have h0 : ∀ x : ℝ, (x : EReal) - (x : EReal) = 0 := fun x => by rw [← EReal.coe_sub, sub_self, EReal.coe_zero]
  unfold hs3
  simp only [h0, sub_zero, zero_mul, Finset.sum_const_zero, add_zero, one, mul_ite, mul_one, mul_zero, ite_self, Finset.sum_const_zero, add_zero]
  rw [← Finset.sum_filter, ← coe_sum]
  refine congrArg Real.toEReal ?_
  refine Finset.sum_nbij' (fun k => (⟨k.val % 64, Nat.mod_lt _ (by decide)⟩ : Fin 64)) (fun e => (⟨l.val / 64 * 64 + e.val, by omega⟩ : Fin 128))
    (fun _ _ => Finset.mem_univ _) (fun e _ => ?_) (fun k hk => ?_) (fun e _ => ?_) (fun k hk => ?_)
  · refine Finset.mem_filter.mpr ⟨Finset.mem_univ _, ?_⟩
    show (l.val / 64 * 64 + e.val) / 64 = l.val / 64
    omega
  · have h := (Finset.mem_filter.mp hk).2
    exact Fin.ext (by show l.val / 64 * 64 + k.val % 64 = k.val; omega)
  · exact Fin.ext (by show (l.val / 64 * 64 + e.val) % 64 = e.val; omega)
  · have h := (Finset.mem_filter.mp hk).2
    exact congrArg f (Fin.ext (by show k.val = l.val / 64 * 64 + k.val % 64; omega))

theorem hs_real {n : ℕ} (hn : 128 ∣ n) (f : Fin n → ℝ) (κ : Fin n) :
    hs hn (fun j => (f j : EReal)) κ = ((∑ e : Fin 64, f ⟨κ.val / 64 * 64 + e.val, by omega⟩ : ℝ) : EReal) := by
  unfold hs
  refine (hs3_real (fun k => f ⟨κ.val / 128 * 128 + k.val, by omega⟩) _).trans (congrArg Real.toEReal (Finset.sum_congr rfl fun e _ => congrArg f (Fin.ext ?_)))
  show κ.val / 128 * 128 + (κ.val % 128 / 64 * 64 + e.val) = κ.val / 64 * 64 + e.val
  omega

theorem gte_real (a s : ℝ) : gte (a : EReal) (s : EReal) = (gate (a - s) : EReal) := by
  unfold gte
  rw [zero_sub, ← EReal.coe_sub, ← EReal.coe_one]
  exact gate_real _

theorem wte_real (x a b c : ℝ) : wte (x : EReal) a b c = (wt x a b c : EReal) := wt_real x a b c

section
variable {x0 : S1x16384x1024.Idx → ℝ} {x1 : S1x16384x4x64.Idx → ℝ} {x2 : S1x16384x4.Idx → ℝ} {x3 : S4.Idx → ℝ}
  {x4 x5 x6 : S1x16384x6x64.Idx → ℝ} {x7 x8 x9 : S1x16384x6.Idx → ℝ} {T : Fin 16384}

/-- A head's sum of products, in the branches' lanes. -/
theorem hs_ub (d u : Fin 384 → EReal) (o : S1x16384x6x64.Idx → ℝ)
    (hd : ∀ J : Fin 384, d J = (db x0 T ⟨J.val / 64, by omega⟩ ⟨J.val % 64, by omega⟩ : EReal))
    (hu : ∀ J : Fin 384, u J = (o (ix4 (0 : Fin 1) T ⟨J.val / 64, by omega⟩ ⟨J.val % 64, by omega⟩) : EReal)) (κ : Fin 384) :
    hs (by decide) (fun j => d j * u j) κ = (ub x0 T o ⟨κ.val / 64, by omega⟩ : EReal) := by
  simp only [hd, hu, ← EReal.coe_mul]
  refine (hs_real _ (fun j => db x0 T ⟨j.val / 64, by omega⟩ ⟨j.val % 64, by omega⟩ * o (ix4 (0 : Fin 1) T ⟨j.val / 64, by omega⟩ ⟨j.val % 64, by omega⟩)) κ).trans ?_
  unfold ub
  refine congrArg Real.toEReal (Finset.sum_congr rfl fun e _ => ?_)
  rw [mul_comm]
  have h1 : (⟨(κ.val / 64 * 64 + e.val) / 64, by omega⟩ : Fin 6) = ⟨κ.val / 64, by omega⟩ := Fin.ext (by dsimp only; omega)
  have h2 : (⟨(κ.val / 64 * 64 + e.val) % 64, by omega⟩ : Fin 64) = e := Fin.ext (by dsimp only; omega)
  dsimp only
  rw [h1, h2]

/-- A head's sum of products, in the lanes of the attention with a sink. -/
theorem smR_real (d o : Fin 256 → EReal) (hd : ∀ J : Fin 256, d J = (x0 (ix3 (0 : Fin 1) T (⟨J.val, by omega⟩ : Fin 1024)) : EReal))
    (ho : ∀ J : Fin 256, o J = (x1 (ix4 (0 : Fin 1) T ⟨J.val / 64, by omega⟩ ⟨J.val % 64, by omega⟩) : EReal)) (κ : Fin 256) :
    smR d o κ = (ua x0 x1 T ⟨κ.val / 64, by omega⟩ : EReal) := by
  unfold smR
  simp only [hd, ho, ← EReal.coe_mul]
  refine (hs_real _ (fun j => x0 (ix3 (0 : Fin 1) T (⟨j.val, by omega⟩ : Fin 1024)) * x1 (ix4 (0 : Fin 1) T ⟨j.val / 64, by omega⟩ ⟨j.val % 64, by omega⟩)) κ).trans ?_
  unfold ua da
  refine congrArg Real.toEReal (Finset.sum_congr rfl fun e _ => ?_)
  rw [mul_comm]
  have h1 : (⟨(κ.val / 64 * 64 + e.val) / 64, by omega⟩ : Fin 4) = ⟨κ.val / 64, by omega⟩ := Fin.ext (by dsimp only; omega)
  have h2 : (⟨(κ.val / 64 * 64 + e.val) % 64, by omega⟩ : Fin 64) = e := Fin.ext (by dsimp only; omega)
  dsimp only
  rw [h1, h2]

theorem dobR_real (x d a b c : Fin 384 → EReal) (κ : Fin 384) (i : Fin 3) (hx : x κ = (ls T x7 x8 x9 ⟨κ.val / 64, by omega⟩ i : EReal))
    (hd : d κ = (db x0 T ⟨κ.val / 64, by omega⟩ ⟨κ.val % 64, by omega⟩ : EReal))
    (ha : a κ = (ls T x7 x8 x9 ⟨κ.val / 64, by omega⟩ 0 : EReal)) (hb : b κ = (ls T x7 x8 x9 ⟨κ.val / 64, by omega⟩ 1 : EReal))
    (hc : c κ = (ls T x7 x8 x9 ⟨κ.val / 64, by omega⟩ 2 : EReal)) : dobR x d a b c κ = (dob x0 x7 x8 x9 i T κ : EReal) := by
  unfold dobR
  rw [hx, hd, ha, hb, hc, wte_real, ← EReal.coe_mul, mul_comm]
  rfl

theorem dlbR_real (x d u v w a b c : Fin 384 → EReal) (κ : Fin 384) (i : Fin 3) (hx : x κ = (ls T x7 x8 x9 ⟨κ.val / 64, by omega⟩ i : EReal))
    (hd : ∀ J : Fin 384, d J = (db x0 T ⟨J.val / 64, by omega⟩ ⟨J.val % 64, by omega⟩ : EReal))
    (hu : ∀ J : Fin 384, u J = (x4 (ix4 (0 : Fin 1) T ⟨J.val / 64, by omega⟩ ⟨J.val % 64, by omega⟩) : EReal))
    (hv : ∀ J : Fin 384, v J = (x5 (ix4 (0 : Fin 1) T ⟨J.val / 64, by omega⟩ ⟨J.val % 64, by omega⟩) : EReal))
    (hw : ∀ J : Fin 384, w J = (x6 (ix4 (0 : Fin 1) T ⟨J.val / 64, by omega⟩ ⟨J.val % 64, by omega⟩) : EReal))
    (ha : a κ = (ls T x7 x8 x9 ⟨κ.val / 64, by omega⟩ 0 : EReal)) (hb : b κ = (ls T x7 x8 x9 ⟨κ.val / 64, by omega⟩ 1 : EReal))
    (hc : c κ = (ls T x7 x8 x9 ⟨κ.val / 64, by omega⟩ 2 : EReal)) :
    dlbR x d u v w a b c κ = (less x0 T x4 x5 x6 x7 x8 x9 ⟨κ.val / 64, by omega⟩ i : EReal) := by
  unfold dlbR lesR
  rw [hs_ub d u x4 hd hu, hs_ub d v x5 hd hv, hs_ub d w x6 hd hw, hx, ha, hb, hc, wte_real, wte_real, wte_real, wte_real]
  simp only [← EReal.coe_mul, ← EReal.coe_add]
  rfl

end
end Cert.CombineIdeal.Blocks
end
-- ==== Proof.CombineOut.lean ====
/- What the body leaves in the blocks of the gradients of the outputs. -/
module

public import proofs.«01_k».proof.Proof.CombineGate

@[expose] public section
noncomputable section
namespace Cert.CombineIdeal.Blocks
open Cert.CombineIdeal Cert.CombineIdeal.Gen Idealize.ShloMosaic Idealize.ShloMosaic.TcCoe Idealize.SL.Sem Cert.Lift Cert.Stage
open Idealize.ShloMosaic.Pipeline (Dat)

variable (m : (ℓ : Loc nD τ sig) → Buf (Elt Ideal) ℓ)

set_option maxHeartbeats 4000000 in
/-- The gradients of the first branch's outputs. -/
theorem left12 (c : Dev nD) (t : Fin cfg0.N) : (outsAt0 m c t.val t.isLt).2.2.1 = fun y => (fun R κ => dobR (rw1 (iblk m c 7 t) R) (mid (iblk m c 0 t) R) (rw1 (iblk m c 7 t) R) (rd4 (iblk m c 8 t) R) (rd16 (iblk m c 9 t) R) κ) (y 0) (y 1) := by
  by_cases h : t.val % 32 = 0
  case' pos => rw [outsAt0_A m c t h]
  case' neg => rw [outsAt0_B m c t h]
  all_goals
    generalize iblk m c 0 t = x0
    generalize iblk m c 1 t = x1
    generalize iblk m c 2 t = x2
    generalize iblk m c 3 t = x3
    generalize iblk m c 4 t = x4
    generalize iblk m c 5 t = x5
    generalize iblk m c 6 t = x6
    generalize iblk m c 7 t = x7
    generalize iblk m c 8 t = x8
    generalize iblk m c 9 t = x9
    frame_out
    funext y
    obtain ⟨R, κ, rfl⟩ : ∃ (R : Fin 512) (κ : Fin 384), y = ix2 R κ := ⟨y 0, y 1, (ix2_eta y).symm⟩
    refine st_12 (v3 x0) ?_ (fun R κ => wte (rw1 x7 R κ) (rw1 x7 R κ) (rd4 x8 R κ) (rd16 x9 R κ)) (mid x0) ?_ (v3_at x0) R κ
    · refine w_89 x7 _ _ _ _ _ _ (rd4 x8) (rd16 x9) (pl_4 x8 _ _ _ ?_ ?_ ?_) (pl_16 x9 _ _ _ ?_ ?_ ?_)
      · exact read_strips3 (d := 4) (n := 128) rfl (Memref.IsWhole.read_unread _ x8) _ 0 (by decide) _
      · exact read_strips3 (d := 4) (n := 128) rfl (Memref.IsWhole.read_unread _ x8) _ 1 (by decide) _
      · exact read_strips3 (d := 4) (n := 128) rfl (Memref.IsWhole.read_unread _ x8) _ 2 (by decide) _
      · exact read_strips2 (d := 16) (n := 32) rfl x9 _ 0 (by decide) _
      · exact read_strips2 (d := 16) (n := 32) rfl x9 _ 1 (by decide) _
      · exact read_strips2 (d := 16) (n := 32) rfl x9 _ 2 (by decide) _

set_option maxHeartbeats 4000000 in
/-- The gradients of the outputs of the branch of stride 4. -/
theorem left13 (c : Dev nD) (t : Fin cfg0.N) : (outsAt0 m c t.val t.isLt).2.2.2.1 = fun y => laid (d := 4) (n := 128) rfl
    (fun R κ => dobR (rd4 (iblk m c 8 t) R) (mid (iblk m c 0 t) R) (rw1 (iblk m c 7 t) R) (rd4 (iblk m c 8 t) R) (rd16 (iblk m c 9 t) R) κ) y := by
  by_cases h : t.val % 32 = 0
  case' pos => rw [outsAt0_A m c t h]
  case' neg => rw [outsAt0_B m c t h]
  all_goals
    generalize iblk m c 0 t = x0
    generalize iblk m c 1 t = x1
    generalize iblk m c 2 t = x2
    generalize iblk m c 3 t = x3
    generalize iblk m c 4 t = x4
    generalize iblk m c 5 t = x5
    generalize iblk m c 6 t = x6
    generalize iblk m c 7 t = x7
    generalize iblk m c 8 t = x8
    generalize iblk m c 9 t = x9
    frame_out
    refine Eq.trans (congrArg View.canon ?_) (st_13 (v3 x0) ?_ (fun R κ => wte (rd4 x8 R κ) (rw1 x7 R κ) (rd4 x8 R κ) (rd16 x9 R κ)) (mid x0) ?_ (v3_at x0) (View.whole cc0_scratch0) ?_)
    case refine_1 => rfl
    · refine w_90 x7 _ _ _ _ _ _ (rd4 x8) (rd16 x9) (pl_4 x8 _ _ _ ?_ ?_ ?_) (pl_16 x9 _ _ _ ?_ ?_ ?_)
      · exact read_strips3 (d := 4) (n := 128) rfl (Memref.IsWhole.read_unread _ x8) _ 0 (by decide) _
      · exact read_strips3 (d := 4) (n := 128) rfl (Memref.IsWhole.read_unread _ x8) _ 1 (by decide) _
      · exact read_strips3 (d := 4) (n := 128) rfl (Memref.IsWhole.read_unread _ x8) _ 2 (by decide) _
      · exact read_strips2 (d := 16) (n := 32) rfl x9 _ 0 (by decide) _
      · exact read_strips2 (d := 16) (n := 32) rfl x9 _ 1 (by decide) _
      · exact read_strips2 (d := 16) (n := 32) rfl x9 _ 2 (by decide) _

set_option maxHeartbeats 4000000 in
/-- The gradients of the outputs of the branch of stride 16. -/
theorem left14 (c : Dev nD) (t : Fin cfg0.N) : (outsAt0 m c t.val t.isLt).2.2.2.2.1 = fun y => laid (d := 16) (n := 32) rfl
    (fun R κ => dobR (rd16 (iblk m c 9 t) R) (mid (iblk m c 0 t) R) (rw1 (iblk m c 7 t) R) (rd4 (iblk m c 8 t) R) (rd16 (iblk m c 9 t) R) κ) y := by
  by_cases h : t.val % 32 = 0
  case' pos => rw [outsAt0_A m c t h]
  case' neg => rw [outsAt0_B m c t h]
  all_goals
    generalize iblk m c 0 t = x0
    generalize iblk m c 1 t = x1
    generalize iblk m c 2 t = x2
    generalize iblk m c 3 t = x3
    generalize iblk m c 4 t = x4
    generalize iblk m c 5 t = x5
    generalize iblk m c 6 t = x6
    generalize iblk m c 7 t = x7
    generalize iblk m c 8 t = x8
    generalize iblk m c 9 t = x9
    frame_out
    refine Eq.trans (congrArg View.canon ?_) (st_14 (v3 x0) ?_ (fun R κ => wte (rd16 x9 R κ) (rw1 x7 R κ) (rd4 x8 R κ) (rd16 x9 R κ)) (mid x0) ?_ (v3_at x0) (View.whole cc0_scratch0) ?_)
    case refine_1 => rfl
    · refine w_91 x7 _ _ _ _ _ _ (rd4 x8) (rd16 x9) (pl_4 x8 _ _ _ ?_ ?_ ?_) (pl_16 x9 _ _ _ ?_ ?_ ?_)
      · exact read_strips3 (d := 4) (n := 128) rfl (Memref.IsWhole.read_unread _ x8) _ 0 (by decide) _
      · exact read_strips3 (d := 4) (n := 128) rfl (Memref.IsWhole.read_unread _ x8) _ 1 (by decide) _
      · exact read_strips3 (d := 4) (n := 128) rfl (Memref.IsWhole.read_unread _ x8) _ 2 (by decide) _
      · exact read_strips2 (d := 16) (n := 32) rfl x9 _ 0 (by decide) _
      · exact read_strips2 (d := 16) (n := 32) rfl x9 _ 1 (by decide) _
      · exact read_strips2 (d := 16) (n := 32) rfl x9 _ 2 (by decide) _

end Cert.CombineIdeal.Blocks
end
-- ==== Proof.CombineLess.lean ====
/- What the body leaves in the blocks of what the branches' scores take away. -/
module

public import proofs.«01_k».proof.Proof.CombineStore

@[expose] public section
noncomputable section
namespace Cert.CombineIdeal.Blocks
open Cert.CombineIdeal Cert.CombineIdeal.Gen Idealize.ShloMosaic Idealize.ShloMosaic.TcCoe Idealize.SL.Sem Cert.Lift Cert.Stage
open Idealize.ShloMosaic.Pipeline (Dat)

variable (m : (ℓ : Loc nD τ sig) → Buf (Elt Ideal) ℓ)

set_option maxHeartbeats 4000000 in
/-- The gradients of the first branch's log-sums. -/
theorem left15 (c : Dev nD) (t : Fin cfg0.N) : (outsAt0 m c t.val t.isLt).2.2.2.2.2.1 = fun y => (fun R κ => dlbR (rw1 (iblk m c 7 t) R) (mid (iblk m c 0 t) R) (rw1 (iblk m c 4 t) R) (rd4 (iblk m c 5 t) R) (rd16 (iblk m c 6 t) R) (rw1 (iblk m c 7 t) R) (rd4 (iblk m c 8 t) R) (rd16 (iblk m c 9 t) R) κ) (y 0) (y 1) := by
  by_cases h : t.val % 32 = 0
  case' pos => rw [outsAt0_A m c t h]
  case' neg => rw [outsAt0_B m c t h]
  all_goals
    generalize iblk m c 0 t = x0
    generalize iblk m c 1 t = x1
    generalize iblk m c 2 t = x2
    generalize iblk m c 3 t = x3
    generalize iblk m c 4 t = x4
    generalize iblk m c 5 t = x5
    generalize iblk m c 6 t = x6
    generalize iblk m c 7 t = x7
    generalize iblk m c 8 t = x8
    generalize iblk m c 9 t = x9
    frame_out
    funext y
    obtain ⟨R, κ, rfl⟩ : ∃ (R : Fin 512) (κ : Fin 384), y = ix2 R κ := ⟨y 0, y 1, (ix2_eta y).symm⟩
    refine st_15 ?_ ?_ ?_ ?_ ?_ ?_ (fun R κ => wte (rw1 x7 R κ) (rw1 x7 R κ) (rd4 x8 R κ) (rd16 x9 R κ)) (fun R => lesR (mid x0 R) (rw1 x4 R) (rd4 x5 R) (rd16 x6 R) (rw1 x7 R) (rd4 x8 R) (rd16 x9 R)) ?_ ?_ R κ
    · refine w_89 x7 _ _ _ _ _ _ (rd4 x8) (rd16 x9) (pl_4 x8 _ _ _ ?_ ?_ ?_) (pl_16 x9 _ _ _ ?_ ?_ ?_)
      · exact read_strips3 (d := 4) (n := 128) rfl (Memref.IsWhole.read_unread _ x8) _ 0 (by decide) _
      · exact read_strips3 (d := 4) (n := 128) rfl (Memref.IsWhole.read_unread _ x8) _ 1 (by decide) _
      · exact read_strips3 (d := 4) (n := 128) rfl (Memref.IsWhole.read_unread _ x8) _ 2 (by decide) _
      · exact read_strips2 (d := 16) (n := 32) rfl x9 _ 0 (by decide) _
      · exact read_strips2 (d := 16) (n := 32) rfl x9 _ 1 (by decide) _
      · exact read_strips2 (d := 16) (n := 32) rfl x9 _ 2 (by decide) _
    · refine sums_blk x0 x4 x7 _ _ _ _ _ _ _ _ _ _ _ _ (rd4 x8) (rd16 x9) (rd4 x5) (rd16 x6) (pl_4 x8 _ _ _ ?_ ?_ ?_) (pl_16 x9 _ _ _ ?_ ?_ ?_) (pl_4 x5 _ _ _ ?_ ?_ ?_) (pl_16 x6 _ _ _ ?_ ?_ ?_)
      · exact read_strips3 (d := 4) (n := 128) rfl (Memref.IsWhole.read_unread _ x8) _ 0 (by decide) _
      · exact read_strips3 (d := 4) (n := 128) rfl (Memref.IsWhole.read_unread _ x8) _ 1 (by decide) _
      · exact read_strips3 (d := 4) (n := 128) rfl (Memref.IsWhole.read_unread _ x8) _ 2 (by decide) _
      · exact read_strips2 (d := 16) (n := 32) rfl x9 _ 0 (by decide) _
      · exact read_strips2 (d := 16) (n := 32) rfl x9 _ 1 (by decide) _
      · exact read_strips2 (d := 16) (n := 32) rfl x9 _ 2 (by decide) _
      · exact read_strips2 (d := 4) (n := 128) rfl x5 _ 0 (by decide) _
      · exact read_strips2 (d := 4) (n := 128) rfl x5 _ 1 (by decide) _
      · exact read_strips2 (d := 4) (n := 128) rfl x5 _ 2 (by decide) _
      · exact read_strips2 (d := 16) (n := 32) rfl x6 _ 0 (by decide) _
      · exact read_strips2 (d := 16) (n := 32) rfl x6 _ 1 (by decide) _
      · exact read_strips2 (d := 16) (n := 32) rfl x6 _ 2 (by decide) _

set_option maxHeartbeats 4000000 in
/-- The gradients of the log-sums of the branch of stride 4. -/
theorem left16 (c : Dev nD) (t : Fin cfg0.N) : (outsAt0 m c t.val t.isLt).2.2.2.2.2.2.1 = fun y => laid (d := 4) (n := 128) rfl
    (fun R κ => dlbR (rd4 (iblk m c 8 t) R) (mid (iblk m c 0 t) R) (rw1 (iblk m c 4 t) R) (rd4 (iblk m c 5 t) R) (rd16 (iblk m c 6 t) R) (rw1 (iblk m c 7 t) R) (rd4 (iblk m c 8 t) R) (rd16 (iblk m c 9 t) R) κ) y := by
  by_cases h : t.val % 32 = 0
  case' pos => rw [outsAt0_A m c t h]
  case' neg => rw [outsAt0_B m c t h]
  all_goals
    generalize iblk m c 0 t = x0
    generalize iblk m c 1 t = x1
    generalize iblk m c 2 t = x2
    generalize iblk m c 3 t = x3
    generalize iblk m c 4 t = x4
    generalize iblk m c 5 t = x5
    generalize iblk m c 6 t = x6
    generalize iblk m c 7 t = x7
    generalize iblk m c 8 t = x8
    generalize iblk m c 9 t = x9
    frame_out
    refine Eq.trans (congrArg View.canon ?_) (st_16 ?_ ?_ (fun R κ => wte (rd4 x8 R κ) (rw1 x7 R κ) (rd4 x8 R κ) (rd16 x9 R κ)) (fun R => lesR (mid x0 R) (rw1 x4 R) (rd4 x5 R) (rd16 x6 R) (rw1 x7 R) (rd4 x8 R) (rd16 x9 R)) ?_ ?_ (View.whole cc0_scratch0) ?_)
    case refine_1 => rfl
    · refine w_90 x7 _ _ _ _ _ _ (rd4 x8) (rd16 x9) (pl_4 x8 _ _ _ ?_ ?_ ?_) (pl_16 x9 _ _ _ ?_ ?_ ?_)
      · exact read_strips3 (d := 4) (n := 128) rfl (Memref.IsWhole.read_unread _ x8) _ 0 (by decide) _
      · exact read_strips3 (d := 4) (n := 128) rfl (Memref.IsWhole.read_unread _ x8) _ 1 (by decide) _
      · exact read_strips3 (d := 4) (n := 128) rfl (Memref.IsWhole.read_unread _ x8) _ 2 (by decide) _
      · exact read_strips2 (d := 16) (n := 32) rfl x9 _ 0 (by decide) _
      · exact read_strips2 (d := 16) (n := 32) rfl x9 _ 1 (by decide) _
      · exact read_strips2 (d := 16) (n := 32) rfl x9 _ 2 (by decide) _
    · refine sums_blk x0 x4 x7 _ _ _ _ _ _ _ _ _ _ _ _ (rd4 x8) (rd16 x9) (rd4 x5) (rd16 x6) (pl_4 x8 _ _ _ ?_ ?_ ?_) (pl_16 x9 _ _ _ ?_ ?_ ?_) (pl_4 x5 _ _ _ ?_ ?_ ?_) (pl_16 x6 _ _ _ ?_ ?_ ?_)
      · exact read_strips3 (d := 4) (n := 128) rfl (Memref.IsWhole.read_unread _ x8) _ 0 (by decide) _
      · exact read_strips3 (d := 4) (n := 128) rfl (Memref.IsWhole.read_unread _ x8) _ 1 (by decide) _
      · exact read_strips3 (d := 4) (n := 128) rfl (Memref.IsWhole.read_unread _ x8) _ 2 (by decide) _
      · exact read_strips2 (d := 16) (n := 32) rfl x9 _ 0 (by decide) _
      · exact read_strips2 (d := 16) (n := 32) rfl x9 _ 1 (by decide) _
      · exact read_strips2 (d := 16) (n := 32) rfl x9 _ 2 (by decide) _
      · exact read_strips2 (d := 4) (n := 128) rfl x5 _ 0 (by decide) _
      · exact read_strips2 (d := 4) (n := 128) rfl x5 _ 1 (by decide) _
      · exact read_strips2 (d := 4) (n := 128) rfl x5 _ 2 (by decide) _
      · exact read_strips2 (d := 16) (n := 32) rfl x6 _ 0 (by decide) _
      · exact read_strips2 (d := 16) (n := 32) rfl x6 _ 1 (by decide) _
      · exact read_strips2 (d := 16) (n := 32) rfl x6 _ 2 (by decide) _

set_option maxHeartbeats 4000000 in
/-- The gradients of the log-sums of the branch of stride 16. -/
theorem left17 (c : Dev nD) (t : Fin cfg0.N) : (outsAt0 m c t.val t.isLt).2.2.2.2.2.2.2.1 = fun y => laid (d := 16) (n := 32) rfl
    (fun R κ => dlbR (rd16 (iblk m c 9 t) R) (mid (iblk m c 0 t) R) (rw1 (iblk m c 4 t) R) (rd4 (iblk m c 5 t) R) (rd16 (iblk m c 6 t) R) (rw1 (iblk m c 7 t) R) (rd4 (iblk m c 8 t) R) (rd16 (iblk m c 9 t) R) κ) y := by
  by_cases h : t.val % 32 = 0
  case' pos => rw [outsAt0_A m c t h]
  case' neg => rw [outsAt0_B m c t h]
  all_goals
    generalize iblk m c 0 t = x0
    generalize iblk m c 1 t = x1
    generalize iblk m c 2 t = x2
    generalize iblk m c 3 t = x3
    generalize iblk m c 4 t = x4
    generalize iblk m c 5 t = x5
    generalize iblk m c 6 t = x6
    generalize iblk m c 7 t = x7
    generalize iblk m c 8 t = x8
    generalize iblk m c 9 t = x9
    frame_out
    refine Eq.trans (congrArg View.canon ?_) (st_17 ?_ ?_ (fun R κ => wte (rd16 x9 R κ) (rw1 x7 R κ) (rd4 x8 R κ) (rd16 x9 R κ)) (fun R => lesR (mid x0 R) (rw1 x4 R) (rd4 x5 R) (rd16 x6 R) (rw1 x7 R) (rd4 x8 R) (rd16 x9 R)) ?_ ?_ (View.whole cc0_scratch0) ?_)
    case refine_1 => rfl
    · refine w_91 x7 _ _ _ _ _ _ (rd4 x8) (rd16 x9) (pl_4 x8 _ _ _ ?_ ?_ ?_) (pl_16 x9 _ _ _ ?_ ?_ ?_)
      · exact read_strips3 (d := 4) (n := 128) rfl (Memref.IsWhole.read_unread _ x8) _ 0 (by decide) _
      · exact read_strips3 (d := 4) (n := 128) rfl (Memref.IsWhole.read_unread _ x8) _ 1 (by decide) _
      · exact read_strips3 (d := 4) (n := 128) rfl (Memref.IsWhole.read_unread _ x8) _ 2 (by decide) _
      · exact read_strips2 (d := 16) (n := 32) rfl x9 _ 0 (by decide) _
      · exact read_strips2 (d := 16) (n := 32) rfl x9 _ 1 (by decide) _
      · exact read_strips2 (d := 16) (n := 32) rfl x9 _ 2 (by decide) _
    · refine sums_blk x0 x4 x7 _ _ _ _ _ _ _ _ _ _ _ _ (rd4 x8) (rd16 x9) (rd4 x5) (rd16 x6) (pl_4 x8 _ _ _ ?_ ?_ ?_) (pl_16 x9 _ _ _ ?_ ?_ ?_) (pl_4 x5 _ _ _ ?_ ?_ ?_) (pl_16 x6 _ _ _ ?_ ?_ ?_)
      · exact read_strips3 (d := 4) (n := 128) rfl (Memref.IsWhole.read_unread _ x8) _ 0 (by decide) _
      · exact read_strips3 (d := 4) (n := 128) rfl (Memref.IsWhole.read_unread _ x8) _ 1 (by decide) _
      · exact read_strips3 (d := 4) (n := 128) rfl (Memref.IsWhole.read_unread _ x8) _ 2 (by decide) _
      · exact read_strips2 (d := 16) (n := 32) rfl x9 _ 0 (by decide) _
      · exact read_strips2 (d := 16) (n := 32) rfl x9 _ 1 (by decide) _
      · exact read_strips2 (d := 16) (n := 32) rfl x9 _ 2 (by decide) _
      · exact read_strips2 (d := 4) (n := 128) rfl x5 _ 0 (by decide) _
      · exact read_strips2 (d := 4) (n := 128) rfl x5 _ 1 (by decide) _
      · exact read_strips2 (d := 4) (n := 128) rfl x5 _ 2 (by decide) _
      · exact read_strips2 (d := 16) (n := 32) rfl x6 _ 0 (by decide) _
      · exact read_strips2 (d := 16) (n := 32) rfl x6 _ 1 (by decide) _
      · exact read_strips2 (d := 16) (n := 32) rfl x6 _ 2 (by decide) _

end Cert.CombineIdeal.Blocks
end
-- ==== Proof.CombineKernel.lean ====
/- What the call leaves in its result arrays at real arguments. -/
module

public import proofs.«01_k».proof.Proof.CombineLeaf
public import proofs.«01_k».proof.Proof.CombineReal
public import proofs.«01_k».proof.Proof.CombineOut
public import proofs.«01_k».proof.Proof.CombineLess

@[expose] public section
noncomputable section
namespace Cert.CombineIdeal.Blocks
open Cert.CombineIdeal Cert.CombineIdeal.Gen Idealize.ShloMosaic Idealize.ShloMosaic.TcCoe Idealize.SL.Sem Cert.Lift Cert.Stage Cert.CombineMath
open Idealize.ShloMosaic.Pipeline (Dat)
open Cert.CombineRefIdeal.Real (up db ls less dob da ua gt tok)

variable (m : (ℓ : Loc nD τ sig) → Buf (Elt Ideal) ℓ) (c : Dev nD)
variable (x0 : S1x16384x1024.Idx → ℝ) (x1 : S1x16384x4x64.Idx → ℝ) (x2 : S1x16384x4.Idx → ℝ) (x3 : S4.Idx → ℝ)
  (x4 x5 x6 : S1x16384x6x64.Idx → ℝ) (x7 x8 x9 : S1x16384x6.Idx → ℝ)
theorem idx10 : ∀ t : Fin cfg0.N, win0_10.index t = ![t.val, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![t.val, 0] := (by decide +kernel : ∀ t : Fin grid0.N, _)
theorem idx13 : ∀ t : Fin cfg0.N, win0_13.index t = ![t.val, 0] := (by decide +kernel : ∀ t : Fin grid0.N, _)
theorem idx14 : ∀ t : Fin cfg0.N, win0_14.index t = ![t.val, 0] := (by decide +kernel : ∀ t : Fin grid0.N, _)
theorem idx15 : ∀ t : Fin cfg0.N, win0_15.index t = ![t.val, 0] := (by decide +kernel : ∀ t : Fin grid0.N, _)
theorem idx16 : ∀ t : Fin cfg0.N, win0_16.index t = ![t.val, 0] := (by decide +kernel : ∀ t : Fin grid0.N, _)
theorem idx17 : ∀ t : Fin cfg0.N, win0_17.index t = ![t.val, 0] := (by decide +kernel : ∀ t : Fin grid0.N, _)
theorem idx18 : ∀ t : Fin cfg0.N, win0_18.index t = ![t.val, 0] := (by decide +kernel : ∀ t : Fin grid0.N, _)

/-- The gradient of the attention with a sink. -/
def gA (R : Fin 16384) (J : Fin 256) : ℝ := da x0 R ⟨J.val / 64, by omega⟩ ⟨J.val % 64, by omega⟩ * gt x2 x3 R ⟨J.val / 64, by omega⟩
/-- The gradient of the sink's difference. -/
def gS (R : Fin 16384) (J : Fin 256) : ℝ :=
  ua x0 x1 R ⟨J.val / 64, by omega⟩ * (gt x2 x3 R ⟨J.val / 64, by omega⟩ * (1 - gt x2 x3 R ⟨J.val / 64, by omega⟩))
/-- What the rows of the scores of the attention with a sink take away. -/
def gL (R : Fin 16384) (J : Fin 256) : ℝ := ua x0 x1 R ⟨J.val / 64, by omega⟩ * gt x2 x3 R ⟨J.val / 64, by omega⟩ - gS x0 x1 x2 x3 R J

section
/-- A place of a strided block, by its row and lane. -/
theorem laid_at {d n : ℕ} (h : n * d = 512) {α : Type} (V : Fin 512 → Fin 384 → α) (y : (⟨2, ![n, d * 384]⟩ : Shape).Idx) (R : Fin 512) (κ : Fin 384)
    (hR : R.val = (y 0).val * d + (y 1).val / 384) (hκ : κ.val = (y 1).val % 384) : laid h V y = V R κ :=
  congrArg₂ V (Fin.ext hR.symm) (Fin.ext hκ.symm)

/-- The head of a lane. -/
abbrev hd6 (L : Fin 384) : Fin 6 := ⟨L.val / 64, by omega⟩
/-- The lane of a place of a row that holds several tokens. -/
abbrev ln {n : ℕ} (J : Fin n) : Fin 384 := ⟨J.val % 384, Nat.mod_lt _ (by decide)⟩
variable (e0 : m ((c.tc : Thread nD τ).loc main_arg0) = up x0) (e1 : m ((c.tc : Thread nD τ).loc main_arg1) = up x1) (e2 : m ((c.tc : Thread nD τ).loc main_arg2) = up x2) (e3 : m ((c.tc : Thread nD τ).loc main_arg3) = up x3) (e4 : m ((c.tc : Thread nD τ).loc main_arg4) = up x4) (e5 : m ((c.tc : Thread nD τ).loc main_arg5) = up x5) (e6 : m ((c.tc : Thread nD τ).loc main_arg6) = up x6) (e7 : m ((c.tc : Thread nD τ).loc main_arg7) = up x7) (e8 : m ((c.tc : Thread nD τ).loc main_arg8) = up x8) (e9 : m ((c.tc : Thread nD τ).loc main_arg9) = up x9)

include e0 e2 e3 in
theorem arr10 : (dats m 0 c).arrAt 10 cfg0.N = fun i : S16384x256.Idx => (gA x0 x2 x3 (i 0) (i 1) : EReal) := by
  refine (dats m 0 c).arrAt_eq_of_covers 10 _ (by decide +kernel) fun t hf y => ?_
  blk_simp
  rw [after0_10, left10]
  obtain ⟨R, j, rfl⟩ : ∃ (R : Fin 512) (j : Fin 256), y = ix2 R j := ⟨y 0, y 1, (ix2_eta y).symm⟩
  obtain ⟨T, J, hi⟩ : ∃ (T : Fin 16384) (J : Fin 256), (win0_10.blk t).view.emb (ix2 R j) = ix2 T J := ⟨_, _, (ix2_eta _).symm⟩
  have hT : T.val = t.val * 512 + R.val := (congrArg (fun i : S16384x256.Idx => (i 0).val) hi).symm.trans (by blk_point [idx10])
  obtain rfl : J = j := Fin.ext ((congrArg (fun i : S16384x256.Idx => (i 1).val) hi).symm.trans (by blk_point [idx10]))
  refine Eq.trans ?_ (congrArg (fun i : S16384x256.Idx => (gA x0 x2 x3 (i 0) (i 1) : EReal)) hi).symm
  refine (congrArg₂ (fun a b : EReal => a * b) (at0 m c t R T hT e0 _) ((congrArg₂ gte (at2 m c t R T hT e2 _) (at3 m c t e3 _)).trans (gte_real _ _))).trans ?_
  rw [← EReal.coe_mul]
  refine congrArg (fun a : ℝ => ((a * _ : ℝ) : EReal)) (congrArg x0 (congrArg (ix3 (0 : Fin 1) T) (Fin.ext ?_)))
  show J.val = J.val / 64 * 64 + J.val % 64
  omega

include e0 e1 e2 e3 in
theorem arr11 : (dats m 0 c).arrAt 11 cfg0.N = fun i : S16384x256.Idx => (gL x0 x1 x2 x3 (i 0) (i 1) : EReal) := by
  refine (dats m 0 c).arrAt_eq_of_covers 11 _ (by decide +kernel) fun t hf y => ?_
  blk_simp
  rw [after0_11, left11]
  obtain ⟨R, j, rfl⟩ : ∃ (R : Fin 512) (j : Fin 256), y = ix2 R j := ⟨y 0, y 1, (ix2_eta y).symm⟩
  obtain ⟨T, J, hi⟩ : ∃ (T : Fin 16384) (J : Fin 256), (win0_11.blk t).view.emb (ix2 R j) = ix2 T J := ⟨_, _, (ix2_eta _).symm⟩
  have hT : T.val = t.val * 512 + R.val := (congrArg (fun i : S16384x256.Idx => (i 0).val) hi).symm.trans (by blk_point [idx11])
  obtain rfl : J = j := Fin.ext ((congrArg (fun i : S16384x256.Idx => (i 1).val) hi).symm.trans (by blk_point [idx11]))
  refine Eq.trans ?_ (congrArg (fun i : S16384x256.Idx => (gL x0 x1 x2 x3 (i 0) (i 1) : EReal)) hi).symm
  refine (congrArg₂ (fun a b : EReal => a * b - a * b * (1 - b)) (smR_real _ _ (fun J => at0 m c t R T hT e0 _) (fun J => at1 m c t R T hT e1 _) J)
    ((congrArg₂ gte (at2 m c t R T hT e2 _) (at3 m c t e3 _)).trans (gte_real _ _))).trans ?_
  rw [← EReal.coe_mul, ← EReal.coe_one, ← EReal.coe_sub, ← EReal.coe_mul, ← EReal.coe_sub, mul_assoc]
  rfl

include e0 e7 e8 e9 in
theorem arr12 : (dats m 0 c).arrAt 12 cfg0.N = fun i : S16384x384.Idx => (dob x0 x7 x8 x9 0 (i 0) (i 1) : EReal) := by
  refine (dats m 0 c).arrAt_eq_of_covers 12 _ (by decide +kernel) fun t hf y => ?_
  blk_simp
  rw [after0_12, left12]
  obtain ⟨R, j, rfl⟩ : ∃ (R : Fin 512) (j : Fin 384), y = ix2 R j := ⟨y 0, y 1, (ix2_eta y).symm⟩
  obtain ⟨T, J, hi⟩ : ∃ (T : Fin 16384) (J : Fin 384), (win0_12.blk t).view.emb (ix2 R j) = ix2 T J := ⟨_, _, (ix2_eta _).symm⟩
  have hT : T.val = t.val * 512 + R.val := (congrArg (fun i : S16384x384.Idx => (i 0).val) hi).symm.trans (by blk_point [idx12])
  obtain rfl : J = j := Fin.ext ((congrArg (fun i : S16384x384.Idx => (i 1).val) hi).symm.trans (by blk_point [idx12]))
  refine Eq.trans ?_ (congrArg (fun i : S16384x384.Idx => (dob x0 x7 x8 x9 0 (i 0) (i 1) : EReal)) hi).symm
  exact dobR_real _ _ _ _ _ J 0 (at7 m c t R T hT e7 _) (atm m c t R T hT e0 _) (at7 m c t R T hT e7 _) (at8 m c t R T hT e8 _) (at9 m c t R T hT e9 _)

include e0 e7 e8 e9 in
theorem arr13 : (dats m 0 c).arrAt 13 cfg0.N = fun i : S4096x1536.Idx => (dob x0 x7 x8 x9 1 (tok 4096 4 rfl (i 0) (i 1)) (ln (i 1)) : EReal) := by
  refine (dats m 0 c).arrAt_eq_of_covers 13 _ (by decide +kernel) fun t hf y => ?_
  blk_simp
  rw [after0_13, left13]
  obtain ⟨b, j, rfl⟩ : ∃ (b : Fin 128) (j : Fin 1536), y = ix2 b j := ⟨y 0, y 1, (ix2_eta y).symm⟩
  obtain ⟨B, J, hi⟩ : ∃ (B : Fin 4096) (J : Fin 1536), (win0_13.blk t).view.emb (ix2 b j) = ix2 B J := ⟨_, _, (ix2_eta _).symm⟩
  have hB : B.val = t.val * 128 + b.val := (congrArg (fun i : S4096x1536.Idx => (i 0).val) hi).symm.trans (by blk_point [idx13])
  obtain rfl : J = j := Fin.ext ((congrArg (fun i : S4096x1536.Idx => (i 1).val) hi).symm.trans (by blk_point [idx13]))
  refine Eq.trans ?_ (congrArg (fun i : S4096x1536.Idx => (dob x0 x7 x8 x9 1 (tok 4096 4 rfl (i 0) (i 1)) (ln (i 1)) : EReal)) hi).symm
  obtain ⟨R, hR⟩ : ∃ R : Fin 512, R.val = b.val * 4 + J.val / 384 := ⟨⟨b.val * 4 + J.val / 384, by omega⟩, rfl⟩
  obtain ⟨T, hT'⟩ : ∃ T : Fin 16384, T = tok 4096 4 rfl B J := ⟨_, rfl⟩
  have hT : T.val = t.val * 512 + R.val := by
    rw [hT']
    show B.val * 4 + J.val / 384 = _
    omega
  refine (laid_at (d := 4) (n := 128) rfl _ (ix2 b J) R (ln J) hR rfl).trans (Eq.trans ?_ (congrArg (fun T => (dob x0 x7 x8 x9 1 T (ln J) : EReal)) hT'))
  exact dobR_real _ _ _ _ _ (ln J) 1 (at8 m c t R T hT e8 _) (atm m c t R T hT e0 _) (at7 m c t R T hT e7 _) (at8 m c t R T hT e8 _) (at9 m c t R T hT e9 _)

include e0 e7 e8 e9 in
theorem arr14 : (dats m 0 c).arrAt 14 cfg0.N = fun i : S1024x6144.Idx => (dob x0 x7 x8 x9 2 (tok 1024 16 rfl (i 0) (i 1)) (ln (i 1)) : EReal) := by
  refine (dats m 0 c).arrAt_eq_of_covers 14 _ (by decide +kernel) fun t hf y => ?_
  blk_simp
  rw [after0_14, left14]
  obtain ⟨b, j, rfl⟩ : ∃ (b : Fin 32) (j : Fin 6144), y = ix2 b j := ⟨y 0, y 1, (ix2_eta y).symm⟩
  obtain ⟨B, J, hi⟩ : ∃ (B : Fin 1024) (J : Fin 6144), (win0_14.blk t).view.emb (ix2 b j) = ix2 B J := ⟨_, _, (ix2_eta _).symm⟩
  have hB : B.val = t.val * 32 + b.val := (congrArg (fun i : S1024x6144.Idx => (i 0).val) hi).symm.trans (by blk_point [idx14])
  obtain rfl : J = j := Fin.ext ((congrArg (fun i : S1024x6144.Idx => (i 1).val) hi).symm.trans (by blk_point [idx14]))
  refine Eq.trans ?_ (congrArg (fun i : S1024x6144.Idx => (dob x0 x7 x8 x9 2 (tok 1024 16 rfl (i 0) (i 1)) (ln (i 1)) : EReal)) hi).symm
  obtain ⟨R, hR⟩ : ∃ R : Fin 512, R.val = b.val * 16 + J.val / 384 := ⟨⟨b.val * 16 + J.val / 384, by omega⟩, rfl⟩
  obtain ⟨T, hT'⟩ : ∃ T : Fin 16384, T = tok 1024 16 rfl B J := ⟨_, rfl⟩
  have hT : T.val = t.val * 512 + R.val := by
    rw [hT']
    show B.val * 16 + J.val / 384 = _
    omega
  refine (laid_at (d := 16) (n := 32) rfl _ (ix2 b J) R (ln J) hR rfl).trans (Eq.trans ?_ (congrArg (fun T => (dob x0 x7 x8 x9 2 T (ln J) : EReal)) hT'))
  exact dobR_real _ _ _ _ _ (ln J) 2 (at9 m c t R T hT e9 _) (atm m c t R T hT e0 _) (at7 m c t R T hT e7 _) (at8 m c t R T hT e8 _) (at9 m c t R T hT e9 _)

include e0 e4 e5 e6 e7 e8 e9 in
theorem arr15 : (dats m 0 c).arrAt 15 cfg0.N = fun i : S16384x384.Idx => (less x0 (i 0) x4 x5 x6 x7 x8 x9 (hd6 (i 1)) 0 : EReal) := by
  refine (dats m 0 c).arrAt_eq_of_covers 15 _ (by decide +kernel) fun t hf y => ?_
  blk_simp
  rw [after0_15, left15]
  obtain ⟨R, j, rfl⟩ : ∃ (R : Fin 512) (j : Fin 384), y = ix2 R j := ⟨y 0, y 1, (ix2_eta y).symm⟩
  obtain ⟨T, J, hi⟩ : ∃ (T : Fin 16384) (J : Fin 384), (win0_15.blk t).view.emb (ix2 R j) = ix2 T J := ⟨_, _, (ix2_eta _).symm⟩
  have hT : T.val = t.val * 512 + R.val := (congrArg (fun i : S16384x384.Idx => (i 0).val) hi).symm.trans (by blk_point [idx15])
  obtain rfl : J = j := Fin.ext ((congrArg (fun i : S16384x384.Idx => (i 1).val) hi).symm.trans (by blk_point [idx15]))
  refine Eq.trans ?_ (congrArg (fun i : S16384x384.Idx => (less x0 (i 0) x4 x5 x6 x7 x8 x9 (hd6 (i 1)) 0 : EReal)) hi).symm
  exact dlbR_real _ _ _ _ _ _ _ _ J 0 (at7 m c t R T hT e7 _) (fun J => atm m c t R T hT e0 _) (fun J => at4 m c t R T hT e4 _) (fun J => at5 m c t R T hT e5 _) (fun J => at6 m c t R T hT e6 _) (at7 m c t R T hT e7 _) (at8 m c t R T hT e8 _) (at9 m c t R T hT e9 _)

include e0 e4 e5 e6 e7 e8 e9 in
theorem arr16 : (dats m 0 c).arrAt 16 cfg0.N = fun i : S4096x1536.Idx => (less x0 (tok 4096 4 rfl (i 0) (i 1)) x4 x5 x6 x7 x8 x9 (hd6 (ln (i 1))) 1 : EReal) := by
  refine (dats m 0 c).arrAt_eq_of_covers 16 _ (by decide +kernel) fun t hf y => ?_
  blk_simp
  rw [after0_16, left16]
  obtain ⟨b, j, rfl⟩ : ∃ (b : Fin 128) (j : Fin 1536), y = ix2 b j := ⟨y 0, y 1, (ix2_eta y).symm⟩
  obtain ⟨B, J, hi⟩ : ∃ (B : Fin 4096) (J : Fin 1536), (win0_16.blk t).view.emb (ix2 b j) = ix2 B J := ⟨_, _, (ix2_eta _).symm⟩
  have hB : B.val = t.val * 128 + b.val := (congrArg (fun i : S4096x1536.Idx => (i 0).val) hi).symm.trans (by blk_point [idx16])
  obtain rfl : J = j := Fin.ext ((congrArg (fun i : S4096x1536.Idx => (i 1).val) hi).symm.trans (by blk_point [idx16]))
  refine Eq.trans ?_ (congrArg (fun i : S4096x1536.Idx => (less x0 (tok 4096 4 rfl (i 0) (i 1)) x4 x5 x6 x7 x8 x9 (hd6 (ln (i 1))) 1 : EReal)) hi).symm
  obtain ⟨R, hR⟩ : ∃ R : Fin 512, R.val = b.val * 4 + J.val / 384 := ⟨⟨b.val * 4 + J.val / 384, by omega⟩, rfl⟩
  obtain ⟨T, hT'⟩ : ∃ T : Fin 16384, T = tok 4096 4 rfl B J := ⟨_, rfl⟩
  have hT : T.val = t.val * 512 + R.val := by
    rw [hT']
    show B.val * 4 + J.val / 384 = _
    omega
  refine (laid_at (d := 4) (n := 128) rfl _ (ix2 b J) R (ln J) hR rfl).trans (Eq.trans ?_ (congrArg (fun T => (less x0 T x4 x5 x6 x7 x8 x9 (hd6 (ln J)) 1 : EReal)) hT'))
  exact dlbR_real _ _ _ _ _ _ _ _ (ln J) 1 (at8 m c t R T hT e8 _) (fun J => atm m c t R T hT e0 _) (fun J => at4 m c t R T hT e4 _) (fun J => at5 m c t R T hT e5 _) (fun J => at6 m c t R T hT e6 _) (at7 m c t R T hT e7 _) (at8 m c t R T hT e8 _) (at9 m c t R T hT e9 _)

include e0 e4 e5 e6 e7 e8 e9 in
theorem arr17 : (dats m 0 c).arrAt 17 cfg0.N = fun i : S1024x6144.Idx => (less x0 (tok 1024 16 rfl (i 0) (i 1)) x4 x5 x6 x7 x8 x9 (hd6 (ln (i 1))) 2 : EReal) := by
  refine (dats m 0 c).arrAt_eq_of_covers 17 _ (by decide +kernel) fun t hf y => ?_
  blk_simp
  rw [after0_17, left17]
  obtain ⟨b, j, rfl⟩ : ∃ (b : Fin 32) (j : Fin 6144), y = ix2 b j := ⟨y 0, y 1, (ix2_eta y).symm⟩
  obtain ⟨B, J, hi⟩ : ∃ (B : Fin 1024) (J : Fin 6144), (win0_17.blk t).view.emb (ix2 b j) = ix2 B J := ⟨_, _, (ix2_eta _).symm⟩
  have hB : B.val = t.val * 32 + b.val := (congrArg (fun i : S1024x6144.Idx => (i 0).val) hi).symm.trans (by blk_point [idx17])
  obtain rfl : J = j := Fin.ext ((congrArg (fun i : S1024x6144.Idx => (i 1).val) hi).symm.trans (by blk_point [idx17]))
  refine Eq.trans ?_ (congrArg (fun i : S1024x6144.Idx => (less x0 (tok 1024 16 rfl (i 0) (i 1)) x4 x5 x6 x7 x8 x9 (hd6 (ln (i 1))) 2 : EReal)) hi).symm
  obtain ⟨R, hR⟩ : ∃ R : Fin 512, R.val = b.val * 16 + J.val / 384 := ⟨⟨b.val * 16 + J.val / 384, by omega⟩, rfl⟩
  obtain ⟨T, hT'⟩ : ∃ T : Fin 16384, T = tok 1024 16 rfl B J := ⟨_, rfl⟩
  have hT : T.val = t.val * 512 + R.val := by
    rw [hT']
    show B.val * 16 + J.val / 384 = _
    omega
  refine (laid_at (d := 16) (n := 32) rfl _ (ix2 b J) R (ln J) hR rfl).trans (Eq.trans ?_ (congrArg (fun T => (less x0 T x4 x5 x6 x7 x8 x9 (hd6 (ln J)) 2 : EReal)) hT'))
  exact dlbR_real _ _ _ _ _ _ _ _ (ln J) 2 (at9 m c t R T hT e9 _) (fun J => atm m c t R T hT e0 _) (fun J => at4 m c t R T hT e4 _) (fun J => at5 m c t R T hT e5 _) (fun J => at6 m c t R T hT e6 _) (at7 m c t R T hT e7 _) (at8 m c t R T hT e8 _) (at9 m c t R T hT e9 _)

/-- The lane that passes through. -/
abbrev up18 (J : Fin 384) : Fin 1024 := ⟨640 + J.val, by omega⟩
include e0 in
theorem arr18 : (dats m 0 c).arrAt 18 cfg0.N = fun i : S16384x384.Idx => (x0 (ix3 (0 : Fin 1) (i 0) (up18 (i 1))) : EReal) := by
  refine (dats m 0 c).arrAt_eq_of_covers 18 _ (by decide +kernel) fun t hf y => ?_
  blk_simp
  rw [after0_18, left18]
  obtain ⟨R, j, rfl⟩ : ∃ (R : Fin 512) (j : Fin 384), y = ix2 R j := ⟨y 0, y 1, (ix2_eta y).symm⟩
  obtain ⟨T, J, hi⟩ : ∃ (T : Fin 16384) (J : Fin 384), (win0_18.blk t).view.emb (ix2 R j) = ix2 T J := ⟨_, _, (ix2_eta _).symm⟩
  have hT : T.val = t.val * 512 + R.val := (congrArg (fun i : S16384x384.Idx => (i 0).val) hi).symm.trans (by blk_point [idx18])
  obtain rfl : J = j := Fin.ext ((congrArg (fun i : S16384x384.Idx => (i 1).val) hi).symm.trans (by blk_point [idx18]))
  refine Eq.trans ?_ (congrArg (fun i : S16384x384.Idx => (x0 (ix3 (0 : Fin 1) (i 0) (up18 (i 1))) : EReal)) hi).symm
  exact at0 m c t R T hT e0 _

def tL : Fin cfg0.N := ⟨31, by decide⟩

/-- One row's part of the sink's gradient, on extended reals. -/
def dsE (t : Fin cfg0.N) (R : Fin 512) (j : Fin 256) : EReal :=
  smR (fun j => iblk m c 0 t (ix2 R ⟨j.val, by omega⟩)) (fun j => iblk m c 1 t (ix2 R j)) j * gte (iblk m c 2 t (ix2 R j)) (iblk m c 3 t (ix2 0 j))
    * (1 - gte (iblk m c 2 t (ix2 R j)) (iblk m c 3 t (ix2 0 j)))

theorem ds_at (t : Fin cfg0.N) (R : Fin 512) (j : Fin 256) :
    k0_pay13 (F := Ideal) (k0_pay4 (iblk m c 2 t) (iblk m c 3 t)) (k0_pay6 (lo (iblk m c 0 t)) (iblk m c 1 t))
      (k0_pay10 (iota .tc S128x128 32 [0] iota_S128x128_d0_w32) (64#32) k0_pay7 k0_pay8 k0_pay9) (k0_pay11 (k0_pay6 (lo (iblk m c 0 t)) (iblk m c 1 t))) (ix2 R j) = dsE m c t R j := by
  unfold dsE
  pointwise [k0_pay13, gte_at]
  exact congrArg (fun a : EReal => a * gte (iblk m c 2 t (ix2 R j)) (iblk m c 3 t (ix2 0 j)) * (1 - gte (iblk m c 2 t (ix2 R j)) (iblk m c 3 t (ix2 0 j)))) (sm_at (iblk m c 0 t) (iblk m c 1 t) R j)

include e0 e1 e2 e3 in
/-- The sink's block after the last point: the rows of all the points. -/
theorem acc19 (j : S1x256.Idx) : (dats m 0 c).after 19 tL j = ((∑ R : Fin 16384, -(gS x0 x1 x2 x3 R (j 1)) : ℝ) : EReal) := by
  rw [after0_19]
  rw [Pipeline.eq_sum_fin_of_reset_step_apply_last (fun n h => (outsAt0 m c n h).2.2.2.2.2.2.2.2.2) 32 (fun _ => 0)
      (fun t j => -(∑ r : Fin 512, k0_pay13 (F := Ideal) (k0_pay4 (iblk m c 2 t) (iblk m c 3 t)) (k0_pay6 (lo (iblk m c 0 t)) (iblk m c 1 t))
        (k0_pay10 (iota .tc S128x128 32 [0] iota_S128x128_d0_w32) (64#32) k0_pay7 k0_pay8 k0_pay9) (k0_pay11 (k0_pay6 (lo (iblk m c 0 t)) (iblk m c 1 t))) (ix2 r (j 1))))
      (fun t h j => by rw [outsAt0_A m c t h]; frame_out; pointwise [k0_pay17, k0_pay16, k0_pay15, sub_eq_add_neg])
      (fun t h j => by rw [outsAt0_B m c t h]; frame_out; pointwise [k0_pay17, k0_pay16, sub_eq_add_neg])
      (le_of_eq N_0) tL rfl, zero_add]
  have hk : ∀ (t : Fin cfg0.N) (r : Fin 512) (T : Fin 16384), T.val = t.val * 512 + r.val → dsE m c t r (j 1) = ((gS x0 x1 x2 x3 T (j 1) : ℝ) : EReal) := by
    intro t R T hT
    refine (congrArg₂ (fun a b : EReal => a * b * (1 - b)) (smR_real _ _ (fun J => at0 m c t R T hT e0 _) (fun J => at1 m c t R T hT e1 _) (j 1))
      ((congrArg₂ gte (at2 m c t R T hT e2 _) (at3 m c t e3 _)).trans (gte_real _ _))).trans ?_
    rw [← EReal.coe_mul, ← EReal.coe_one, ← EReal.coe_sub, ← EReal.coe_mul, mul_assoc]
    rfl
  refine (Finset.sum_congr rfl fun t _ => congrArg Neg.neg (Finset.sum_congr rfl fun r _ => (ds_at m c t r (j 1)).trans (hk t r (⟨t.val * 512 + r.val, (by have := lt_of_lt_of_le t.isLt (le_of_eq N_0); omega)⟩ : Fin 16384) rfl))).trans ?_
  simp only [← coe_sum, ← EReal.coe_neg, ← Finset.sum_neg_distrib]
  exact congrArg Real.toEReal (Fin.sum_mul_add_fin 32 512 (fun R : Fin 16384 => -(gS x0 x1 x2 x3 R (j 1))))

include e0 e1 e2 e3 in
theorem arr19 : (dats m 0 c).arrAt 19 cfg0.N = fun i : S1x256.Idx => ((∑ R : Fin 16384, -(gS x0 x1 x2 x3 R (i 1)) : ℝ) : EReal) := by
  refine (dats m 0 c).arrAt_eq_of_after_last 19 tL (by decide +kernel) _ fun j => ?_
  exact acc19 m c x0 x1 x2 x3 e0 e1 e2 e3 j

end
end Cert.CombineIdeal.Blocks
end
-- ==== Proof.CombineEq.lean ====
/- The backward pass of the merge of the three attention branches and of the attention with a sink: the transposed forward pass computes
   what the kernel computes, for finite arguments. -/
module

public import proofs.«01_k».proof.Defs
public import proofs.«01_k».proof.Proof.CombineKernel
public import proofs.«01_k».proof.Proof.CombineRef
public import proofs.«01_k».proof.Proof.Gen.Pre_combine_finite
public import proofs.«01_k».proof.Proof.Gen.CombineIdeal
public import proofs.«01_k».proof.Proof.Gen.CombineRefIdeal

@[expose] public section

noncomputable section

namespace Cert.CombineIdeal.Eq

open Idealize.ShloMosaic Idealize.ShloMosaic.TcCoe Idealize.SL.Sem Cert.Lift Cert.CombineIdeal.Blocks
open Cert.CombineRefIdeal.Read Cert.CombineRefIdeal.Real
open Cert.Pre_combine_finite (S1x16384x1024 S1x16384x4x64 S1x16384x4 S4 S1x16384x6x64 S1x16384x6)

/-- The precondition says that the arguments are arrays of reals. -/
theorem finite [Cert.Pre_combine_finite.Facts] (d : FVec Ideal S1x16384x1024 .f32) (o : FVec Ideal S1x16384x4x64 .f32) (l : FVec Ideal S1x16384x4 .f32)
    (s : FVec Ideal S4 .f32) (o0 o1 o2 : FVec Ideal S1x16384x6x64 .f32) (l0 l1 l2 : FVec Ideal S1x16384x6 .f32)
    (h : Cert.Pre_combine_finite.fn d o l s o0 o1 o2 l0 l1 l2 = fun _ => 1#1) :
    (∃ X, d = up X) ∧ (∃ X, o = up X) ∧ (∃ X, l = up X) ∧ (∃ X, s = up X) ∧ (∃ X, o0 = up X) ∧ (∃ X, o1 = up X) ∧ (∃ X, o2 = up X)
      ∧ (∃ X, l0 = up X) ∧ (∃ X, l1 = up X) ∧ ∃ X, l2 = up X := by
  obtain ⟨h, k9⟩ := IntOp.andi_eq_one.mp (congrFun h ix0)
  obtain ⟨h, k8⟩ := IntOp.andi_eq_one.mp h
  obtain ⟨h, k7⟩ := IntOp.andi_eq_one.mp h
  obtain ⟨h, k6⟩ := IntOp.andi_eq_one.mp h
  obtain ⟨h, k5⟩ := IntOp.andi_eq_one.mp h
  obtain ⟨h, k4⟩ := IntOp.andi_eq_one.mp h
  obtain ⟨h, k3⟩ := IntOp.andi_eq_one.mp h
  obtain ⟨h, k2⟩ := IntOp.andi_eq_one.mp h
  obtain ⟨h, k1⟩ := IntOp.andi_eq_one.mp h
  exact ⟨reals fun i => Host.reduce_andi_all _ _ _ _ _ h i,
    reals fun i => Host.reduce_andi_all _ _ _ _ _ k1 i,
    reals fun i => Host.reduce_andi_all _ _ _ _ _ k2 i,
    reals fun i => Host.reduce_andi_all _ _ _ _ _ k3 i,
    reals fun i => Host.reduce_andi_all _ _ _ _ _ k4 i,
    reals fun i => Host.reduce_andi_all _ _ _ _ _ k5 i,
    reals fun i => Host.reduce_andi_all _ _ _ _ _ k6 i,
    reals fun i => Host.reduce_andi_all _ _ _ _ _ k7 i,
    reals fun i => Host.reduce_andi_all _ _ _ _ _ k8 i,
    reals fun i => Host.reduce_andi_all _ _ _ _ _ k9 i⟩

section
variable (m : (ℓ : Loc Cert.CombineIdeal.nD τ Cert.CombineIdeal.sig) → Buf (Elt Ideal) ℓ) (c : Dev Cert.CombineIdeal.nD)
variable (x0 : S1x16384x1024.Idx → ℝ) (x1 : S1x16384x4x64.Idx → ℝ) (x2 : S1x16384x4.Idx → ℝ) (x3 : S4.Idx → ℝ)
  (x4 x5 x6 : S1x16384x6x64.Idx → ℝ) (x7 x8 x9 : S1x16384x6.Idx → ℝ)

/- The results of the transposed pass, as the kernel's arrays are given. -/
theorem ref143 : val_main_v143 (F := Ideal) (up x0) (up x2) (up x3) = fun i : S16384x256.Idx => (gA x0 x2 x3 (i 0) (i 1) : EReal) := by
  funext i
  obtain ⟨R, J, rfl⟩ : ∃ (R : Fin 16384) (J : Fin 256), i = ix2 R J := ⟨i 0, i 1, (ix2_eta i).symm⟩
  exact v143_at x0 x2 x3 R J

theorem ref149 : val_main_v149 (F := Ideal) (up x0) (up x1) (up x2) (up x3) = fun i : S16384x256.Idx => (gL x0 x1 x2 x3 (i 0) (i 1) : EReal) := by
  funext i
  obtain ⟨R, J, rfl⟩ : ∃ (R : Fin 16384) (J : Fin 256), i = ix2 R J := ⟨i 0, i 1, (ix2_eta i).symm⟩
  exact v149_at x0 x1 x2 x3 R J

theorem ref119 : val_main_v119 (F := Ideal) (up x0) (up x7) (up x8) (up x9) = fun i : S16384x384.Idx => (dob x0 x7 x8 x9 0 (i 0) (i 1) : EReal) := by
  funext i
  obtain ⟨R, J, rfl⟩ : ∃ (R : Fin 16384) (J : Fin 384), i = ix2 R J := ⟨i 0, i 1, (ix2_eta i).symm⟩
  exact v119_at x0 x7 x8 x9 R J

theorem ref121 : val_main_v121 (F := Ideal) (up x0) (up x7) (up x8) (up x9) = fun i : S4096x1536.Idx => (dob x0 x7 x8 x9 1 (tok 4096 4 rfl (i 0) (i 1)) (ln (i 1)) : EReal) := by
  funext i
  obtain ⟨R, J, rfl⟩ : ∃ (R : Fin 4096) (J : Fin 1536), i = ix2 R J := ⟨i 0, i 1, (ix2_eta i).symm⟩
  exact v121_at x0 x7 x8 x9 R J

theorem ref123 : val_main_v123 (F := Ideal) (up x0) (up x7) (up x8) (up x9) = fun i : S1024x6144.Idx => (dob x0 x7 x8 x9 2 (tok 1024 16 rfl (i 0) (i 1)) (ln (i 1)) : EReal) := by
  funext i
  obtain ⟨R, J, rfl⟩ : ∃ (R : Fin 1024) (J : Fin 6144), i = ix2 R J := ⟨i 0, i 1, (ix2_eta i).symm⟩
  exact v123_at x0 x7 x8 x9 R J

theorem ref129 : val_main_v129 (F := Ideal) (up x0) (up x4) (up x5) (up x6) (up x7) (up x8) (up x9) = fun i : S16384x384.Idx => (less x0 (i 0) x4 x5 x6 x7 x8 x9 (hd6 (i 1)) 0 : EReal) := by
  funext i
  obtain ⟨R, J, rfl⟩ : ∃ (R : Fin 16384) (J : Fin 384), i = ix2 R J := ⟨i 0, i 1, (ix2_eta i).symm⟩
  exact v129_at x0 x4 x5 x6 x7 x8 x9 R J

theorem ref135 : val_main_v135 (F := Ideal) (up x0) (up x4) (up x5) (up x6) (up x7) (up x8) (up x9) = fun i : S4096x1536.Idx => (less x0 (tok 4096 4 rfl (i 0) (i 1)) x4 x5 x6 x7 x8 x9 (hd6 (ln (i 1))) 1 : EReal) := by
  funext i
  obtain ⟨R, J, rfl⟩ : ∃ (R : Fin 4096) (J : Fin 1536), i = ix2 R J := ⟨i 0, i 1, (ix2_eta i).symm⟩
  exact v135_at x0 x4 x5 x6 x7 x8 x9 R J

theorem ref141 : val_main_v141 (F := Ideal) (up x0) (up x4) (up x5) (up x6) (up x7) (up x8) (up x9) = fun i : S1024x6144.Idx => (less x0 (tok 1024 16 rfl (i 0) (i 1)) x4 x5 x6 x7 x8 x9 (hd6 (ln (i 1))) 2 : EReal) := by
  funext i
  obtain ⟨R, J, rfl⟩ : ∃ (R : Fin 1024) (J : Fin 6144), i = ix2 R J := ⟨i 0, i 1, (ix2_eta i).symm⟩
  exact v141_at x0 x4 x5 x6 x7 x8 x9 R J

theorem ref150 : val_main_v150 (F := Ideal) (up x0) = fun i : S16384x384.Idx => (x0 (ix3 (0 : Fin 1) (i 0) (up18 (i 1))) : EReal) := by
  funext i
  obtain ⟨R, J, rfl⟩ : ∃ (R : Fin 16384) (J : Fin 384), i = ix2 R J := ⟨i 0, i 1, (ix2_eta i).symm⟩
  exact v150_at x0 R J

theorem ref153 : val_main_v153 (F := Ideal) (up x0) (up x1) (up x2) (up x3) = fun i : S1x256.Idx => ((∑ R : Fin 16384, -(gS x0 x1 x2 x3 R (i 1)) : ℝ) : EReal) := by
  funext i
  obtain ⟨R, J, rfl⟩ : ∃ (R : Fin 1) (J : Fin 256), i = ix2 R J := ⟨i 0, i 1, (ix2_eta i).symm⟩
  obtain rfl : R = 0 := Subsingleton.elim _ _
  exact v153_at x0 x1 x2 x3 J

end

set_option maxHeartbeats 2000000 in
/-- The claim about the backward pass of the merge of the branches. -/
theorem algebraic : algebraic_CombineIdeal_CombineRefIdeal_pre_combine_finite := by
  intro m g m' g' hp hm
  refine ⟨_, _, _, _, _, _, _, _, _, _, Cert.CombineIdeal.Value.run_blocks m g, ?_⟩
  refine (θ_run Cert.CombineRefIdeal.defs _ _).mono (fun r h c => ?_) (Cert.CombineRefIdeal.Value.run m' g')
  obtain ⟨q0, q1, q2, q3, q4, q5, q6, q7, q8, q9⟩ := hm c
  obtain ⟨⟨x0, k0⟩, ⟨x1, k1⟩, ⟨x2, k2⟩, ⟨x3, k3⟩, ⟨x4, k4⟩, ⟨x5, k5⟩, ⟨x6, k6⟩, ⟨x7, k7⟩, ⟨x8, k8⟩, ⟨x9, k9⟩⟩ := finite _ _ _ _ _ _ _ _ _ _ (hp c)
  have e0 : StableHlo.launchContents m' c (Proc.devRef .tc Cert.CombineRefIdeal.main_arg0) = up x0 := q0.trans k0
  have e1 : StableHlo.launchContents m' c (Proc.devRef .tc Cert.CombineRefIdeal.main_arg1) = up x1 := q1.trans k1
  have e2 : StableHlo.launchContents m' c (Proc.devRef .tc Cert.CombineRefIdeal.main_arg2) = up x2 := q2.trans k2
  have e3 : StableHlo.launchContents m' c (Proc.devRef .tc Cert.CombineRefIdeal.main_arg3) = up x3 := q3.trans k3
  have e4 : StableHlo.launchContents m' c (Proc.devRef .tc Cert.CombineRefIdeal.main_arg4) = up x4 := q4.trans k4
  have e5 : StableHlo.launchContents m' c (Proc.devRef .tc Cert.CombineRefIdeal.main_arg5) = up x5 := q5.trans k5
  have e6 : StableHlo.launchContents m' c (Proc.devRef .tc Cert.CombineRefIdeal.main_arg6) = up x6 := q6.trans k6
  have e7 : StableHlo.launchContents m' c (Proc.devRef .tc Cert.CombineRefIdeal.main_arg7) = up x7 := q7.trans k7
  have e8 : StableHlo.launchContents m' c (Proc.devRef .tc Cert.CombineRefIdeal.main_arg8) = up x8 := q8.trans k8
  have e9 : StableHlo.launchContents m' c (Proc.devRef .tc Cert.CombineRefIdeal.main_arg9) = up x9 := q9.trans k9
  obtain ⟨h143, h149, h119, h121, h123, h129, h135, h141, h150, h153, rest⟩ := h c
  refine ⟨?_, ?_, ?_, ?_, ?_, ?_, ?_, ?_, ?_, ?_, rest⟩
  · rw [h143, val_main_v143_eq, e0, e2, e3, ref143 x0 x2 x3]
    exact (arr10 m c x0 x2 x3 k0 k2 k3).symm
  · rw [h149, val_main_v149_eq, e0, e1, e2, e3, ref149 x0 x1 x2 x3]
    exact (arr11 m c x0 x1 x2 x3 k0 k1 k2 k3).symm
  · rw [h119, val_main_v119_eq, e0, e7, e8, e9, ref119 x0 x7 x8 x9]
    exact (arr12 m c x0 x7 x8 x9 k0 k7 k8 k9).symm
  · rw [h121, val_main_v121_eq, e0, e7, e8, e9, ref121 x0 x7 x8 x9]
    exact (arr13 m c x0 x7 x8 x9 k0 k7 k8 k9).symm
  · rw [h123, val_main_v123_eq, e0, e7, e8, e9, ref123 x0 x7 x8 x9]
    exact (arr14 m c x0 x7 x8 x9 k0 k7 k8 k9).symm
  · rw [h129, val_main_v129_eq, e0, e4, e5, e6, e7, e8, e9, ref129 x0 x4 x5 x6 x7 x8 x9]
    exact (arr15 m c x0 x4 x5 x6 x7 x8 x9 k0 k4 k5 k6 k7 k8 k9).symm
  · rw [h135, val_main_v135_eq, e0, e4, e5, e6, e7, e8, e9, ref135 x0 x4 x5 x6 x7 x8 x9]
    exact (arr16 m c x0 x4 x5 x6 x7 x8 x9 k0 k4 k5 k6 k7 k8 k9).symm
  · rw [h141, val_main_v141_eq, e0, e4, e5, e6, e7, e8, e9, ref141 x0 x4 x5 x6 x7 x8 x9]
    exact (arr17 m c x0 x4 x5 x6 x7 x8 x9 k0 k4 k5 k6 k7 k8 k9).symm
  · rw [h150, val_main_v150_eq, e0, ref150 x0]
    exact (arr18 m c x0 k0).symm
  · rw [h153, val_main_v153_eq, e0, e1, e2, e3, ref153 x0 x1 x2 x3]
    exact (arr19 m c x0 x1 x2 x3 k0 k1 k2 k3).symm

end Cert.CombineIdeal.Eq

end
-- ==== Proof.lean ====
module

public import proofs.«01_k».proof.Defs
public import proofs.«01_k».proof.Proof.Gen.RmsBwd.Frame
public import proofs.«01_k».proof.Proof.Gen.RmsBwdIdeal.Frame
public import proofs.«01_k».proof.Proof.RmsEq
public import proofs.«01_k».proof.Proof.Gen.LossHead.Frame
public import proofs.«01_k».proof.Proof.Gen.LossHeadIdeal.Frame
public import proofs.«01_k».proof.Proof.LossEq
public import proofs.«01_k».proof.Proof.Gen.Ffn.Frame
public import proofs.«01_k».proof.Proof.Gen.FfnIdeal.Frame
public import proofs.«01_k».proof.Proof.FfnEq
public import proofs.«01_k».proof.Proof.Gen.Attn.Frame
public import proofs.«01_k».proof.Proof.Gen.AttnIdeal.Frame
public import proofs.«01_k».proof.Proof.AttnEq
public import proofs.«01_k».proof.Proof.Gen.Merge.Frame
public import proofs.«01_k».proof.Proof.Gen.MergeIdeal.Frame
public import proofs.«01_k».proof.Proof.MergeEq
public import proofs.«01_k».proof.Proof.Gen.Combine.Frame
public import proofs.«01_k».proof.Proof.Gen.CombineIdeal.Frame
public import proofs.«01_k».proof.Proof.CombineEq
public import Idealize.ShloMosaic.Adequacy
public import Idealize.ShloMosaic.Init

@[expose] public section

noncomputable section

namespace Cert.Proof

open Idealize.ShloMosaic Idealize.SL.Sem

theorem frame_RmsBwdRefIdeal : Cert.quiescent_RmsBwdRefIdeal := fun m g _ =>
  (θ_run Cert.RmsBwdRefIdeal.defs _ _).mono (fun r h => ⟨fun c => (h c).2.2, sem_eq_zero_of_no_sems (by decide) r.2⟩) (Cert.RmsBwdRefIdeal.Value.run m g)

theorem frame_LossRefIdeal : Cert.quiescent_LossRefIdeal := fun m g _ =>
  (θ_run Cert.LossRefIdeal.defs _ _).mono (fun r h => ⟨fun c => (h c).2.2.2, sem_eq_zero_of_no_sems (by decide) r.2⟩) (Cert.LossRefIdeal.Value.run m g)

theorem frame_FfnRefIdeal : Cert.quiescent_FfnRefIdeal := fun m g _ =>
  (θ_run Cert.FfnRefIdeal.defs _ _).mono (fun r h => ⟨fun c => (h c).2.2.2.2.2.2.2, sem_eq_zero_of_no_sems (by decide) r.2⟩) (Cert.FfnRefIdeal.Value.run m g)

theorem frame_AttnRefIdeal : Cert.quiescent_AttnRefIdeal := fun m g _ =>
  (θ_run Cert.AttnRefIdeal.defs _ _).mono (fun r h => ⟨fun c => (h c).2.2.2.2.2, sem_eq_zero_of_no_sems (by decide) r.2⟩) (Cert.AttnRefIdeal.Value.run m g)

theorem frame_MergeRefIdeal : Cert.quiescent_MergeRefIdeal := fun m g _ =>
  (θ_run Cert.MergeRefIdeal.defs _ _).mono (fun r h => ⟨fun c => (h c).2, sem_eq_zero_of_no_sems (by decide) r.2⟩) (Cert.MergeRefIdeal.Value.run m g)

theorem frame_CombineRefIdeal : Cert.quiescent_CombineRefIdeal := fun m g _ =>
  (θ_run Cert.CombineRefIdeal.defs _ _).mono (fun r h => ⟨fun c => (h c).2.2.2.2.2.2.2.2.2.2, sem_eq_zero_of_no_sems (by decide) r.2⟩) (Cert.CombineRefIdeal.Value.run m g)

theorem claim : Cert.Claim :=
  ⟨Cert.RmsBwd.Gen.facts, Cert.RmsBwdIdeal.Gen.facts, Cert.RmsBwdRefIdeal.Gen.facts, Cert.LossHead.Gen.facts, Cert.LossHeadIdeal.Gen.facts, Cert.LossRefIdeal.Gen.facts, Cert.Ffn.Gen.facts, Cert.FfnIdeal.Gen.facts, Cert.FfnRefIdeal.Gen.facts, Cert.Attn.Gen.facts, Cert.AttnIdeal.Gen.facts, Cert.AttnRefIdeal.Gen.facts, Cert.Merge.Gen.facts, Cert.MergeIdeal.Gen.facts, Cert.MergeRefIdeal.Gen.facts, Cert.Combine.Gen.facts, Cert.CombineIdeal.Gen.facts, Cert.CombineRefIdeal.Gen.facts, Cert.Pre_rms_finite.Gen.facts, Cert.Pre_loss_finite.Gen.facts, Cert.Pre_ffn_finite.Gen.facts, Cert.Pre_attn_finite.Gen.facts, Cert.Pre_combine_finite.Gen.facts,
    fun m ρ _ => Cert.RmsBwd.Gen.frame m ρ,
    fun m ρ _ => Cert.RmsBwdIdeal.Gen.frame m ρ,
    fun m ρ _ => Cert.RmsBwdIdeal.Gen.frame m ρ,
    frame_RmsBwdRefIdeal,
    fun m g _ => frame_RmsBwdRefIdeal m g trivial,
    fun m ρ _ => Cert.LossHead.Gen.frame m ρ,
    fun m ρ _ => Cert.LossHeadIdeal.Gen.frame m ρ,
    fun m ρ _ => Cert.LossHeadIdeal.Gen.frame m ρ,
    frame_LossRefIdeal,
    fun m g _ => frame_LossRefIdeal m g trivial,
    fun m ρ _ => Cert.Ffn.Gen.frame m ρ,
    fun m ρ _ => Cert.FfnIdeal.Gen.frame m ρ,
    fun m ρ _ => Cert.FfnIdeal.Gen.frame m ρ,
    frame_FfnRefIdeal,
    fun m g _ => frame_FfnRefIdeal m g trivial,
    fun m ρ _ => Cert.Attn.Gen.frame m ρ,
    fun m ρ _ => Cert.AttnIdeal.Gen.frame m ρ,
    fun m ρ _ => Cert.AttnIdeal.Gen.frame m ρ,
    frame_AttnRefIdeal,
    fun m g _ => frame_AttnRefIdeal m g trivial,
    fun m ρ _ => Cert.Merge.Gen.frame m ρ,
    fun m ρ _ => Cert.MergeIdeal.Gen.frame m ρ,
    frame_MergeRefIdeal,
    fun m ρ _ => Cert.Combine.Gen.frame m ρ,
    fun m ρ _ => Cert.CombineIdeal.Gen.frame m ρ,
    fun m ρ _ => Cert.CombineIdeal.Gen.frame m ρ,
    frame_CombineRefIdeal,
    fun m g _ => frame_CombineRefIdeal m g trivial,
    trivial,
    Cert.RmsBwdIdeal.Eq.algebraic,
    trivial,
    Cert.LossHeadIdeal.Eq.algebraic,
    trivial,
    Cert.FfnIdeal.Eq.algebraic,
    trivial,
    Cert.AttnIdeal.Eq.algebraic,
    trivial,
    Cert.MergeIdeal.Eq.algebraic,
    trivial,
    Cert.CombineIdeal.Eq.algebraic⟩

end Cert.Proof

end
